-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 [hPre_cols_me : Cert.Pre_cols_me.Facts] (m : (ℓ : Loc Cert.Kernel11.nD Cert.Kernel11.τ Cert.Kernel11.sig) → Buf (Elt Bits) ℓ) : Prop :=
  ∀ c : Dev Cert.Kernel11.nD,
    (Cert.Pre_cols_me.fn (F := Bits) (m ((c.tc : Thread Cert.Kernel11.nD Cert.Kernel11.τ).loc Cert.Kernel11.main_arg0)) (m ((c.tc : Thread Cert.Kernel11.nD Cert.Kernel11.τ).loc Cert.Kernel11.main_arg1)) (m ((c.tc : Thread Cert.Kernel11.nD Cert.Kernel11.τ).loc Cert.Kernel11.main_arg2)) (m ((c.tc : Thread Cert.Kernel11.nD Cert.Kernel11.τ).loc Cert.Kernel11.main_arg3)) (m ((c.tc : Thread Cert.Kernel11.nD Cert.Kernel11.τ).loc Cert.Kernel11.main_arg4)) (m ((c.tc : Thread Cert.Kernel11.nD Cert.Kernel11.τ).loc Cert.Kernel11.main_arg5))) = (fun _ => 1#1)

def Pre_Kernel11Ideal [hPre_cols_me : Cert.Pre_cols_me.Facts] (m : (ℓ : Loc Cert.Kernel11Ideal.nD Cert.Kernel11Ideal.τ Cert.Kernel11Ideal.sig) → Buf (Elt Ideal) ℓ) : Prop :=
  ∀ c : Dev Cert.Kernel11Ideal.nD,
    (Cert.Pre_cols_me.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4)) (m ((c.tc : Thread Cert.Kernel11Ideal.nD Cert.Kernel11Ideal.τ).loc Cert.Kernel11Ideal.main_arg5))) = (fun _ => 1#1)

def Pre_Reference11Ideal (m : (ℓ : Loc Cert.Reference11Ideal.nD Cert.Reference11Ideal.τ Cert.Reference11Ideal.sig) → Buf (Elt Ideal) ℓ) : Prop :=
  True

def Pre_Reference11Ideal_cols_me [hPre_cols_me : Cert.Pre_cols_me.Facts] (m : (ℓ : Loc Cert.Reference11Ideal.nD Cert.Reference11Ideal.τ Cert.Reference11Ideal.sig) → Buf (Elt Ideal) ℓ) : Prop :=
  ∀ c : Dev Cert.Reference11Ideal.nD,
    (Cert.Pre_cols_me.fn (F := Ideal) (m ((c.tc : Thread Cert.Reference11Ideal.nD Cert.Reference11Ideal.τ).loc Cert.Reference11Ideal.main_arg0)) (m ((c.tc : Thread Cert.Reference11Ideal.nD Cert.Reference11Ideal.τ).loc Cert.Reference11Ideal.main_arg1)) (m ((c.tc : Thread Cert.Reference11Ideal.nD Cert.Reference11Ideal.τ).loc Cert.Reference11Ideal.main_arg2)) (m ((c.tc : Thread Cert.Reference11Ideal.nD Cert.Reference11Ideal.τ).loc Cert.Reference11Ideal.main_arg3)) (m ((c.tc : Thread Cert.Reference11Ideal.nD Cert.Reference11Ideal.τ).loc Cert.Reference11Ideal.main_arg4)) (m ((c.tc : Thread Cert.Reference11Ideal.nD Cert.Reference11Ideal.τ).loc Cert.Reference11Ideal.main_arg5))) = (fun _ => 1#1)

def Pre_Kernel12 [hPre_rows_me : Cert.Pre_rows_me.Facts] (m : (ℓ : Loc Cert.Kernel12.nD Cert.Kernel12.τ Cert.Kernel12.sig) → Buf (Elt Bits) ℓ) : Prop :=
  ∀ c : Dev Cert.Kernel12.nD,
    (Cert.Pre_rows_me.fn (F := Bits) (m ((c.tc : Thread Cert.Kernel12.nD Cert.Kernel12.τ).loc Cert.Kernel12.main_arg0)) (m ((c.tc : Thread Cert.Kernel12.nD Cert.Kernel12.τ).loc Cert.Kernel12.main_arg1)) (m ((c.tc : Thread Cert.Kernel12.nD Cert.Kernel12.τ).loc Cert.Kernel12.main_arg2)) (m ((c.tc : Thread Cert.Kernel12.nD Cert.Kernel12.τ).loc Cert.Kernel12.main_arg3)) (m ((c.tc : Thread Cert.Kernel12.nD Cert.Kernel12.τ).loc Cert.Kernel12.main_arg4)) (m ((c.tc : Thread Cert.Kernel12.nD Cert.Kernel12.τ).loc Cert.Kernel12.main_arg5))) = (fun _ => 1#1)

def Pre_Kernel12Ideal [hPre_rows_me : Cert.Pre_rows_me.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_rows_me.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3)) (m ((c.tc : Thread Cert.Kernel12Ideal.nD Cert.Kernel12Ideal.τ).loc Cert.Kernel12Ideal.main_arg4)) (m ((c.tc : Thread Cert.Kernel12Ideal.nD Cert.Kernel12Ideal.τ).loc Cert.Kernel12Ideal.main_arg5))) = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_rows_me [hPre_rows_me : Cert.Pre_rows_me.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_rows_me.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3)) (m ((c.tc : Thread Cert.Reference12Ideal.nD Cert.Reference12Ideal.τ).loc Cert.Reference12Ideal.main_arg4)) (m ((c.tc : Thread Cert.Reference12Ideal.nD Cert.Reference12Ideal.τ).loc Cert.Reference12Ideal.main_arg5))) = (fun _ => 1#1)

def Pre_Kernel13 [hPre_conv_me : Cert.Pre_conv_me.Facts] (m : (ℓ : Loc Cert.Kernel13.nD Cert.Kernel13.τ Cert.Kernel13.sig) → Buf (Elt Bits) ℓ) : Prop :=
  ∀ c : Dev Cert.Kernel13.nD,
    (Cert.Pre_conv_me.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2)) (m ((c.tc : Thread Cert.Kernel13.nD Cert.Kernel13.τ).loc Cert.Kernel13.main_arg3)) (m ((c.tc : Thread Cert.Kernel13.nD Cert.Kernel13.τ).loc Cert.Kernel13.main_arg4)) (m ((c.tc : Thread Cert.Kernel13.nD Cert.Kernel13.τ).loc Cert.Kernel13.main_arg5))) = (fun _ => 1#1)

def Pre_Kernel13Ideal [hPre_conv_me : Cert.Pre_conv_me.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_conv_me.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5))) = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_conv_me [hPre_conv_me : Cert.Pre_conv_me.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_conv_me.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5))) = (fun _ => 1#1)

def Pre_Kernel14 [hPre_w_in_me : Cert.Pre_w_in_me.Facts] (m : (ℓ : Loc Cert.Kernel14.nD Cert.Kernel14.τ Cert.Kernel14.sig) → Buf (Elt Bits) ℓ) : Prop :=
  ∀ c : Dev Cert.Kernel14.nD,
    (Cert.Pre_w_in_me.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3)) (m ((c.tc : Thread Cert.Kernel14.nD Cert.Kernel14.τ).loc Cert.Kernel14.main_arg4)) (m ((c.tc : Thread Cert.Kernel14.nD Cert.Kernel14.τ).loc Cert.Kernel14.main_arg5)) (m ((c.tc : Thread Cert.Kernel14.nD Cert.Kernel14.τ).loc Cert.Kernel14.main_arg6)) (m ((c.tc : Thread Cert.Kernel14.nD Cert.Kernel14.τ).loc Cert.Kernel14.main_arg7))) = (fun _ => 1#1)

def Pre_Kernel14Ideal [hPre_w_in_me : Cert.Pre_w_in_me.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_w_in_me.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_w_in_me [hPre_w_in_me : Cert.Pre_w_in_me.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_w_in_me.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] [hPre_cols_me : Cert.Pre_cols_me.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] [hPre_cols_me : Cert.Pre_cols_me.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Reference11Ideal_pre_cols_me [hReference11Ideal : Cert.Reference11Ideal.Facts] [hPre_cols_me : Cert.Pre_cols_me.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal_cols_me m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] [hPre_rows_me : Cert.Pre_rows_me.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] [hPre_rows_me : Cert.Pre_rows_me.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Reference12Ideal_pre_rows_me [hReference12Ideal : Cert.Reference12Ideal.Facts] [hPre_rows_me : Cert.Pre_rows_me.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_rows_me m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] [hPre_conv_me : Cert.Pre_conv_me.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] [hPre_conv_me : Cert.Pre_conv_me.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Reference13Ideal_pre_conv_me [hReference13Ideal : Cert.Reference13Ideal.Facts] [hPre_conv_me : Cert.Pre_conv_me.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_conv_me m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] [hPre_w_in_me : Cert.Pre_w_in_me.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] [hPre_w_in_me : Cert.Pre_w_in_me.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Reference14Ideal_pre_w_in_me [hReference14Ideal : Cert.Reference14Ideal.Facts] [hPre_w_in_me : Cert.Pre_w_in_me.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_w_in_me m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v27) = v2 c
          ∧ r.2.mem ((c.tc : Thread Cert.ReferenceIdeal.nD Cert.ReferenceIdeal.τ).loc Cert.ReferenceIdeal.main_v29) = v3 c
          ∧ r.2.mem ((c.tc : Thread Cert.ReferenceIdeal.nD Cert.ReferenceIdeal.τ).loc Cert.ReferenceIdeal.main_v31) = v4 c
          ∧ r.2.mem ((c.tc : Thread Cert.ReferenceIdeal.nD Cert.ReferenceIdeal.τ).loc Cert.ReferenceIdeal.main_v33) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v2) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_v24) = v1 c
          ∧ r.2.mem ((c.tc : Thread Cert.Reference10Ideal.nD Cert.Reference10Ideal.τ).loc Cert.Reference10Ideal.main_v5) = v2 c
          ∧ r.2.mem ((c.tc : Thread Cert.Reference10Ideal.nD Cert.Reference10Ideal.τ).loc Cert.Reference10Ideal.main_v11) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] [hPre_cols_me : Cert.Pre_cols_me.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v11) = v2 c
          ∧ r.2.mem ((c.tc : Thread Cert.Reference11Ideal.nD Cert.Reference11Ideal.τ).loc Cert.Reference11Ideal.main_v17) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] [hPre_rows_me : Cert.Pre_rows_me.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)) (v3 : (c : Dev Cert.Kernel12Ideal.nD) → Buf (Elt Ideal) ((c.tc : Thread Cert.Kernel12Ideal.nD Cert.Kernel12Ideal.τ).loc Cert.Kernel12Ideal.main_v0_3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_v0_3) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_v30) = v1 c
          ∧ r.2.mem ((c.tc : Thread Cert.Reference12Ideal.nD Cert.Reference12Ideal.τ).loc Cert.Reference12Ideal.main_v11) = v2 c
          ∧ r.2.mem ((c.tc : Thread Cert.Reference12Ideal.nD Cert.Reference12Ideal.τ).loc Cert.Reference12Ideal.main_v17) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] [hPre_conv_me : Cert.Pre_conv_me.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_v30) = v1 c
          ∧ r.2.mem ((c.tc : Thread Cert.Reference13Ideal.nD Cert.Reference13Ideal.τ).loc Cert.Reference13Ideal.main_v11) = v2 c
          ∧ r.2.mem ((c.tc : Thread Cert.Reference13Ideal.nD Cert.Reference13Ideal.τ).loc Cert.Reference13Ideal.main_v17) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] [hPre_w_in_me : Cert.Pre_w_in_me.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_v34) = v1 c
          ∧ r.2.mem ((c.tc : Thread Cert.Reference14Ideal.nD Cert.Reference14Ideal.τ).loc Cert.Reference14Ideal.main_v15) = v2 c
          ∧ r.2.mem ((c.tc : Thread Cert.Reference14Ideal.nD Cert.Reference14Ideal.τ).loc Cert.Reference14Ideal.main_v21) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v9) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v20) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)) (v4 : (c : Dev Cert.Kernel20Ideal.nD) → Buf (Elt Ideal) ((c.tc : Thread Cert.Kernel20Ideal.nD Cert.Kernel20Ideal.τ).loc Cert.Kernel20Ideal.main_v0_4)) (v5 : (c : Dev Cert.Kernel20Ideal.nD) → Buf (Elt Ideal) ((c.tc : Thread Cert.Kernel20Ideal.nD Cert.Kernel20Ideal.τ).loc Cert.Kernel20Ideal.main_v0_5)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_v0_4) = v4 c
          ∧ r.2.mem ((c.tc : Thread Cert.Kernel20Ideal.nD Cert.Kernel20Ideal.τ).loc Cert.Kernel20Ideal.main_v0_5) = v5 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v44) = v0 c
          ∧ r.2.mem ((c.tc : Thread Cert.Reference20Ideal.nD Cert.Reference20Ideal.τ).loc Cert.Reference20Ideal.main_v45) = v1 c
          ∧ r.2.mem ((c.tc : Thread Cert.Reference20Ideal.nD Cert.Reference20Ideal.τ).loc Cert.Reference20Ideal.main_v46) = v2 c
          ∧ r.2.mem ((c.tc : Thread Cert.Reference20Ideal.nD Cert.Reference20Ideal.τ).loc Cert.Reference20Ideal.main_v47) = v3 c
          ∧ r.2.mem ((c.tc : Thread Cert.Reference20Ideal.nD Cert.Reference20Ideal.τ).loc Cert.Reference20Ideal.main_v48) = v4 c
          ∧ r.2.mem ((c.tc : Thread Cert.Reference20Ideal.nD Cert.Reference20Ideal.τ).loc Cert.Reference20Ideal.main_v49) = v5 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v52) = v0 c
          ∧ r.2.mem ((c.tc : Thread Cert.Reference21Ideal.nD Cert.Reference21Ideal.τ).loc Cert.Reference21Ideal.main_v53) = v1 c
          ∧ r.2.mem ((c.tc : Thread Cert.Reference21Ideal.nD Cert.Reference21Ideal.τ).loc Cert.Reference21Ideal.main_v54) = v2 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v23) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v14) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v2) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v3) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v4) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v18) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v2) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)) →
    ∃ (v0 : (c : Dev Cert.Kernel30Ideal.nD) → Buf (Elt Ideal) ((c.tc : Thread Cert.Kernel30Ideal.nD Cert.Kernel30Ideal.τ).loc Cert.Kernel30Ideal.main_v0)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0) = v0 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v4) = v0 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)) →
    ∃ (v0 : (c : Dev Cert.Kernel31Ideal.nD) → Buf (Elt Ideal) ((c.tc : Thread Cert.Kernel31Ideal.nD Cert.Kernel31Ideal.τ).loc Cert.Kernel31Ideal.main_v0)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0) = v0 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v5) = v0 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v20) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hPre_cols_me : Cert.Pre_cols_me.Facts) (hPre_rows_me : Cert.Pre_rows_me.Facts) (hPre_conv_me : Cert.Pre_conv_me.Facts) (hPre_w_in_me : Cert.Pre_w_in_me.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11) (hPre_cols_me := hPre_cols_me)
    ∧ quiescent_Kernel11Ideal (hKernel11Ideal := hKernel11Ideal) (hPre_cols_me := hPre_cols_me)
    ∧ quiescent_Reference11Ideal (hReference11Ideal := hReference11Ideal)
    ∧ quiescent_Reference11Ideal_pre_cols_me (hReference11Ideal := hReference11Ideal) (hPre_cols_me := hPre_cols_me)
    ∧ quiescent_Kernel12 (hKernel12 := hKernel12) (hPre_rows_me := hPre_rows_me)
    ∧ quiescent_Kernel12Ideal (hKernel12Ideal := hKernel12Ideal) (hPre_rows_me := hPre_rows_me)
    ∧ quiescent_Reference12Ideal (hReference12Ideal := hReference12Ideal)
    ∧ quiescent_Reference12Ideal_pre_rows_me (hReference12Ideal := hReference12Ideal) (hPre_rows_me := hPre_rows_me)
    ∧ quiescent_Kernel13 (hKernel13 := hKernel13) (hPre_conv_me := hPre_conv_me)
    ∧ quiescent_Kernel13Ideal (hKernel13Ideal := hKernel13Ideal) (hPre_conv_me := hPre_conv_me)
    ∧ quiescent_Reference13Ideal (hReference13Ideal := hReference13Ideal)
    ∧ quiescent_Reference13Ideal_pre_conv_me (hReference13Ideal := hReference13Ideal) (hPre_conv_me := hPre_conv_me)
    ∧ quiescent_Kernel14 (hKernel14 := hKernel14) (hPre_w_in_me := hPre_w_in_me)
    ∧ quiescent_Kernel14Ideal (hKernel14Ideal := hKernel14Ideal) (hPre_w_in_me := hPre_w_in_me)
    ∧ quiescent_Reference14Ideal (hReference14Ideal := hReference14Ideal)
    ∧ quiescent_Reference14Ideal_pre_w_in_me (hReference14Ideal := hReference14Ideal) (hPre_w_in_me := hPre_w_in_me)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal) (hPre_cols_me := hPre_cols_me)
    ∧ preserves_Kernel12_Kernel12Ideal
    ∧ algebraic_Kernel12Ideal_Reference12Ideal (hKernel12Ideal := hKernel12Ideal) (hReference12Ideal := hReference12Ideal) (hPre_rows_me := hPre_rows_me)
    ∧ preserves_Kernel13_Kernel13Ideal
    ∧ algebraic_Kernel13Ideal_Reference13Ideal (hKernel13Ideal := hKernel13Ideal) (hReference13Ideal := hReference13Ideal) (hPre_conv_me := hPre_conv_me)
    ∧ preserves_Kernel14_Kernel14Ideal
    ∧ algebraic_Kernel14Ideal_Reference14Ideal (hKernel14Ideal := hKernel14Ideal) (hReference14Ideal := hReference14Ideal) (hPre_w_in_me := hPre_w_in_me)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
-- ==== Pre_cols_me.lean ====
abbrev S8x1024x256 : Shape := ⟨3, ![8, 1024, 256]⟩
abbrev S1 : Shape := ⟨1, ![1]⟩
abbrev S1024x256 : Shape := ⟨2, ![1024, 256]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x256 .f32) (main_arg1 : FVec F S8x1024x256 .f32) (main_arg2 : IVec S1 32) (main_arg3 : FVec F S1024x256 .f32) (main_arg4 : FVec F S1024x256 .f32) (main_arg5 : FVec F S1024x256 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_conv_me.lean ====
abbrev S8x4x384 : Shape := ⟨3, ![8, 4, 384]⟩
abbrev S1 : Shape := ⟨1, ![1]⟩
abbrev S4x384 : Shape := ⟨2, ![4, 384]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x4x384 .f32) (main_arg1 : FVec F S8x4x384 .f32) (main_arg2 : IVec S1 32) (main_arg3 : FVec F S4x384 .f32) (main_arg4 : FVec F S4x384 .f32) (main_arg5 : FVec F S4x384 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_rows_me.lean ====
abbrev S8x256x2048 : Shape := ⟨3, ![8, 256, 2048]⟩
abbrev S1 : Shape := ⟨1, ![1]⟩
abbrev S256x2048 : Shape := ⟨2, ![256, 2048]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x256x2048 .f32) (main_arg1 : FVec F S8x256x2048 .f32) (main_arg2 : IVec S1 32) (main_arg3 : FVec F S256x2048 .f32) (main_arg4 : FVec F S256x2048 .f32) (main_arg5 : FVec F S256x2048 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 8#32
  let main_v2 : IVec S1 32 := broadcastInDim S1 ![] bcast_S_S1 main_c_0
  let main_v3 : IVec S1 1 := cmpi .slt main_arg2 main_v2
  let main_v4 : IVec S1 1 := andi main_v1 main_v3
  main_v4
-- ==== Pre_w_in_me.lean ====
abbrev S8x1024x1794 : Shape := ⟨3, ![8, 1024, 1794]⟩
abbrev S1 : Shape := ⟨1, ![1]⟩
abbrev S2048x1794 : Shape := ⟨2, ![2048, 1794]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x1024x1794 .bf16) (main_arg1 : FVec F S8x1024x1794 .bf16) (main_arg2 : FVec F S8x1024x1794 .bf16) (main_arg3 : FVec F S8x1024x1794 .bf16) (main_arg4 : IVec S1 32) (main_arg5 : FVec F S2048x1794 .f32) (main_arg6 : FVec F S2048x1794 .f32) (main_arg7 : FVec F S2048x1794 .f32) : IVec S1 1 :=
  let main_c : IVec S_ 32 := constantI S_ 32 0#32
  let main_v0 : IVec S1 32 := broadcastInDim S1 ![] bcast_S_S1 main_c
  let main_v1 : IVec S1 1 := cmpi .sge main_arg4 main_v0
  let main_c_0 : IVec S_ 32 := constantI S_ 32 8#32
  let main_v2 : IVec S1 32 := broadcastInDim S1 ![] bcast_S_S1 main_c_0
  let main_v3 : IVec S1 1 := cmpi .slt main_arg4 main_v2
  let main_v4 : IVec S1 1 := andi main_v1 main_v3
  main_v4
-- ==== Kernel.lean ====
abbrev S4096x1024 : Shape := ⟨2, ![4096, 1024]⟩
abbrev S4096x512 : Shape := ⟨2, ![4096, 512]⟩
abbrev S64x8x128x128 : Shape := ⟨4, ![64, 8, 128, 128]⟩
abbrev S256x1024 : Shape := ⟨2, ![256, 1024]⟩
abbrev S256x512 : Shape := ⟨2, ![256, 512]⟩
abbrev S4x8x128x128 : Shape := ⟨4, ![4, 8, 128, 128]⟩
abbrev S8x128x128 : Shape := ⟨3, ![8, 128, 128]⟩
abbrev S1x128x128 : Shape := ⟨3, ![1, 128, 128]⟩
abbrev S128x128 : Shape := ⟨2, ![128, 128]⟩
abbrev S64x128 : Shape := ⟨2, ![64, 128]⟩
abbrev S64x64 : Shape := ⟨2, ![64, 64]⟩
abbrev S1x1x128x128 : Shape := ⟨4, ![1, 1, 128, 128]⟩
abbrev S128 : Shape := ⟨1, ![128]⟩
abbrev S1x128 : Shape := ⟨2, ![1, 128]⟩

abbrev nBuf : Space → Nat
  | .hbm => 14
  | .vmem => 29
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x512, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S64x8x128x128, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x512, .f32⟩
  | .hbm, ⟨11, _⟩ => ⟨S4096x1024, .f32⟩
  | .hbm, ⟨12, _⟩ => ⟨S4096x1024, .f32⟩
  | .hbm, ⟨13, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x512, .f32⟩
  | .local _ .vmem, ⟨5, _⟩ => ⟨S256x512, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S4x8x128x128, .f32⟩
  | .local _ .vmem, ⟨13, _⟩ => ⟨S4x8x128x128, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | .local _ .vmem, ⟨18, _⟩ => ⟨S256x1024, .f32⟩
  | .local _ .vmem, ⟨19, _⟩ => ⟨S256x1024, .f32⟩
  | .local _ .vmem, ⟨20, _⟩ => ⟨S256x512, .f32⟩
  | .local _ .vmem, ⟨21, _⟩ => ⟨S256x512, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 4 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_7 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_12 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x8x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4096x1024 : Shape := ⟨2, ![4096, 1024]⟩
abbrev S4096x512 : Shape := ⟨2, ![4096, 512]⟩
abbrev S64x8x128x128 : Shape := ⟨4, ![64, 8, 128, 128]⟩
abbrev S64x64x8x128 : Shape := ⟨4, ![64, 64, 8, 128]⟩
abbrev S64x8x64x128 : Shape := ⟨4, ![64, 8, 64, 128]⟩
abbrev S64x64x8x64 : Shape := ⟨4, ![64, 64, 8, 64]⟩
abbrev S64x8x64x64 : Shape := ⟨4, ![64, 8, 64, 64]⟩
abbrev S_ : Shape := ⟨0, ![]⟩
abbrev S8x128x128 : Shape := ⟨3, ![8, 128, 128]⟩
abbrev S1x8x128x128 : Shape := ⟨4, ![1, 8, 128, 128]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S8x128 : Shape := ⟨2, ![8, 128]⟩
abbrev S8x1x128 : Shape := ⟨3, ![8, 1, 128]⟩
abbrev S8x128x64 : Shape := ⟨3, ![8, 128, 64]⟩

abbrev nBuf : Space → Nat
  | .hbm => 183
  | .vmem => 0
  | .smem => 0
  | _ => 0

abbrev hbmTy0_0 (i : Nat) : BufTy := match i % 128 with
  | 0 => ⟨S4096x1024, .f32⟩
  | 1 => ⟨S4096x1024, .f32⟩
  | 2 => ⟨S4096x512, .f32⟩
  | 3 => ⟨S4096x1024, .f32⟩
  | 4 => ⟨S4096x1024, .f32⟩
  | 5 => ⟨S4096x1024, .f32⟩
  | 6 => ⟨S64x8x128x128, .f32⟩
  | 7 => ⟨S4096x1024, .f32⟩
  | 8 => ⟨S64x64x8x128, .f32⟩
  | 9 => ⟨S64x8x64x128, .f32⟩
  | 10 => ⟨S64x64x8x128, .f32⟩
  | 11 => ⟨S64x8x64x128, .f32⟩
  | 12 => ⟨S64x64x8x64, .f32⟩
  | 13 => ⟨S64x8x64x64, .f32⟩
  | 14 => ⟨S64x64x8x128, .f32⟩
  | 15 => ⟨S64x8x64x128, .f32⟩
  | 16 => ⟨S64x64x8x128, .f32⟩
  | 17 => ⟨S64x8x64x128, .f32⟩
  | 18 => ⟨S64x64x8x128, .f32⟩
  | 19 => ⟨S64x8x64x128, .f32⟩
  | 20 => ⟨S_, .f32⟩
  | 21 => ⟨S8x128x128, .f32⟩
  | 22 => ⟨S64x64x8x128, .f32⟩
  | 23 => ⟨S64x8x64x128, .f32⟩
  | 24 => ⟨S_, .f32⟩
  | 25 => ⟨S64x8x64x128, .f32⟩
  | 26 => ⟨S_, .f32⟩
  | 27 => ⟨S64x8x64x128, .f32⟩
  | 28 => ⟨S_, .f32⟩
  | 29 => ⟨S64x8x64x64, .f32⟩
  | 30 => ⟨S_, .f32⟩
  | 31 => ⟨S64x8x64x128, .f32⟩
  | 32 => ⟨S_, .f32⟩
  | 33 => ⟨S64x8x64x128, .f32⟩
  | 34 => ⟨S_, .f32⟩
  | 35 => ⟨S64x8x64x128, .f32⟩
  | 36 => ⟨S_, .i32⟩
  | 37 => ⟨S64x8x128x128, .f32⟩
  | 38 => ⟨S64x8x64x128, .f32⟩
  | 39 => ⟨S64x8x64x128, .f32⟩
  | 40 => ⟨S64x8x64x64, .f32⟩
  | 41 => ⟨S64x8x64x128, .f32⟩
  | 42 => ⟨S64x8x64x128, .f32⟩
  | 43 => ⟨S64x8x64x128, .f32⟩
  | 44 => ⟨S64x8x64x128, .f32⟩
  | 45 => ⟨S_, .i32⟩
  | 46 => ⟨S8x128x128, .f32⟩
  | 47 => ⟨S64x8x64x128, .f32⟩
  | 48 => ⟨S64x8x64x128, .f32⟩
  | 49 => ⟨S64x8x64x64, .f32⟩
  | 50 => ⟨S64x8x64x128, .f32⟩
  | 51 => ⟨S64x8x64x128, .f32⟩
  | 52 => ⟨S64x8x64x128, .f32⟩
  | 53 => ⟨S_, .i32⟩
  | 54 => ⟨S_, .i1⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S_, .i32⟩
  | 62 => ⟨S1x8x128x128, .f32⟩
  | 63 => ⟨S8x128x128, .f32⟩
  | 64 => ⟨S_, .i32⟩
  | 65 => ⟨S_, .i32⟩
  | 66 => ⟨S_, .i32⟩
  | 67 => ⟨S1x8x64x128, .f32⟩
  | 68 => ⟨S8x64x128, .f32⟩
  | 69 => ⟨S_, .i32⟩
  | 70 => ⟨S_, .i32⟩
  | 71 => ⟨S_, .i32⟩
  | 72 => ⟨S1x8x64x128, .f32⟩
  | 73 => ⟨S8x64x128, .f32⟩
  | 74 => ⟨S_, .i32⟩
  | 75 => ⟨S_, .i32⟩
  | 76 => ⟨S_, .i32⟩
  | 77 => ⟨S1x8x64x64, .f32⟩
  | 78 => ⟨S8x64x64, .f32⟩
  | 79 => ⟨S_, .i32⟩
  | 80 => ⟨S_, .i32⟩
  | 81 => ⟨S_, .i32⟩
  | 82 => ⟨S1x8x64x128, .f32⟩
  | 83 => ⟨S8x64x128, .f32⟩
  | 84 => ⟨S_, .i32⟩
  | 85 => ⟨S_, .i32⟩
  | 86 => ⟨S_, .i32⟩
  | 87 => ⟨S1x8x64x128, .f32⟩
  | 88 => ⟨S8x64x128, .f32⟩
  | 89 => ⟨S_, .i32⟩
  | 90 => ⟨S_, .i32⟩
  | 91 => ⟨S_, .i32⟩
  | 92 => ⟨S1x8x64x128, .f32⟩
  | 93 => ⟨S8x64x128, .f32⟩
  | 94 => ⟨S_, .i32⟩
  | 95 => ⟨S_, .i32⟩
  | 96 => ⟨S_, .i32⟩
  | 97 => ⟨S1x8x64x128, .f32⟩
  | 98 => ⟨S8x64x128, .f32⟩
  | 99 => ⟨S8x64x128, .f32⟩
  | 100 => ⟨S8x64x128, .f32⟩
  | 101 => ⟨S8x64x128, .f32⟩
  | 102 => ⟨S8x64x128, .f32⟩
  | 103 => ⟨S8x64x128, .f32⟩
  | 104 => ⟨S_, .f32⟩
  | 105 => ⟨S8x128, .f32⟩
  | 106 => ⟨S8x1x128, .f32⟩
  | 107 => ⟨S8x1x128, .f32⟩
  | 108 => ⟨S8x128x128, .f32⟩
  | 109 => ⟨S8x128x128, .f32⟩
  | 110 => ⟨S8x128x128, .f32⟩
  | 111 => ⟨S8x128x128, .f32⟩
  | 112 => ⟨S8x128x64, .f32⟩
  | 113 => ⟨S8x64x128, .f32⟩
  | 114 => ⟨S8x128x64, .f32⟩
  | 115 => ⟨S8x64x128, .f32⟩
  | 116 => ⟨S8x128x128, .f32⟩
  | 117 => ⟨S_, .f32⟩
  | 118 => ⟨S8x128, .f32⟩
  | 119 => ⟨S8x1x128, .f32⟩
  | 120 => ⟨S8x128x128, .f32⟩
  | 121 => ⟨S8x128x128, .f32⟩
  | 122 => ⟨S8x1x128, .f32⟩
  | 123 => ⟨S_, .f32⟩
  | 124 => ⟨S8x128, .f32⟩
  | 125 => ⟨S8x64x128, .f32⟩
  | 126 => ⟨S8x128x64, .f32⟩
  | 127 => ⟨S8x64x128, .f32⟩
  | _ => ⟨S4096x1024, .f32⟩

abbrev hbmTy0_1 (i : Nat) : BufTy := match i % 128 with
  | 0 => ⟨S8x64x128, .f32⟩
  | 1 => ⟨S8x64x64, .f32⟩
  | 2 => ⟨S8x128x128, .f32⟩
  | 3 => ⟨S8x128x128, .f32⟩
  | 4 => ⟨S8x128x128, .f32⟩
  | 5 => ⟨S8x64x128, .f32⟩
  | 6 => ⟨S8x64x128, .f32⟩
  | 7 => ⟨S8x128x128, .f32⟩
  | 8 => ⟨S8x128x128, .f32⟩
  | 9 => ⟨S8x128x128, .f32⟩
  | 10 => ⟨S8x64x128, .f32⟩
  | 11 => ⟨S1x8x64x128, .f32⟩
  | 12 => ⟨S_, .i32⟩
  | 13 => ⟨S_, .i32⟩
  | 14 => ⟨S_, .i32⟩
  | 15 => ⟨S64x8x64x128, .f32⟩
  | 16 => ⟨S1x8x64x128, .f32⟩
  | 17 => ⟨S_, .i32⟩
  | 18 => ⟨S_, .i32⟩
  | 19 => ⟨S_, .i32⟩
  | 20 => ⟨S64x8x64x128, .f32⟩
  | 21 => ⟨S1x8x64x64, .f32⟩
  | 22 => ⟨S_, .i32⟩
  | 23 => ⟨S_, .i32⟩
  | 24 => ⟨S_, .i32⟩
  | 25 => ⟨S64x8x64x64, .f32⟩
  | 26 => ⟨S1x8x64x128, .f32⟩
  | 27 => ⟨S_, .i32⟩
  | 28 => ⟨S_, .i32⟩
  | 29 => ⟨S_, .i32⟩
  | 30 => ⟨S64x8x64x128, .f32⟩
  | 31 => ⟨S1x8x64x128, .f32⟩
  | 32 => ⟨S_, .i32⟩
  | 33 => ⟨S_, .i32⟩
  | 34 => ⟨S_, .i32⟩
  | 35 => ⟨S64x8x64x128, .f32⟩
  | 36 => ⟨S1x8x64x128, .f32⟩
  | 37 => ⟨S_, .i32⟩
  | 38 => ⟨S_, .i32⟩
  | 39 => ⟨S_, .i32⟩
  | 40 => ⟨S64x8x64x128, .f32⟩
  | 41 => ⟨S_, .i32⟩
  | 42 => ⟨S_, .i32⟩
  | 43 => ⟨S64x64x8x128, .f32⟩
  | 44 => ⟨S4096x1024, .f32⟩
  | 45 => ⟨S64x64x8x128, .f32⟩
  | 46 => ⟨S4096x1024, .f32⟩
  | 47 => ⟨S64x64x8x64, .f32⟩
  | 48 => ⟨S4096x512, .f32⟩
  | 49 => ⟨S64x64x8x128, .f32⟩
  | 50 => ⟨S4096x1024, .f32⟩
  | 51 => ⟨S64x64x8x128, .f32⟩
  | 52 => ⟨S4096x1024, .f32⟩
  | 53 => ⟨S64x64x8x128, .f32⟩
  | 54 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_0 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_c : Ref sig .tc := ⟨.hbm, 36, rfl⟩
abbrev main_v21_0 : Ref sig .tc := ⟨.hbm, 37, rfl⟩
abbrev main_v21_1 : Ref sig .tc := ⟨.hbm, 38, rfl⟩
abbrev main_v21_2 : Ref sig .tc := ⟨.hbm, 39, rfl⟩
abbrev main_v21_3 : Ref sig .tc := ⟨.hbm, 40, rfl⟩
abbrev main_v21_4 : Ref sig .tc := ⟨.hbm, 41, rfl⟩
abbrev main_v21_5 : Ref sig .tc := ⟨.hbm, 42, rfl⟩
abbrev main_v21_6 : Ref sig .tc := ⟨.hbm, 43, rfl⟩
abbrev main_v21_7 : Ref sig .tc := ⟨.hbm, 44, rfl⟩
abbrev main_v21_8 : Ref sig .tc := ⟨.hbm, 45, rfl⟩
abbrev main_v21_9 : Ref sig .tc := ⟨.hbm, 46, rfl⟩
abbrev main_v21_10 : Ref sig .tc := ⟨.hbm, 47, rfl⟩
abbrev main_v21_11 : Ref sig .tc := ⟨.hbm, 48, rfl⟩
abbrev main_v21_12 : Ref sig .tc := ⟨.hbm, 49, rfl⟩
abbrev main_v21_13 : Ref sig .tc := ⟨.hbm, 50, rfl⟩
abbrev main_v21_14 : Ref sig .tc := ⟨.hbm, 51, rfl⟩
abbrev main_v21_15 : Ref sig .tc := ⟨.hbm, 52, rfl⟩
abbrev main_while0c_c_21 : Ref sig .tc := ⟨.hbm, 53, rfl⟩
abbrev main_while0c_v34 : Ref sig .tc := ⟨.hbm, 54, rfl⟩
abbrev main_while0b_c_21 : Ref sig .tc := ⟨.hbm, 55, rfl⟩
abbrev main_while0b_v34 : Ref sig .tc := ⟨.hbm, 56, rfl⟩
abbrev main_while0b_c_22 : Ref sig .tc := ⟨.hbm, 57, rfl⟩
abbrev main_while0b_v35 : Ref sig .tc := ⟨.hbm, 58, rfl⟩
abbrev main_while0b_call0_c : Ref sig .tc := ⟨.hbm, 59, rfl⟩
abbrev main_while0b_call0_c_0 : Ref sig .tc := ⟨.hbm, 60, rfl⟩
abbrev main_while0b_call0_c_1 : Ref sig .tc := ⟨.hbm, 61, rfl⟩
abbrev main_while0b_call0_v0 : Ref sig .tc := ⟨.hbm, 62, rfl⟩
abbrev main_while0b_v36 : Ref sig .tc := ⟨.hbm, 63, rfl⟩
abbrev main_while0b_call1_c : Ref sig .tc := ⟨.hbm, 64, rfl⟩
abbrev main_while0b_call1_c_0 : Ref sig .tc := ⟨.hbm, 65, rfl⟩
abbrev main_while0b_call1_c_1 : Ref sig .tc := ⟨.hbm, 66, rfl⟩
abbrev main_while0b_call1_v0 : Ref sig .tc := ⟨.hbm, 67, rfl⟩
abbrev main_while0b_v37 : Ref sig .tc := ⟨.hbm, 68, rfl⟩
abbrev main_while0b_call2_c : Ref sig .tc := ⟨.hbm, 69, rfl⟩
abbrev main_while0b_call2_c_0 : Ref sig .tc := ⟨.hbm, 70, rfl⟩
abbrev main_while0b_call2_c_1 : Ref sig .tc := ⟨.hbm, 71, rfl⟩
abbrev main_while0b_call2_v0 : Ref sig .tc := ⟨.hbm, 72, rfl⟩
abbrev main_while0b_v38 : Ref sig .tc := ⟨.hbm, 73, rfl⟩
abbrev main_while0b_call3_c : Ref sig .tc := ⟨.hbm, 74, rfl⟩
abbrev main_while0b_call3_c_0 : Ref sig .tc := ⟨.hbm, 75, rfl⟩
abbrev main_while0b_call3_c_1 : Ref sig .tc := ⟨.hbm, 76, rfl⟩
abbrev main_while0b_call3_v0 : Ref sig .tc := ⟨.hbm, 77, rfl⟩
abbrev main_while0b_v39 : Ref sig .tc := ⟨.hbm, 78, rfl⟩
abbrev main_while0b_call4_c : Ref sig .tc := ⟨.hbm, 79, rfl⟩
abbrev main_while0b_call4_c_0 : Ref sig .tc := ⟨.hbm, 80, rfl⟩
abbrev main_while0b_call4_c_1 : Ref sig .tc := ⟨.hbm, 81, rfl⟩
abbrev main_while0b_call4_v0 : Ref sig .tc := ⟨.hbm, 82, rfl⟩
abbrev main_while0b_v40 : Ref sig .tc := ⟨.hbm, 83, rfl⟩
abbrev main_while0b_call5_c : Ref sig .tc := ⟨.hbm, 84, rfl⟩
abbrev main_while0b_call5_c_0 : Ref sig .tc := ⟨.hbm, 85, rfl⟩
abbrev main_while0b_call5_c_1 : Ref sig .tc := ⟨.hbm, 86, rfl⟩
abbrev main_while0b_call5_v0 : Ref sig .tc := ⟨.hbm, 87, rfl⟩
abbrev main_while0b_v41 : Ref sig .tc := ⟨.hbm, 88, rfl⟩
abbrev main_while0b_call6_c : Ref sig .tc := ⟨.hbm, 89, rfl⟩
abbrev main_while0b_call6_c_0 : Ref sig .tc := ⟨.hbm, 90, rfl⟩
abbrev main_while0b_call6_c_1 : Ref sig .tc := ⟨.hbm, 91, rfl⟩
abbrev main_while0b_call6_v0 : Ref sig .tc := ⟨.hbm, 92, rfl⟩
abbrev main_while0b_v42 : Ref sig .tc := ⟨.hbm, 93, rfl⟩
abbrev main_while0b_call7_c : Ref sig .tc := ⟨.hbm, 94, rfl⟩
abbrev main_while0b_call7_c_0 : Ref sig .tc := ⟨.hbm, 95, rfl⟩
abbrev main_while0b_call7_c_1 : Ref sig .tc := ⟨.hbm, 96, rfl⟩
abbrev main_while0b_call7_v0 : Ref sig .tc := ⟨.hbm, 97, rfl⟩
abbrev main_while0b_v43 : Ref sig .tc := ⟨.hbm, 98, rfl⟩
abbrev main_while0b_v44 : Ref sig .tc := ⟨.hbm, 99, rfl⟩
abbrev main_while0b_v45 : Ref sig .tc := ⟨.hbm, 100, rfl⟩
abbrev main_while0b_v46 : Ref sig .tc := ⟨.hbm, 101, rfl⟩
abbrev main_while0b_v47 : Ref sig .tc := ⟨.hbm, 102, rfl⟩
abbrev main_while0b_v48 : Ref sig .tc := ⟨.hbm, 103, rfl⟩
abbrev main_while0b_cst_23 : Ref sig .tc := ⟨.hbm, 104, rfl⟩
abbrev main_while0b_v49 : Ref sig .tc := ⟨.hbm, 105, rfl⟩
abbrev main_while0b_v50 : Ref sig .tc := ⟨.hbm, 106, rfl⟩
abbrev main_while0b_v51 : Ref sig .tc := ⟨.hbm, 107, rfl⟩
abbrev main_while0b_v52 : Ref sig .tc := ⟨.hbm, 108, rfl⟩
abbrev main_while0b_v53 : Ref sig .tc := ⟨.hbm, 109, rfl⟩
abbrev main_while0b_v54 : Ref sig .tc := ⟨.hbm, 110, rfl⟩
abbrev main_while0b_v55 : Ref sig .tc := ⟨.hbm, 111, rfl⟩
abbrev main_while0b_v56 : Ref sig .tc := ⟨.hbm, 112, rfl⟩
abbrev main_while0b_v57 : Ref sig .tc := ⟨.hbm, 113, rfl⟩
abbrev main_while0b_v58 : Ref sig .tc := ⟨.hbm, 114, rfl⟩
abbrev main_while0b_v59 : Ref sig .tc := ⟨.hbm, 115, rfl⟩
abbrev main_while0b_v60 : Ref sig .tc := ⟨.hbm, 116, rfl⟩
abbrev main_while0b_cst_24 : Ref sig .tc := ⟨.hbm, 117, rfl⟩
abbrev main_while0b_v61 : Ref sig .tc := ⟨.hbm, 118, rfl⟩
abbrev main_while0b_v62 : Ref sig .tc := ⟨.hbm, 119, rfl⟩
abbrev main_while0b_v63 : Ref sig .tc := ⟨.hbm, 120, rfl⟩
abbrev main_while0b_v64 : Ref sig .tc := ⟨.hbm, 121, rfl⟩
abbrev main_while0b_v65 : Ref sig .tc := ⟨.hbm, 122, rfl⟩
abbrev main_while0b_cst_25 : Ref sig .tc := ⟨.hbm, 123, rfl⟩
abbrev main_while0b_v66 : Ref sig .tc := ⟨.hbm, 124, rfl⟩
abbrev main_while0b_v67 : Ref sig .tc := ⟨.hbm, 125, rfl⟩
abbrev main_while0b_v68 : Ref sig .tc := ⟨.hbm, 126, rfl⟩
abbrev main_while0b_v69 : Ref sig .tc := ⟨.hbm, 127, rfl⟩
abbrev main_while0b_v70 : Ref sig .tc := ⟨.hbm, 128, rfl⟩
abbrev main_while0b_v71 : Ref sig .tc := ⟨.hbm, 129, rfl⟩
abbrev main_while0b_v72 : Ref sig .tc := ⟨.hbm, 130, rfl⟩
abbrev main_while0b_v73 : Ref sig .tc := ⟨.hbm, 131, rfl⟩
abbrev main_while0b_v74 : Ref sig .tc := ⟨.hbm, 132, rfl⟩
abbrev main_while0b_v75 : Ref sig .tc := ⟨.hbm, 133, rfl⟩
abbrev main_while0b_v76 : Ref sig .tc := ⟨.hbm, 134, rfl⟩
abbrev main_while0b_v77 : Ref sig .tc := ⟨.hbm, 135, rfl⟩
abbrev main_while0b_v78 : Ref sig .tc := ⟨.hbm, 136, rfl⟩
abbrev main_while0b_v79 : Ref sig .tc := ⟨.hbm, 137, rfl⟩
abbrev main_while0b_v80 : Ref sig .tc := ⟨.hbm, 138, rfl⟩
abbrev main_while0b_call8_v0 : Ref sig .tc := ⟨.hbm, 139, rfl⟩
abbrev main_while0b_call8_c : Ref sig .tc := ⟨.hbm, 140, rfl⟩
abbrev main_while0b_call8_c_0 : Ref sig .tc := ⟨.hbm, 141, rfl⟩
abbrev main_while0b_call8_c_1 : Ref sig .tc := ⟨.hbm, 142, rfl⟩
abbrev main_while0b_v81 : Ref sig .tc := ⟨.hbm, 143, rfl⟩
abbrev main_while0b_call9_v0 : Ref sig .tc := ⟨.hbm, 144, rfl⟩
abbrev main_while0b_call9_c : Ref sig .tc := ⟨.hbm, 145, rfl⟩
abbrev main_while0b_call9_c_0 : Ref sig .tc := ⟨.hbm, 146, rfl⟩
abbrev main_while0b_call9_c_1 : Ref sig .tc := ⟨.hbm, 147, rfl⟩
abbrev main_while0b_v82 : Ref sig .tc := ⟨.hbm, 148, rfl⟩
abbrev main_while0b_call10_v0 : Ref sig .tc := ⟨.hbm, 149, rfl⟩
abbrev main_while0b_call10_c : Ref sig .tc := ⟨.hbm, 150, rfl⟩
abbrev main_while0b_call10_c_0 : Ref sig .tc := ⟨.hbm, 151, rfl⟩
abbrev main_while0b_call10_c_1 : Ref sig .tc := ⟨.hbm, 152, rfl⟩
abbrev main_while0b_v83 : Ref sig .tc := ⟨.hbm, 153, rfl⟩
abbrev main_while0b_call11_v0 : Ref sig .tc := ⟨.hbm, 154, rfl⟩
abbrev main_while0b_call11_c : Ref sig .tc := ⟨.hbm, 155, rfl⟩
abbrev main_while0b_call11_c_0 : Ref sig .tc := ⟨.hbm, 156, rfl⟩
abbrev main_while0b_call11_c_1 : Ref sig .tc := ⟨.hbm, 157, rfl⟩
abbrev main_while0b_v84 : Ref sig .tc := ⟨.hbm, 158, rfl⟩
abbrev main_while0b_call12_v0 : Ref sig .tc := ⟨.hbm, 159, rfl⟩
abbrev main_while0b_call12_c : Ref sig .tc := ⟨.hbm, 160, rfl⟩
abbrev main_while0b_call12_c_0 : Ref sig .tc := ⟨.hbm, 161, rfl⟩
abbrev main_while0b_call12_c_1 : Ref sig .tc := ⟨.hbm, 162, rfl⟩
abbrev main_while0b_v85 : Ref sig .tc := ⟨.hbm, 163, rfl⟩
abbrev main_while0b_call13_v0 : Ref sig .tc := ⟨.hbm, 164, rfl⟩
abbrev main_while0b_call13_c : Ref sig .tc := ⟨.hbm, 165, rfl⟩
abbrev main_while0b_call13_c_0 : Ref sig .tc := ⟨.hbm, 166, rfl⟩
abbrev main_while0b_call13_c_1 : Ref sig .tc := ⟨.hbm, 167, rfl⟩
abbrev main_while0b_v86 : Ref sig .tc := ⟨.hbm, 168, rfl⟩
abbrev main_while0b_c_26 : Ref sig .tc := ⟨.hbm, 169, rfl⟩
abbrev main_while0b_v87 : Ref sig .tc := ⟨.hbm, 170, rfl⟩
abbrev main_v22 : Ref sig .tc := ⟨.hbm, 171, rfl⟩
abbrev main_v23 : Ref sig .tc := ⟨.hbm, 172, rfl⟩
abbrev main_v24 : Ref sig .tc := ⟨.hbm, 173, rfl⟩
abbrev main_v25 : Ref sig .tc := ⟨.hbm, 174, rfl⟩
abbrev main_v26 : Ref sig .tc := ⟨.hbm, 175, rfl⟩
abbrev main_v27 : Ref sig .tc := ⟨.hbm, 176, rfl⟩
abbrev main_v28 : Ref sig .tc := ⟨.hbm, 177, rfl⟩
abbrev main_v29 : Ref sig .tc := ⟨.hbm, 178, rfl⟩
abbrev main_v30 : Ref sig .tc := ⟨.hbm, 179, rfl⟩
abbrev main_v31 : Ref sig .tc := ⟨.hbm, 180, rfl⟩
abbrev main_v32 : Ref sig .tc := ⟨.hbm, 181, rfl⟩
abbrev main_v33 : Ref sig .tc := ⟨.hbm, 182, rfl⟩

abbrev nD : Nat := 1
abbrev τ : Topo := Topo.v7x

variable {F : FTy → Type} [FloatOps F]

abbrev main_while0_count : Scf.Loop 32 := ⟨0#32, 64#32, 1#32⟩
-- ==== Kernel2.lean ====
abbrev S4096x14336 : Shape := ⟨2, ![4096, 14336]⟩
abbrev S2048x14336 : Shape := ⟨2, ![2048, 14336]⟩
abbrev S4096x2048 : Shape := ⟨2, ![4096, 2048]⟩
abbrev S512x2048 : Shape := ⟨2, ![512, 2048]⟩
abbrev S2048x2048 : Shape := ⟨2, ![2048, 2048]⟩

abbrev nBuf : Space → Nat
  | .hbm => 4
  | .vmem => 9
  | .smem => 0
  | _ => 0

abbrev bufTy : (tb : Table) → Fin (tcTables nBuf tb) → BufTy
  | .hbm, ⟨0, _⟩ => ⟨S4096x14336, .bf16⟩
  | .hbm, ⟨1, _⟩ => ⟨S2048x14336, .bf16⟩
  | .hbm, ⟨2, _⟩ => ⟨S4096x2048, .f32⟩
  | .hbm, ⟨3, _⟩ => ⟨S4096x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 7], ![false, false, false]⟩

def k0_cond2 (i : grid0.Coords) : BitVec 1 :=
  let arg2 : BitVec 32 := BitVec.ofNat 32 (i 2).val
  let c6_i32 : BitVec 32 := 6#32
  let v11 : BitVec 1 := Scalar.cmpi .eq arg2 c6_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference2Ideal.lean ====
abbrev S4096x14336 : Shape := ⟨2, ![4096, 14336]⟩
abbrev S2048x14336 : Shape := ⟨2, ![2048, 14336]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S2048x14336, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x14336, .f32⟩
  | .hbm, ⟨6, _⟩ => ⟨S4096x14336, .f32⟩
  | .hbm, ⟨7, _⟩ => ⟨S4096x14336, .f32⟩
  | .hbm, ⟨8, _⟩ => ⟨S4096x2048, .f32⟩
  | .hbm, ⟨9, _⟩ => ⟨S4096x2048, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel3.lean ====
abbrev S4096x2048 : Shape := ⟨2, ![4096, 2048]⟩
abbrev S4096x14336 : Shape := ⟨2, ![4096, 14336]⟩
abbrev S1024x14336 : Shape := ⟨2, ![1024, 14336]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S1024x14336, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x14336 : Shape := ⟨2, ![4096, 14336]⟩
abbrev S_ : Shape := ⟨0, ![]⟩
abbrev S2048x14336 : Shape := ⟨2, ![2048, 14336]⟩
abbrev S14336x2048 : Shape := ⟨2, ![14336, 2048]⟩
abbrev S1024x14336 : Shape := ⟨2, ![1024, 14336]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S_, .f32⟩
  | .hbm, ⟨3, _⟩ => ⟨S2048x14336, .f32⟩
  | .hbm, ⟨4, _⟩ => ⟨S4096x2048, .f32⟩
  | .hbm, ⟨5, _⟩ => ⟨S4096x14336, .f32⟩
  | .hbm, ⟨6, _⟩ => ⟨S4096x14336, .f32⟩
  | .hbm, ⟨7, _⟩ => ⟨S14336x2048, .f32⟩
  | .hbm, ⟨8, _⟩ => ⟨S2048x14336, .f32⟩
  | .hbm, ⟨9, _⟩ => ⟨S1024x14336, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x2048 : Shape := ⟨2, ![4096, 2048]⟩
abbrev S4096x14336 : Shape := ⟨2, ![4096, 14336]⟩
abbrev S1024x14336 : Shape := ⟨2, ![1024, 14336]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S1024x14336, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .f32⟩
  | .local _ .vmem, ⟨5, _⟩ => ⟨S1024x2048, .f32⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 7, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg0 c1_i32
  let c0_i32 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2048 : Shape := ⟨2, ![4096, 2048]⟩
abbrev S4096x14336 : Shape := ⟨2, ![4096, 14336]⟩
abbrev S_ : Shape := ⟨0, ![]⟩
abbrev S2048x14336 : Shape := ⟨2, ![2048, 14336]⟩
abbrev S14336x2048 : Shape := ⟨2, ![14336, 2048]⟩
abbrev S1024x14336 : Shape := ⟨2, ![1024, 14336]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x14336, .bf16⟩
  | .hbm, ⟨2, _⟩ => ⟨S_, .f32⟩
  | .hbm, ⟨3, _⟩ => ⟨S2048x14336, .f32⟩
  | .hbm, ⟨4, _⟩ => ⟨S4096x2048, .f32⟩
  | .hbm, ⟨5, _⟩ => ⟨S4096x14336, .f32⟩
  | .hbm, ⟨6, _⟩ => ⟨S4096x14336, .f32⟩
  | .hbm, ⟨7, _⟩ => ⟨S14336x2048, .f32⟩
  | .hbm, ⟨8, _⟩ => ⟨S2048x14336, .f32⟩
  | .hbm, ⟨9, _⟩ => ⟨S1024x14336, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x2048 : Shape := ⟨2, ![4096, 2048]⟩
abbrev S2048x14336 : Shape := ⟨2, ![2048, 14336]⟩
abbrev S4096x14336 : Shape := ⟨2, ![4096, 14336]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S4096x14336, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x2048 : Shape := ⟨2, ![4096, 2048]⟩
abbrev S2048x14336 : Shape := ⟨2, ![2048, 14336]⟩
abbrev S4096x14336 : Shape := ⟨2, ![4096, 14336]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x14336, .bf16⟩
  | .hbm, ⟨2, _⟩ => ⟨S4096x2048, .f32⟩
  | .hbm, ⟨3, _⟩ => ⟨S2048x14336, .f32⟩
  | .hbm, ⟨4, _⟩ => ⟨S4096x14336, .f32⟩
  | .hbm, ⟨5, _⟩ => ⟨S4096x14336, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel6.lean ====
abbrev S4096x2048 : Shape := ⟨2, ![4096, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel7.lean ====
abbrev S4096x2048 : Shape := ⟨2, ![4096, 2048]⟩
abbrev S2048x2048 : Shape := ⟨2, ![2048, 2048]⟩
abbrev S512x1024 : Shape := ⟨2, ![512, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S4096x2048, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S1024x512 : Shape := ⟨2, ![1024, 512]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S2048x2048, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .f32⟩
  | .local _ .vmem, ⟨3, _⟩ => ⟨S1024x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .f32⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference9Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel10.lean ====
abbrev S8x768x512 : Shape := ⟨3, ![8, 768, 512]⟩
abbrev S768x512 : Shape := ⟨2, ![768, 512]⟩
abbrev S8x384x512 : Shape := ⟨3, ![8, 384, 512]⟩
abbrev S384x512 : Shape := ⟨2, ![384, 512]⟩
abbrev S1x384x512 : Shape := ⟨3, ![1, 384, 512]⟩

abbrev nBuf : Space → Nat
  | .hbm => 8
  | .vmem => 16
  | .smem => 0
  | _ => 0

abbrev bufTy : (tb : Table) → Fin (tcTables nBuf tb) → BufTy
  | .hbm, ⟨0, _⟩ => ⟨S8x768x512, .f32⟩
  | .hbm, ⟨1, _⟩ => ⟨S768x512, .f32⟩
  | .hbm, ⟨2, _⟩ => ⟨S768x512, .f32⟩
  | .hbm, ⟨3, _⟩ => ⟨S768x512, .f32⟩
  | .hbm, ⟨4, _⟩ => ⟨S768x512, .f32⟩
  | .hbm, ⟨5, _⟩ => ⟨S768x512, .f32⟩
  | .hbm, ⟨6, _⟩ => ⟨S768x512, .f32⟩
  | .hbm, ⟨7, _⟩ => ⟨S768x512, .f32⟩
  | .local _ .vmem, ⟨0, _⟩ => ⟨S8x384x512, .f32⟩
  | .local _ .vmem, ⟨1, _⟩ => ⟨S8x384x512, .f32⟩
  | .local _ .vmem, ⟨2, _⟩ => ⟨S384x512, .f32⟩
  | .local _ .vmem, ⟨3, _⟩ => ⟨S384x512, .f32⟩
  | .local _ .vmem, ⟨4, _⟩ => ⟨S384x512, .f32⟩
  | .local _ .vmem, ⟨5, _⟩ => ⟨S384x512, .f32⟩
  | .local _ .vmem, ⟨6, _⟩ => ⟨S384x512, .f32⟩
  | .local _ .vmem, ⟨7, _⟩ => ⟨S384x512, .f32⟩
  | .local _ .vmem, ⟨8, _⟩ => ⟨S384x512, .f32⟩
  | .local _ .vmem, ⟨9, _⟩ => ⟨S384x512, .f32⟩
  | .local _ .vmem, ⟨10, _⟩ => ⟨S384x512, .f32⟩
  | .local _ .vmem, ⟨11, _⟩ => ⟨S384x512, .f32⟩
  | .local _ .vmem, ⟨12, _⟩ => ⟨S384x512, .f32⟩
  | .local _ .vmem, ⟨13, _⟩ => ⟨S384x512, .f32⟩
  | .local _ .vmem, ⟨14, _⟩ => ⟨S384x512, .f32⟩
  | .local _ .vmem, ⟨15, _⟩ => ⟨S384x512, .f32⟩
  | _, _ => ⟨S8x768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S384x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S384x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S384x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S384x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S8x768x512 : Shape := ⟨3, ![8, 768, 512]⟩
abbrev S768x512 : Shape := ⟨2, ![768, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x768x512, .f32⟩
  | .hbm, ⟨1, _⟩ => ⟨S768x512, .f32⟩
  | .hbm, ⟨2, _⟩ => ⟨S768x512, .f32⟩
  | .hbm, ⟨3, _⟩ => ⟨S768x512, .f32⟩
  | .hbm, ⟨4, _⟩ => ⟨S_, .f32⟩
  | .hbm, ⟨5, _⟩ => ⟨S768x512, .f32⟩
  | .hbm, ⟨6, _⟩ => ⟨S_, .f32⟩
  | .hbm, ⟨7, _⟩ => ⟨S768x512, .f32⟩
  | .hbm, ⟨8, _⟩ => ⟨S768x512, .f32⟩
  | .hbm, ⟨9, _⟩ => ⟨S_, .f32⟩
  | .hbm, ⟨10, _⟩ => ⟨S768x512, .f32⟩
  | .hbm, ⟨11, _⟩ => ⟨S768x512, .f32⟩
  | .hbm, ⟨12, _⟩ => ⟨S768x512, .f32⟩
  | .hbm, ⟨13, _⟩ => ⟨S_, .f32⟩
  | .hbm, ⟨14, _⟩ => ⟨S768x512, .f32⟩
  | .hbm, ⟨15, _⟩ => ⟨S768x512, .f32⟩
  | .hbm, ⟨16, _⟩ => ⟨S768x512, .f32⟩
  | .hbm, ⟨17, _⟩ => ⟨S_, .f32⟩
  | .hbm, ⟨18, _⟩ => ⟨S768x512, .f32⟩
  | .hbm, ⟨19, _⟩ => ⟨S768x512, .f32⟩
  | .hbm, ⟨20, _⟩ => ⟨S768x512, .f32⟩
  | .hbm, ⟨21, _⟩ => ⟨S_, .f32⟩
  | .hbm, ⟨22, _⟩ => ⟨S768x512, .f32⟩
  | .hbm, ⟨23, _⟩ => ⟨S768x512, .f32⟩
  | .hbm, ⟨24, _⟩ => ⟨S_, .f32⟩
  | .hbm, ⟨25, _⟩ => ⟨S768x512, .f32⟩
  | .hbm, ⟨26, _⟩ => ⟨S768x512, .f32⟩
  | .hbm, ⟨27, _⟩ => ⟨S768x512, .f32⟩
  | .hbm, ⟨28, _⟩ => ⟨S_, .f32⟩
  | .hbm, ⟨29, _⟩ => ⟨S768x512, .f32⟩
  | .hbm, ⟨30, _⟩ => ⟨S768x512, .f32⟩
  | .hbm, ⟨31, _⟩ => ⟨S768x512, .f32⟩
  | .hbm, ⟨32, _⟩ => ⟨S_, .f32⟩
  | .hbm, ⟨33, _⟩ => ⟨S768x512, .f32⟩
  | .hbm, ⟨34, _⟩ => ⟨S768x512, .f32⟩
  | .hbm, ⟨35, _⟩ => ⟨S768x512, .f32⟩
  | .hbm, ⟨36, _⟩ => ⟨S_, .f32⟩
  | .hbm, ⟨37, _⟩ => ⟨S768x512, .f32⟩
  | .hbm, ⟨38, _⟩ => ⟨S768x512, .f32⟩
  | _, _ => ⟨S8x768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel11.lean ====
abbrev S8x1024x256 : Shape := ⟨3, ![8, 1024, 256]⟩
abbrev S1 : Shape := ⟨1, ![1]⟩
abbrev S1024x256 : Shape := ⟨2, ![1024, 256]⟩
abbrev S8x512x256 : Shape := ⟨3, ![8, 512, 256]⟩
abbrev S1x512x256 : Shape := ⟨3, ![1, 512, 256]⟩
abbrev S512x256 : Shape := ⟨2, ![512, 256]⟩

abbrev nBuf : Space → Nat
  | .hbm => 9
  | .vmem => 18
  | .smem => 1
  | _ => 0

abbrev bufTy : (tb : Table) → Fin (tcTables nBuf tb) → BufTy
  | .hbm, ⟨0, _⟩ => ⟨S8x1024x256, .f32⟩
  | .hbm, ⟨1, _⟩ => ⟨S8x1024x256, .f32⟩
  | .hbm, ⟨2, _⟩ => ⟨S1024x256, .f32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S1024x256, .f32⟩
  | .hbm, ⟨7, _⟩ => ⟨S1024x256, .f32⟩
  | .hbm, ⟨8, _⟩ => ⟨S1024x256, .f32⟩
  | .local _ .vmem, ⟨0, _⟩ => ⟨S8x512x256, .f32⟩
  | .local _ .vmem, ⟨1, _⟩ => ⟨S8x512x256, .f32⟩
  | .local _ .vmem, ⟨2, _⟩ => ⟨S1x512x256, .f32⟩
  | .local _ .vmem, ⟨3, _⟩ => ⟨S1x512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .smem, ⟨0, _⟩ => ⟨S1, .i32⟩
  | _, _ => ⟨S8x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.subi arg0 c0_i32
  let c0_i32_0 : BitVec 32 := 0#32
  let c1_i32 : BitVec 32 := 1#32
  let v2 : BitVec 32 := Scalar.maxsi c0_i32_0 v1
  let v3 : BitVec 32 := Scalar.minsi c1_i32 v2
  let c0_i32_1 : BitVec 32 := 0#32
  let c0_i32_2 : BitVec 32 := 0#32
  ![v0.toNat, v3.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S8x1024x256 : Shape := ⟨3, ![8, 1024, 256]⟩
abbrev S1 : Shape := ⟨1, ![1]⟩
abbrev S1024x256 : Shape := ⟨2, ![1024, 256]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x1024x256, .f32⟩
  | .hbm, ⟨1, _⟩ => ⟨S8x1024x256, .f32⟩
  | .hbm, ⟨2, _⟩ => ⟨S1, .i32⟩
  | .hbm, ⟨3, _⟩ => ⟨S1024x256, .f32⟩
  | .hbm, ⟨4, _⟩ => ⟨S1024x256, .f32⟩
  | .hbm, ⟨5, _⟩ => ⟨S1024x256, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x1024x256, .i1⟩
  | .hbm, ⟨12, _⟩ => ⟨S8x1024x256, .f32⟩
  | .hbm, ⟨13, _⟩ => ⟨S_, .f32⟩
  | .hbm, ⟨14, _⟩ => ⟨S1024x256, .f32⟩
  | .hbm, ⟨15, _⟩ => ⟨S_, .f32⟩
  | .hbm, ⟨16, _⟩ => ⟨S1024x256, .f32⟩
  | .hbm, ⟨17, _⟩ => ⟨S1024x256, .f32⟩
  | .hbm, ⟨18, _⟩ => ⟨S_, .f32⟩
  | .hbm, ⟨19, _⟩ => ⟨S1024x256, .f32⟩
  | .hbm, ⟨20, _⟩ => ⟨S1024x256, .f32⟩
  | .hbm, ⟨21, _⟩ => ⟨S1024x256, .f32⟩
  | .hbm, ⟨22, _⟩ => ⟨S_, .f32⟩
  | .hbm, ⟨23, _⟩ => ⟨S1024x256, .f32⟩
  | .hbm, ⟨24, _⟩ => ⟨S1024x256, .f32⟩
  | .hbm, ⟨25, _⟩ => ⟨S1024x256, .f32⟩
  | .hbm, ⟨26, _⟩ => ⟨S_, .f32⟩
  | .hbm, ⟨27, _⟩ => ⟨S1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024x256, .f32⟩
  | .hbm, ⟨32, _⟩ => ⟨S1024x256, .f32⟩
  | .hbm, ⟨33, _⟩ => ⟨S_, .f32⟩
  | .hbm, ⟨34, _⟩ => ⟨S1024x256, .f32⟩
  | .hbm, ⟨35, _⟩ => ⟨S1024x256, .f32⟩
  | .hbm, ⟨36, _⟩ => ⟨S1024x256, .f32⟩
  | .hbm, ⟨37, _⟩ => ⟨S_, .f32⟩
  | .hbm, ⟨38, _⟩ => ⟨S1024x256, .f32⟩
  | .hbm, ⟨39, _⟩ => ⟨S1024x256, .f32⟩
  | .hbm, ⟨40, _⟩ => ⟨S1024x256, .f32⟩
  | .hbm, ⟨41, _⟩ => ⟨S_, .f32⟩
  | .hbm, ⟨42, _⟩ => ⟨S1024x256, .f32⟩
  | .hbm, ⟨43, _⟩ => ⟨S1024x256, .f32⟩
  | .hbm, ⟨44, _⟩ => ⟨S1024x256, .f32⟩
  | .hbm, ⟨45, _⟩ => ⟨S_, .f32⟩
  | .hbm, ⟨46, _⟩ => ⟨S1024x256, .f32⟩
  | .hbm, ⟨47, _⟩ => ⟨S1024x256, .f32⟩
  | _, _ => ⟨S8x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel12.lean ====
abbrev S8x256x2048 : Shape := ⟨3, ![8, 256, 2048]⟩
abbrev S1 : Shape := ⟨1, ![1]⟩
abbrev S256x2048 : Shape := ⟨2, ![256, 2048]⟩
abbrev S8x64x2048 : Shape := ⟨3, ![8, 64, 2048]⟩
abbrev S1x64x2048 : Shape := ⟨3, ![1, 64, 2048]⟩
abbrev S64x2048 : Shape := ⟨2, ![64, 2048]⟩

abbrev nBuf : Space → Nat
  | .hbm => 9
  | .vmem => 18
  | .smem => 1
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .hbm, ⟨8, _⟩ => ⟨S256x2048, .f32⟩
  | .local _ .vmem, ⟨0, _⟩ => ⟨S8x64x2048, .f32⟩
  | .local _ .vmem, ⟨1, _⟩ => ⟨S8x64x2048, .f32⟩
  | .local _ .vmem, ⟨2, _⟩ => ⟨S1x64x2048, .f32⟩
  | .local _ .vmem, ⟨3, _⟩ => ⟨S1x64x2048, .f32⟩
  | .local _ .vmem, ⟨4, _⟩ => ⟨S64x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S64x2048, .f32⟩
  | .local _ .vmem, ⟨9, _⟩ => ⟨S64x2048, .f32⟩
  | .local _ .vmem, ⟨10, _⟩ => ⟨S64x2048, .f32⟩
  | .local _ .vmem, ⟨11, _⟩ => ⟨S64x2048, .f32⟩
  | .local _ .vmem, ⟨12, _⟩ => ⟨S64x2048, .f32⟩
  | .local _ .vmem, ⟨13, _⟩ => ⟨S64x2048, .f32⟩
  | .local _ .vmem, ⟨14, _⟩ => ⟨S64x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .smem, ⟨0, _⟩ => ⟨S1, .i32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.subi arg0 c0_i32
  let c0_i32_0 : BitVec 32 := 0#32
  let c3_i32 : BitVec 32 := 3#32
  let v2 : BitVec 32 := Scalar.maxsi c0_i32_0 v1
  let v3 : BitVec 32 := Scalar.minsi c3_i32 v2
  let c0_i32_1 : BitVec 32 := 0#32
  let c0_i32_2 : BitVec 32 := 0#32
  ![v0.toNat, v3.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference12Ideal.lean ====
abbrev S8x256x2048 : Shape := ⟨3, ![8, 256, 2048]⟩
abbrev S1 : Shape := ⟨1, ![1]⟩
abbrev S256x2048 : Shape := ⟨2, ![256, 2048]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x256x2048, .f32⟩
  | .hbm, ⟨1, _⟩ => ⟨S8x256x2048, .f32⟩
  | .hbm, ⟨2, _⟩ => ⟨S1, .i32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x256x2048, .i1⟩
  | .hbm, ⟨12, _⟩ => ⟨S8x256x2048, .f32⟩
  | .hbm, ⟨13, _⟩ => ⟨S_, .f32⟩
  | .hbm, ⟨14, _⟩ => ⟨S256x2048, .f32⟩
  | .hbm, ⟨15, _⟩ => ⟨S_, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256x2048, .f32⟩
  | .hbm, ⟨28, _⟩ => ⟨S256x2048, .f32⟩
  | .hbm, ⟨29, _⟩ => ⟨S256x2048, .f32⟩
  | .hbm, ⟨30, _⟩ => ⟨S_, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | .hbm, ⟨40, _⟩ => ⟨S256x2048, .f32⟩
  | .hbm, ⟨41, _⟩ => ⟨S_, .f32⟩
  | .hbm, ⟨42, _⟩ => ⟨S256x2048, .f32⟩
  | .hbm, ⟨43, _⟩ => ⟨S256x2048, .f32⟩
  | .hbm, ⟨44, _⟩ => ⟨S256x2048, .f32⟩
  | .hbm, ⟨45, _⟩ => ⟨S_, .f32⟩
  | .hbm, ⟨46, _⟩ => ⟨S256x2048, .f32⟩
  | .hbm, ⟨47, _⟩ => ⟨S256x2048, .f32⟩
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel13.lean ====
abbrev S8x4x384 : Shape := ⟨3, ![8, 4, 384]⟩
abbrev S1 : Shape := ⟨1, ![1]⟩
abbrev S4x384 : Shape := ⟨2, ![4, 384]⟩
abbrev S1x4x384 : Shape := ⟨3, ![1, 4, 384]⟩

abbrev nBuf : Space → Nat
  | .hbm => 9
  | .vmem => 9
  | .smem => 1
  | _ => 0

abbrev bufTy : (tb : Table) → Fin (tcTables nBuf tb) → BufTy
  | .hbm, ⟨0, _⟩ => ⟨S8x4x384, .f32⟩
  | .hbm, ⟨1, _⟩ => ⟨S8x4x384, .f32⟩
  | .hbm, ⟨2, _⟩ => ⟨S4x384, .f32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S4x384, .f32⟩
  | .hbm, ⟨7, _⟩ => ⟨S4x384, .f32⟩
  | .hbm, ⟨8, _⟩ => ⟨S4x384, .f32⟩
  | .local _ .vmem, ⟨0, _⟩ => ⟨S8x4x384, .f32⟩
  | .local _ .vmem, ⟨1, _⟩ => ⟨S1x4x384, .f32⟩
  | .local _ .vmem, ⟨2, _⟩ => ⟨S4x384, .f32⟩
  | .local _ .vmem, ⟨3, _⟩ => ⟨S4x384, .f32⟩
  | .local _ .vmem, ⟨4, _⟩ => ⟨S4x384, .f32⟩
  | .local _ .vmem, ⟨5, _⟩ => ⟨S4x384, .f32⟩
  | .local _ .vmem, ⟨6, _⟩ => ⟨S4x384, .f32⟩
  | .local _ .vmem, ⟨7, _⟩ => ⟨S4x384, .f32⟩
  | .local _ .vmem, ⟨8, _⟩ => ⟨S4x384, .f32⟩
  | .local _ .smem, ⟨0, _⟩ => ⟨S1, .i32⟩
  | _, _ => ⟨S8x4x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c0_i32_1 : BitVec 32 := 0#32
  let v1 : BitVec 32 := Scalar.maxsi c0_i32_0 v0
  let v2 : BitVec 32 := Scalar.minsi c0_i32_1 v1
  let c0_i32_2 : BitVec 32 := 0#32
  let c0_i32_3 : BitVec 32 := 0#32
  let c0_i32_4 : BitVec 32 := 0#32
  ![c0_i32_2.toNat, v2.toNat, c0_i32_3.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.subi arg0 c0_i32
  let c0_i32_0 : BitVec 32 := 0#32
  let c0_i32_1 : BitVec 32 := 0#32
  let v2 : BitVec 32 := Scalar.maxsi c0_i32_0 v1
  let v3 : BitVec 32 := Scalar.minsi c0_i32_1 v2
  let c0_i32_2 : BitVec 32 := 0#32
  let c0_i32_3 : BitVec 32 := 0#32
  ![v0.toNat, v3.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x384 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== Reference13Ideal.lean ====
abbrev S8x4x384 : Shape := ⟨3, ![8, 4, 384]⟩
abbrev S1 : Shape := ⟨1, ![1]⟩
abbrev S4x384 : Shape := ⟨2, ![4, 384]⟩
abbrev S8 : Shape := ⟨1, ![8]⟩
abbrev S8x1x1 : Shape := ⟨3, ![8, 1, 1]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S8x4x384, .f32⟩
  | .hbm, ⟨1, _⟩ => ⟨S8x4x384, .f32⟩
  | .hbm, ⟨2, _⟩ => ⟨S1, .i32⟩
  | .hbm, ⟨3, _⟩ => ⟨S4x384, .f32⟩
  | .hbm, ⟨4, _⟩ => ⟨S4x384, .f32⟩
  | .hbm, ⟨5, _⟩ => ⟨S4x384, .f32⟩
  | .hbm, ⟨6, _⟩ => ⟨S8, .i32⟩
  | .hbm, ⟨7, _⟩ => ⟨S8x1x1, .i32⟩
  | .hbm, ⟨8, _⟩ => ⟨S_, .i32⟩
  | .hbm, ⟨9, _⟩ => ⟨S8x1x1, .i32⟩
  | .hbm, ⟨10, _⟩ => ⟨S8x1x1, .i1⟩
  | .hbm, ⟨11, _⟩ => ⟨S8x4x384, .i1⟩
  | .hbm, ⟨12, _⟩ => ⟨S8x4x384, .f32⟩
  | .hbm, ⟨13, _⟩ => ⟨S_, .f32⟩
  | .hbm, ⟨14, _⟩ => ⟨S4x384, .f32⟩
  | .hbm, ⟨15, _⟩ => ⟨S_, .f32⟩
  | .hbm, ⟨16, _⟩ => ⟨S4x384, .f32⟩
  | .hbm, ⟨17, _⟩ => ⟨S4x384, .f32⟩
  | .hbm, ⟨18, _⟩ => ⟨S_, .f32⟩
  | .hbm, ⟨19, _⟩ => ⟨S4x384, .f32⟩
  | .hbm, ⟨20, _⟩ => ⟨S4x384, .f32⟩
  | .hbm, ⟨21, _⟩ => ⟨S4x384, .f32⟩
  | .hbm, ⟨22, _⟩ => ⟨S_, .f32⟩
  | .hbm, ⟨23, _⟩ => ⟨S4x384, .f32⟩
  | .hbm, ⟨24, _⟩ => ⟨S4x384, .f32⟩
  | .hbm, ⟨25, _⟩ => ⟨S4x384, .f32⟩
  | .hbm, ⟨26, _⟩ => ⟨S_, .f32⟩
  | .hbm, ⟨27, _⟩ => ⟨S4x384, .f32⟩
  | .hbm, ⟨28, _⟩ => ⟨S4x384, .f32⟩
  | .hbm, ⟨29, _⟩ => ⟨S4x384, .f32⟩
  | .hbm, ⟨30, _⟩ => ⟨S_, .f32⟩
  | .hbm, ⟨31, _⟩ => ⟨S4x384, .f32⟩
  | .hbm, ⟨32, _⟩ => ⟨S4x384, .f32⟩
  | .hbm, ⟨33, _⟩ => ⟨S_, .f32⟩
  | .hbm, ⟨34, _⟩ => ⟨S4x384, .f32⟩
  | .hbm, ⟨35, _⟩ => ⟨S4x384, .f32⟩
  | .hbm, ⟨36, _⟩ => ⟨S4x384, .f32⟩
  | .hbm, ⟨37, _⟩ => ⟨S_, .f32⟩
  | .hbm, ⟨38, _⟩ => ⟨S4x384, .f32⟩
  | .hbm, ⟨39, _⟩ => ⟨S4x384, .f32⟩
  | .hbm, ⟨40, _⟩ => ⟨S4x384, .f32⟩
  | .hbm, ⟨41, _⟩ => ⟨S_, .f32⟩
  | .hbm, ⟨42, _⟩ => ⟨S4x384, .f32⟩
  | .hbm, ⟨43, _⟩ => ⟨S4x384, .f32⟩
  | .hbm, ⟨44, _⟩ => ⟨S4x384, .f32⟩
  | .hbm, ⟨45, _⟩ => ⟨S_, .f32⟩
  | .hbm, ⟨46, _⟩ => ⟨S4x384, .f32⟩
  | .hbm, ⟨47, _⟩ => ⟨S4x384, .f32⟩
  | _, _ => ⟨S8x4x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== Kernel14.lean ====
abbrev S8x1024x1794 : Shape := ⟨3, ![8, 1024, 1794]⟩
abbrev S1 : Shape := ⟨1, ![1]⟩
abbrev S2048x1794 : Shape := ⟨2, ![2048, 1794]⟩
abbrev S8x64x1794 : Shape := ⟨3, ![8, 64, 1794]⟩
abbrev S1x64x1794 : Shape := ⟨3, ![1, 64, 1794]⟩
abbrev S64x1794 : Shape := ⟨2, ![64, 1794]⟩

abbrev nBuf : Space → Nat
  | .hbm => 11
  | .vmem => 22
  | .smem => 1
  | _ => 0

abbrev bufTy : (tb : Table) → Fin (tcTables nBuf tb) → BufTy
  | .hbm, ⟨0, _⟩ => ⟨S8x1024x1794, .bf16⟩
  | .hbm, ⟨1, _⟩ => ⟨S8x1024x1794, .bf16⟩
  | .hbm, ⟨2, _⟩ => ⟨S8x1024x1794, .bf16⟩
  | .hbm, ⟨3, _⟩ => ⟨S8x1024x1794, .bf16⟩
  | .hbm, ⟨4, _⟩ => ⟨S2048x1794, .f32⟩
  | .hbm, ⟨5, _⟩ => ⟨S2048x1794, .f32⟩
  | .hbm, ⟨6, _⟩ => ⟨S2048x1794, .f32⟩
  | .hbm, ⟨7, _⟩ => ⟨S2048x1794, .f32⟩
  | .hbm, ⟨8, _⟩ => ⟨S2048x1794, .f32⟩
  | .hbm, ⟨9, _⟩ => ⟨S2048x1794, .f32⟩
  | .hbm, ⟨10, _⟩ => ⟨S2048x1794, .f32⟩
  | .local _ .vmem, ⟨0, _⟩ => ⟨S8x64x1794, .bf16⟩
  | .local _ .vmem, ⟨1, _⟩ => ⟨S8x64x1794, .bf16⟩
  | .local _ .vmem, ⟨2, _⟩ => ⟨S8x64x1794, .bf16⟩
  | .local _ .vmem, ⟨3, _⟩ => ⟨S8x64x1794, .bf16⟩
  | .local _ .vmem, ⟨4, _⟩ => ⟨S1x64x1794, .bf16⟩
  | .local _ .vmem, ⟨5, _⟩ => ⟨S1x64x1794, .bf16⟩
  | .local _ .vmem, ⟨6, _⟩ => ⟨S1x64x1794, .bf16⟩
  | .local _ .vmem, ⟨7, _⟩ => ⟨S1x64x1794, .bf16⟩
  | .local _ .vmem, ⟨8, _⟩ => ⟨S64x1794, .f32⟩
  | .local _ .vmem, ⟨9, _⟩ => ⟨S64x1794, .f32⟩
  | .local _ .vmem, ⟨10, _⟩ => ⟨S64x1794, .f32⟩
  | .local _ .vmem, ⟨11, _⟩ => ⟨S64x1794, .f32⟩
  | .local _ .vmem, ⟨12, _⟩ => ⟨S64x1794, .f32⟩
  | .local _ .vmem, ⟨13, _⟩ => ⟨S64x1794, .f32⟩
  | .local _ .vmem, ⟨14, _⟩ => ⟨S64x1794, .f32⟩
  | .local _ .vmem, ⟨15, _⟩ => ⟨S64x1794, .f32⟩
  | .local _ .vmem, ⟨16, _⟩ => ⟨S64x1794, .f32⟩
  | .local _ .vmem, ⟨17, _⟩ => ⟨S64x1794, .f32⟩
  | .local _ .vmem, ⟨18, _⟩ => ⟨S64x1794, .f32⟩
  | .local _ .vmem, ⟨19, _⟩ => ⟨S64x1794, .f32⟩
  | .local _ .vmem, ⟨20, _⟩ => ⟨S64x1794, .f32⟩
  | .local _ .vmem, ⟨21, _⟩ => ⟨S64x1794, .f32⟩
  | .local _ .smem, ⟨0, _⟩ => ⟨S1, .i32⟩
  | _, _ => ⟨S8x1024x1794, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg4 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 3 → Nat :=
  let arg0 : BitVec 32 := BitVec.ofNat 32 (i 0).val
  let c0_i32 : BitVec 32 := 0#32
  let v0 : BitVec 32 := Scalar.subi arg0 c0_i32
  let c0_i32_0 : BitVec 32 := 0#32
  let c15_i32 : BitVec 32 := 15#32
  let v1 : BitVec 32 := Scalar.maxsi c0_i32_0 v0
  let v2 : BitVec 32 := Scalar.minsi c15_i32 v1
  let c0_i32_1 : BitVec 32 := 0#32
  let c0_i32_2 : BitVec 32 := 0#32
  let c0_i32_3 : BitVec 32 := 0#32
  ![c0_i32_1.toNat, v2.toNat, c0_i32_2.toNat]

def cc0_transform_1 (i : grid0.Coords) : Fin 3 → Nat :=
  let arg0 : BitVec 32 := BitVec.ofNat 32 (i 0).val
  let c16_i32 : BitVec 32 := 16#32
  let v0 : BitVec 32 := Scalar.subi arg0 c16_i32
  let c0_i32 : BitVec 32 := 0#32
  let c15_i32 : BitVec 32 := 15#32
  let v1 : BitVec 32 := Scalar.maxsi c0_i32 v0
  let v2 : BitVec 32 := Scalar.minsi c15_i32 v1
  let c0_i32_0 : BitVec 32 := 0#32
  let c0_i32_1 : BitVec 32 := 0#32
  let c0_i32_2 : BitVec 32 := 0#32
  ![c0_i32_0.toNat, v2.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 32 := Scalar.subi arg0 c0_i32
  let c0_i32_0 : BitVec 32 := 0#32
  let c15_i32 : BitVec 32 := 15#32
  let v2 : BitVec 32 := Scalar.maxsi c0_i32_0 v1
  let v3 : BitVec 32 := Scalar.minsi c15_i32 v2
  let c0_i32_1 : BitVec 32 := 0#32
  let c0_i32_2 : BitVec 32 := 0#32
  ![v0.toNat, v3.toNat, c0_i32_1.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c16_i32 : BitVec 32 := 16#32
  let v1 : BitVec 32 := Scalar.subi arg0 c16_i32
  let c0_i32 : BitVec 32 := 0#32
  let c15_i32 : BitVec 32 := 15#32
  let v2 : BitVec 32 := Scalar.maxsi c0_i32 v1
  let v3 : BitVec 32 := Scalar.minsi c15_i32 v2
  let c0_i32_0 : BitVec 32 := 0#32
  let c0_i32_1 : BitVec 32 := 0#32
  ![v0.toNat, v3.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1794 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x1794 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1794 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1794 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x1794 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1794 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x1794 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x1794 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x1794 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x1794 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x1794 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference14Ideal.lean ====
abbrev S8x1024x1794 : Shape := ⟨3, ![8, 1024, 1794]⟩
abbrev S1 : Shape := ⟨1, ![1]⟩
abbrev S2048x1794 : Shape := ⟨2, ![2048, 1794]⟩
abbrev S8x2048x1794 : Shape := ⟨3, ![8, 2048, 1794]⟩
abbrev S8 : Shape := ⟨1, ![8]⟩
abbrev S8x1x1 : Shape := ⟨3, ![8, 1, 1]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S8x1024x1794, .bf16⟩
  | .hbm, ⟨1, _⟩ => ⟨S8x1024x1794, .bf16⟩
  | .hbm, ⟨2, _⟩ => ⟨S8x1024x1794, .bf16⟩
  | .hbm, ⟨3, _⟩ => ⟨S8x1024x1794, .bf16⟩
  | .hbm, ⟨4, _⟩ => ⟨S1, .i32⟩
  | .hbm, ⟨5, _⟩ => ⟨S2048x1794, .f32⟩
  | .hbm, ⟨6, _⟩ => ⟨S2048x1794, .f32⟩
  | .hbm, ⟨7, _⟩ => ⟨S2048x1794, .f32⟩
  | .hbm, ⟨8, _⟩ => ⟨S8x2048x1794, .bf16⟩
  | .hbm, ⟨9, _⟩ => ⟨S8x2048x1794, .f32⟩
  | .hbm, ⟨10, _⟩ => ⟨S8x2048x1794, .bf16⟩
  | .hbm, ⟨11, _⟩ => ⟨S8x2048x1794, .f32⟩
  | .hbm, ⟨12, _⟩ => ⟨S8, .i32⟩
  | .hbm, ⟨13, _⟩ => ⟨S8x1x1, .i32⟩
  | .hbm, ⟨14, _⟩ => ⟨S_, .i32⟩
  | .hbm, ⟨15, _⟩ => ⟨S8x1x1, .i32⟩
  | .hbm, ⟨16, _⟩ => ⟨S8x1x1, .i1⟩
  | .hbm, ⟨17, _⟩ => ⟨S8x2048x1794, .i1⟩
  | .hbm, ⟨18, _⟩ => ⟨S8x2048x1794, .f32⟩
  | .hbm, ⟨19, _⟩ => ⟨S_, .f32⟩
  | .hbm, ⟨20, _⟩ => ⟨S2048x1794, .f32⟩
  | .hbm, ⟨21, _⟩ => ⟨S_, .f32⟩
  | .hbm, ⟨22, _⟩ => ⟨S2048x1794, .f32⟩
  | .hbm, ⟨23, _⟩ => ⟨S2048x1794, .f32⟩
  | .hbm, ⟨24, _⟩ => ⟨S_, .f32⟩
  | .hbm, ⟨25, _⟩ => ⟨S2048x1794, .f32⟩
  | .hbm, ⟨26, _⟩ => ⟨S2048x1794, .f32⟩
  | .hbm, ⟨27, _⟩ => ⟨S2048x1794, .f32⟩
  | .hbm, ⟨28, _⟩ => ⟨S_, .f32⟩
  | .hbm, ⟨29, _⟩ => ⟨S2048x1794, .f32⟩
  | .hbm, ⟨30, _⟩ => ⟨S2048x1794, .f32⟩
  | .hbm, ⟨31, _⟩ => ⟨S2048x1794, .f32⟩
  | .hbm, ⟨32, _⟩ => ⟨S_, .f32⟩
  | .hbm, ⟨33, _⟩ => ⟨S2048x1794, .f32⟩
  | .hbm, ⟨34, _⟩ => ⟨S2048x1794, .f32⟩
  | .hbm, ⟨35, _⟩ => ⟨S2048x1794, .f32⟩
  | .hbm, ⟨36, _⟩ => ⟨S_, .f32⟩
  | .hbm, ⟨37, _⟩ => ⟨S2048x1794, .f32⟩
  | .hbm, ⟨38, _⟩ => ⟨S2048x1794, .f32⟩
  | .hbm, ⟨39, _⟩ => ⟨S_, .f32⟩
  | .hbm, ⟨40, _⟩ => ⟨S2048x1794, .f32⟩
  | .hbm, ⟨41, _⟩ => ⟨S2048x1794, .f32⟩
  | .hbm, ⟨42, _⟩ => ⟨S2048x1794, .f32⟩
  | .hbm, ⟨43, _⟩ => ⟨S_, .f32⟩
  | .hbm, ⟨44, _⟩ => ⟨S2048x1794, .f32⟩
  | .hbm, ⟨45, _⟩ => ⟨S2048x1794, .f32⟩
  | .hbm, ⟨46, _⟩ => ⟨S2048x1794, .f32⟩
  | .hbm, ⟨47, _⟩ => ⟨S_, .f32⟩
  | .hbm, ⟨48, _⟩ => ⟨S2048x1794, .f32⟩
  | .hbm, ⟨49, _⟩ => ⟨S2048x1794, .f32⟩
  | .hbm, ⟨50, _⟩ => ⟨S2048x1794, .f32⟩
  | .hbm, ⟨51, _⟩ => ⟨S_, .f32⟩
  | .hbm, ⟨52, _⟩ => ⟨S2048x1794, .f32⟩
  | .hbm, ⟨53, _⟩ => ⟨S2048x1794, .f32⟩
  | _, _ => ⟨S8x1024x1794, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩

abbrev nD : Nat := 1
abbrev τ : Topo := Topo.v7x

variable {F : FTy → Type} [FloatOps F]
-- ==== Kernel15.lean ====
abbrev S4096x1024 : Shape := ⟨2, ![4096, 1024]⟩
abbrev S8x1024x256 : Shape := ⟨3, ![8, 1024, 256]⟩
abbrev S4096x2048 : Shape := ⟨2, ![4096, 2048]⟩
abbrev S512x1024 : Shape := ⟨2, ![512, 1024]⟩
abbrev S4x1024x256 : Shape := ⟨3, ![4, 1024, 256]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S4096x2048, .f32⟩
  | .local _ .vmem, ⟨0, _⟩ => ⟨S512x1024, .bf16⟩
  | .local _ .vmem, ⟨1, _⟩ => ⟨S512x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_33 : BitVec 32 := 0#32
  let v39 : BitVec 1 := Scalar.cmpi .eq arg2 c0_i32_33
  let v40 : BitVec 32 := Scalar.extui v39
  let c0_i32_34 : BitVec 32 := 0#32
  let v41 : BitVec 1 := Scalar.cmpi .ne v40 c0_i32_34
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x1024 : Shape := ⟨2, ![4096, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x256, .bf16⟩
  | .hbm, ⟨2, _⟩ => ⟨S1024x8x256, .bf16⟩
  | .hbm, ⟨3, _⟩ => ⟨S1024x2048, .bf16⟩
  | .hbm, ⟨4, _⟩ => ⟨S4096x1024, .f32⟩
  | .hbm, ⟨5, _⟩ => ⟨S1024x2048, .f32⟩
  | .hbm, ⟨6, _⟩ => ⟨S4096x2048, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel16.lean ====
abbrev S4096x2048 : Shape := ⟨2, ![4096, 2048]⟩
abbrev S8x1024x256 : Shape := ⟨3, ![8, 1024, 256]⟩
abbrev S4096x1024 : Shape := ⟨2, ![4096, 1024]⟩
abbrev S512x1024 : Shape := ⟨2, ![512, 1024]⟩
abbrev S4x1024x256 : Shape := ⟨3, ![4, 1024, 256]⟩
abbrev S512x256 : Shape := ⟨2, ![512, 256]⟩
abbrev S1x1024x256 : Shape := ⟨3, ![1, 1024, 256]⟩
abbrev S1024x256 : Shape := ⟨2, ![1024, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S4x1024x256, .bf16⟩
  | .local _ .vmem, ⟨3, _⟩ => ⟨S4x1024x256, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v39 : BitVec 1 := Scalar.cmpi .eq arg2 c1_i32
  let v40 : BitVec 32 := Scalar.extui v39
  let c0_i32_33 : BitVec 32 := 0#32
  let v41 : BitVec 1 := Scalar.cmpi .ne v40 c0_i32_33
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S4096x2048 : Shape := ⟨2, ![4096, 2048]⟩
abbrev S8x1024x256 : Shape := ⟨3, ![8, 1024, 256]⟩
abbrev S_ : Shape := ⟨0, ![]⟩
abbrev S4096x1024 : Shape := ⟨2, ![4096, 1024]⟩
abbrev S1024x8x256 : Shape := ⟨3, ![1024, 8, 256]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x1024x256, .bf16⟩
  | .hbm, ⟨2, _⟩ => ⟨S_, .f32⟩
  | .hbm, ⟨3, _⟩ => ⟨S4096x1024, .f32⟩
  | .hbm, ⟨4, _⟩ => ⟨S1024x8x256, .bf16⟩
  | .hbm, ⟨5, _⟩ => ⟨S1024x2048, .bf16⟩
  | .hbm, ⟨6, _⟩ => ⟨S1024x2048, .f32⟩
  | .hbm, ⟨7, _⟩ => ⟨S4096x2048, .f32⟩
  | .hbm, ⟨8, _⟩ => ⟨S4096x2048, .f32⟩
  | .hbm, ⟨9, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x1024 : Shape := ⟨2, ![4096, 1024]⟩
abbrev S4096x2048 : Shape := ⟨2, ![4096, 2048]⟩
abbrev S8x1024x256 : Shape := ⟨3, ![8, 1024, 256]⟩
abbrev S1024x512 : Shape := ⟨2, ![1024, 512]⟩
abbrev S1024x1024 : Shape := ⟨2, ![1024, 1024]⟩
abbrev S4x512x256 : Shape := ⟨3, ![4, 512, 256]⟩
abbrev S512x1024 : Shape := ⟨2, ![512, 1024]⟩
abbrev S512x256 : Shape := ⟨2, ![512, 256]⟩
abbrev S1x512x256 : Shape := ⟨3, ![1, 512, 256]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S8x1024x256, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x256, .f32⟩
  | .local _ .vmem, ⟨5, _⟩ => ⟨S4x512x256, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x1024 : Shape := ⟨2, ![4096, 1024]⟩
abbrev S4096x2048 : Shape := ⟨2, ![4096, 2048]⟩
abbrev S_ : Shape := ⟨0, ![]⟩
abbrev S8x1024x256 : Shape := ⟨3, ![8, 1024, 256]⟩
abbrev S1024x8x256 : Shape := ⟨3, ![1024, 8, 256]⟩
abbrev S1024x2048 : Shape := ⟨2, ![1024, 2048]⟩
abbrev S2048x1024 : Shape := ⟨2, ![2048, 1024]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S8x1024x256, .f32⟩
  | .hbm, ⟨4, _⟩ => ⟨S1024x8x256, .f32⟩
  | .hbm, ⟨5, _⟩ => ⟨S1024x2048, .f32⟩
  | .hbm, ⟨6, _⟩ => ⟨S4096x1024, .f32⟩
  | .hbm, ⟨7, _⟩ => ⟨S4096x2048, .f32⟩
  | .hbm, ⟨8, _⟩ => ⟨S4096x2048, .f32⟩
  | .hbm, ⟨9, _⟩ => ⟨S2048x1024, .f32⟩
  | .hbm, ⟨10, _⟩ => ⟨S1024x2048, .f32⟩
  | .hbm, ⟨11, _⟩ => ⟨S1024x8x256, .f32⟩
  | .hbm, ⟨12, _⟩ => ⟨S8x1024x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== Kernel18.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel19.lean ====
abbrev S4096x14336 : Shape := ⟨2, ![4096, 14336]⟩
abbrev S4096x2048 : Shape := ⟨2, ![4096, 2048]⟩
abbrev S256x2048 : Shape := ⟨2, ![256, 2048]⟩

abbrev nBuf : Space → Nat
  | .hbm => 5
  | .vmem => 14
  | .smem => 0
  | _ => 0

abbrev bufTy : (tb : Table) → Fin (tcTables nBuf tb) → BufTy
  | .hbm, ⟨0, _⟩ => ⟨S4096x14336, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .bf16⟩
  | .local _ .vmem, ⟨13, _⟩ => ⟨S256x2048, .bf16⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference19Ideal.lean ====
abbrev S4096x14336 : Shape := ⟨2, ![4096, 14336]⟩
abbrev S4096x2048 : Shape := ⟨2, ![4096, 2048]⟩
abbrev S4096x6144 : Shape := ⟨2, ![4096, 6144]⟩
abbrev S_ : Shape := ⟨0, ![]⟩
abbrev S4096x3x2048 : Shape := ⟨3, ![4096, 3, 2048]⟩
abbrev S4096x1x2048 : Shape := ⟨3, ![4096, 1, 2048]⟩

abbrev nBuf : Space → Nat
  | .hbm => 27
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x6144, .bf16⟩
  | .hbm, ⟨5, _⟩ => ⟨S4096x6144, .f32⟩
  | .hbm, ⟨6, _⟩ => ⟨S4096x6144, .f32⟩
  | .hbm, ⟨7, _⟩ => ⟨S4096x6144, .f32⟩
  | .hbm, ⟨8, _⟩ => ⟨S_, .f32⟩
  | .hbm, ⟨9, _⟩ => ⟨S4096x6144, .f32⟩
  | .hbm, ⟨10, _⟩ => ⟨S4096x6144, .f32⟩
  | .hbm, ⟨11, _⟩ => ⟨S_, .f32⟩
  | .hbm, ⟨12, _⟩ => ⟨S4096x6144, .f32⟩
  | .hbm, ⟨13, _⟩ => ⟨S4096x6144, .f32⟩
  | .hbm, ⟨14, _⟩ => ⟨S4096x3x2048, .f32⟩
  | .hbm, ⟨15, _⟩ => ⟨S4096x1x2048, .f32⟩
  | .hbm, ⟨16, _⟩ => ⟨S4096x2048, .f32⟩
  | .hbm, ⟨17, _⟩ => ⟨S4096x2048, .f32⟩
  | .hbm, ⟨18, _⟩ => ⟨S4096x1x2048, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S4096x1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel20.lean ====
abbrev S4096x14336 : Shape := ⟨2, ![4096, 14336]⟩
abbrev S4096x2048 : Shape := ⟨2, ![4096, 2048]⟩
abbrev S256x2048 : Shape := ⟨2, ![256, 2048]⟩

abbrev nBuf : Space → Nat
  | .hbm => 11
  | .vmem => 26
  | .smem => 0
  | _ => 0

abbrev bufTy : (tb : Table) → Fin (tcTables nBuf tb) → BufTy
  | .hbm, ⟨0, _⟩ => ⟨S4096x14336, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S4096x2048, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S256x2048, .bf16⟩
  | .local _ .vmem, ⟨21, _⟩ => ⟨S256x2048, .bf16⟩
  | .local _ .vmem, ⟨22, _⟩ => ⟨S256x2048, .bf16⟩
  | .local _ .vmem, ⟨23, _⟩ => ⟨S256x2048, .bf16⟩
  | .local _ .vmem, ⟨24, _⟩ => ⟨S256x2048, .bf16⟩
  | .local _ .vmem, ⟨25, _⟩ => ⟨S256x2048, .bf16⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_v0_5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference20Ideal.lean ====
abbrev S4096x14336 : Shape := ⟨2, ![4096, 14336]⟩
abbrev S4096x2048 : Shape := ⟨2, ![4096, 2048]⟩
abbrev S4096x6144 : Shape := ⟨2, ![4096, 6144]⟩
abbrev S_ : Shape := ⟨0, ![]⟩
abbrev S4096x3x2048 : Shape := ⟨3, ![4096, 3, 2048]⟩
abbrev S4096x1x2048 : Shape := ⟨3, ![4096, 1, 2048]⟩

abbrev nBuf : Space → Nat
  | .hbm => 61
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x6144, .bf16⟩
  | .hbm, ⟨6, _⟩ => ⟨S4096x6144, .f32⟩
  | .hbm, ⟨7, _⟩ => ⟨S4096x6144, .f32⟩
  | .hbm, ⟨8, _⟩ => ⟨S4096x6144, .f32⟩
  | .hbm, ⟨9, _⟩ => ⟨S_, .f32⟩
  | .hbm, ⟨10, _⟩ => ⟨S4096x6144, .f32⟩
  | .hbm, ⟨11, _⟩ => ⟨S4096x6144, .f32⟩
  | .hbm, ⟨12, _⟩ => ⟨S_, .f32⟩
  | .hbm, ⟨13, _⟩ => ⟨S4096x6144, .f32⟩
  | .hbm, ⟨14, _⟩ => ⟨S4096x6144, .f32⟩
  | .hbm, ⟨15, _⟩ => ⟨S_, .f32⟩
  | .hbm, ⟨16, _⟩ => ⟨S4096x6144, .f32⟩
  | .hbm, ⟨17, _⟩ => ⟨S4096x6144, .f32⟩
  | .hbm, ⟨18, _⟩ => ⟨S4096x6144, .f32⟩
  | .hbm, ⟨19, _⟩ => ⟨S4096x3x2048, .f32⟩
  | .hbm, ⟨20, _⟩ => ⟨S4096x1x2048, .f32⟩
  | .hbm, ⟨21, _⟩ => ⟨S4096x2048, .f32⟩
  | .hbm, ⟨22, _⟩ => ⟨S4096x2048, .f32⟩
  | .hbm, ⟨23, _⟩ => ⟨S4096x1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x1x2048, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x1x2048, .f32⟩
  | .hbm, ⟨36, _⟩ => ⟨S_, .f32⟩
  | .hbm, ⟨37, _⟩ => ⟨S4096x3x2048, .f32⟩
  | .hbm, ⟨38, _⟩ => ⟨S4096x2048, .f32⟩
  | .hbm, ⟨39, _⟩ => ⟨S4096x2048, .f32⟩
  | .hbm, ⟨40, _⟩ => ⟨S4096x1x2048, .f32⟩
  | .hbm, ⟨41, _⟩ => ⟨S_, .f32⟩
  | .hbm, ⟨42, _⟩ => ⟨S4096x3x2048, .f32⟩
  | .hbm, ⟨43, _⟩ => ⟨S4096x3x2048, .f32⟩
  | .hbm, ⟨44, _⟩ => ⟨S4096x2048, .f32⟩
  | .hbm, ⟨45, _⟩ => ⟨S4096x2048, .f32⟩
  | .hbm, ⟨46, _⟩ => ⟨S4096x1x2048, .f32⟩
  | .hbm, ⟨47, _⟩ => ⟨S_, .f32⟩
  | .hbm, ⟨48, _⟩ => ⟨S4096x3x2048, .f32⟩
  | .hbm, ⟨49, _⟩ => ⟨S4096x3x2048, .f32⟩
  | .hbm, ⟨50, _⟩ => ⟨S4096x6144, .f32⟩
  | .hbm, ⟨51, _⟩ => ⟨S4096x6144, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .bf16⟩
  | .hbm, ⟨56, _⟩ => ⟨S4096x2048, .bf16⟩
  | .hbm, ⟨57, _⟩ => ⟨S4096x2048, .bf16⟩
  | .hbm, ⟨58, _⟩ => ⟨S4096x2048, .bf16⟩
  | .hbm, ⟨59, _⟩ => ⟨S4096x2048, .bf16⟩
  | .hbm, ⟨60, _⟩ => ⟨S4096x2048, .bf16⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_2 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_3 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_4 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩

abbrev nD : Nat := 1
abbrev τ : Topo := Topo.v7x

variable {F : FTy → Type} [FloatOps F]
-- ==== Kernel21.lean ====
abbrev S4096x2048 : Shape := ⟨2, ![4096, 2048]⟩
abbrev S1x2048 : Shape := ⟨2, ![1, 2048]⟩
abbrev S8x128 : Shape := ⟨2, ![8, 128]⟩
abbrev S256x2048 : Shape := ⟨2, ![256, 2048]⟩
abbrev S256 : Shape := ⟨1, ![256]⟩
abbrev S256x1 : Shape := ⟨2, ![256, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S1x2048, .f32⟩
  | .hbm, ⟨6, _⟩ => ⟨S8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S1x2048, .f32⟩
  | .local _ .vmem, ⟨10, _⟩ => ⟨S8x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference21Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 76
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x2048, .f32⟩
  | .hbm, ⟨22, _⟩ => ⟨S4096x2048, .f32⟩
  | .hbm, ⟨23, _⟩ => ⟨S1x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S4096x2048, .f32⟩
  | .hbm, ⟨54, _⟩ => ⟨S4096x2048, .f32⟩
  | .hbm, ⟨55, _⟩ => ⟨S_, .f32⟩
  | .hbm, ⟨56, _⟩ => ⟨S2048, .f32⟩
  | .hbm, ⟨57, _⟩ => ⟨S4096x2048, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x2048, .f32⟩
  | .hbm, ⟨62, _⟩ => ⟨S4096x2048, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S1x2048, .f32⟩
  | .hbm, ⟨75, _⟩ => ⟨S8x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel22.lean ====
abbrev S4096x2048 : Shape := ⟨2, ![4096, 2048]⟩
abbrev S4096x14336 : Shape := ⟨2, ![4096, 14336]⟩
abbrev S4096x1024 : Shape := ⟨2, ![4096, 1024]⟩
abbrev S256x2048 : Shape := ⟨2, ![256, 2048]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S4096x14336, .bf16⟩
  | .hbm, ⟨2, _⟩ => ⟨S4096x1024, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S4096x2048 : Shape := ⟨2, ![4096, 2048]⟩
abbrev S4096x14336 : Shape := ⟨2, ![4096, 14336]⟩
abbrev S4096x1024 : Shape := ⟨2, ![4096, 1024]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x14336, .bf16⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]
-- ==== Kernel23.lean ====
abbrev S4096x2048 : Shape := ⟨2, ![4096, 2048]⟩
abbrev S4096x14336 : Shape := ⟨2, ![4096, 14336]⟩
abbrev S4096x1024 : Shape := ⟨2, ![4096, 1024]⟩
abbrev S256x2048 : Shape := ⟨2, ![256, 2048]⟩
abbrev S256x1024 : Shape := ⟨2, ![256, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S4096x14336, .bf16⟩
  | .hbm, ⟨2, _⟩ => ⟨S4096x1024, .f32⟩
  | .hbm, ⟨3, _⟩ => ⟨S4096x2048, .bf16⟩
  | .hbm, ⟨4, _⟩ => ⟨S4096x1024, .bf16⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x2048, .bf16⟩
  | .local _ .vmem, ⟨7, _⟩ => ⟨S256x2048, .bf16⟩
  | .local _ .vmem, ⟨8, _⟩ => ⟨S256x1024, .bf16⟩
  | .local _ .vmem, ⟨9, _⟩ => ⟨S256x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference23Ideal.lean ====
abbrev S4096x2048 : Shape := ⟨2, ![4096, 2048]⟩
abbrev S4096x14336 : Shape := ⟨2, ![4096, 14336]⟩
abbrev S4096x1024 : Shape := ⟨2, ![4096, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x14336, .bf16⟩
  | .hbm, ⟨2, _⟩ => ⟨S4096x1024, .f32⟩
  | .hbm, ⟨3, _⟩ => ⟨S4096x1024, .bf16⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x2048, .f32⟩
  | .hbm, ⟨44, _⟩ => ⟨S4096x2048, .bf16⟩
  | .hbm, ⟨45, _⟩ => ⟨S4096x1024, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_v14_2 : Ref sig .tc := ⟨.hbm, 27, rfl⟩
abbrev main_call0_cst_1 : Ref sig .tc := ⟨.hbm, 28, rfl⟩
abbrev main_call0_v6 : Ref sig .tc := ⟨.hbm, 29, rfl⟩
abbrev main_call0_v7 : Ref sig .tc := ⟨.hbm, 30, rfl⟩
abbrev main_v14_1 : Ref sig .tc := ⟨.hbm, 31, rfl⟩
abbrev main_v14_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩

abbrev nD : Nat := 1
abbrev τ : Topo := Topo.v7x

variable {F : FTy → Type} [FloatOps F]
-- ==== Kernel24.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference24Ideal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel25.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference25Ideal.lean ====
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel26.lean ====
abbrev S256x2048 : Shape := ⟨2, ![256, 2048]⟩
abbrev S2048x2048 : Shape := ⟨2, ![2048, 2048]⟩
abbrev S256x1024 : Shape := ⟨2, ![256, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S256x2048, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference26Ideal.lean ====
abbrev S256x2048 : Shape := ⟨2, ![256, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S256x2048, .f32⟩
  | .hbm, ⟨6, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel27.lean ====
abbrev S256x2048 : Shape := ⟨2, ![256, 2048]⟩
abbrev S2048x2048 : Shape := ⟨2, ![2048, 2048]⟩
abbrev S256x512 : Shape := ⟨2, ![256, 512]⟩
abbrev S256x1024 : Shape := ⟨2, ![256, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S2048x2048, .f32⟩
  | .local _ .vmem, ⟨0, _⟩ => ⟨S256x512, .bf16⟩
  | .local _ .vmem, ⟨1, _⟩ => ⟨S256x512, .bf16⟩
  | .local _ .vmem, ⟨2, _⟩ => ⟨S256x1024, .f32⟩
  | .local _ .vmem, ⟨3, _⟩ => ⟨S256x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def k0_cond2 (i : grid0.Coords) : BitVec 1 :=
  let arg2 : BitVec 32 := BitVec.ofNat 32 (i 2).val
  let c0_i32_8 : BitVec 32 := 0#32
  let v12 : BitVec 1 := Scalar.cmpi .eq arg2 c0_i32_8
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference27Ideal.lean ====
abbrev S256x2048 : Shape := ⟨2, ![256, 2048]⟩
abbrev S_ : Shape := ⟨0, ![]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x2048, .f32⟩
  | .hbm, ⟨7, _⟩ => ⟨S2048x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel28.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference28Ideal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 27
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S2048, .f32⟩
  | .hbm, ⟨23, _⟩ => ⟨S1x2048, .f32⟩
  | .hbm, ⟨24, _⟩ => ⟨S_, .f32⟩
  | .hbm, ⟨25, _⟩ => ⟨S2048, .f32⟩
  | .hbm, ⟨26, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel29.lean ====
abbrev S4096x2048 : Shape := ⟨2, ![4096, 2048]⟩
abbrev S2048x128 : Shape := ⟨2, ![2048, 128]⟩
abbrev S4096x128 : Shape := ⟨2, ![4096, 128]⟩
abbrev S512x1024 : Shape := ⟨2, ![512, 1024]⟩
abbrev S1024x128 : Shape := ⟨2, ![1024, 128]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x128, .f32⟩
  | .local _ .vmem, ⟨0, _⟩ => ⟨S512x1024, .bf16⟩
  | .local _ .vmem, ⟨1, _⟩ => ⟨S512x1024, .bf16⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference29Ideal.lean ====
abbrev S4096x2048 : Shape := ⟨2, ![4096, 2048]⟩
abbrev S2048x128 : Shape := ⟨2, ![2048, 128]⟩
abbrev S4096x128 : Shape := ⟨2, ![4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x128, .bf16⟩
  | .hbm, ⟨2, _⟩ => ⟨S4096x2048, .f32⟩
  | .hbm, ⟨3, _⟩ => ⟨S2048x128, .f32⟩
  | .hbm, ⟨4, _⟩ => ⟨S4096x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel30.lean ====
abbrev S4096x128 : Shape := ⟨2, ![4096, 128]⟩
abbrev S2048x128 : Shape := ⟨2, ![2048, 128]⟩
abbrev S4096x2048 : Shape := ⟨2, ![4096, 2048]⟩
abbrev S512x128 : Shape := ⟨2, ![512, 128]⟩
abbrev S1024x128 : Shape := ⟨2, ![1024, 128]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S4096x2048, .f32⟩
  | .local _ .vmem, ⟨0, _⟩ => ⟨S512x128, .bf16⟩
  | .local _ .vmem, ⟨1, _⟩ => ⟨S512x128, .bf16⟩
  | .local _ .vmem, ⟨2, _⟩ => ⟨S1024x128, .bf16⟩
  | .local _ .vmem, ⟨3, _⟩ => ⟨S1024x128, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![v0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference30Ideal.lean ====
abbrev S4096x128 : Shape := ⟨2, ![4096, 128]⟩
abbrev S2048x128 : Shape := ⟨2, ![2048, 128]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x128, .bf16⟩
  | .hbm, ⟨1, _⟩ => ⟨S2048x128, .bf16⟩
  | .hbm, ⟨2, _⟩ => ⟨S_, .f32⟩
  | .hbm, ⟨3, _⟩ => ⟨S4096x2048, .f32⟩
  | .hbm, ⟨4, _⟩ => ⟨S2048x128, .f32⟩
  | .hbm, ⟨5, _⟩ => ⟨S4096x128, .f32⟩
  | .hbm, ⟨6, _⟩ => ⟨S4096x128, .f32⟩
  | .hbm, ⟨7, _⟩ => ⟨S4096x2048, .f32⟩
  | _, _ => ⟨S4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel31.lean ====
abbrev S4096x2048 : Shape := ⟨2, ![4096, 2048]⟩
abbrev S4096x128 : Shape := ⟨2, ![4096, 128]⟩
abbrev S2048x128 : Shape := ⟨2, ![2048, 128]⟩
abbrev S1024x512 : Shape := ⟨2, ![1024, 512]⟩
abbrev S1024x128 : Shape := ⟨2, ![1024, 128]⟩
abbrev S512x128 : Shape := ⟨2, ![512, 128]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S2048x128, .f32⟩
  | .local _ .vmem, ⟨0, _⟩ => ⟨S1024x512, .bf16⟩
  | .local _ .vmem, ⟨1, _⟩ => ⟨S1024x512, .bf16⟩
  | .local _ .vmem, ⟨2, _⟩ => ⟨S1024x128, .bf16⟩
  | .local _ .vmem, ⟨3, _⟩ => ⟨S1024x128, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg2.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference31Ideal.lean ====
abbrev S4096x2048 : Shape := ⟨2, ![4096, 2048]⟩
abbrev S4096x128 : Shape := ⟨2, ![4096, 128]⟩
abbrev S_ : Shape := ⟨0, ![]⟩
abbrev S2048x128 : Shape := ⟨2, ![2048, 128]⟩
abbrev S128x2048 : Shape := ⟨2, ![128, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x128, .bf16⟩
  | .hbm, ⟨2, _⟩ => ⟨S_, .f32⟩
  | .hbm, ⟨3, _⟩ => ⟨S2048x128, .f32⟩
  | .hbm, ⟨4, _⟩ => ⟨S4096x2048, .f32⟩
  | .hbm, ⟨5, _⟩ => ⟨S4096x128, .f32⟩
  | .hbm, ⟨6, _⟩ => ⟨S4096x128, .f32⟩
  | .hbm, ⟨7, _⟩ => ⟨S128x2048, .f32⟩
  | .hbm, ⟨8, _⟩ => ⟨S2048x128, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel32.lean ====
abbrev S4096x1024 : Shape := ⟨2, ![4096, 1024]⟩
abbrev S4096x14336 : Shape := ⟨2, ![4096, 14336]⟩
abbrev S1x128 : Shape := ⟨2, ![1, 128]⟩
abbrev S256x1024 : Shape := ⟨2, ![256, 1024]⟩
abbrev S256x128 : Shape := ⟨2, ![256, 128]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x14336, .bf16⟩
  | .hbm, ⟨2, _⟩ => ⟨S1x128, .f32⟩
  | .hbm, ⟨3, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S1x128, .f32⟩
  | .local _ .vmem, ⟨5, _⟩ => ⟨S256x1024, .bf16⟩
  | .local _ .vmem, ⟨6, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference32Ideal.lean ====
abbrev S4096x1024 : Shape := ⟨2, ![4096, 1024]⟩
abbrev S4096x14336 : Shape := ⟨2, ![4096, 14336]⟩
abbrev S1x128 : Shape := ⟨2, ![1, 128]⟩
abbrev S128 : Shape := ⟨1, ![128]⟩
abbrev S4096x8x128 : Shape := ⟨3, ![4096, 8, 128]⟩
abbrev S_ : Shape := ⟨0, ![]⟩
abbrev S4096x8 : Shape := ⟨2, ![4096, 8]⟩
abbrev S4096x8x1 : Shape := ⟨3, ![4096, 8, 1]⟩
abbrev S1x1x128 : Shape := ⟨3, ![1, 1, 128]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x14336, .bf16⟩
  | .hbm, ⟨2, _⟩ => ⟨S1x128, .f32⟩
  | .hbm, ⟨3, _⟩ => ⟨S4096x1024, .bf16⟩
  | .hbm, ⟨4, _⟩ => ⟨S4096x1024, .f32⟩
  | .hbm, ⟨5, _⟩ => ⟨S128, .f32⟩
  | .hbm, ⟨6, _⟩ => ⟨S4096x8x128, .f32⟩
  | .hbm, ⟨7, _⟩ => ⟨S4096x8x128, .f32⟩
  | .hbm, ⟨8, _⟩ => ⟨S_, .f32⟩
  | .hbm, ⟨9, _⟩ => ⟨S4096x8, .f32⟩
  | .hbm, ⟨10, _⟩ => ⟨S4096x8x1, .f32⟩
  | .hbm, ⟨11, _⟩ => ⟨S_, .f32⟩
  | .hbm, ⟨12, _⟩ => ⟨S4096x8x1, .f32⟩
  | .hbm, ⟨13, _⟩ => ⟨S4096x8x1, .f32⟩
  | .hbm, ⟨14, _⟩ => ⟨S_, .f32⟩
  | .hbm, ⟨15, _⟩ => ⟨S4096x8x1, .f32⟩
  | .hbm, ⟨16, _⟩ => ⟨S4096x8x1, .f32⟩
  | .hbm, ⟨17, _⟩ => ⟨S4096x8x1, .f32⟩
  | .hbm, ⟨18, _⟩ => ⟨S4096x8x128, .f32⟩
  | .hbm, ⟨19, _⟩ => ⟨S4096x8x128, .f32⟩
  | .hbm, ⟨20, _⟩ => ⟨S1x1x128, .f32⟩
  | .hbm, ⟨21, _⟩ => ⟨S4096x8x128, .f32⟩
  | .hbm, ⟨22, _⟩ => ⟨S4096x8x128, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩

abbrev nD : Nat := 1
abbrev τ : Topo := Topo.v7x

variable {F : FTy → Type} [FloatOps F]
-- ==== Proof.Recurrence.Chunk.lean ====
/-
  What one grid point of the backward kernel computes, per chunk and head, as functions of the blocks it loads.

  A grid point handles four chunks of 64 rows, last chunk first, and eight heads of 128 lanes. `Loads` names the
  values read for a chunk `cb` and a head `h`; the definitions below write out the operations the body applies to
  them, in the body's order, once for all chunks and heads. `Loads.chain` is the gradient of the state, carried from
  chunk to chunk.
-/
module

public import proofs.«01_k».proof.Proof.Gen.KernelIdeal.Frame
public import Idealize.ShloMosaic.Lib.Pipeline.Value

@[expose] public section

noncomputable section

namespace Cert.KernelIdeal.Chunk

open Cert.KernelIdeal Cert.KernelIdeal.Gen Idealize.ShloMosaic Idealize.ShloMosaic.TcCoe Idealize.SL.Sem

variable (F : FTy → Type) [FloatOps F]

/-- The values one grid point reads: for chunk `cb` and head `h` the rows and lanes of each input block, and the
    gradient of the state it enters with. -/
structure Loads where
  wd : Fin 4 → Fin 8 → Vec F S64x128 .f32
  uv : Fin 4 → Fin 8 → Vec F S64x128 .f32
  qk : Fin 4 → Fin 8 → Vec F S64x64 .f32
  qd : Fin 4 → Fin 8 → Vec F S64x128 .f32
  kd : Fin 4 → Fin 8 → Vec F S64x128 .f32
  gb : Fin 4 → Fin 8 → Vec F S64x128 .f32
  st : Fin 4 → Fin 8 → Vec F S1x1x128x128 .f32
  dout : Fin 4 → Fin 8 → Vec F S64x128 .f32
  d0 : Fin 8 → Vec F S1x128x128 .f32

variable {F}

/-- `a · b` of 64 rows by a 128×128 matrix, the operands cast down first. -/
def nnV (a : FVec F S64x128 .f32) (b : FVec F S128x128 .f32) : FVec F S64x128 .f32 :=
  matmul dot_S64x128_S128x128_S64x128_1_0_0_1_n_n none (truncf .bf16 a bitsLt_bf16_f32) (truncf .bf16 b bitsLt_bf16_f32)
    (constant S64x128 .f32 0x00000000#32)

/-- `a · bᵀ` of 64 rows by a 128×128 matrix. -/
def ntV (a : FVec F S64x128 .f32) (b : FVec F S128x128 .f32) : FVec F S64x128 .f32 :=
  matmul dot_S64x128_S128x128_S64x128_1_1_0_0_n_n none (truncf .bf16 a bitsLt_bf16_f32) (truncf .bf16 b bitsLt_bf16_f32)
    (constant S64x128 .f32 0x00000000#32)

/-- `aᵀ · b` of two blocks of 64 rows. -/
def tnV (a b : FVec F S64x128 .f32) : FVec F S128x128 .f32 :=
  matmul dot_S64x128_S64x128_S128x128_0_0_1_1_n_n none (truncf .bf16 a bitsLt_bf16_f32) (truncf .bf16 b bitsLt_bf16_f32)
    (constant S128x128 .f32 0x00000000#32)

/-- `a · bᵀ` of two blocks of 64 rows. -/
def nt64V (a b : FVec F S64x128 .f32) : FVec F S64x64 .f32 :=
  matmul dot_S64x128_S64x128_S64x64_1_1_0_0_n_n none (truncf .bf16 a bitsLt_bf16_f32) (truncf .bf16 b bitsLt_bf16_f32)
    (constant S64x64 .f32 0x00000000#32)

/-- `aᵀ · b` of a 64×64 block and 64 rows. -/
def tn64V (a : FVec F S64x64 .f32) (b : FVec F S64x128 .f32) : FVec F S64x128 .f32 :=
  matmul dot_S64x64_S64x128_S64x128_0_0_1_1_n_n none (truncf .bf16 a bitsLt_bf16_f32) (truncf .bf16 b bitsLt_bf16_f32)
    (constant S64x128 .f32 0x00000000#32)

/-- The sum of the rows, as one row. -/
def rowSum64 (a : FVec F S64x128 .f32) : FVec F S1x128 .f32 :=
  shapeCast S1x128 (multiReduction .add [0] S128 a 0x00000000#32 reduces_S64x128_S128 (.inl rfl) rfl) shapeCasts_S128_S1x128

/-- The sum of the rows of a 128×128 matrix, as one row. -/
def rowSum128 (a : FVec F S128x128 .f32) : FVec F S1x128 .f32 :=
  shapeCast S1x128 (multiReduction .add [0] S128 a 0x00000000#32 reduces_S128x128_S128 (.inl rfl) rfl) shapeCasts_S128_S1x128

/-- The sum of one row, as one row. -/
def rowSum1 (a : FVec F S1x128 .f32) : FVec F S1x128 .f32 :=
  shapeCast S1x128 (multiReduction .add [0] S128 a 0x00000000#32 reduces_S1x128_S128 (.inl rfl) rfl) shapeCasts_S128_S1x128

namespace Loads

variable (L : Loads F) (cb : Fin 4) (h : Fin 8) (dst : FVec F S128x128 .f32)

/-- The state entering the chunk. -/
def state : FVec F S128x128 .f32 := shapeCast S128x128 (L.st cb h) shapeCasts_S1x1x128x128_S128x128

/-- The output's gradient, through the reshape to its own shape that the body prints. -/
def ct : FVec F S64x128 .f32 := shapeCast S64x128 (L.dout cb h) shapeCasts_S64x128_S64x128

/-- The corrected values `u − w·S`. -/
def vnew : FVec F S64x128 .f32 := subf (L.uv cb h) (nnV (L.wd cb h) (L.state cb h))

/-- The chunk's decay, `exp` of the summed log decays, one row. -/
def decay : FVec F S1x128 .f32 := exp (rowSum64 (L.gb cb h))

/-- The gradient of the values. -/
def duv : FVec F S64x128 .f32 := addf (nnV (L.kd cb h) dst) (tn64V (L.qk cb h) (L.ct cb h))

/-- Its negation, which the decayed keys see. -/
def neg : FVec F S64x128 .f32 := subf (broadcast S64x128 (Scalar.ofBits .f32 0x00000000#32)) (L.duv cb h dst)

def dwd : FVec F S64x128 .f32 := ntV (L.neg cb h dst) (L.state cb h)
def dqk : FVec F S64x64 .f32 := nt64V (L.ct cb h) (L.vnew cb h)
def dqd : FVec F S64x128 .f32 := ntV (L.ct cb h) (L.state cb h)
def dkd : FVec F S64x128 .f32 := ntV (L.vnew cb h) dst
def dgb : FVec F S64x128 .f32 :=
  broadcastTo S64x128 (rowSum1 (mulf (rowSum128 (mulf (L.state cb h) dst)) (L.decay cb h))) broadcasts_S1x128_S64x128

/-- The gradient of the state entering the chunk, from the one leaving it. -/
def next : FVec F S128x128 .f32 :=
  addf (addf (mulf dst (broadcastTo S128x128 (L.decay cb h) broadcasts_S1x128_S128x128)) (tnV (L.qd cb h) (L.ct cb h)))
    (tnV (L.wd cb h) (L.neg cb h dst))

/-- The gradient of the state after `k` of the point's four chunks, the last chunk first. -/
def chain : ℕ → FVec F S128x128 .f32
  | 0 => shapeCast S128x128 (shapeCast S128x128 (L.d0 h) shapeCasts_S1x128x128_S128x128) shapeCasts_S128x128_S128x128
  | k + 1 => L.next ⟨3 - k, by omega⟩ h (chain k)

/-- The gradient of the state leaving chunk `cb`. -/
def leaving : FVec F S128x128 .f32 := L.chain h (3 - cb.val)

end Loads

end Cert.KernelIdeal.Chunk

end
-- ==== Proof.Recurrence.Pieces.lean ====
/-
  The stores of one grid point of the backward kernel, read as the definitions of Chunk.lean: each output block is
  written in 32 pieces, one per chunk and head, and the piece of chunk `cb` and head `h` is that module's value at
  `cb` and `h`. Both sides are the same operations in the same order, so each equation is by definition.
-/
module

public import proofs.«01_k».proof.Proof.Recurrence.Chunk
public import Idealize.ShloMosaic.Lib.Tactic

@[expose] public section

set_option maxRecDepth 16384

noncomputable section

namespace Cert.KernelIdeal.Chunk

open Cert.KernelIdeal Cert.KernelIdeal.Gen Idealize.ShloMosaic Idealize.ShloMosaic.TcCoe Idealize.SL.Sem

variable {F : FTy → Type} [FloatOps F]

/-! ## Where a chunk's and a head's values lie in the blocks -/

theorem inbW (cb : Fin 4) (h : Fin 8) : ∀ a, (![64 * cb.val, 128 * h.val] : Fin 2 → Nat) a + S64x128.size a ≤ S256x1024.size a := by
  revert cb h; decide
theorem inbN (cb : Fin 4) (h : Fin 8) : ∀ a, (![64 * cb.val, 64 * h.val] : Fin 2 → Nat) a + S64x64.size a ≤ S256x512.size a := by
  revert cb h; decide
theorem inbS (cb : Fin 4) (h : Fin 8) : ∀ a, (![cb.val, h.val, 0, 0] : Fin 4 → Nat) a + S1x1x128x128.size a ≤ S4x8x128x128.size a := by
  revert cb h; decide
theorem inbD (h : Fin 8) : ∀ a, (![h.val, 0, 0] : Fin 3 → Nat) a + S1x128x128.size a ≤ S8x128x128.size a := by
  revert h; decide

/-- Rows of chunk `cb`, lanes of head `h`, in a block of 256 rows and 8·128 lanes; then of 8·64 lanes; the state of
    chunk `cb` and head `h`; the scratch of head `h`. -/
abbrev rectW (cb : Fin 4) (h : Fin 8) : Rect S256x1024 := Rect.unit ![64 * cb.val, 128 * h.val] S64x128.size (inbW cb h)
abbrev rectN (cb : Fin 4) (h : Fin 8) : Rect S256x512 := Rect.unit ![64 * cb.val, 64 * h.val] S64x64.size (inbN cb h)
abbrev rectS (cb : Fin 4) (h : Fin 8) : Rect S4x8x128x128 := Rect.unit ![cb.val, h.val, 0, 0] S1x1x128x128.size (inbS cb h)
abbrev rectD (h : Fin 8) : Rect S8x128x128 := Rect.unit ![h.val, 0, 0] S1x128x128.size (inbD h)

/-- The chunks and heads in the order of the stores, last first. -/
def pairs : List (Fin 4 × Fin 8) :=
  [(0, 7), (0, 6), (0, 5), (0, 4), (0, 3), (0, 2), (0, 1), (0, 0),
   (1, 7), (1, 6), (1, 5), (1, 4), (1, 3), (1, 2), (1, 1), (1, 0),
   (2, 7), (2, 6), (2, 5), (2, 4), (2, 3), (2, 2), (2, 1), (2, 0),
   (3, 7), (3, 6), (3, 5), (3, 4), (3, 3), (3, 2), (3, 1), (3, 0)]

/-- The values read from blocks held as the launch holds them. -/
def loads (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x8x128x128 .f32) (harg7 : arg7.IsWhole) (arg8 : Memref sig .tc .vmem S256x1024 .f32) (harg8 : arg8.IsWhole)
    (x0 x1 : Vec F S256x1024 .f32) (x2 : Vec F S256x512 .f32) (x3 x4 x5 : Vec F S256x1024 .f32) (x6 : Vec F S4x8x128x128 .f32) (x7 : Vec F S256x1024 .f32)
    (d0 : Fin 8 → Vec F S1x128x128 .f32) : Loads F where
  wd cb h := View.readAt (Elt F) arg1.view (rectW cb h).toLoadRect (harg1.unread x0)
  uv cb h := View.readAt (Elt F) arg2.view (rectW cb h).toLoadRect (harg2.unread x1)
  qk cb h := View.readAt (Elt F) arg3.view (rectN cb h).toLoadRect (harg3.unread x2)
  qd cb h := View.readAt (Elt F) arg4.view (rectW cb h).toLoadRect (harg4.unread x3)
  kd cb h := View.readAt (Elt F) arg5.view (rectW cb h).toLoadRect (harg5.unread x4)
  gb cb h := View.readAt (Elt F) arg6.view (rectW cb h).toLoadRect (harg6.unread x5)
  st cb h := View.readAt (Elt F) arg7.view (rectS cb h).toLoadRect (harg7.unread x6)
  dout cb h := View.readAt (Elt F) arg8.view (rectW cb h).toLoadRect (harg8.unread x7)
  d0 := d0

variable (L : Loads F) (h : Fin 8)
theorem leaving3 : L.leaving 3 h = L.chain h 0 := rfl
theorem leaving2 : L.leaving 2 h = L.next 3 h (L.chain h 0) := rfl
theorem leaving1 : L.leaving 1 h = L.next 2 h (L.next 3 h (L.chain h 0)) := rfl
theorem leaving0 : L.leaving 0 h = L.next 1 h (L.next 2 h (L.next 3 h (L.chain h 0))) := rfl

/-- The heads in the order of the scratch's stores, last first. -/
def heads : List (Fin 8) := [7, 6, 5, 4, 3, 2, 1, 0]

/-- What the seven lists of stores hold, in terms of what the point loads; `before` is what the scratch was given
    before the heads' stores. -/
structure Spec (L : Loads F) (l8 l9 : List (View.Piece (Elt F) S256x1024 .f32)) (l10 : List (View.Piece (Elt F) S256x512 .f32))
    (l11 l12 l13 : List (View.Piece (Elt F) S256x1024 .f32)) (ls before : List (View.Piece (Elt F) S8x128x128 .f32)) : Prop where
  dwd : l8 = pairs.map fun p => ⟨rectW p.1 p.2, L.dwd p.1 p.2 (L.leaving p.1 p.2)⟩
  duv : l9 = pairs.map fun p => ⟨rectW p.1 p.2, L.duv p.1 p.2 (L.leaving p.1 p.2)⟩
  dqk : l10 = pairs.map fun p => ⟨rectN p.1 p.2, L.dqk p.1 p.2⟩
  dqd : l11 = pairs.map fun p => ⟨rectW p.1 p.2, L.dqd p.1 p.2⟩
  dkd : l12 = pairs.map fun p => ⟨rectW p.1 p.2, L.dkd p.1 p.2 (L.leaving p.1 p.2)⟩
  dgb : l13 = pairs.map fun p => ⟨rectW p.1 p.2, L.dgb p.1 p.2 (L.leaving p.1 p.2)⟩
  state : ls = (heads.map fun h => ⟨rectD h, shapeCast S1x128x128 (L.chain h 4) shapeCasts_S128x128_S1x128x128⟩) ++ before

theorem chain4 (L : Loads F) (h : Fin 8) : L.chain h 4 = L.next 0 h (L.next 1 h (L.next 2 h (L.next 3 h (L.chain h 0)))) := rfl

end Cert.KernelIdeal.Chunk

end
-- ==== Proof.Recurrence.Slice.lean ====
/-
  The backward step of one chunk of 64 rows and one head of 128 lanes, element by element over the extended reals.

  With the state `S` entering the chunk, the decayed keys `w`, the values `u`, the scores `qk`, the queries `qd`, the
  keys `kd` and the log decays `g`, the forward step is
      v = u − w·S,   o = qd·S + qk·v,   S' = S·exp(Σ g) + kdᵀ·v.
  Below are its gradients, from the output's gradient `o` and the gradient `D` of the state leaving the chunk, and the
  gradient of the state carried back from chunk to chunk.
-/
module

public import Idealize.ShloMosaic.PureOps.Ideal
public import Idealize.ShloMosaic.Lib.Pointwise.Index

@[expose] public section

noncomputable section

namespace Cert.Gdn

open Idealize.ShloMosaic
open scoped BigOperators

/-- A 128×128 matrix, as a state of one head is. -/
abbrev Mat := Fin 128 → Fin 128 → EReal

/-- What one head's backward step reads in one chunk. -/
structure Slice where
  w : Fin 64 → Fin 128 → EReal
  u : Fin 64 → Fin 128 → EReal
  qk : Fin 64 → Fin 64 → EReal
  qd : Fin 64 → Fin 128 → EReal
  kd : Fin 64 → Fin 128 → EReal
  g : Fin 64 → Fin 128 → EReal
  S : Mat
  o : Fin 64 → Fin 128 → EReal

namespace Slice

variable (x : Slice) (D : Mat)

/-- The corrected values `u − w·S`. -/
def v (c : Fin 64) (e : Fin 128) : EReal := x.u c e - ∑ d, x.w c d * x.S d e

/-- The chunk's decay of a lane. -/
def decay (e : Fin 128) : EReal := Ideal.exp (∑ c, x.g c e)

/-- The gradient of the corrected values, which is `u`'s. -/
def du (c : Fin 64) (e : Fin 128) : EReal := (∑ d, x.kd c d * D d e) + ∑ i, x.qk i c * x.o i e

def dw (c : Fin 64) (d : Fin 128) : EReal := ∑ e, -(x.du D c e) * x.S d e
def dqk (i j : Fin 64) : EReal := ∑ e, x.o i e * x.v j e
def dqd (c : Fin 64) (d : Fin 128) : EReal := ∑ e, x.o c e * x.S d e
def dkd (c : Fin 64) (d : Fin 128) : EReal := ∑ e, x.v c e * D d e

/-- The gradient of the log decays, the same for every row. -/
def dg (e : Fin 128) : EReal := (∑ d, x.S d e * D d e) * x.decay e

/-- The gradient of the state entering the chunk. -/
def next : Mat := fun d e =>
  D d e * x.decay e + (∑ c, x.qd c d * x.o c e) + ∑ c, x.w c d * -(x.du D c e)

end Slice

/-- The gradient of the state after the last `j` of 64 chunks, last chunk first. -/
def back (x : ℕ → Slice) : ℕ → Mat
  | 0 => fun _ _ => 0
  | j + 1 => (x (63 - j)).next (back x j)

/-- The step's arrays, on one device: rows by lanes, the heads' lanes side by side, and the states entering the chunks. -/
structure Arrays where
  wd : (⟨2, ![4096, 1024]⟩ : Shape).Idx → EReal
  uv : (⟨2, ![4096, 1024]⟩ : Shape).Idx → EReal
  qk : (⟨2, ![4096, 512]⟩ : Shape).Idx → EReal
  qd : (⟨2, ![4096, 1024]⟩ : Shape).Idx → EReal
  kd : (⟨2, ![4096, 1024]⟩ : Shape).Idx → EReal
  gb : (⟨2, ![4096, 1024]⟩ : Shape).Idx → EReal
  st : (⟨4, ![64, 8, 128, 128]⟩ : Shape).Idx → EReal
  o : (⟨2, ![4096, 1024]⟩ : Shape).Idx → EReal

namespace Arrays

/-- Row `c` of chunk `n`, and lane `d` of head `h` in an array of 128 or of 64 lanes a head. -/
abbrev row (n : ℕ) (c : Fin 64) : Fin 4096 := ⟨(64 * n + c.val) % 4096, Nat.mod_lt _ (by decide)⟩
abbrev lane (h : Fin 8) (d : Fin 128) : Fin 1024 := ⟨128 * h.val + d.val, by omega⟩
abbrev lane64 (h : Fin 8) (d : Fin 64) : Fin 512 := ⟨64 * h.val + d.val, by omega⟩

variable (A : Arrays) (h : Fin 8) (n : ℕ)

/-- Head `h` in chunk `n`. -/
def chunk : Slice where
  w c d := A.wd (ix2 (row n c) (lane h d))
  u c d := A.uv (ix2 (row n c) (lane h d))
  qk i j := A.qk (ix2 (row n i) (lane64 h j))
  qd c d := A.qd (ix2 (row n c) (lane h d))
  kd c d := A.kd (ix2 (row n c) (lane h d))
  g c d := A.gb (ix2 (row n c) (lane h d))
  S d e := A.st (ix4 ⟨n % 64, Nat.mod_lt _ (by decide)⟩ h d e)
  o c d := A.o (ix2 (row n c) (lane h d))

/-- The gradient of the state leaving chunk `n`. -/
def leaving : Mat := back (A.chunk h) (63 - n)

/-- The chunk, row within it, head and lane within it of an array's index. -/
abbrev chunkOf (y : (⟨2, ![4096, 1024]⟩ : Shape).Idx) : ℕ := (y 0).val / 64
abbrev rowOf (y : (⟨2, ![4096, 1024]⟩ : Shape).Idx) : Fin 64 := ⟨(y 0).val % 64, Nat.mod_lt _ (by decide)⟩
abbrev headOf (y : (⟨2, ![4096, 1024]⟩ : Shape).Idx) : Fin 8 := ⟨(y 1).val / 128, by have := (y 1).isLt; simp at this; omega⟩
abbrev laneOf (y : (⟨2, ![4096, 1024]⟩ : Shape).Idx) : Fin 128 := ⟨(y 1).val % 128, Nat.mod_lt _ (by decide)⟩

/-- The six gradients as arrays. -/
def dwd (y : (⟨2, ![4096, 1024]⟩ : Shape).Idx) : EReal :=
  (A.chunk (headOf y) (chunkOf y)).dw (A.leaving (headOf y) (chunkOf y)) (rowOf y) (laneOf y)
def duv (y : (⟨2, ![4096, 1024]⟩ : Shape).Idx) : EReal :=
  (A.chunk (headOf y) (chunkOf y)).du (A.leaving (headOf y) (chunkOf y)) (rowOf y) (laneOf y)
def dqk (y : (⟨2, ![4096, 512]⟩ : Shape).Idx) : EReal :=
  (A.chunk ⟨(y 1).val / 64, by have := (y 1).isLt; simp at this; omega⟩ ((y 0).val / 64)).dqk
    ⟨(y 0).val % 64, Nat.mod_lt _ (by decide)⟩ ⟨(y 1).val % 64, Nat.mod_lt _ (by decide)⟩
def dqd (y : (⟨2, ![4096, 1024]⟩ : Shape).Idx) : EReal :=
  (A.chunk (headOf y) (chunkOf y)).dqd (rowOf y) (laneOf y)
def dkd (y : (⟨2, ![4096, 1024]⟩ : Shape).Idx) : EReal :=
  (A.chunk (headOf y) (chunkOf y)).dkd (A.leaving (headOf y) (chunkOf y)) (rowOf y) (laneOf y)
def dgb (y : (⟨2, ![4096, 1024]⟩ : Shape).Idx) : EReal :=
  (A.chunk (headOf y) (chunkOf y)).dg (A.leaving (headOf y) (chunkOf y)) (laneOf y)

end Arrays

end Cert.Gdn

end
-- ==== Proof.Recurrence.Read.lean ====
/-
  Chunk.lean's vector operations, read at an index over the extended reals: the chunk's gradients of Slice.lean.
-/
module

public import proofs.«01_k».proof.Proof.Recurrence.Chunk
public import proofs.«01_k».proof.Proof.Recurrence.Slice
public import Idealize.ShloMosaic.Lib.Pointwise

@[expose] public section

set_option maxRecDepth 16384

noncomputable section

namespace Cert.KernelIdeal.Chunk

open Cert.KernelIdeal Cert.KernelIdeal.Gen Idealize.ShloMosaic Cert.Gdn

namespace Loads

variable (L : Loads Ideal) (cb : Fin 4) (h : Fin 8) (dst : FVec Ideal S128x128 .f32)

/-- The chunk's and head's part of what a point loads. -/
def slice : Slice where
  w c d := L.wd cb h (ix2 c d)
  u c d := L.uv cb h (ix2 c d)
  qk i j := L.qk cb h (ix2 i j)
  qd c d := L.qd cb h (ix2 c d)
  kd c d := L.kd cb h (ix2 c d)
  g c d := L.gb cb h (ix2 c d)
  S d e := L.st cb h (ix4 0 0 d e)
  o c d := L.dout cb h (ix2 c d)

/-- A vector of 128×128 elements as a matrix. -/
abbrev mat : Mat := fun d e => dst (ix2 d e)

theorem vnew_apply (c : Fin 64) (e : Fin 128) : L.vnew cb h (ix2 c e) = (L.slice cb h).v c e := by
  pointwise [vnew, nnV, state, slice, Slice.v]

theorem decay_apply (e : Fin 128) : L.decay cb h (ix2 0 e) = (L.slice cb h).decay e := by
  pointwise [decay, rowSum64, slice, Slice.decay]

theorem duv_apply (c : Fin 64) (e : Fin 128) : L.duv cb h dst (ix2 c e) = (L.slice cb h).du (mat dst) c e := by
  pointwise [duv, nnV, tn64V, ct, slice, Slice.du]

theorem neg_apply (c : Fin 64) (e : Fin 128) : L.neg cb h dst (ix2 c e) = -((L.slice cb h).du (mat dst) c e) := by
  rw [← duv_apply]
  pointwise [neg]
  exact zero_sub _

theorem dwd_apply (c : Fin 64) (d : Fin 128) : L.dwd cb h dst (ix2 c d) = (L.slice cb h).dw (mat dst) c d := by
  have e := L.neg_apply cb h dst c
  pointwise [dwd, ntV, state, Slice.dw, e]
  rfl

theorem dqk_apply (i j : Fin 64) : L.dqk cb h (ix2 i j) = (L.slice cb h).dqk i j := by
  have e := L.vnew_apply cb h j
  pointwise [dqk, nt64V, ct, Slice.dqk, e]
  rfl

theorem dqd_apply (c : Fin 64) (d : Fin 128) : L.dqd cb h (ix2 c d) = (L.slice cb h).dqd c d := by
  pointwise [dqd, ntV, ct, state, Slice.dqd, slice]

theorem dkd_apply (c : Fin 64) (d : Fin 128) : L.dkd cb h dst (ix2 c d) = (L.slice cb h).dkd (mat dst) c d := by
  have e := L.vnew_apply cb h c
  pointwise [dkd, ntV, Slice.dkd, e]

theorem dgb_apply (c : Fin 64) (e : Fin 128) : L.dgb cb h dst (ix2 c e) = (L.slice cb h).dg (mat dst) e := by
  have e' := L.decay_apply cb h e
  pointwise [dgb, rowSum1, rowSum128, state, Slice.dg]
  rw [Fin.sum_univ_one]
  exact congrArg (_ * ·) e'

theorem next_apply (d e : Fin 128) : L.next cb h dst (ix2 d e) = (L.slice cb h).next (mat dst) d e := by
  have e' := L.decay_apply cb h e
  have e'' := fun c => L.neg_apply cb h dst c e
  pointwise [next, tnV, ct, Slice.next, e', e'']
  rfl

end Loads

end Cert.KernelIdeal.Chunk

end
-- ==== Proof.Recurrence.Blocks.lean ====
/-
  The loads of a grid point read at an index of the blocks, and the blocks read at an index of the arrays: chunk `cb` of
  point `t` is chunk `4(15 − t) + cb` of the sequence.
-/
module

public import proofs.«01_k».proof.Proof.Recurrence.Pieces
public import proofs.«01_k».proof.Proof.Recurrence.Read
public import proofs.«01_k».proof.Proof.Gen.KernelIdeal.Value
public import Idealize.ShloMosaic.Lib.Pipeline.ValueKit.Tiles
public import Idealize.ShloMosaic.Lib.Pipeline.ValueKit.Point

@[expose] public section

set_option maxRecDepth 16384

noncomputable section

namespace Cert.KernelIdeal.Chunk

open Cert.KernelIdeal Cert.KernelIdeal.Gen Idealize.ShloMosaic Idealize.ShloMosaic.TcCoe Idealize.SL.Sem Cert.Gdn

section Loads

variable (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x8x128x128 .f32) (harg7 : arg7.IsWhole) (arg8 : Memref sig .tc .vmem S256x1024 .f32) (harg8 : arg8.IsWhole)
    (x0 x1 : Vec Ideal S256x1024 .f32) (x2 : Vec Ideal S256x512 .f32) (x3 x4 x5 : Vec Ideal S256x1024 .f32) (x6 : Vec Ideal S4x8x128x128 .f32) (x7 : Vec Ideal S256x1024 .f32)
    (d0 : Fin 8 → Vec Ideal S1x128x128 .f32) (cb : Fin 4) (h : Fin 8)

/-- The slice of chunk `cb` and head `h` in the blocks. -/
theorem loads_slice : (loads arg1 harg1 arg2 harg2 arg3 harg3 arg4 harg4 arg5 harg5 arg6 harg6 arg7 harg7 arg8 harg8 x0 x1 x2 x3 x4 x5 x6 x7 d0).slice cb h =
    { w := fun c d => x0 (ix2 ⟨64 * cb.val + c.val, by omega⟩ ⟨128 * h.val + d.val, by omega⟩)
      u := fun c d => x1 (ix2 ⟨64 * cb.val + c.val, by omega⟩ ⟨128 * h.val + d.val, by omega⟩)
      qk := fun c d => x2 (ix2 ⟨64 * cb.val + c.val, by omega⟩ ⟨64 * h.val + d.val, by omega⟩)
      qd := fun c d => x3 (ix2 ⟨64 * cb.val + c.val, by omega⟩ ⟨128 * h.val + d.val, by omega⟩)
      kd := fun c d => x4 (ix2 ⟨64 * cb.val + c.val, by omega⟩ ⟨128 * h.val + d.val, by omega⟩)
      g := fun c d => x5 (ix2 ⟨64 * cb.val + c.val, by omega⟩ ⟨128 * h.val + d.val, by omega⟩)
      S := fun d e => x6 (ix4 cb h d e)
      o := fun c d => x7 (ix2 ⟨64 * cb.val + c.val, by omega⟩ ⟨128 * h.val + d.val, by omega⟩) } := by
  unfold Loads.slice loads
  simp only [View.readAt_eq_ld, Memref.IsWhole.read_unread]
  pointwise []

end Loads

variable (m : (ℓ : Loc nD τ sig) → Buf (Elt Ideal) ℓ) (c : Dev nD) (t : Fin cfg0.N)

/-- The arrays in the memory a run starts from. -/
def arrays : Arrays where
  wd := m ((c : Thread nD τ).loc main_arg0)
  uv := m ((c : Thread nD τ).loc main_arg1)
  qk := m ((c : Thread nD τ).loc main_arg2)
  qd := m ((c : Thread nD τ).loc main_arg3)
  kd := m ((c : Thread nD τ).loc main_arg4)
  gb := m ((c : Thread nD τ).loc main_arg5)
  st := m ((c : Thread nD τ).loc main_arg6)
  o := m ((c : Thread nD τ).loc main_arg7)

theorem idx2 : ∀ t : Fin cfg0.N, win0_0.index t = ![15 - t.val, 0] ∧ win0_1.index t = ![15 - t.val, 0]
    ∧ win0_2.index t = ![15 - t.val, 0] ∧ win0_3.index t = ![15 - t.val, 0] ∧ win0_4.index t = ![15 - t.val, 0]
    ∧ win0_5.index t = ![15 - t.val, 0] ∧ win0_7.index t = ![15 - t.val, 0] :=
  (by decide +kernel : ∀ t : Fin grid0.N, win0_0.index t = ![15 - t.val, 0] ∧ win0_1.index t = ![15 - t.val, 0]
    ∧ win0_2.index t = ![15 - t.val, 0] ∧ win0_3.index t = ![15 - t.val, 0] ∧ win0_4.index t = ![15 - t.val, 0]
    ∧ win0_5.index t = ![15 - t.val, 0] ∧ win0_7.index t = ![15 - t.val, 0])
theorem idx4 : ∀ t : Fin cfg0.N, win0_6.index t = ![15 - t.val, 0, 0, 0] :=
  (by decide +kernel : ∀ t : Fin grid0.N, win0_6.index t = ![15 - t.val, 0, 0, 0])

/-- The values a point loads, given the state gradient it enters with. -/
abbrev at_ (d0 : Fin 8 → Vec Ideal S1x128x128 .f32) : Loads Ideal :=
  loads (ms0_0 t) (hs0_0 t) (ms0_1 t) (hs0_1 t) (ms0_2 t) (hs0_2 t) (ms0_3 t) (hs0_3 t) (ms0_4 t) (hs0_4 t) (ms0_5 t) (hs0_5 t)
    (ms0_6 t) (hs0_6 t) (ms0_7 t) (hs0_7 t) (iblk m c 0 t) (iblk m c 1 t) (iblk m c 2 t) (iblk m c 3 t) (iblk m c 4 t)
    (iblk m c 5 t) (iblk m c 6 t) (iblk m c 7 t) d0

theorem slice_at (d0 : Fin 8 → Vec Ideal S1x128x128 .f32) (cb : Fin 4) (h : Fin 8) :
    (at_ m c t d0).slice cb h = (arrays m c).chunk h (4 * (15 - t.val) + cb.val) := by
  have ht : t.val < 16 := lt_of_lt_of_eq t.isLt N_0
  obtain ⟨e0, e1, e2, e3, e4, e5, e7⟩ := idx2 t
  have e6 := idx4 t
  rw [loads_slice]
  unfold Arrays.chunk arrays
  congr 1
  all_goals funext a b
  all_goals blk_ext [iblk, V, e0, e1, e2, e3, e4, e5, e6, e7]

end Cert.KernelIdeal.Chunk

end
-- ==== Proof.Recurrence.PiecesA.lean ====
/-
  The stores of the first grid point, which fills the scratch with zeros before it reads it.
-/
module

public import proofs.«01_k».proof.Proof.Recurrence.Pieces

@[expose] public section

set_option maxRecDepth 16384

noncomputable section

namespace Cert.KernelIdeal.Chunk

open Cert.KernelIdeal Cert.KernelIdeal.Gen Idealize.ShloMosaic Idealize.ShloMosaic.TcCoe Idealize.SL.Sem

variable {F : FTy → Type} [FloatOps F]

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x8x128x128 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x512 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S8x128x128 .f32) (harg15 : arg15.IsWhole) (hc0 : cond0_0 i)
    (x0 x1 : Vec F S256x1024 .f32) (x2 : Vec F S256x512 .f32) (x3 x4 x5 : Vec F S256x1024 .f32) (x6 : Vec F S4x8x128x128 .f32) (x7 : Vec F S256x1024 .f32)

omit [FloatOps F] in
theorem inbAll : ∀ a, (![0, 0, 0] : Fin 3 → Nat) a + S8x128x128.size a ≤ S8x128x128.size a := by decide

/-- The store of zeros over the whole scratch. -/
def fill : List (View.Piece (Elt F) S8x128x128 .f32) :=
  [⟨Rect.unit ![0, 0, 0] S8x128x128.size inbAll,
    shapeCast S8x128x128 (broadcast S8x128x128 (FloatOps.ofBits .f32 0x00000000#32)) shapeCasts_S8x128x128_S8x128x128⟩]

/-- The gradients of the state read from the scratch just filled with zeros. -/
def entryA : Fin 8 → Vec F S1x128x128 .f32 := fun h =>
  View.readCov arg15.view fill (rectD h).toLoadRect

abbrev LA : Loads F := loads arg1 harg1 arg2 harg2 arg3 harg3 arg4 harg4 arg5 harg5 arg6 harg6 arg7 harg7 arg8 harg8 x0 x1 x2 x3 x4 x5 x6 x7 (entryA arg15)

set_option maxHeartbeats 8000000 in
theorem pieces_A : Spec (LA arg1 harg1 arg2 harg2 arg3 harg3 arg4 harg4 arg5 harg5 arg6 harg6 arg7 harg7 arg8 harg8 arg15 x0 x1 x2 x3 x4 x5 x6 x7)
    ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).1) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.1) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.1) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.1) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.1) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.1) ((kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7).2.2.2.2.2.2.1) fill := by
  refine ⟨?_, ?_, ?_, ?_, ?_, ?_, ?_⟩
  all_goals
    unfold kernelRun0_A
    dsimp only
    sl_unfold_words
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584]
    simp only [pairs, heads, List.cons_append, List.nil_append, fill, List.map_cons, List.map_nil, leaving0, leaving1, leaving2, leaving3, chain4, Loads.dwd, Loads.neg, Loads.next, Loads.duv, Loads.vnew, Loads.decay, Loads.state, Loads.ct, Loads.dqk, Loads.dqd, Loads.dkd, Loads.dgb, Loads.chain, nnV, ntV, tnV, nt64V, tn64V, rowSum64, rowSum128, rowSum1, loads, entryA]
    rfl

end Cert.KernelIdeal.Chunk

end
-- ==== Proof.Recurrence.PiecesB.lean ====
/-
  The stores of a grid point after the first: the gradient of the state is read from the scratch.
-/
module

public import proofs.«01_k».proof.Proof.Recurrence.Pieces

@[expose] public section

set_option maxRecDepth 16384

noncomputable section

namespace Cert.KernelIdeal.Chunk

open Cert.KernelIdeal Cert.KernelIdeal.Gen Idealize.ShloMosaic Idealize.ShloMosaic.TcCoe Idealize.SL.Sem

variable {F : FTy → Type} [FloatOps F]

variable (c : Dev nD) (i : grid0.Coords) (arg1 : Memref sig .tc .vmem S256x1024 .f32) (harg1 : arg1.IsWhole) (arg2 : Memref sig .tc .vmem S256x1024 .f32) (harg2 : arg2.IsWhole) (arg3 : Memref sig .tc .vmem S256x512 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S4x8x128x128 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x512 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S256x1024 .f32) (harg14 : arg14.IsWhole) (arg15 : Memref sig .tc .vmem S8x128x128 .f32) (harg15 : arg15.IsWhole) (hc0 : ¬cond0_0 i)
    (x0 x1 : Vec F S256x1024 .f32) (x2 : Vec F S256x512 .f32) (x3 x4 x5 : Vec F S256x1024 .f32) (x6 : Vec F S4x8x128x128 .f32) (x7 : Vec F S256x1024 .f32) (xs0 : Vec F S8x128x128 .f32)

/-- The gradients of the state read from the scratch. -/
def entry : Fin 8 → Vec F S1x128x128 .f32 := fun h => View.readAt (Elt F) arg15.view (rectD h).toLoadRect (harg15.unread xs0)

abbrev LB : Loads F := loads arg1 harg1 arg2 harg2 arg3 harg3 arg4 harg4 arg5 harg5 arg6 harg6 arg7 harg7 arg8 harg8 x0 x1 x2 x3 x4 x5 x6 x7 (entry arg15 harg15 xs0)

set_option maxHeartbeats 8000000 in
theorem pieces_B : Spec (LB arg1 harg1 arg2 harg2 arg3 harg3 arg4 harg4 arg5 harg5 arg6 harg6 arg7 harg7 arg8 harg8 arg15 harg15 x0 x1 x2 x3 x4 x5 x6 x7 xs0)
    ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).1) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.1) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.1) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.1) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.1) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.1) ((kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 xs0).2.2.2.2.2.2.1) [] := by
  refine ⟨?_, ?_, ?_, ?_, ?_, ?_, ?_⟩
  all_goals
    unfold kernelRun0_B
    dsimp only
    sl_unfold_words
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584]
    simp only [pairs, heads, List.cons_append, List.nil_append, List.map_cons, List.map_nil, leaving0, leaving1, leaving2, leaving3, chain4, Loads.dwd, Loads.neg, Loads.next, Loads.duv, Loads.vnew, Loads.decay, Loads.state, Loads.ct, Loads.dqk, Loads.dqd, Loads.dkd, Loads.dgb, Loads.chain, nnV, ntV, tnV, nt64V, tn64V, rowSum64, rowSum128, rowSum1, loads, entry]
    rfl

end Cert.KernelIdeal.Chunk

end
-- ==== Proof.Recurrence.Points.lean ====
/-
  What every grid point leaves: by induction over the points the scratch holds, after point `t`, the gradient of the state
  leaving chunk `4(15 − t) − 1`, that is the reverse recurrence after `4t + 4` chunks; and the blocks written at `t` hold
  the six gradients of its four chunks.
-/
module

public import proofs.«01_k».proof.Proof.Recurrence.Blocks
public import proofs.«01_k».proof.Proof.Recurrence.PiecesA
public import proofs.«01_k».proof.Proof.Recurrence.PiecesB

@[expose] public section

set_option maxRecDepth 16384

noncomputable section

namespace Cert.KernelIdeal.Chunk

open Cert.KernelIdeal Cert.KernelIdeal.Gen Idealize.ShloMosaic Idealize.ShloMosaic.TcCoe Idealize.SL.Sem Cert.Gdn

/-! ## Blocks written piece by piece -/

theorem mem_pairs : ∀ p : Fin 4 × Fin 8, p ∈ pairs := by decide
theorem mem_heads : ∀ h : Fin 8, h ∈ heads := by decide

/-- A block of 32 pieces, one a chunk and head, each holding its part of `G`, holds `G`. -/
theorem canonW (f : Fin 4 → Fin 8 → Vec Ideal S64x128 .f32) (G : Vec Ideal S256x1024 .f32)
    (hf : ∀ cb h c e, f cb h (ix2 c e) = G (ix2 ⟨64 * cb.val + c.val, by omega⟩ ⟨128 * h.val + e.val, by omega⟩)) :
    View.canon (pairs.map fun p => (⟨rectW p.1 p.2, f p.1 p.2⟩ : View.Piece (Elt Ideal) S256x1024 .f32)) = G := by
  funext y
  refine View.canon_apply_of_pieces G _ (fun p hp x => ?_) y ?_
  · obtain ⟨⟨cb, h⟩, _, rfl⟩ := List.mem_map.mp hp
    change S64x128.Idx at x
    idx_vars x
    refine (hf cb h _ _).trans (congrArg G ?_)
    funext a
    refine Fin.cases ?_ (fun a => Fin.cases ?_ (fun a => a.elim0) a) a <;> apply Fin.ext <;> simp
  · have h0 : (y 0).val < 256 := (y 0).isLt
    have h1 : (y 1).val < 1024 := (y 1).isLt
    refine ⟨_, List.mem_map.mpr ⟨(⟨(y 0).val / 64, by omega⟩, ⟨(y 1).val / 128, by omega⟩), mem_pairs _, rfl⟩, ?_⟩
    rw [Rect.mem_set_unit]
    intro a
    refine Fin.cases ?_ (fun a => Fin.cases ?_ (fun a => a.elim0) a) a <;> simp <;> omega

theorem canonN (f : Fin 4 → Fin 8 → Vec Ideal S64x64 .f32) (G : Vec Ideal S256x512 .f32)
    (hf : ∀ cb h c e, f cb h (ix2 c e) = G (ix2 ⟨64 * cb.val + c.val, by omega⟩ ⟨64 * h.val + e.val, by omega⟩)) :
    View.canon (pairs.map fun p => (⟨rectN p.1 p.2, f p.1 p.2⟩ : View.Piece (Elt Ideal) S256x512 .f32)) = G := by
  funext y
  refine View.canon_apply_of_pieces G _ (fun p hp x => ?_) y ?_
  · obtain ⟨⟨cb, h⟩, _, rfl⟩ := List.mem_map.mp hp
    change S64x64.Idx at x
    idx_vars x
    refine (hf cb h _ _).trans (congrArg G ?_)
    funext a
    refine Fin.cases ?_ (fun a => Fin.cases ?_ (fun a => a.elim0) a) a <;> apply Fin.ext <;> simp
  · have h0 : (y 0).val < 256 := (y 0).isLt
    have h1 : (y 1).val < 512 := (y 1).isLt
    refine ⟨_, List.mem_map.mpr ⟨(⟨(y 0).val / 64, by omega⟩, ⟨(y 1).val / 64, by omega⟩), mem_pairs _, rfl⟩, ?_⟩
    rw [Rect.mem_set_unit]
    intro a
    refine Fin.cases ?_ (fun a => Fin.cases ?_ (fun a => a.elim0) a) a <;> simp <;> omega

/-- What the scratch holds at head `h` once the heads' states are stored over whatever it held. -/
theorem canonD (f : Fin 8 → Vec Ideal S1x128x128 .f32) (before : List (View.Piece (Elt Ideal) S8x128x128 .f32))
    (h : Fin 8) (d e : Fin 128) :
    View.canon ((heads.map fun h => (⟨rectD h, f h⟩ : View.Piece (Elt Ideal) S8x128x128 .f32)) ++ before) (ix3 h d e)
      = f h (ix3 0 d e) := by
  have key : ∀ l : List (Fin 8), h ∈ l →
      View.canon ((l.map fun h => (⟨rectD h, f h⟩ : View.Piece (Elt Ideal) S8x128x128 .f32)) ++ before) (ix3 h d e)
        = f h (ix3 0 d e) := by
    intro l
    induction l with
    | nil => intro hh; simp at hh
    | cons k l ih =>
      intro hh
      by_cases hk : k = h
      · subst hk
        have := View.canon_cons_emb (rectD k) (f k) ((l.map fun h => (⟨rectD h, f h⟩ : View.Piece (Elt Ideal) S8x128x128 .f32)) ++ before)
          (ix3 0 d e)
        refine Eq.trans (congrArg _ ?_) this
        funext a
        refine Fin.cases ?_ (fun a => Fin.cases ?_ (fun a => Fin.cases ?_ (fun a => a.elim0) a) a) a <;> apply Fin.ext <;>
          simp
      · rw [List.map_cons, List.cons_append, View.canon_cons_of_not_mem, ih (by simpa [Ne.symm hk] using hh)]
        rw [Rect.mem_set_unit]
        intro hm
        have := hm 0
        simp at this
        exact hk (Fin.ext (by omega))
  exact key heads (mem_heads h)

/-! ## A point's outputs -/

/-- The blocks and the scratch a point leaves, in terms of what it loads. -/
structure Point (L : Loads Ideal) (o : Vec Ideal S256x1024 .f32 × Vec Ideal S256x1024 .f32 × Vec Ideal S256x512 .f32 × Vec Ideal S256x1024 .f32
    × Vec Ideal S256x1024 .f32 × Vec Ideal S256x1024 .f32 × Vec Ideal S8x128x128 .f32) : Prop where
  dwd : o.1 = View.canon (pairs.map fun p => ⟨rectW p.1 p.2, L.dwd p.1 p.2 (L.leaving p.1 p.2)⟩)
  duv : o.2.1 = View.canon (pairs.map fun p => ⟨rectW p.1 p.2, L.duv p.1 p.2 (L.leaving p.1 p.2)⟩)
  dqk : o.2.2.1 = View.canon (pairs.map fun p => ⟨rectN p.1 p.2, L.dqk p.1 p.2⟩)
  dqd : o.2.2.2.1 = View.canon (pairs.map fun p => ⟨rectW p.1 p.2, L.dqd p.1 p.2⟩)
  dkd : o.2.2.2.2.1 = View.canon (pairs.map fun p => ⟨rectW p.1 p.2, L.dkd p.1 p.2 (L.leaving p.1 p.2)⟩)
  dgb : o.2.2.2.2.2.1 = View.canon (pairs.map fun p => ⟨rectW p.1 p.2, L.dgb p.1 p.2 (L.leaving p.1 p.2)⟩)
  state : ∀ h d e, o.2.2.2.2.2.2 (ix3 h d e) = L.chain h 4 (ix2 d e)

variable (m : (ℓ : Loc nD τ sig) → Buf (Elt Ideal) ℓ) (c : Dev nD) (t : Fin cfg0.N)

/-- The first point fills the scratch with zeros before it reads it. -/
theorem point_A (h0 : t.val % 16 = 0) : Point (at_ m c t (entryA scM0_0)) (outsAt0 m c t.val t.isLt) := by
  rw [outsAt0_A m c t h0]
  refine ⟨?_, ?_, ?_, ?_, ?_, ?_, fun h d e => ?_⟩
  · dsimp only
    unfold out0_A_8
    rw [View.read_writes_eq_canon _ _ _ (fun y => by apply cover0_A_8), (pieces_A ..).dwd]
  · dsimp only
    unfold out0_A_9
    rw [View.read_writes_eq_canon _ _ _ (fun y => by apply cover0_A_9), (pieces_A ..).duv]
  · dsimp only
    unfold out0_A_10
    rw [View.read_writes_eq_canon _ _ _ (fun y => by apply cover0_A_10), (pieces_A ..).dqk]
  · dsimp only
    unfold out0_A_11
    rw [View.read_writes_eq_canon _ _ _ (fun y => by apply cover0_A_11), (pieces_A ..).dqd]
  · dsimp only
    unfold out0_A_12
    rw [View.read_writes_eq_canon _ _ _ (fun y => by apply cover0_A_12), (pieces_A ..).dkd]
  · dsimp only
    unfold out0_A_13
    rw [View.read_writes_eq_canon _ _ _ (fun y => by apply cover0_A_13), (pieces_A ..).dgb]
  · dsimp only
    unfold sout0_A_0
    rw [View.read_writes_eq_canon _ _ _ (fun y => by apply scover0_A_0), (pieces_A ..).state, canonD]
    pointwise []

/-- Every later point reads what the point before left. -/
theorem point_B (h0 : ¬t.val % 16 = 0) : Point (at_ m c t (entry scM0_0 (Memref.isWhole_whole _) (outsAt0 m c (t.val - 1) (by omega)).2.2.2.2.2.2)) (outsAt0 m c t.val t.isLt) := by
  rw [outsAt0_B m c t h0]
  refine ⟨?_, ?_, ?_, ?_, ?_, ?_, fun h d e => ?_⟩
  · dsimp only
    unfold out0_B_8
    rw [View.read_writes_eq_canon _ _ _ (fun y => by apply cover0_B_8), (pieces_B ..).dwd]
  · dsimp only
    unfold out0_B_9
    rw [View.read_writes_eq_canon _ _ _ (fun y => by apply cover0_B_9), (pieces_B ..).duv]
  · dsimp only
    unfold out0_B_10
    rw [View.read_writes_eq_canon _ _ _ (fun y => by apply cover0_B_10), (pieces_B ..).dqk]
  · dsimp only
    unfold out0_B_11
    rw [View.read_writes_eq_canon _ _ _ (fun y => by apply cover0_B_11), (pieces_B ..).dqd]
  · dsimp only
    unfold out0_B_12
    rw [View.read_writes_eq_canon _ _ _ (fun y => by apply cover0_B_12), (pieces_B ..).dkd]
  · dsimp only
    unfold out0_B_13
    rw [View.read_writes_eq_canon _ _ _ (fun y => by apply cover0_B_13), (pieces_B ..).dgb]
  · dsimp only
    unfold sout0_B_0
    rw [View.read_writes_eq_canon _ _ _ (fun y => by apply scover0_B_0), (pieces_B ..).state, canonD]
    pointwise []

end Cert.KernelIdeal.Chunk

end
-- ==== Proof.Recurrence.KernelValue.lean ====
/-
  What the kernel writes: the six gradients of the reverse recurrence, over whole arrays.
-/
module

public import proofs.«01_k».proof.Proof.Recurrence.Points

@[expose] public section

set_option maxRecDepth 16384

noncomputable section

namespace Cert.KernelIdeal.Chunk

open Cert.KernelIdeal Cert.KernelIdeal.Gen Idealize.ShloMosaic Idealize.ShloMosaic.TcCoe Idealize.SL.Sem Cert.Gdn

variable (m : (ℓ : Loc nD τ sig) → Buf (Elt Ideal) ℓ) (c : Dev nD) (t : Fin cfg0.N)

/-- The state gradient a point has after `k` of its chunks, if the reverse recurrence is what it enters with. -/
theorem chain_eq (d0 : Fin 8 → Vec Ideal S1x128x128 .f32) (h : Fin 8)
    (hd : ∀ d e, d0 h (ix3 0 d e) = back ((arrays m c).chunk h) (4 * t.val) d e) :
    ∀ k, k ≤ 4 → Loads.mat ((at_ m c t d0).chain h k) = back ((arrays m c).chunk h) (4 * t.val + k)
  | 0, _ => by
    funext d e
    refine Eq.trans ?_ (hd d e)
    unfold Loads.mat Loads.chain
    pointwise [at_, loads]
  | k + 1, hk => by
    have ht : t.val < 16 := lt_of_lt_of_eq t.isLt N_0
    have ih := chain_eq d0 h hd k (by omega)
    funext d e
    have hn : 4 * (15 - t.val) + (3 - k) = 63 - (4 * t.val + k) := by omega
    have hc : (at_ m c t d0).chain h (k + 1) = (at_ m c t d0).next ⟨3 - k, by omega⟩ h ((at_ m c t d0).chain h k) := rfl
    show ((at_ m c t d0).chain h (k + 1)) (ix2 d e) = _
    rw [hc, Loads.next_apply, ih, slice_at, ← Nat.add_assoc, back]
    rw [show (⟨3 - k, by omega⟩ : Fin 4).val = 3 - k from rfl, hn]

/-- What a point enters with, and how its outputs come of it. -/
theorem entered : ∀ n (hn : n < cfg0.N), ∃ d0 : Fin 8 → Vec Ideal S1x128x128 .f32,
    Point (at_ m c ⟨n, hn⟩ d0) (outsAt0 m c n hn)
      ∧ ∀ h d e, d0 h (ix3 0 d e) = back ((arrays m c).chunk h) (4 * n) d e
  | 0, hn => by
    refine ⟨_, point_A m c ⟨0, hn⟩ rfl, fun h d e => ?_⟩
    unfold entryA fill back
    have hz : (![0, 0, 0] : Fin 3 → Nat) = fun _ => 0 := by decide
    rw [View.readCov_eq_canon_ld _ _ _ (fun y => ⟨_, List.mem_singleton_self _, View.mem_set_unit_zero hz inbAll y⟩),
      View.canon_unit_zero hz]
    pointwise []
  | n + 1, hn => by
    have hN : n + 1 < 16 := lt_of_lt_of_eq hn N_0
    obtain ⟨d0, hp, hd⟩ := entered n (by omega)
    refine ⟨_, point_B m c ⟨n + 1, hn⟩ (by show ¬(n + 1) % 16 = 0; omega), fun h d e => ?_⟩
    have e4 := congrFun (congrFun (chain_eq m c ⟨n, by omega⟩ d0 h (hd h) 4 le_rfl) d) e
    refine Eq.trans ?_ ((hp.state h d e).trans e4)
    unfold entry
    simp only [View.readAt_eq_ld]
    pointwise []
    exact congrFun ((Memref.isWhole_whole cc0_scratch0).read_unread _) _

/-! ## The blocks a point writes -/

/-- Row `y 0` of the block of point `t`, as a row of the array. -/
abbrev grow (r : Fin 256) : Fin 4096 := ⟨256 * (15 - t.val) + r.val, by omega⟩

section Blocks

variable {m c t}

theorem leaving_eq {d0 : Fin 8 → Vec Ideal S1x128x128 .f32}
    (hd : ∀ h d e, d0 h (ix3 0 d e) = back ((arrays m c).chunk h) (4 * t.val) d e) (cb : Fin 4) (h : Fin 8) :
    Loads.mat ((at_ m c t d0).leaving cb h) = (arrays m c).leaving h (4 * (15 - t.val) + cb.val) := by
  have ht : t.val < 16 := lt_of_lt_of_eq t.isLt N_0
  have e := chain_eq m c t d0 h (hd h) (3 - cb.val) (by omega)
  unfold Arrays.leaving
  rw [show 63 - (4 * (15 - t.val) + cb.val) = 4 * t.val + (3 - cb.val) by omega]
  exact e

end Blocks

/-- The parts of an array's index at chunk `cb`, head `h`, row `i` and lane `j` of point `t`. -/
theorem parts (cb : Fin 4) (h : Fin 8) (i : Fin 64) (j : Fin 128) :
    Arrays.chunkOf (ix2 (grow t ⟨64 * cb.val + i.val, by omega⟩) ⟨128 * h.val + j.val, by omega⟩) = 4 * (15 - t.val) + cb.val
    ∧ Arrays.rowOf (ix2 (grow t ⟨64 * cb.val + i.val, by omega⟩) ⟨128 * h.val + j.val, by omega⟩) = i
    ∧ Arrays.headOf (ix2 (grow t ⟨64 * cb.val + i.val, by omega⟩) ⟨128 * h.val + j.val, by omega⟩) = h
    ∧ Arrays.laneOf (ix2 (grow t ⟨64 * cb.val + i.val, by omega⟩) ⟨128 * h.val + j.val, by omega⟩) = j := by
  refine ⟨?_, Fin.ext ?_, Fin.ext ?_, Fin.ext ?_⟩ <;> simp [Arrays.chunkOf, Arrays.rowOf, Arrays.headOf, Arrays.laneOf] <;> omega

theorem block_dwd : (outsAt0 m c t.val t.isLt).1 = fun y => (arrays m c).dwd (ix2 (grow t (y 0)) (y 1)) := by
  obtain ⟨d0, hp, hd⟩ := entered m c t.val t.isLt
  rw [hp.dwd]
  refine canonW (fun cb h => (at_ m c t d0).dwd cb h ((at_ m c t d0).leaving cb h)) _ fun cb h i j => ?_
  obtain ⟨e1, e2, e3, e4⟩ := parts t cb h i j
  have e : (arrays m c).dwd (ix2 (grow t ⟨64 * cb.val + i.val, by omega⟩) ⟨128 * h.val + j.val, by omega⟩) =
      ((arrays m c).chunk h (4 * (15 - t.val) + cb.val)).dw ((arrays m c).leaving h (4 * (15 - t.val) + cb.val)) i j := by
    unfold Arrays.dwd
    rw [e1, e2, e3, e4]
  refine Eq.trans ?_ e.symm
  rw [Loads.dwd_apply, slice_at, leaving_eq hd]

theorem block_duv : (outsAt0 m c t.val t.isLt).2.1 = fun y => (arrays m c).duv (ix2 (grow t (y 0)) (y 1)) := by
  obtain ⟨d0, hp, hd⟩ := entered m c t.val t.isLt
  rw [hp.duv]
  refine canonW (fun cb h => (at_ m c t d0).duv cb h ((at_ m c t d0).leaving cb h)) _ fun cb h i j => ?_
  obtain ⟨e1, e2, e3, e4⟩ := parts t cb h i j
  have e : (arrays m c).duv (ix2 (grow t ⟨64 * cb.val + i.val, by omega⟩) ⟨128 * h.val + j.val, by omega⟩) =
      ((arrays m c).chunk h (4 * (15 - t.val) + cb.val)).du ((arrays m c).leaving h (4 * (15 - t.val) + cb.val)) i j := by
    unfold Arrays.duv
    rw [e1, e2, e3, e4]
  refine Eq.trans ?_ e.symm
  rw [Loads.duv_apply, slice_at, leaving_eq hd]

theorem block_dqd : (outsAt0 m c t.val t.isLt).2.2.2.1 = fun y => (arrays m c).dqd (ix2 (grow t (y 0)) (y 1)) := by
  obtain ⟨d0, hp, hd⟩ := entered m c t.val t.isLt
  rw [hp.dqd]
  refine canonW (fun cb h => (at_ m c t d0).dqd cb h) _ fun cb h i j => ?_
  obtain ⟨e1, e2, e3, e4⟩ := parts t cb h i j
  have e : (arrays m c).dqd (ix2 (grow t ⟨64 * cb.val + i.val, by omega⟩) ⟨128 * h.val + j.val, by omega⟩) =
      ((arrays m c).chunk h (4 * (15 - t.val) + cb.val)).dqd i j := by
    unfold Arrays.dqd
    rw [e1, e2, e3, e4]
  refine Eq.trans ?_ e.symm
  rw [Loads.dqd_apply, slice_at]

theorem block_dkd : (outsAt0 m c t.val t.isLt).2.2.2.2.1 = fun y => (arrays m c).dkd (ix2 (grow t (y 0)) (y 1)) := by
  obtain ⟨d0, hp, hd⟩ := entered m c t.val t.isLt
  rw [hp.dkd]
  refine canonW (fun cb h => (at_ m c t d0).dkd cb h ((at_ m c t d0).leaving cb h)) _ fun cb h i j => ?_
  obtain ⟨e1, e2, e3, e4⟩ := parts t cb h i j
  have e : (arrays m c).dkd (ix2 (grow t ⟨64 * cb.val + i.val, by omega⟩) ⟨128 * h.val + j.val, by omega⟩) =
      ((arrays m c).chunk h (4 * (15 - t.val) + cb.val)).dkd ((arrays m c).leaving h (4 * (15 - t.val) + cb.val)) i j := by
    unfold Arrays.dkd
    rw [e1, e2, e3, e4]
  refine Eq.trans ?_ e.symm
  rw [Loads.dkd_apply, slice_at, leaving_eq hd]

theorem block_dgb : (outsAt0 m c t.val t.isLt).2.2.2.2.2.1 = fun y => (arrays m c).dgb (ix2 (grow t (y 0)) (y 1)) := by
  obtain ⟨d0, hp, hd⟩ := entered m c t.val t.isLt
  rw [hp.dgb]
  refine canonW (fun cb h => (at_ m c t d0).dgb cb h ((at_ m c t d0).leaving cb h)) _ fun cb h i j => ?_
  obtain ⟨e1, e2, e3, e4⟩ := parts t cb h i j
  have e : (arrays m c).dgb (ix2 (grow t ⟨64 * cb.val + i.val, by omega⟩) ⟨128 * h.val + j.val, by omega⟩) =
      ((arrays m c).chunk h (4 * (15 - t.val) + cb.val)).dg ((arrays m c).leaving h (4 * (15 - t.val) + cb.val)) j := by
    unfold Arrays.dgb
    rw [e1, e3, e4]
  refine Eq.trans ?_ e.symm
  rw [Loads.dgb_apply, slice_at, leaving_eq hd]

theorem block_dqk : (outsAt0 m c t.val t.isLt).2.2.1 = fun y => (arrays m c).dqk (ix2 (grow t (y 0)) (y 1)) := by
  obtain ⟨d0, hp, hd⟩ := entered m c t.val t.isLt
  rw [hp.dqk]
  refine canonN (fun cb h => (at_ m c t d0).dqk cb h) _ fun cb h i j => ?_
  have e : (arrays m c).dqk (ix2 (grow t ⟨64 * cb.val + i.val, by omega⟩) ⟨64 * h.val + j.val, by omega⟩) =
      ((arrays m c).chunk h (4 * (15 - t.val) + cb.val)).dqk i j := by
    have e1 : (256 * (15 - t.val) + (64 * cb.val + i.val)) / 64 = 4 * (15 - t.val) + cb.val := by omega
    have e2 : (⟨(256 * (15 - t.val) + (64 * cb.val + i.val)) % 64, Nat.mod_lt _ (by decide)⟩ : Fin 64) = i := Fin.ext (by simp <;> omega)
    have e3 : (⟨(64 * h.val + j.val) / 64, by omega⟩ : Fin 8) = h := Fin.ext (by simp <;> omega)
    have e4 : (⟨(64 * h.val + j.val) % 64, Nat.mod_lt _ (by decide)⟩ : Fin 64) = j := Fin.ext (by simp <;> omega)
    refine Eq.trans (show _ = ((arrays m c).chunk ⟨(64 * h.val + j.val) / 64, by omega⟩ ((256 * (15 - t.val) + (64 * cb.val + i.val)) / 64)).dqk
      ⟨(256 * (15 - t.val) + (64 * cb.val + i.val)) % 64, Nat.mod_lt _ (by decide)⟩
      ⟨(64 * h.val + j.val) % 64, Nat.mod_lt _ (by decide)⟩ from rfl) ?_
    rw [e1, e2, e3, e4]
  refine Eq.trans ?_ e.symm
  rw [Loads.dqk_apply, slice_at]

/-! ## The arrays -/

theorem idxO : ∀ t : Fin cfg0.N, win0_8.index t = ![15 - t.val, 0] ∧ win0_9.index t = ![15 - t.val, 0]
    ∧ win0_10.index t = ![15 - t.val, 0] ∧ win0_11.index t = ![15 - t.val, 0] ∧ win0_12.index t = ![15 - t.val, 0]
    ∧ win0_13.index t = ![15 - t.val, 0] :=
  (by decide +kernel : ∀ t : Fin grid0.N, win0_8.index t = ![15 - t.val, 0] ∧ win0_9.index t = ![15 - t.val, 0]
    ∧ win0_10.index t = ![15 - t.val, 0] ∧ win0_11.index t = ![15 - t.val, 0] ∧ win0_12.index t = ![15 - t.val, 0]
    ∧ win0_13.index t = ![15 - t.val, 0])

theorem array_dwd : (dats m 0 c).arrAt 8 cfg0.N = (arrays m c).dwd :=
  (dats m 0 c).arrAt_eq_of_covers 8 _ (by decide +kernel) fun t hf y => by
    obtain ⟨e8, e9, e10, e11, e12, e13⟩ := idxO t
    blk_simp
    rw [after0_8, block_dwd]
    refine congrArg (arrays m c).dwd (funext fun a => ?_)
    refine Fin.cases ?_ (fun a => Fin.cases ?_ (fun a => a.elim0) a) a <;> apply Fin.ext <;>
      blk_simp [e8, e9, e10, e11, e12, e13]
    · change 256 * (15 - t.val) + (y 0).val = (15 - t.val) * 256 + (y 0).val
      omega
    · change (y 1).val = 0 * 1024 + (y 1).val
      omega

theorem array_duv : (dats m 0 c).arrAt 9 cfg0.N = (arrays m c).duv :=
  (dats m 0 c).arrAt_eq_of_covers 9 _ (by decide +kernel) fun t hf y => by
    obtain ⟨e8, e9, e10, e11, e12, e13⟩ := idxO t
    blk_simp
    rw [after0_9, block_duv]
    refine congrArg (arrays m c).duv (funext fun a => ?_)
    refine Fin.cases ?_ (fun a => Fin.cases ?_ (fun a => a.elim0) a) a <;> apply Fin.ext <;>
      blk_simp [e8, e9, e10, e11, e12, e13]
    · change 256 * (15 - t.val) + (y 0).val = (15 - t.val) * 256 + (y 0).val
      omega
    · change (y 1).val = 0 * 1024 + (y 1).val
      omega

theorem array_dqk : (dats m 0 c).arrAt 10 cfg0.N = (arrays m c).dqk :=
  (dats m 0 c).arrAt_eq_of_covers 10 _ (by decide +kernel) fun t hf y => by
    obtain ⟨e8, e9, e10, e11, e12, e13⟩ := idxO t
    blk_simp
    rw [after0_10, block_dqk]
    refine congrArg (arrays m c).dqk (funext fun a => ?_)
    refine Fin.cases ?_ (fun a => Fin.cases ?_ (fun a => a.elim0) a) a <;> apply Fin.ext <;>
      blk_simp [e8, e9, e10, e11, e12, e13]
    · change 256 * (15 - t.val) + (y 0).val = (15 - t.val) * 256 + (y 0).val
      omega
    · change (y 1).val = 0 * 512 + (y 1).val
      omega

theorem array_dqd : (dats m 0 c).arrAt 11 cfg0.N = (arrays m c).dqd :=
  (dats m 0 c).arrAt_eq_of_covers 11 _ (by decide +kernel) fun t hf y => by
    obtain ⟨e8, e9, e10, e11, e12, e13⟩ := idxO t
    blk_simp
    rw [after0_11, block_dqd]
    refine congrArg (arrays m c).dqd (funext fun a => ?_)
    refine Fin.cases ?_ (fun a => Fin.cases ?_ (fun a => a.elim0) a) a <;> apply Fin.ext <;>
      blk_simp [e8, e9, e10, e11, e12, e13]
    · change 256 * (15 - t.val) + (y 0).val = (15 - t.val) * 256 + (y 0).val
      omega
    · change (y 1).val = 0 * 1024 + (y 1).val
      omega

theorem array_dkd : (dats m 0 c).arrAt 12 cfg0.N = (arrays m c).dkd :=
  (dats m 0 c).arrAt_eq_of_covers 12 _ (by decide +kernel) fun t hf y => by
    obtain ⟨e8, e9, e10, e11, e12, e13⟩ := idxO t
    blk_simp
    rw [after0_12, block_dkd]
    refine congrArg (arrays m c).dkd (funext fun a => ?_)
    refine Fin.cases ?_ (fun a => Fin.cases ?_ (fun a => a.elim0) a) a <;> apply Fin.ext <;>
      blk_simp [e8, e9, e10, e11, e12, e13]
    · change 256 * (15 - t.val) + (y 0).val = (15 - t.val) * 256 + (y 0).val
      omega
    · change (y 1).val = 0 * 1024 + (y 1).val
      omega

theorem array_dgb : (dats m 0 c).arrAt 13 cfg0.N = (arrays m c).dgb :=
  (dats m 0 c).arrAt_eq_of_covers 13 _ (by decide +kernel) fun t hf y => by
    obtain ⟨e8, e9, e10, e11, e12, e13⟩ := idxO t
    blk_simp
    rw [after0_13, block_dgb]
    refine congrArg (arrays m c).dgb (funext fun a => ?_)
    refine Fin.cases ?_ (fun a => Fin.cases ?_ (fun a => a.elim0) a) a <;> apply Fin.ext <;>
      blk_simp [e8, e9, e10, e11, e12, e13]
    · change 256 * (15 - t.val) + (y 0).val = (15 - t.val) * 256 + (y 0).val
      omega
    · change (y 1).val = 0 * 1024 + (y 1).val
      omega

end Cert.KernelIdeal.Chunk

end
-- ==== Proof.Recurrence.Stack.lean ====
/-
  Reading and writing one entry of a stack of 64, at the number a reverse loop's trip counts to.
-/
module

public import Idealize.ShloMosaic.Lib.Pointwise
public import Idealize.ShloMosaic.Lib.DynamicIndex
public import Idealize.ShloMosaic.Lib.Pipeline.Value

@[expose] public section

noncomputable section

namespace Cert.Gdn

open Idealize.ShloMosaic

/-- The word a reverse loop of 64 trips computes at trip `j`. -/
theorem reverse_index : ∀ j : Fin 64, ((64#32 - BitVec.ofNat 32 j.val) - 1#32).toInt = ((63 - j.val : ℕ) : Int) := by decide

variable {a b : ℕ}

theorem stack_fits (n : ℕ) (hn : n < 64) : (⟨4, ![64, 8, a, b]⟩ : Shape).Slices ![n, 0, 0, 0] ⟨4, ![1, 8, a, b]⟩ := by
  refine ⟨rfl, fun x => ?_⟩
  revert x
  refine Fin.cases ?_ (Fin.cases ?_ (Fin.cases ?_ (Fin.cases ?_ fun x => x.elim0))) <;> simp
  omega

variable (X : (⟨4, ![64, 8, a, b]⟩ : Shape).Idx → EReal) (U : (⟨4, ![1, 8, a, b]⟩ : Shape).Idx → EReal)
  (start : Fin 4 → Int) (n : ℕ) (hn : n < 64) (hs : ∀ k, start k = ((![n, 0, 0, 0] : Fin 4 → ℕ) k : Int))

include hn hs

/-- The entry read. -/
theorem stack_read (f : (⟨4, ![64, 8, a, b]⟩ : Shape).Slices (fun _ => 0) ⟨4, ![1, 8, a, b]⟩) (h : Fin 8) (i : Fin a) (k : Fin b) :
    Host.dynamicSlice ⟨4, ![1, 8, a, b]⟩ X start f (ix4 0 h i k) = X (ix4 ⟨n, hn⟩ h i k) := by
  rw [Host.dynamicSlice_eq_extractStridedSlice _ _ _ _ _ (stack_fits n hn) hs]
  refine congrArg X (funext fun x => ?_)
  revert x
  refine Fin.cases ?_ (Fin.cases ?_ (Fin.cases ?_ (Fin.cases ?_ fun x => x.elim0))) <;> apply Fin.ext
  · exact Nat.add_zero n
  · exact Nat.zero_add _
  · exact Nat.zero_add _
  · exact Nat.zero_add _

/-- The entry written, and the others. -/
theorem stack_write (f : (⟨4, ![64, 8, a, b]⟩ : Shape).Slices (fun _ => 0) ⟨4, ![1, 8, a, b]⟩) (m : Fin 64) (h : Fin 8) (i : Fin a) (k : Fin b) :
    Host.dynamicUpdateSlice X U start f (ix4 m h i k) = if m.val = n then U (ix4 0 h i k) else X (ix4 m h i k) := by
  have hfit := stack_fits (a := a) (b := b) n hn
  rw [Host.dynamicUpdateSlice_eq_updateSlice _ _ _ _ ![n, 0, 0, 0] (fun x => by have := hfit.2 x; rw [hs x]; omega) hfit]
  unfold updateSlice
  split
  · rename_i hin
    have h0 := hin 0
    change n ≤ m.val ∧ m.val < n + 1 at h0
    rw [if_pos (by omega)]
    refine congrArg U (funext fun x => ?_)
    revert x
    refine Fin.cases ?_ (Fin.cases ?_ (Fin.cases ?_ (Fin.cases ?_ fun x => x.elim0))) <;> apply Fin.ext
    · change m.val - n = 0; omega
    · exact Nat.sub_zero _
    · exact Nat.sub_zero _
    · exact Nat.sub_zero _
  · rename_i hin
    refine (if_neg fun hm => hin ?_).symm
    refine Fin.cases ?_ (Fin.cases ?_ (Fin.cases ?_ (Fin.cases ?_ fun x => x.elim0)))
    · change n ≤ m.val ∧ m.val < n + 1; omega
    · change 0 ≤ h.val ∧ h.val < 0 + 8; omega
    · change 0 ≤ i.val ∧ i.val < 0 + a; omega
    · change 0 ≤ k.val ∧ k.val < 0 + b; omega

end Cert.Gdn

end
-- ==== Proof.Recurrence.Trip.lean ====
/-
  One trip of the reference's reverse loop, read at an index: trip `j` takes chunk `63 − j` from the stacks, and what it
  computes for head `h` is that slice's gradient.
-/
module

public import proofs.«01_k».proof.Proof.Gen.ReferenceIdeal.Step
public import proofs.«01_k».proof.Proof.Recurrence.Slice
public import proofs.«01_k».proof.Proof.Recurrence.Stack

@[expose] public section

set_option maxRecDepth 16384

noncomputable section

namespace Cert.ReferenceIdeal.Trip

open Cert.ReferenceIdeal Cert.ReferenceIdeal.Gen Cert.ReferenceIdeal.Step Idealize.ShloMosaic Cert.Gdn

/-- Head `h` of chunk `n` in the stacks a state holds. -/
def slice (s : State Ideal) (h : Fin 8) (n : Fin 64) : Slice where
  w c d := s.main_v21_1 (ix4 n h c d)
  u c d := s.main_v21_2 (ix4 n h c d)
  qk i j := s.main_v21_3 (ix4 n h i j)
  qd c d := s.main_v21_4 (ix4 n h c d)
  kd c d := s.main_v21_5 (ix4 n h c d)
  g c d := s.main_v21_6 (ix4 n h c d)
  S d e := s.main_v21_0 (ix4 n h d e)
  o c d := s.main_v21_7 (ix4 n h c d)

/-- The gradient of the state a state of the loop holds. -/
def grad (s : State Ideal) (h : Fin 8) : Mat := fun d e => s.main_v21_9 (ix3 h d e)

/-- The chunk of trip `j`. -/
abbrev chunkAt (j : ℕ) (hj : j < 64) : Fin 64 := ⟨63 - j, by omega⟩

variable (j : ℕ) (hj : j < 64) (s : State Ideal) (h : Fin 8)

include hj

/-- The four starts of a stack's entry. -/
theorem starts (z1 z2 z3 : (⟨S_, .i32⟩ : BufTy).Contents (Elt Ideal)) (h1 : z1 = constantI S_ 32 0#32) (h2 : z2 = constantI S_ 32 0#32)
    (h3 : z3 = constantI S_ 32 0#32) (k : Fin 4) :
    ((![b3 j s, z1, z2, z3] : Fin 4 → (⟨S_, .i32⟩ : BufTy).Contents (Elt Ideal)) k (Shape.Idx.first h_S_)).toInt
      = ((![63 - j, 0, 0, 0] : Fin 4 → ℕ) k : Int) := by
  subst h1 h2 h3
  revert k
  refine Fin.cases ?_ (Fin.cases ?_ (Fin.cases ?_ (Fin.cases ?_ fun x => x.elim0)))
  · exact reverse_index ⟨j, hj⟩
  · rfl
  · rfl
  · rfl

theorem b8_at (i : Fin 128) (k : Fin 128) : b8 j s (ix3 h i k) = s.main_v21_0 (ix4 (chunkAt j hj) h i k) := by
  have e : b8 j s (ix3 h i k) = b7 j s (ix4 0 h i k) := by pointwise [b8]
  exact e.trans (stack_read s.main_v21_0 _ (63 - j) (by omega) (starts j hj s (b4 j s) (b5 j s) (b6 j s) rfl rfl rfl)
    sliceFits_S64x8x128x128_S1x8x128x128 h i k)

theorem b13_at (i : Fin 64) (k : Fin 128) : b13 j s (ix3 h i k) = s.main_v21_1 (ix4 (chunkAt j hj) h i k) := by
  have e : b13 j s (ix3 h i k) = b12 j s (ix4 0 h i k) := by pointwise [b13]
  exact e.trans (stack_read s.main_v21_1 _ (63 - j) (by omega) (starts j hj s (b9 j s) (b10 j s) (b11 j s) rfl rfl rfl)
    sliceFits_S64x8x64x128_S1x8x64x128 h i k)

theorem b18_at (i : Fin 64) (k : Fin 128) : b18 j s (ix3 h i k) = s.main_v21_2 (ix4 (chunkAt j hj) h i k) := by
  have e : b18 j s (ix3 h i k) = b17 j s (ix4 0 h i k) := by pointwise [b18]
  exact e.trans (stack_read s.main_v21_2 _ (63 - j) (by omega) (starts j hj s (b14 j s) (b15 j s) (b16 j s) rfl rfl rfl)
    sliceFits_S64x8x64x128_S1x8x64x128 h i k)

theorem b23_at (i : Fin 64) (k : Fin 64) : b23 j s (ix3 h i k) = s.main_v21_3 (ix4 (chunkAt j hj) h i k) := by
  have e : b23 j s (ix3 h i k) = b22 j s (ix4 0 h i k) := by pointwise [b23]
  exact e.trans (stack_read s.main_v21_3 _ (63 - j) (by omega) (starts j hj s (b19 j s) (b20 j s) (b21 j s) rfl rfl rfl)
    sliceFits_S64x8x64x64_S1x8x64x64 h i k)

theorem b28_at (i : Fin 64) (k : Fin 128) : b28 j s (ix3 h i k) = s.main_v21_4 (ix4 (chunkAt j hj) h i k) := by
  have e : b28 j s (ix3 h i k) = b27 j s (ix4 0 h i k) := by pointwise [b28]
  exact e.trans (stack_read s.main_v21_4 _ (63 - j) (by omega) (starts j hj s (b24 j s) (b25 j s) (b26 j s) rfl rfl rfl)
    sliceFits_S64x8x64x128_S1x8x64x128 h i k)

theorem b33_at (i : Fin 64) (k : Fin 128) : b33 j s (ix3 h i k) = s.main_v21_5 (ix4 (chunkAt j hj) h i k) := by
  have e : b33 j s (ix3 h i k) = b32 j s (ix4 0 h i k) := by pointwise [b33]
  exact e.trans (stack_read s.main_v21_5 _ (63 - j) (by omega) (starts j hj s (b29 j s) (b30 j s) (b31 j s) rfl rfl rfl)
    sliceFits_S64x8x64x128_S1x8x64x128 h i k)

theorem b38_at (i : Fin 64) (k : Fin 128) : b38 j s (ix3 h i k) = s.main_v21_6 (ix4 (chunkAt j hj) h i k) := by
  have e : b38 j s (ix3 h i k) = b37 j s (ix4 0 h i k) := by pointwise [b38]
  exact e.trans (stack_read s.main_v21_6 _ (63 - j) (by omega) (starts j hj s (b34 j s) (b35 j s) (b36 j s) rfl rfl rfl)
    sliceFits_S64x8x64x128_S1x8x64x128 h i k)

theorem b43_at (i : Fin 64) (k : Fin 128) : b43 j s (ix3 h i k) = s.main_v21_7 (ix4 (chunkAt j hj) h i k) := by
  have e : b43 j s (ix3 h i k) = b42 j s (ix4 0 h i k) := by pointwise [b43]
  exact e.trans (stack_read s.main_v21_7 _ (63 - j) (by omega) (starts j hj s (b39 j s) (b40 j s) (b41 j s) rfl rfl rfl)
    sliceFits_S64x8x64x128_S1x8x64x128 h i k)

theorem vnew_at (c : Fin 64) (e : Fin 128) : b45 j s (ix3 h c e) = (slice s h (chunkAt j hj)).v c e := by
  have e1 := b13_at j hj s h c
  have e2 := fun d => b8_at j hj s h d e
  have e3 := b18_at j hj s h c e
  pointwise [b45, b44, slice, Slice.v, e1, e2, e3]

theorem decay_at (e : Fin 128) : b52 j s (ix3 h 0 e) = (slice s h (chunkAt j hj)).decay e := by
  have e1 := fun c => b38_at j hj s h c e
  pointwise [b52, b51, b50, b49, slice, Slice.decay, e1]

theorem dv_at (c : Fin 64) (e : Fin 128) : b73 j s (ix3 h c e) = (slice s h (chunkAt j hj)).du (grad s h) c e := by
  have e1 := b33_at j hj s h c
  have e2 := fun i => b23_at j hj s h i c
  have e3 := fun i => b43_at j hj s h i e
  pointwise! [b73, b58, b57, b72, b71, slice, Slice.du, grad, e1, e2, e3]

theorem dw_at (c : Fin 64) (d : Fin 128) : b83 j s (ix3 h c d) = (slice s h (chunkAt j hj)).dw (grad s h) c d := by
  have e1 := dv_at j hj s h c
  have e2 := b8_at j hj s h d
  pointwise [b83, b79, Slice.dw, e1, e2]
  rfl

theorem dqk_at (i k : Fin 64) : b74 j s (ix3 h i k) = (slice s h (chunkAt j hj)).dqk i k := by
  have e1 := b43_at j hj s h i
  have e2 := vnew_at j hj s h k
  pointwise [b74, Slice.dqk, e1, e2]
  rfl

theorem dqd_at (c : Fin 64) (d : Fin 128) : b78 j s (ix3 h c d) = (slice s h (chunkAt j hj)).dqd c d := by
  have e1 := b43_at j hj s h c
  have e2 := b8_at j hj s h d
  pointwise [b78, Slice.dqd, slice, e1, e2]

theorem dkd_at (c : Fin 64) (d : Fin 128) : b60 j s (ix3 h c d) = (slice s h (chunkAt j hj)).dkd (grad s h) c d := by
  have e1 := vnew_at j hj s h c
  pointwise! [b60, b59, Slice.dkd, grad, e1]

theorem dg_at (c : Fin 64) (e : Fin 128) : b70 j s (ix3 h c e) = (slice s h (chunkAt j hj)).dg (grad s h) e := by
  have e1 := decay_at j hj s h e
  have e2 := fun d => b8_at j hj s h d e
  pointwise! [b70, b69, b68, b67, b64, b63, b62, b61, Slice.dg, grad, slice, e2]
  rw [Fin.sum_univ_one]
  exact congrArg _ e1

theorem next_at (d e : Fin 128) : b82 j s (ix3 h d e) = (slice s h (chunkAt j hj)).next (grad s h) d e := by
  have e1 := decay_at j hj s h e
  have e2 := fun c => b28_at j hj s h c d
  have e3 := fun c => b43_at j hj s h c e
  have e4 := fun c => b13_at j hj s h c d
  have e5 := fun c => dv_at j hj s h c e
  pointwise! [b82, b77, b66, b65, b76, b75, b81, b80, b79, Slice.next, grad, slice, e1, e2, e3, e4, e5]

end Cert.ReferenceIdeal.Trip

end
-- ==== Proof.RefRun.lean ====
/- The reference's run, read by its step: its program is one counted host loop of 64 trips. At contents that HOLD a state
   (the carried arrays are the state's fields, the counter is the trip's number) every value of one trip is the value of the
   same name in the step, one lemma each; so a trip keeps holding, and the results of the program are the fields of the step
   iterated 64 times from what stands before the loop (`run_iter`). -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_9 : V0 (Proc.devRef .tc main_v21_9) = s.main_v21_9
  f_10 : V0 (Proc.devRef .tc main_v21_10) = s.main_v21_10
  f_11 : V0 (Proc.devRef .tc main_v21_11) = s.main_v21_11
  f_12 : V0 (Proc.devRef .tc main_v21_12) = s.main_v21_12
  f_13 : V0 (Proc.devRef .tc main_v21_13) = s.main_v21_13
  f_14 : V0 (Proc.devRef .tc main_v21_14) = s.main_v21_14
  f_15 : V0 (Proc.devRef .tc main_v21_15) = s.main_v21_15
  f_0 : V0 (Proc.devRef .tc main_v21_0) = s.main_v21_0
  f_1 : V0 (Proc.devRef .tc main_v21_1) = s.main_v21_1
  f_2 : V0 (Proc.devRef .tc main_v21_2) = s.main_v21_2
  f_3 : V0 (Proc.devRef .tc main_v21_3) = s.main_v21_3
  f_4 : V0 (Proc.devRef .tc main_v21_4) = s.main_v21_4
  f_5 : V0 (Proc.devRef .tc main_v21_5) = s.main_v21_5
  f_6 : V0 (Proc.devRef .tc main_v21_6) = s.main_v21_6
  f_7 : V0 (Proc.devRef .tc main_v21_7) = s.main_v21_7
  n_8 : V0 (Proc.devRef .tc main_v21_8) = constantI S_ 32 (BitVec.ofNat 32 j)

variable {V0 s j}

set_option maxRecDepth 8192 in
theorem al_0 (h : Holds V0 s j) : (constantI S_ 32 64#32 : (Proc.devRef .tc main_while0b_c_21 : DevRef τ sig).ty.Contents (Elt F)) = Cert.ReferenceIdeal.Step.b0 j s := by
  unfold Cert.ReferenceIdeal.Step.b0
  rfl
set_option maxRecDepth 8192 in
theorem al_1 (h : Holds V0 s j) : (subi (constantI S_ 32 64#32) (V0 (Proc.devRef .tc main_v21_8)) : (Proc.devRef .tc main_while0b_v34 : DevRef τ sig).ty.Contents (Elt F)) = Cert.ReferenceIdeal.Step.b1 j s := by
  unfold Cert.ReferenceIdeal.Step.b1
  rw [← al_0 h, h.n_8]
  try rfl
set_option maxRecDepth 8192 in
theorem al_2 (h : Holds V0 s j) : (constantI S_ 32 1#32 : (Proc.devRef .tc main_while0b_c_22 : DevRef τ sig).ty.Contents (Elt F)) = Cert.ReferenceIdeal.Step.b2 j s := by
  unfold Cert.ReferenceIdeal.Step.b2
  rfl
set_option maxRecDepth 8192 in
theorem al_3 (h : Holds V0 s j) : (res_main_while0b_v35 V0 : (Proc.devRef .tc main_while0b_v35 : DevRef τ sig).ty.Contents (Elt F)) = Cert.ReferenceIdeal.Step.b3 j s := by
  unfold res_main_while0b_v35 Cert.ReferenceIdeal.Step.b3
  rw [← al_1 h, ← al_2 h]
  try rfl
set_option maxRecDepth 8192 in
theorem al_4 (h : Holds V0 s j) : (constantI S_ 32 0#32 : (Proc.devRef .tc main_while0b_call0_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call0_c_0 : DevRef τ sig).ty.Contents (Elt F)) = Cert.ReferenceIdeal.Step.b5 j s := by
  unfold Cert.ReferenceIdeal.Step.b5
  rfl
set_option maxRecDepth 8192 in
theorem al_6 (h : Holds V0 s j) : (constantI S_ 32 0#32 : (Proc.devRef .tc main_while0b_call0_c_1 : DevRef τ sig).ty.Contents (Elt F)) = Cert.ReferenceIdeal.Step.b6 j s := by
  unfold Cert.ReferenceIdeal.Step.b6
  rfl
set_option maxRecDepth 8192 in
theorem al_7 (h : Holds V0 s j) : (Host.dynamicSlice S1x8x128x128 (V0 (Proc.devRef .tc main_v21_0)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x128x128_S1x8x128x128 : (Proc.devRef .tc main_while0b_call0_v0 : DevRef τ sig).ty.Contents (Elt F)) = Cert.ReferenceIdeal.Step.b7 j s := by
  unfold Cert.ReferenceIdeal.Step.b7
  rw [← al_3 h, ← al_4 h, ← al_5 h, ← al_6 h, h.f_0]
  try rfl
set_option maxRecDepth 8192 in
theorem al_8 (h : Holds V0 s j) : (res_main_while0b_v36 V0 : (Proc.devRef .tc main_while0b_v36 : DevRef τ sig).ty.Contents (Elt F)) = Cert.ReferenceIdeal.Step.b8 j s := by
  unfold res_main_while0b_v36 Cert.ReferenceIdeal.Step.b8
  rw [← al_7 h]
  try rfl
set_option maxRecDepth 8192 in
theorem al_9 (h : Holds V0 s j) : (constantI S_ 32 0#32 : (Proc.devRef .tc main_while0b_call1_c : DevRef τ sig).ty.Contents (Elt F)) = Cert.ReferenceIdeal.Step.b9 j s := by
  unfold Cert.ReferenceIdeal.Step.b9
  rfl
set_option maxRecDepth 8192 in
theorem al_10 (h : Holds V0 s j) : (constantI S_ 32 0#32 : (Proc.devRef .tc main_while0b_call1_c_0 : DevRef τ sig).ty.Contents (Elt F)) = Cert.ReferenceIdeal.Step.b10 j s := by
  unfold Cert.ReferenceIdeal.Step.b10
  rfl
set_option maxRecDepth 8192 in
theorem al_11 (h : Holds V0 s j) : (constantI S_ 32 0#32 : (Proc.devRef .tc main_while0b_call1_c_1 : DevRef τ sig).ty.Contents (Elt F)) = Cert.ReferenceIdeal.Step.b11 j s := by
  unfold Cert.ReferenceIdeal.Step.b11
  rfl
set_option maxRecDepth 8192 in
theorem al_12 (h : Holds V0 s j) : (Host.dynamicSlice S1x8x64x128 (V0 (Proc.devRef .tc main_v21_1)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call1_v0 : DevRef τ sig).ty.Contents (Elt F)) = Cert.ReferenceIdeal.Step.b12 j s := by
  unfold Cert.ReferenceIdeal.Step.b12
  rw [← al_3 h, ← al_9 h, ← al_10 h, ← al_11 h, h.f_1]
  try rfl
set_option maxRecDepth 8192 in
theorem al_13 (h : Holds V0 s j) : (res_main_while0b_v37 V0 : (Proc.devRef .tc main_while0b_v37 : DevRef τ sig).ty.Contents (Elt F)) = Cert.ReferenceIdeal.Step.b13 j s := by
  unfold res_main_while0b_v37 Cert.ReferenceIdeal.Step.b13
  rw [← al_12 h]
  try rfl
set_option maxRecDepth 8192 in
theorem al_14 (h : Holds V0 s j) : (constantI S_ 32 0#32 : (Proc.devRef .tc main_while0b_call2_c : DevRef τ sig).ty.Contents (Elt F)) = Cert.ReferenceIdeal.Step.b14 j s := by
  unfold Cert.ReferenceIdeal.Step.b14
  rfl
set_option maxRecDepth 8192 in
theorem al_15 (h : Holds V0 s j) : (constantI S_ 32 0#32 : (Proc.devRef .tc main_while0b_call2_c_0 : DevRef τ sig).ty.Contents (Elt F)) = Cert.ReferenceIdeal.Step.b15 j s := by
  unfold Cert.ReferenceIdeal.Step.b15
  rfl
set_option maxRecDepth 8192 in
theorem al_16 (h : Holds V0 s j) : (constantI S_ 32 0#32 : (Proc.devRef .tc main_while0b_call2_c_1 : DevRef τ sig).ty.Contents (Elt F)) = Cert.ReferenceIdeal.Step.b16 j s := by
  unfold Cert.ReferenceIdeal.Step.b16
  rfl
set_option maxRecDepth 8192 in
theorem al_17 (h : Holds V0 s j) : (Host.dynamicSlice S1x8x64x128 (V0 (Proc.devRef .tc main_v21_2)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call2_v0 : DevRef τ sig).ty.Contents (Elt F)) = Cert.ReferenceIdeal.Step.b17 j s := by
  unfold Cert.ReferenceIdeal.Step.b17
  rw [← al_3 h, ← al_14 h, ← al_15 h, ← al_16 h, h.f_2]
  try rfl
set_option maxRecDepth 8192 in
theorem al_18 (h : Holds V0 s j) : (shapeCast S8x64x128 (Host.dynamicSlice S1x8x64x128 (V0 (Proc.devRef .tc main_v21_2)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128 : (Proc.devRef .tc main_while0b_v38 : DevRef τ sig).ty.Contents (Elt F)) = Cert.ReferenceIdeal.Step.b18 j s := by
  unfold Cert.ReferenceIdeal.Step.b18
  rw [← al_17 h]
  try rfl
set_option maxRecDepth 8192 in
theorem al_19 (h : Holds V0 s j) : (constantI S_ 32 0#32 : (Proc.devRef .tc main_while0b_call3_c : DevRef τ sig).ty.Contents (Elt F)) = Cert.ReferenceIdeal.Step.b19 j s := by
  unfold Cert.ReferenceIdeal.Step.b19
  rfl
set_option maxRecDepth 8192 in
theorem al_20 (h : Holds V0 s j) : (constantI S_ 32 0#32 : (Proc.devRef .tc main_while0b_call3_c_0 : DevRef τ sig).ty.Contents (Elt F)) = Cert.ReferenceIdeal.Step.b20 j s := by
  unfold Cert.ReferenceIdeal.Step.b20
  rfl
set_option maxRecDepth 8192 in
theorem al_21 (h : Holds V0 s j) : (constantI S_ 32 0#32 : (Proc.devRef .tc main_while0b_call3_c_1 : DevRef τ sig).ty.Contents (Elt F)) = Cert.ReferenceIdeal.Step.b21 j s := by
  unfold Cert.ReferenceIdeal.Step.b21
  rfl
set_option maxRecDepth 8192 in
theorem al_22 (h : Holds V0 s j) : (Host.dynamicSlice S1x8x64x64 (V0 (Proc.devRef .tc main_v21_3)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x64_S1x8x64x64 : (Proc.devRef .tc main_while0b_call3_v0 : DevRef τ sig).ty.Contents (Elt F)) = Cert.ReferenceIdeal.Step.b22 j s := by
  unfold Cert.ReferenceIdeal.Step.b22
  rw [← al_3 h, ← al_19 h, ← al_20 h, ← al_21 h, h.f_3]
  try rfl
set_option maxRecDepth 8192 in
theorem al_23 (h : Holds V0 s j) : (res_main_while0b_v39 V0 : (Proc.devRef .tc main_while0b_v39 : DevRef τ sig).ty.Contents (Elt F)) = Cert.ReferenceIdeal.Step.b23 j s := by
  unfold res_main_while0b_v39 Cert.ReferenceIdeal.Step.b23
  rw [← al_22 h]
  try rfl
set_option maxRecDepth 8192 in
theorem al_24 (h : Holds V0 s j) : (constantI S_ 32 0#32 : (Proc.devRef .tc main_while0b_call4_c : DevRef τ sig).ty.Contents (Elt F)) = Cert.ReferenceIdeal.Step.b24 j s := by
  unfold Cert.ReferenceIdeal.Step.b24
  rfl
set_option maxRecDepth 8192 in
theorem al_25 (h : Holds V0 s j) : (constantI S_ 32 0#32 : (Proc.devRef .tc main_while0b_call4_c_0 : DevRef τ sig).ty.Contents (Elt F)) = Cert.ReferenceIdeal.Step.b25 j s := by
  unfold Cert.ReferenceIdeal.Step.b25
  rfl
set_option maxRecDepth 8192 in
theorem al_26 (h : Holds V0 s j) : (constantI S_ 32 0#32 : (Proc.devRef .tc main_while0b_call4_c_1 : DevRef τ sig).ty.Contents (Elt F)) = Cert.ReferenceIdeal.Step.b26 j s := by
  unfold Cert.ReferenceIdeal.Step.b26
  rfl
set_option maxRecDepth 8192 in
theorem al_27 (h : Holds V0 s j) : (Host.dynamicSlice S1x8x64x128 (V0 (Proc.devRef .tc main_v21_4)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call4_v0 : DevRef τ sig).ty.Contents (Elt F)) = Cert.ReferenceIdeal.Step.b27 j s := by
  unfold Cert.ReferenceIdeal.Step.b27
  rw [← al_3 h, ← al_24 h, ← al_25 h, ← al_26 h, h.f_4]
  try rfl
set_option maxRecDepth 8192 in
theorem al_28 (h : Holds V0 s j) : (res_main_while0b_v40 V0 : (Proc.devRef .tc main_while0b_v40 : DevRef τ sig).ty.Contents (Elt F)) = Cert.ReferenceIdeal.Step.b28 j s := by
  unfold res_main_while0b_v40 Cert.ReferenceIdeal.Step.b28
  rw [← al_27 h]
  try rfl
set_option maxRecDepth 8192 in
theorem al_29 (h : Holds V0 s j) : (constantI S_ 32 0#32 : (Proc.devRef .tc main_while0b_call5_c : DevRef τ sig).ty.Contents (Elt F)) = Cert.ReferenceIdeal.Step.b29 j s := by
  unfold Cert.ReferenceIdeal.Step.b29
  rfl
set_option maxRecDepth 8192 in
theorem al_30 (h : Holds V0 s j) : (constantI S_ 32 0#32 : (Proc.devRef .tc main_while0b_call5_c_0 : DevRef τ sig).ty.Contents (Elt F)) = Cert.ReferenceIdeal.Step.b30 j s := by
  unfold Cert.ReferenceIdeal.Step.b30
  rfl
set_option maxRecDepth 8192 in
theorem al_31 (h : Holds V0 s j) : (constantI S_ 32 0#32 : (Proc.devRef .tc main_while0b_call5_c_1 : DevRef τ sig).ty.Contents (Elt F)) = Cert.ReferenceIdeal.Step.b31 j s := by
  unfold Cert.ReferenceIdeal.Step.b31
  rfl
set_option maxRecDepth 8192 in
theorem al_32 (h : Holds V0 s j) : (Host.dynamicSlice S1x8x64x128 (V0 (Proc.devRef .tc main_v21_5)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call5_v0 : DevRef τ sig).ty.Contents (Elt F)) = Cert.ReferenceIdeal.Step.b32 j s := by
  unfold Cert.ReferenceIdeal.Step.b32
  rw [← al_3 h, ← al_29 h, ← al_30 h, ← al_31 h, h.f_5]
  try rfl
set_option maxRecDepth 8192 in
theorem al_33 (h : Holds V0 s j) : (res_main_while0b_v41 V0 : (Proc.devRef .tc main_while0b_v41 : DevRef τ sig).ty.Contents (Elt F)) = Cert.ReferenceIdeal.Step.b33 j s := by
  unfold res_main_while0b_v41 Cert.ReferenceIdeal.Step.b33
  rw [← al_32 h]
  try rfl
set_option maxRecDepth 8192 in
theorem al_34 (h : Holds V0 s j) : (constantI S_ 32 0#32 : (Proc.devRef .tc main_while0b_call6_c : DevRef τ sig).ty.Contents (Elt F)) = Cert.ReferenceIdeal.Step.b34 j s := by
  unfold Cert.ReferenceIdeal.Step.b34
  rfl
set_option maxRecDepth 8192 in
theorem al_35 (h : Holds V0 s j) : (constantI S_ 32 0#32 : (Proc.devRef .tc main_while0b_call6_c_0 : DevRef τ sig).ty.Contents (Elt F)) = Cert.ReferenceIdeal.Step.b35 j s := by
  unfold Cert.ReferenceIdeal.Step.b35
  rfl
set_option maxRecDepth 8192 in
theorem al_36 (h : Holds V0 s j) : (constantI S_ 32 0#32 : (Proc.devRef .tc main_while0b_call6_c_1 : DevRef τ sig).ty.Contents (Elt F)) = Cert.ReferenceIdeal.Step.b36 j s := by
  unfold Cert.ReferenceIdeal.Step.b36
  rfl
set_option maxRecDepth 8192 in
theorem al_37 (h : Holds V0 s j) : (Host.dynamicSlice S1x8x64x128 (V0 (Proc.devRef .tc main_v21_6)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call6_v0 : DevRef τ sig).ty.Contents (Elt F)) = Cert.ReferenceIdeal.Step.b37 j s := by
  unfold Cert.ReferenceIdeal.Step.b37
  rw [← al_3 h, ← al_34 h, ← al_35 h, ← al_36 h, h.f_6]
  try rfl
set_option maxRecDepth 8192 in
theorem al_38 (h : Holds V0 s j) : (shapeCast S8x64x128 (Host.dynamicSlice S1x8x64x128 (V0 (Proc.devRef .tc main_v21_6)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128 : (Proc.devRef .tc main_while0b_v42 : DevRef τ sig).ty.Contents (Elt F)) = Cert.ReferenceIdeal.Step.b38 j s := by
  unfold Cert.ReferenceIdeal.Step.b38
  rw [← al_37 h]
  try rfl
set_option maxRecDepth 8192 in
theorem al_39 (h : Holds V0 s j) : (constantI S_ 32 0#32 : (Proc.devRef .tc main_while0b_call7_c : DevRef τ sig).ty.Contents (Elt F)) = Cert.ReferenceIdeal.Step.b39 j s := by
  unfold Cert.ReferenceIdeal.Step.b39
  rfl
set_option maxRecDepth 8192 in
theorem al_40 (h : Holds V0 s j) : (constantI S_ 32 0#32 : (Proc.devRef .tc main_while0b_call7_c_0 : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call7_c_1 : DevRef τ sig).ty.Contents (Elt F)) = Cert.ReferenceIdeal.Step.b41 j s := by
  unfold Cert.ReferenceIdeal.Step.b41
  rfl
set_option maxRecDepth 8192 in
theorem al_42 (h : Holds V0 s j) : (Host.dynamicSlice S1x8x64x128 (V0 (Proc.devRef .tc main_v21_7)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128 : (Proc.devRef .tc main_while0b_call7_v0 : DevRef τ sig).ty.Contents (Elt F)) = Cert.ReferenceIdeal.Step.b42 j s := by
  unfold Cert.ReferenceIdeal.Step.b42
  rw [← al_3 h, ← al_39 h, ← al_40 h, ← al_41 h, h.f_7]
  try rfl
set_option maxRecDepth 8192 in
theorem al_43 (h : Holds V0 s j) : (res_main_while0b_v43 V0 : (Proc.devRef .tc main_while0b_v43 : DevRef τ sig).ty.Contents (Elt F)) = Cert.ReferenceIdeal.Step.b43 j s := by
  unfold res_main_while0b_v43 Cert.ReferenceIdeal.Step.b43
  rw [← al_42 h]
  try rfl
set_option maxRecDepth 8192 in
theorem al_44 (h : Holds V0 s j) : (Host.dotGeneral dot_S8x64x128_S8x128x128_S8x64x128_2_1_1_2_0_0 none (res_main_while0b_v37 V0) (res_main_while0b_v36 V0) : (Proc.devRef .tc main_while0b_v44 : DevRef τ sig).ty.Contents (Elt F)) = Cert.ReferenceIdeal.Step.b44 j s := by
  unfold Cert.ReferenceIdeal.Step.b44
  rw [← al_13 h, ← al_8 h]
  try rfl
set_option maxRecDepth 8192 in
theorem al_45 (h : Holds V0 s j) : (res_main_while0b_v45 V0 : (Proc.devRef .tc main_while0b_v45 : DevRef τ sig).ty.Contents (Elt F)) = Cert.ReferenceIdeal.Step.b45 j s := by
  unfold res_main_while0b_v45 Cert.ReferenceIdeal.Step.b45
  rw [← al_18 h, ← al_44 h]
  try rfl
set_option maxRecDepth 8192 in
theorem al_46 (h : Holds V0 s j) : (Host.dotGeneral dot_S8x64x128_S8x128x128_S8x64x128_2_1_1_2_0_0 none (res_main_while0b_v40 V0) (res_main_while0b_v36 V0) : (Proc.devRef .tc main_while0b_v46 : DevRef τ sig).ty.Contents (Elt F)) = Cert.ReferenceIdeal.Step.b46 j s := by
  unfold Cert.ReferenceIdeal.Step.b46
  rw [← al_28 h, ← al_8 h]
  try rfl
set_option maxRecDepth 8192 in
theorem al_47 (h : Holds V0 s j) : (Host.dotGeneral dot_S8x64x64_S8x64x128_S8x64x128_2_1_1_2_0_0 none (res_main_while0b_v39 V0) (res_main_while0b_v45 V0) : (Proc.devRef .tc main_while0b_v47 : DevRef τ sig).ty.Contents (Elt F)) = Cert.ReferenceIdeal.Step.b47 j s := by
  unfold Cert.ReferenceIdeal.Step.b47
  rw [← al_23 h, ← al_45 h]
  try rfl
set_option maxRecDepth 8192 in
theorem al_48 (h : Holds V0 s j) : (addf (Host.dotGeneral dot_S8x64x128_S8x128x128_S8x64x128_2_1_1_2_0_0 none (res_main_while0b_v40 V0) (res_main_while0b_v36 V0)) (Host.dotGeneral dot_S8x64x64_S8x64x128_S8x64x128_2_1_1_2_0_0 none (res_main_while0b_v39 V0) (res_main_while0b_v45 V0)) : (Proc.devRef .tc main_while0b_v48 : DevRef τ sig).ty.Contents (Elt F)) = Cert.ReferenceIdeal.Step.b48 j s := by
  unfold Cert.ReferenceIdeal.Step.b48
  rw [← al_46 h, ← al_47 h]
  try rfl
set_option maxRecDepth 8192 in
theorem al_49 (h : Holds V0 s j) : (constant S_ .f32 0x00000000#32 : (Proc.devRef .tc main_while0b_cst_23 : DevRef τ sig).ty.Contents (Elt F)) = Cert.ReferenceIdeal.Step.b49 j s := by
  unfold Cert.ReferenceIdeal.Step.b49
  rfl
set_option maxRecDepth 8192 in
theorem al_50 (h : Holds V0 s j) : (Host.reduceAdd (shapeCast S8x64x128 (Host.dynamicSlice S1x8x64x128 (V0 (Proc.devRef .tc main_v21_6)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (constant S_ .f32 0x00000000#32) reducesTo_S8x64x128_S8x128_d1 h_S_ : (Proc.devRef .tc main_while0b_v49 : DevRef τ sig).ty.Contents (Elt F)) = Cert.ReferenceIdeal.Step.b50 j s := by
  unfold Cert.ReferenceIdeal.Step.b50
  rw [← al_38 h, ← al_49 h]
  try rfl
set_option maxRecDepth 8192 in
theorem al_51 (h : Holds V0 s j) : (broadcastInDim S8x1x128 ![0, 2] bcast_S8x128_S8x1x128_0_2 (Host.reduceAdd (shapeCast S8x64x128 (Host.dynamicSlice S1x8x64x128 (V0 (Proc.devRef .tc main_v21_6)) (fun k => (((![res_main_while0b_v35 V0, constantI S_ 32 0#32, constantI S_ 32 0#32, constantI S_ 32 0#32] : Fin 4 → (⟨S_, .i32⟩ : BufTy).Contents (Elt F))) k (Shape.Idx.first h_S_)).toInt) sliceFits_S64x8x64x128_S1x8x64x128) shapeCasts_S1x8x64x128_S8x64x128) (constant S_ .f32 0x00000000#32) reducesTo_S8x64x128_S8x128_d1 h_S_) : (Proc.devRef .tc main_while0b_v50 : DevRef τ sig).ty.Contents (Elt F)) = Cert.ReferenceIdeal.Step.b51 j s := by
  unfold Cert.ReferenceIdeal.Step.b51
  rw [← al_50 h]
  try rfl
set_option maxRecDepth 8192 in
theorem al_52 (h : Holds V0 s j) : (res_main_while0b_v51 V0 : (Proc.devRef .tc main_while0b_v51 : DevRef τ sig).ty.Contents (Elt F)) = Cert.ReferenceIdeal.Step.b52 j s := by
  unfold res_main_while0b_v51 Cert.ReferenceIdeal.Step.b52
  rw [← al_51 h]
  try rfl
set_option maxRecDepth 8192 in
theorem al_53 (h : Holds V0 s j) : (broadcastInDim S8x128x128 ![0, 1, 2] bcast_S8x1x128_S8x128x128_0_1_2 (res_main_while0b_v51 V0) : (Proc.devRef .tc main_while0b_v52 : DevRef τ sig).ty.Contents (Elt F)) = Cert.ReferenceIdeal.Step.b53 j s := by
  unfold Cert.ReferenceIdeal.Step.b53
  rw [← al_52 h]
  try rfl
set_option maxRecDepth 8192 in
theorem al_54 (h : Holds V0 s j) : (mulf (res_main_while0b_v36 V0) (broadcastInDim S8x128x128 ![0, 1, 2] bcast_S8x1x128_S8x128x128_0_1_2 (res_main_while0b_v51 V0)) : (Proc.devRef .tc main_while0b_v53 : DevRef τ sig).ty.Contents (Elt F)) = Cert.ReferenceIdeal.Step.b54 j s := by
  unfold Cert.ReferenceIdeal.Step.b54
  rw [← al_8 h, ← al_53 h]
  try rfl
set_option maxRecDepth 8192 in
theorem al_55 (h : Holds V0 s j) : (Host.dotGeneral dot_S8x64x128_S8x64x128_S8x128x128_1_1_2_2_0_0 none (res_main_while0b_v41 V0) (res_main_while0b_v45 V0) : (Proc.devRef .tc main_while0b_v54 : DevRef τ sig).ty.Contents (Elt F)) = Cert.ReferenceIdeal.Step.b55 j s := by
  unfold Cert.ReferenceIdeal.Step.b55
  rw [← al_33 h, ← al_45 h]
  try rfl
set_option maxRecDepth 8192 in
theorem al_56 (h : Holds V0 s j) : (addf (mulf (res_main_while0b_v36 V0) (broadcastInDim S8x128x128 ![0, 1, 2] bcast_S8x1x128_S8x128x128_0_1_2 (res_main_while0b_v51 V0))) (Host.dotGeneral dot_S8x64x128_S8x64x128_S8x128x128_1_1_2_2_0_0 none (res_main_while0b_v41 V0) (res_main_while0b_v45 V0)) : (Proc.devRef .tc main_while0b_v55 : DevRef τ sig).ty.Contents (Elt F)) = Cert.ReferenceIdeal.Step.b56 j s := by
  unfold Cert.ReferenceIdeal.Step.b56
  rw [← al_54 h, ← al_55 h]
  try rfl
set_option maxRecDepth 8192 in
theorem al_57 (h : Holds V0 s j) : (Host.dotGeneral dot_S8x128x128_S8x64x128_S8x128x64_1_2_2_1_0_0 none (V0 (Proc.devRef .tc main_v21_9)) (res_main_while0b_v41 V0) : (Proc.devRef .tc main_while0b_v56 : DevRef τ sig).ty.Contents (Elt F)) = Cert.ReferenceIdeal.Step.b57 j s := by
  unfold Cert.ReferenceIdeal.Step.b57
  rw [← al_33 h, h.f_9]
  try rfl
set_option maxRecDepth 8192 in
theorem al_58 (h : Holds V0 s j) : (transpose S8x64x128 [0, 2, 1] (Host.dotGeneral dot_S8x128x128_S8x64x128_S8x128x64_1_2_2_1_0_0 none (V0 (Proc.devRef .tc main_v21_9)) (res_main_while0b_v41 V0)) transposes_S8x128x64_S8x64x128_0_2_1 : (Proc.devRef .tc main_while0b_v57 : DevRef τ sig).ty.Contents (Elt F)) = Cert.ReferenceIdeal.Step.b58 j s := by
  unfold Cert.ReferenceIdeal.Step.b58
  rw [← al_57 h]
  try rfl
set_option maxRecDepth 8192 in
theorem al_59 (h : Holds V0 s j) : (Host.dotGeneral dot_S8x128x128_S8x64x128_S8x128x64_2_2_1_1_0_0 none (V0 (Proc.devRef .tc main_v21_9)) (res_main_while0b_v45 V0) : (Proc.devRef .tc main_while0b_v58 : DevRef τ sig).ty.Contents (Elt F)) = Cert.ReferenceIdeal.Step.b59 j s := by
  unfold Cert.ReferenceIdeal.Step.b59
  rw [← al_45 h, h.f_9]
  try rfl
set_option maxRecDepth 8192 in
theorem al_60 (h : Holds V0 s j) : (transpose S8x64x128 [0, 2, 1] (Host.dotGeneral dot_S8x128x128_S8x64x128_S8x128x64_2_2_1_1_0_0 none (V0 (Proc.devRef .tc main_v21_9)) (res_main_while0b_v45 V0)) transposes_S8x128x64_S8x64x128_0_2_1 : (Proc.devRef .tc main_while0b_v59 : DevRef τ sig).ty.Contents (Elt F)) = Cert.ReferenceIdeal.Step.b60 j s := by
  unfold Cert.ReferenceIdeal.Step.b60
  rw [← al_59 h]
  try rfl
set_option maxRecDepth 8192 in
theorem al_61 (h : Holds V0 s j) : (mulf (res_main_while0b_v36 V0) (V0 (Proc.devRef .tc main_v21_9)) : (Proc.devRef .tc main_while0b_v60 : DevRef τ sig).ty.Contents (Elt F)) = Cert.ReferenceIdeal.Step.b61 j s := by
  unfold Cert.ReferenceIdeal.Step.b61
  rw [← al_8 h, h.f_9]
  try rfl
set_option maxRecDepth 8192 in
theorem al_62 (h : Holds V0 s j) : (constant S_ .f32 0x00000000#32 : (Proc.devRef .tc main_while0b_cst_24 : DevRef τ sig).ty.Contents (Elt F)) = Cert.ReferenceIdeal.Step.b62 j s := by
  unfold Cert.ReferenceIdeal.Step.b62
  rfl
set_option maxRecDepth 8192 in
theorem al_63 (h : Holds V0 s j) : (Host.reduceAdd (mulf (res_main_while0b_v36 V0) (V0 (Proc.devRef .tc main_v21_9))) (constant S_ .f32 0x00000000#32) reducesTo_S8x128x128_S8x128_d1 h_S_ : (Proc.devRef .tc main_while0b_v61 : DevRef τ sig).ty.Contents (Elt F)) = Cert.ReferenceIdeal.Step.b63 j s := by
  unfold Cert.ReferenceIdeal.Step.b63
  rw [← al_61 h, ← al_62 h]
  try rfl
set_option maxRecDepth 8192 in
theorem al_64 (h : Holds V0 s j) : (shapeCast S8x1x128 (Host.reduceAdd (mulf (res_main_while0b_v36 V0) (V0 (Proc.devRef .tc main_v21_9))) (constant S_ .f32 0x00000000#32) reducesTo_S8x128x128_S8x128_d1 h_S_) shapeCasts_S8x128_S8x1x128 : (Proc.devRef .tc main_while0b_v62 : DevRef τ sig).ty.Contents (Elt F)) = Cert.ReferenceIdeal.Step.b64 j s := by
  unfold Cert.ReferenceIdeal.Step.b64
  rw [← al_63 h]
  try rfl
set_option maxRecDepth 8192 in
theorem al_65 (h : Holds V0 s j) : (broadcastInDim S8x128x128 ![0, 1, 2] bcast_S8x1x128_S8x128x128_0_1_2 (res_main_while0b_v51 V0) : (Proc.devRef .tc main_while0b_v63 : DevRef τ sig).ty.Contents (Elt F)) = Cert.ReferenceIdeal.Step.b65 j s := by
  unfold Cert.ReferenceIdeal.Step.b65
  rw [← al_52 h]
  try rfl
set_option maxRecDepth 8192 in
theorem al_66 (h : Holds V0 s j) : (mulf (V0 (Proc.devRef .tc main_v21_9)) (broadcastInDim S8x128x128 ![0, 1, 2] bcast_S8x1x128_S8x128x128_0_1_2 (res_main_while0b_v51 V0)) : (Proc.devRef .tc main_while0b_v64 : DevRef τ sig).ty.Contents (Elt F)) = Cert.ReferenceIdeal.Step.b66 j s := by
  unfold Cert.ReferenceIdeal.Step.b66
  rw [← al_65 h, h.f_9]
  try rfl
set_option maxRecDepth 8192 in
theorem al_67 (h : Holds V0 s j) : (mulf (shapeCast S8x1x128 (Host.reduceAdd (mulf (res_main_while0b_v36 V0) (V0 (Proc.devRef .tc main_v21_9))) (constant S_ .f32 0x00000000#32) reducesTo_S8x128x128_S8x128_d1 h_S_) shapeCasts_S8x128_S8x1x128) (res_main_while0b_v51 V0) : (Proc.devRef .tc main_while0b_v65 : DevRef τ sig).ty.Contents (Elt F)) = Cert.ReferenceIdeal.Step.b67 j s := by
  unfold Cert.ReferenceIdeal.Step.b67
  rw [← al_64 h, ← al_52 h]
  try rfl
set_option maxRecDepth 8192 in
theorem al_68 (h : Holds V0 s j) : (constant S_ .f32 0x00000000#32 : (Proc.devRef .tc main_while0b_cst_25 : DevRef τ sig).ty.Contents (Elt F)) = Cert.ReferenceIdeal.Step.b68 j s := by
  unfold Cert.ReferenceIdeal.Step.b68
  rfl
set_option maxRecDepth 8192 in
theorem al_69 (h : Holds V0 s j) : (Host.reduceAdd (mulf (shapeCast S8x1x128 (Host.reduceAdd (mulf (res_main_while0b_v36 V0) (V0 (Proc.devRef .tc main_v21_9))) (constant S_ .f32 0x00000000#32) reducesTo_S8x128x128_S8x128_d1 h_S_) shapeCasts_S8x128_S8x1x128) (res_main_while0b_v51 V0)) (constant S_ .f32 0x00000000#32) reducesTo_S8x1x128_S8x128_d1 h_S_ : (Proc.devRef .tc main_while0b_v66 : DevRef τ sig).ty.Contents (Elt F)) = Cert.ReferenceIdeal.Step.b69 j s := by
  unfold Cert.ReferenceIdeal.Step.b69
  rw [← al_67 h, ← al_68 h]
  try rfl
set_option maxRecDepth 8192 in
theorem al_70 (h : Holds V0 s j) : (broadcastInDim S8x64x128 ![0, 2] bcast_S8x128_S8x64x128_0_2 (Host.reduceAdd (mulf (shapeCast S8x1x128 (Host.reduceAdd (mulf (res_main_while0b_v36 V0) (V0 (Proc.devRef .tc main_v21_9))) (constant S_ .f32 0x00000000#32) reducesTo_S8x128x128_S8x128_d1 h_S_) shapeCasts_S8x128_S8x1x128) (res_main_while0b_v51 V0)) (constant S_ .f32 0x00000000#32) reducesTo_S8x1x128_S8x128_d1 h_S_) : (Proc.devRef .tc main_while0b_v67 : DevRef τ sig).ty.Contents (Elt F)) = Cert.ReferenceIdeal.Step.b70 j s := by
  unfold Cert.ReferenceIdeal.Step.b70
  rw [← al_69 h]
  try rfl
set_option maxRecDepth 8192 in
theorem al_71 (h : Holds V0 s j) : (Host.dotGeneral dot_S8x64x128_S8x64x64_S8x128x64_1_1_2_2_0_0 none (res_main_while0b_v43 V0) (res_main_while0b_v39 V0) : (Proc.devRef .tc main_while0b_v68 : DevRef τ sig).ty.Contents (Elt F)) = Cert.ReferenceIdeal.Step.b71 j s := by
  unfold Cert.ReferenceIdeal.Step.b71
  rw [← al_43 h, ← al_23 h]
  try rfl
set_option maxRecDepth 8192 in
theorem al_72 (h : Holds V0 s j) : (transpose S8x64x128 [0, 2, 1] (Host.dotGeneral dot_S8x64x128_S8x64x64_S8x128x64_1_1_2_2_0_0 none (res_main_while0b_v43 V0) (res_main_while0b_v39 V0)) transposes_S8x128x64_S8x64x128_0_2_1 : (Proc.devRef .tc main_while0b_v69 : DevRef τ sig).ty.Contents (Elt F)) = Cert.ReferenceIdeal.Step.b72 j s := by
  unfold Cert.ReferenceIdeal.Step.b72
  rw [← al_71 h]
  try rfl
set_option maxRecDepth 8192 in
theorem al_73 (h : Holds V0 s j) : (res_main_while0b_v70 V0 : (Proc.devRef .tc main_while0b_v70 : DevRef τ sig).ty.Contents (Elt F)) = Cert.ReferenceIdeal.Step.b73 j s := by
  unfold res_main_while0b_v70 Cert.ReferenceIdeal.Step.b73
  rw [← al_58 h, ← al_72 h]
  try rfl
set_option maxRecDepth 8192 in
theorem al_74 (h : Holds V0 s j) : (Host.dotGeneral dot_S8x64x128_S8x64x128_S8x64x64_2_2_1_1_0_0 none (res_main_while0b_v43 V0) (res_main_while0b_v45 V0) : (Proc.devRef .tc main_while0b_v71 : DevRef τ sig).ty.Contents (Elt F)) = Cert.ReferenceIdeal.Step.b74 j s := by
  unfold Cert.ReferenceIdeal.Step.b74
  rw [← al_43 h, ← al_45 h]
  try rfl
set_option maxRecDepth 8192 in
theorem al_75 (h : Holds V0 s j) : (Host.dotGeneral dot_S8x64x128_S8x64x128_S8x128x128_1_1_2_2_0_0 none (res_main_while0b_v43 V0) (res_main_while0b_v40 V0) : (Proc.devRef .tc main_while0b_v72 : DevRef τ sig).ty.Contents (Elt F)) = Cert.ReferenceIdeal.Step.b75 j s := by
  unfold Cert.ReferenceIdeal.Step.b75
  rw [← al_43 h, ← al_28 h]
  try rfl
set_option maxRecDepth 8192 in
theorem al_76 (h : Holds V0 s j) : (transpose S8x128x128 [0, 2, 1] (Host.dotGeneral dot_S8x64x128_S8x64x128_S8x128x128_1_1_2_2_0_0 none (res_main_while0b_v43 V0) (res_main_while0b_v40 V0)) transposes_S8x128x128_S8x128x128_0_2_1 : (Proc.devRef .tc main_while0b_v73 : DevRef τ sig).ty.Contents (Elt F)) = Cert.ReferenceIdeal.Step.b76 j s := by
  unfold Cert.ReferenceIdeal.Step.b76
  rw [← al_75 h]
  try rfl
set_option maxRecDepth 8192 in
theorem al_77 (h : Holds V0 s j) : (addf (mulf (V0 (Proc.devRef .tc main_v21_9)) (broadcastInDim S8x128x128 ![0, 1, 2] bcast_S8x1x128_S8x128x128_0_1_2 (res_main_while0b_v51 V0))) (transpose S8x128x128 [0, 2, 1] (Host.dotGeneral dot_S8x64x128_S8x64x128_S8x128x128_1_1_2_2_0_0 none (res_main_while0b_v43 V0) (res_main_while0b_v40 V0)) transposes_S8x128x128_S8x128x128_0_2_1) : (Proc.devRef .tc main_while0b_v74 : DevRef τ sig).ty.Contents (Elt F)) = Cert.ReferenceIdeal.Step.b77 j s := by
  unfold Cert.ReferenceIdeal.Step.b77
  rw [← al_66 h, ← al_76 h]
  try rfl
set_option maxRecDepth 8192 in
theorem al_78 (h : Holds V0 s j) : (Host.dotGeneral dot_S8x64x128_S8x128x128_S8x64x128_2_2_1_1_0_0 none (res_main_while0b_v43 V0) (res_main_while0b_v36 V0) : (Proc.devRef .tc main_while0b_v75 : DevRef τ sig).ty.Contents (Elt F)) = Cert.ReferenceIdeal.Step.b78 j s := by
  unfold Cert.ReferenceIdeal.Step.b78
  rw [← al_43 h, ← al_8 h]
  try rfl
set_option maxRecDepth 8192 in
theorem al_79 (h : Holds V0 s j) : (res_main_while0b_v76 V0 : (Proc.devRef .tc main_while0b_v76 : DevRef τ sig).ty.Contents (Elt F)) = Cert.ReferenceIdeal.Step.b79 j s := by
  unfold res_main_while0b_v76 Cert.ReferenceIdeal.Step.b79
  rw [← al_73 h]
  try rfl
set_option maxRecDepth 8192 in
theorem al_80 (h : Holds V0 s j) : (Host.dotGeneral dot_S8x64x128_S8x64x128_S8x128x128_1_1_2_2_0_0 none (res_main_while0b_v76 V0) (res_main_while0b_v37 V0) : (Proc.devRef .tc main_while0b_v77 : DevRef τ sig).ty.Contents (Elt F)) = Cert.ReferenceIdeal.Step.b80 j s := by
  unfold Cert.ReferenceIdeal.Step.b80
  rw [← al_79 h, ← al_13 h]
  try rfl
set_option maxRecDepth 8192 in
theorem al_81 (h : Holds V0 s j) : (transpose S8x128x128 [0, 2, 1] (Host.dotGeneral dot_S8x64x128_S8x64x128_S8x128x128_1_1_2_2_0_0 none (res_main_while0b_v76 V0) (res_main_while0b_v37 V0)) transposes_S8x128x128_S8x128x128_0_2_1 : (Proc.devRef .tc main_while0b_v78 : DevRef τ sig).ty.Contents (Elt F)) = Cert.ReferenceIdeal.Step.b81 j s := by
  unfold Cert.ReferenceIdeal.Step.b81
  rw [← al_80 h]
  try rfl
set_option maxRecDepth 8192 in
theorem al_82 (h : Holds V0 s j) : (addf (addf (mulf (V0 (Proc.devRef .tc main_v21_9)) (broadcastInDim S8x128x128 ![0, 1, 2] bcast_S8x1x128_S8x128x128_0_1_2 (res_main_while0b_v51 V0))) (transpose S8x128x128 [0, 2, 1] (Host.dotGeneral dot_S8x64x128_S8x64x128_S8x128x128_1_1_2_2_0_0 none (res_main_while0b_v43 V0) (res_main_while0b_v40 V0)) transposes_S8x128x128_S8x128x128_0_2_1)) (transpose S8x128x128 [0, 2, 1] (Host.dotGeneral dot_S8x64x128_S8x64x128_S8x128x128_1_1_2_2_0_0 none (res_main_while0b_v76 V0) (res_main_while0b_v37 V0)) transposes_S8x128x128_S8x128x128_0_2_1) : (Proc.devRef .tc main_while0b_v79 : DevRef τ sig).ty.Contents (Elt F)) = Cert.ReferenceIdeal.Step.b82 j s := by
  unfold Cert.ReferenceIdeal.Step.b82
  rw [← al_77 h, ← al_81 h]
  try rfl
set_option maxRecDepth 8192 in
theorem al_83 (h : Holds V0 s j) : (Host.dotGeneral dot_S8x64x128_S8x128x128_S8x64x128_2_2_1_1_0_0 none (res_main_while0b_v76 V0) (res_main_while0b_v36 V0) : (Proc.devRef .tc main_while0b_v80 : DevRef τ sig).ty.Contents (Elt F)) = Cert.ReferenceIdeal.Step.b83 j s := by
  unfold Cert.ReferenceIdeal.Step.b83
  rw [← al_79 h, ← al_8 h]
  try rfl
set_option maxRecDepth 8192 in
theorem al_84 (h : Holds V0 s j) : (broadcastInDim S1x8x64x128 ![1, 2, 3] bcast_S8x64x128_S1x8x64x128_1_2_3 (Host.dotGeneral dot_S8x64x128_S8x128x128_S8x64x128_2_2_1_1_0_0 none (res_main_while0b_v76 V0) (res_main_while0b_v36 V0)) : (Proc.devRef .tc main_while0b_call8_v0 : DevRef τ sig).ty.Contents (Elt F)) = Cert.ReferenceIdeal.Step.b84 j s := by
  unfold Cert.ReferenceIdeal.Step.b84
  rw [← al_83 h]
  try rfl
set_option maxRecDepth 8192 in
theorem al_85 (h : Holds V0 s j) : (constantI S_ 32 0#32 : (Proc.devRef .tc main_while0b_call8_c : DevRef τ sig).ty.Contents (Elt F)) = Cert.ReferenceIdeal.Step.b85 j s := by
  unfold Cert.ReferenceIdeal.Step.b85
  rfl
set_option maxRecDepth 8192 in
theorem al_86 (h : Holds V0 s j) : (constantI S_ 32 0#32 : (Proc.devRef .tc main_while0b_call8_c_0 : DevRef τ sig).ty.Contents (Elt F)) = Cert.ReferenceIdeal.Step.b86 j s := by
  unfold Cert.ReferenceIdeal.Step.b86
  rfl
set_option maxRecDepth 8192 in
theorem al_87 (h : Holds V0 s j) : (constantI S_ 32 0#32 : (Proc.devRef .tc main_while0b_call8_c_1 : DevRef τ sig).ty.Contents (Elt F)) = Cert.ReferenceIdeal.Step.b87 j s := by
  unfold Cert.ReferenceIdeal.Step.b87
  rfl
set_option maxRecDepth 8192 in
theorem al_88 (h : Holds V0 s j) : (Host.dynamicUpdateSlice (V0 (Proc.devRef .tc main_v21_10)) (broadcastInDim S1x8x64x128 ![1, 2, 3] bcast_S8x64x128_S1x8x64x128_1_2_3 (Host.dotGeneral dot_S8x64x128_S8x128x128_S8x64x128_2_2_1_1_0_0 none (res_main_while0b_v76 V0) (res_main_while0b_v36 V0))) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v81 : DevRef τ sig).ty.Contents (Elt F)) = Cert.ReferenceIdeal.Step.b88 j s := by
  unfold Cert.ReferenceIdeal.Step.b88
  rw [← al_84 h, ← al_3 h, ← al_85 h, ← al_86 h, ← al_87 h, h.f_10]
  try rfl
set_option maxRecDepth 8192 in
theorem al_89 (h : Holds V0 s j) : (broadcastInDim S1x8x64x128 ![1, 2, 3] bcast_S8x64x128_S1x8x64x128_1_2_3 (res_main_while0b_v70 V0) : (Proc.devRef .tc main_while0b_call9_v0 : DevRef τ sig).ty.Contents (Elt F)) = Cert.ReferenceIdeal.Step.b89 j s := by
  unfold Cert.ReferenceIdeal.Step.b89
  rw [← al_73 h]
  try rfl
set_option maxRecDepth 8192 in
theorem al_90 (h : Holds V0 s j) : (constantI S_ 32 0#32 : (Proc.devRef .tc main_while0b_call9_c : DevRef τ sig).ty.Contents (Elt F)) = Cert.ReferenceIdeal.Step.b90 j s := by
  unfold Cert.ReferenceIdeal.Step.b90
  rfl
set_option maxRecDepth 8192 in
theorem al_91 (h : Holds V0 s j) : (constantI S_ 32 0#32 : (Proc.devRef .tc main_while0b_call9_c_0 : DevRef τ sig).ty.Contents (Elt F)) = Cert.ReferenceIdeal.Step.b91 j s := by
  unfold Cert.ReferenceIdeal.Step.b91
  rfl
set_option maxRecDepth 8192 in
theorem al_92 (h : Holds V0 s j) : (constantI S_ 32 0#32 : (Proc.devRef .tc main_while0b_call9_c_1 : DevRef τ sig).ty.Contents (Elt F)) = Cert.ReferenceIdeal.Step.b92 j s := by
  unfold Cert.ReferenceIdeal.Step.b92
  rfl
set_option maxRecDepth 8192 in
theorem al_93 (h : Holds V0 s j) : (Host.dynamicUpdateSlice (V0 (Proc.devRef .tc main_v21_11)) (broadcastInDim S1x8x64x128 ![1, 2, 3] bcast_S8x64x128_S1x8x64x128_1_2_3 (res_main_while0b_v70 V0)) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v82 : DevRef τ sig).ty.Contents (Elt F)) = Cert.ReferenceIdeal.Step.b93 j s := by
  unfold Cert.ReferenceIdeal.Step.b93
  rw [← al_89 h, ← al_3 h, ← al_90 h, ← al_91 h, ← al_92 h, h.f_11]
  try rfl
set_option maxRecDepth 8192 in
theorem al_94 (h : Holds V0 s j) : (broadcastInDim S1x8x64x64 ![1, 2, 3] bcast_S8x64x64_S1x8x64x64_1_2_3 (Host.dotGeneral dot_S8x64x128_S8x64x128_S8x64x64_2_2_1_1_0_0 none (res_main_while0b_v43 V0) (res_main_while0b_v45 V0)) : (Proc.devRef .tc main_while0b_call10_v0 : DevRef τ sig).ty.Contents (Elt F)) = Cert.ReferenceIdeal.Step.b94 j s := by
  unfold Cert.ReferenceIdeal.Step.b94
  rw [← al_74 h]
  try rfl
set_option maxRecDepth 8192 in
theorem al_95 (h : Holds V0 s j) : (constantI S_ 32 0#32 : (Proc.devRef .tc main_while0b_call10_c : DevRef τ sig).ty.Contents (Elt F)) = Cert.ReferenceIdeal.Step.b95 j s := by
  unfold Cert.ReferenceIdeal.Step.b95
  rfl
set_option maxRecDepth 8192 in
theorem al_96 (h : Holds V0 s j) : (constantI S_ 32 0#32 : (Proc.devRef .tc main_while0b_call10_c_0 : DevRef τ sig).ty.Contents (Elt F)) = Cert.ReferenceIdeal.Step.b96 j s := by
  unfold Cert.ReferenceIdeal.Step.b96
  rfl
set_option maxRecDepth 8192 in
theorem al_97 (h : Holds V0 s j) : (constantI S_ 32 0#32 : (Proc.devRef .tc main_while0b_call10_c_1 : DevRef τ sig).ty.Contents (Elt F)) = Cert.ReferenceIdeal.Step.b97 j s := by
  unfold Cert.ReferenceIdeal.Step.b97
  rfl
set_option maxRecDepth 8192 in
theorem al_98 (h : Holds V0 s j) : (Host.dynamicUpdateSlice (V0 (Proc.devRef .tc main_v21_12)) (broadcastInDim S1x8x64x64 ![1, 2, 3] bcast_S8x64x64_S1x8x64x64_1_2_3 (Host.dotGeneral dot_S8x64x128_S8x64x128_S8x64x64_2_2_1_1_0_0 none (res_main_while0b_v43 V0) (res_main_while0b_v45 V0))) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x64_S1x8x64x64 : (Proc.devRef .tc main_while0b_v83 : DevRef τ sig).ty.Contents (Elt F)) = Cert.ReferenceIdeal.Step.b98 j s := by
  unfold Cert.ReferenceIdeal.Step.b98
  rw [← al_94 h, ← al_3 h, ← al_95 h, ← al_96 h, ← al_97 h, h.f_12]
  try rfl
set_option maxRecDepth 8192 in
theorem al_99 (h : Holds V0 s j) : (broadcastInDim S1x8x64x128 ![1, 2, 3] bcast_S8x64x128_S1x8x64x128_1_2_3 (Host.dotGeneral dot_S8x64x128_S8x128x128_S8x64x128_2_2_1_1_0_0 none (res_main_while0b_v43 V0) (res_main_while0b_v36 V0)) : (Proc.devRef .tc main_while0b_call11_v0 : DevRef τ sig).ty.Contents (Elt F)) = Cert.ReferenceIdeal.Step.b99 j s := by
  unfold Cert.ReferenceIdeal.Step.b99
  rw [← al_78 h]
  try rfl
set_option maxRecDepth 8192 in
theorem al_100 (h : Holds V0 s j) : (constantI S_ 32 0#32 : (Proc.devRef .tc main_while0b_call11_c : DevRef τ sig).ty.Contents (Elt F)) = Cert.ReferenceIdeal.Step.b100 j s := by
  unfold Cert.ReferenceIdeal.Step.b100
  rfl
set_option maxRecDepth 8192 in
theorem al_101 (h : Holds V0 s j) : (constantI S_ 32 0#32 : (Proc.devRef .tc main_while0b_call11_c_0 : DevRef τ sig).ty.Contents (Elt F)) = Cert.ReferenceIdeal.Step.b101 j s := by
  unfold Cert.ReferenceIdeal.Step.b101
  rfl
set_option maxRecDepth 8192 in
theorem al_102 (h : Holds V0 s j) : (constantI S_ 32 0#32 : (Proc.devRef .tc main_while0b_call11_c_1 : DevRef τ sig).ty.Contents (Elt F)) = Cert.ReferenceIdeal.Step.b102 j s := by
  unfold Cert.ReferenceIdeal.Step.b102
  rfl
set_option maxRecDepth 8192 in
theorem al_103 (h : Holds V0 s j) : (Host.dynamicUpdateSlice (V0 (Proc.devRef .tc main_v21_13)) (broadcastInDim S1x8x64x128 ![1, 2, 3] bcast_S8x64x128_S1x8x64x128_1_2_3 (Host.dotGeneral dot_S8x64x128_S8x128x128_S8x64x128_2_2_1_1_0_0 none (res_main_while0b_v43 V0) (res_main_while0b_v36 V0))) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v84 : DevRef τ sig).ty.Contents (Elt F)) = Cert.ReferenceIdeal.Step.b103 j s := by
  unfold Cert.ReferenceIdeal.Step.b103
  rw [← al_99 h, ← al_3 h, ← al_100 h, ← al_101 h, ← al_102 h, h.f_13]
  try rfl
set_option maxRecDepth 8192 in
theorem al_104 (h : Holds V0 s j) : (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v21_9)) (res_main_while0b_v45 V0)) transposes_S8x128x64_S8x64x128_0_2_1) : (Proc.devRef .tc main_while0b_call12_v0 : DevRef τ sig).ty.Contents (Elt F)) = Cert.ReferenceIdeal.Step.b104 j s := by
  unfold Cert.ReferenceIdeal.Step.b104
  rw [← al_60 h]
  try rfl
set_option maxRecDepth 8192 in
theorem al_105 (h : Holds V0 s j) : (constantI S_ 32 0#32 : (Proc.devRef .tc main_while0b_call12_c : DevRef τ sig).ty.Contents (Elt F)) = Cert.ReferenceIdeal.Step.b105 j s := by
  unfold Cert.ReferenceIdeal.Step.b105
  rfl
set_option maxRecDepth 8192 in
theorem al_106 (h : Holds V0 s j) : (constantI S_ 32 0#32 : (Proc.devRef .tc main_while0b_call12_c_0 : DevRef τ sig).ty.Contents (Elt F)) = Cert.ReferenceIdeal.Step.b106 j s := by
  unfold Cert.ReferenceIdeal.Step.b106
  rfl
set_option maxRecDepth 8192 in
theorem al_107 (h : Holds V0 s j) : (constantI S_ 32 0#32 : (Proc.devRef .tc main_while0b_call12_c_1 : DevRef τ sig).ty.Contents (Elt F)) = Cert.ReferenceIdeal.Step.b107 j s := by
  unfold Cert.ReferenceIdeal.Step.b107
  rfl
set_option maxRecDepth 8192 in
theorem al_108 (h : Holds V0 s j) : (Host.dynamicUpdateSlice (V0 (Proc.devRef .tc main_v21_14)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v21_9)) (res_main_while0b_v45 V0)) transposes_S8x128x64_S8x64x128_0_2_1)) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v85 : DevRef τ sig).ty.Contents (Elt F)) = Cert.ReferenceIdeal.Step.b108 j s := by
  unfold Cert.ReferenceIdeal.Step.b108
  rw [← al_104 h, ← al_3 h, ← al_105 h, ← al_106 h, ← al_107 h, h.f_14]
  try rfl
set_option maxRecDepth 8192 in
theorem al_109 (h : Holds V0 s j) : (broadcastInDim S1x8x64x128 ![1, 2, 3] bcast_S8x64x128_S1x8x64x128_1_2_3 (broadcastInDim S8x64x128 ![0, 2] bcast_S8x128_S8x64x128_0_2 (Host.reduceAdd (mulf (shapeCast S8x1x128 (Host.reduceAdd (mulf (res_main_while0b_v36 V0) (V0 (Proc.devRef .tc main_v21_9))) (constant S_ .f32 0x00000000#32) reducesTo_S8x128x128_S8x128_d1 h_S_) shapeCasts_S8x128_S8x1x128) (res_main_while0b_v51 V0)) (constant S_ .f32 0x00000000#32) reducesTo_S8x1x128_S8x128_d1 h_S_)) : (Proc.devRef .tc main_while0b_call13_v0 : DevRef τ sig).ty.Contents (Elt F)) = Cert.ReferenceIdeal.Step.b109 j s := by
  unfold Cert.ReferenceIdeal.Step.b109
  rw [← al_70 h]
  try rfl
set_option maxRecDepth 8192 in
theorem al_110 (h : Holds V0 s j) : (constantI S_ 32 0#32 : (Proc.devRef .tc main_while0b_call13_c : DevRef τ sig).ty.Contents (Elt F)) = Cert.ReferenceIdeal.Step.b110 j s := by
  unfold Cert.ReferenceIdeal.Step.b110
  rfl
set_option maxRecDepth 8192 in
theorem al_111 (h : Holds V0 s j) : (constantI S_ 32 0#32 : (Proc.devRef .tc main_while0b_call13_c_0 : DevRef τ sig).ty.Contents (Elt F)) = Cert.ReferenceIdeal.Step.b111 j s := by
  unfold Cert.ReferenceIdeal.Step.b111
  rfl
set_option maxRecDepth 8192 in
theorem al_112 (h : Holds V0 s j) : (constantI S_ 32 0#32 : (Proc.devRef .tc main_while0b_call13_c_1 : DevRef τ sig).ty.Contents (Elt F)) = Cert.ReferenceIdeal.Step.b112 j s := by
  unfold Cert.ReferenceIdeal.Step.b112
  rfl
set_option maxRecDepth 8192 in
theorem al_113 (h : Holds V0 s j) : (Host.dynamicUpdateSlice (V0 (Proc.devRef .tc main_v21_15)) (broadcastInDim S1x8x64x128 ![1, 2, 3] bcast_S8x64x128_S1x8x64x128_1_2_3 (broadcastInDim S8x64x128 ![0, 2] bcast_S8x128_S8x64x128_0_2 (Host.reduceAdd (mulf (shapeCast S8x1x128 (Host.reduceAdd (mulf (res_main_while0b_v36 V0) (V0 (Proc.devRef .tc main_v21_9))) (constant S_ .f32 0x00000000#32) reducesTo_S8x128x128_S8x128_d1 h_S_) shapeCasts_S8x128_S8x1x128) (res_main_while0b_v51 V0)) (constant S_ .f32 0x00000000#32) reducesTo_S8x1x128_S8x128_d1 h_S_))) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128 : (Proc.devRef .tc main_while0b_v86 : DevRef τ sig).ty.Contents (Elt F)) = Cert.ReferenceIdeal.Step.b113 j s := by
  unfold Cert.ReferenceIdeal.Step.b113
  rw [← al_109 h, ← al_3 h, ← al_110 h, ← al_111 h, ← al_112 h, h.f_15]
  try rfl

/-! One trip's step of the carried values is `step`, field by field; a counter steps to the next number. -/

theorem step_9 (h : Holds V0 s j) : step_main_v21_9 V0 = (step j s).main_v21_9 := by
  unfold step_main_v21_9 Cert.ReferenceIdeal.Step.step
  show id (addf (addf (mulf (V0 (Proc.devRef .tc main_v21_9)) (broadcastInDim S8x128x128 ![0, 1, 2] bcast_S8x1x128_S8x128x128_0_1_2 (res_main_while0b_v51 V0))) (transpose S8x128x128 [0, 2, 1] (Host.dotGeneral dot_S8x64x128_S8x64x128_S8x128x128_1_1_2_2_0_0 none (res_main_while0b_v43 V0) (res_main_while0b_v40 V0)) transposes_S8x128x128_S8x128x128_0_2_1)) (transpose S8x128x128 [0, 2, 1] (Host.dotGeneral dot_S8x64x128_S8x64x128_S8x128x128_1_1_2_2_0_0 none (res_main_while0b_v76 V0) (res_main_while0b_v37 V0)) transposes_S8x128x128_S8x128x128_0_2_1)) = _
  exact al_82 h
theorem step_10 (h : Holds V0 s j) : step_main_v21_10 V0 = (step j s).main_v21_10 := by
  unfold step_main_v21_10 Cert.ReferenceIdeal.Step.step
  show id (Host.dynamicUpdateSlice (V0 (Proc.devRef .tc main_v21_10)) (broadcastInDim S1x8x64x128 ![1, 2, 3] bcast_S8x64x128_S1x8x64x128_1_2_3 (Host.dotGeneral dot_S8x64x128_S8x128x128_S8x64x128_2_2_1_1_0_0 none (res_main_while0b_v76 V0) (res_main_while0b_v36 V0))) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_88 h
theorem step_11 (h : Holds V0 s j) : step_main_v21_11 V0 = (step j s).main_v21_11 := by
  unfold step_main_v21_11 Cert.ReferenceIdeal.Step.step
  show id (Host.dynamicUpdateSlice (V0 (Proc.devRef .tc main_v21_11)) (broadcastInDim S1x8x64x128 ![1, 2, 3] bcast_S8x64x128_S1x8x64x128_1_2_3 (res_main_while0b_v70 V0)) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_93 h
theorem step_12 (h : Holds V0 s j) : step_main_v21_12 V0 = (step j s).main_v21_12 := by
  unfold step_main_v21_12 Cert.ReferenceIdeal.Step.step
  show id (Host.dynamicUpdateSlice (V0 (Proc.devRef .tc main_v21_12)) (broadcastInDim S1x8x64x64 ![1, 2, 3] bcast_S8x64x64_S1x8x64x64_1_2_3 (Host.dotGeneral dot_S8x64x128_S8x64x128_S8x64x64_2_2_1_1_0_0 none (res_main_while0b_v43 V0) (res_main_while0b_v45 V0))) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x64_S1x8x64x64) = _
  exact al_98 h
theorem step_13 (h : Holds V0 s j) : step_main_v21_13 V0 = (step j s).main_v21_13 := by
  unfold step_main_v21_13 Cert.ReferenceIdeal.Step.step
  show id (Host.dynamicUpdateSlice (V0 (Proc.devRef .tc main_v21_13)) (broadcastInDim S1x8x64x128 ![1, 2, 3] bcast_S8x64x128_S1x8x64x128_1_2_3 (Host.dotGeneral dot_S8x64x128_S8x128x128_S8x64x128_2_2_1_1_0_0 none (res_main_while0b_v43 V0) (res_main_while0b_v36 V0))) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_103 h
theorem step_14 (h : Holds V0 s j) : step_main_v21_14 V0 = (step j s).main_v21_14 := by
  unfold step_main_v21_14 Cert.ReferenceIdeal.Step.step
  show id (Host.dynamicUpdateSlice (V0 (Proc.devRef .tc main_v21_14)) (broadcastInDim S1x8x64x128 ![1, 2, 3] bcast_S8x64x128_S1x8x64x128_1_2_3 (transpose S8x64x128 [0, 2, 1] (Host.dotGeneral dot_S8x128x128_S8x64x128_S8x128x64_2_2_1_1_0_0 none (V0 (Proc.devRef .tc main_v21_9)) (res_main_while0b_v45 V0)) transposes_S8x128x64_S8x64x128_0_2_1)) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_108 h
theorem step_15 (h : Holds V0 s j) : step_main_v21_15 V0 = (step j s).main_v21_15 := by
  unfold step_main_v21_15 Cert.ReferenceIdeal.Step.step
  show id (Host.dynamicUpdateSlice (V0 (Proc.devRef .tc main_v21_15)) (broadcastInDim S1x8x64x128 ![1, 2, 3] bcast_S8x64x128_S1x8x64x128_1_2_3 (broadcastInDim S8x64x128 ![0, 2] bcast_S8x128_S8x64x128_0_2 (Host.reduceAdd (mulf (shapeCast S8x1x128 (Host.reduceAdd (mulf (res_main_while0b_v36 V0) (V0 (Proc.devRef .tc main_v21_9))) (constant S_ .f32 0x00000000#32) reducesTo_S8x128x128_S8x128_d1 h_S_) shapeCasts_S8x128_S8x1x128) (res_main_while0b_v51 V0)) (constant S_ .f32 0x00000000#32) reducesTo_S8x1x128_S8x128_d1 h_S_))) (fun k => (((![res_main_while0b_v35 V0, constantI S_ 32 0#32, constantI S_ 32 0#32, constantI S_ 32 0#32] : Fin 4 → (⟨S_, .i32⟩ : BufTy).Contents (Elt F))) k (Shape.Idx.first h_S_)).toInt) updateFits_S64x8x64x128_S1x8x64x128) = _
  exact al_113 h
theorem step_8 (h : Holds V0 s j) : step_main_v21_8 V0 = constantI S_ 32 (BitVec.ofNat 32 (j + 1)) := by
  unfold step_main_v21_8
  rw [h.n_8]
  funext i
  show BitVec.ofNat 32 j + 1#32 = BitVec.ofNat 32 (j + 1)
  simp only [BitVec.ofNat_add]

set_option maxRecDepth 8192 in
theorem out_main_v23_holds (h : Holds V0 s j) : out_main_v23 V0 = Cert.ReferenceIdeal.Step.R_main_v23 s := by
  unfold out_main_v23 Cert.ReferenceIdeal.Step.R_main_v23
  rw [h.f_10]
  try rfl

set_option maxRecDepth 8192 in
theorem out_main_v25_holds (h : Holds V0 s j) : out_main_v25 V0 = Cert.ReferenceIdeal.Step.R_main_v25 s := by
  unfold out_main_v25 Cert.ReferenceIdeal.Step.R_main_v25
  rw [h.f_11]
  try rfl

set_option maxRecDepth 8192 in
theorem out_main_v27_holds (h : Holds V0 s j) : out_main_v27 V0 = Cert.ReferenceIdeal.Step.R_main_v27 s := by
  unfold out_main_v27 Cert.ReferenceIdeal.Step.R_main_v27
  rw [h.f_12]
  try rfl

set_option maxRecDepth 8192 in
theorem out_main_v29_holds (h : Holds V0 s j) : out_main_v29 V0 = Cert.ReferenceIdeal.Step.R_main_v29 s := by
  unfold out_main_v29 Cert.ReferenceIdeal.Step.R_main_v29
  rw [h.f_13]
  try rfl

set_option maxRecDepth 8192 in
theorem out_main_v31_holds (h : Holds V0 s j) : out_main_v31 V0 = Cert.ReferenceIdeal.Step.R_main_v31 s := by
  unfold out_main_v31 Cert.ReferenceIdeal.Step.R_main_v31
  rw [h.f_14]
  try rfl

set_option maxRecDepth 8192 in
theorem out_main_v33_holds (h : Holds V0 s j) : out_main_v33 V0 = Cert.ReferenceIdeal.Step.R_main_v33 s := by
  unfold out_main_v33 Cert.ReferenceIdeal.Step.R_main_v33
  rw [h.f_15]
  try rfl

/-- One trip keeps the valuation holding: `step` of the state, the same set-up values, the next number. -/
theorem holds_step (h : Holds V0 s j) : Holds (STEP V0) (step j s) (j + 1) where
  f_9 := (STEP_main_v21_9 V0).trans (step_9 h)
  f_10 := (STEP_main_v21_10 V0).trans (step_10 h)
  f_11 := (STEP_main_v21_11 V0).trans (step_11 h)
  f_12 := (STEP_main_v21_12 V0).trans (step_12 h)
  f_13 := (STEP_main_v21_13 V0).trans (step_13 h)
  f_14 := (STEP_main_v21_14 V0).trans (step_14 h)
  f_15 := (STEP_main_v21_15 V0).trans (step_15 h)
  n_8 := (STEP_main_v21_8 V0).trans (step_8 h)
  f_0 := (STEP_main_v21_0 V0).trans h.f_0
  f_1 := (STEP_main_v21_1 V0).trans h.f_1
  f_2 := (STEP_main_v21_2 V0).trans h.f_2
  f_3 := (STEP_main_v21_3 V0).trans h.f_3
  f_4 := (STEP_main_v21_4 V0).trans h.f_4
  f_5 := (STEP_main_v21_5 V0).trans h.f_5
  f_6 := (STEP_main_v21_6 V0).trans h.f_6
  f_7 := (STEP_main_v21_7 V0).trans h.f_7

/-- The state the first trip starts from, of the memory the run starts from. -/
abbrev initState (m : (ℓ : Loc nD τ sig) → Buf (Elt F) ℓ) (c : Dev nD) : State F :=
  init (m ((c.tc : Thread nD τ).loc main_arg6)) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg7))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 64 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v23) = Cert.ReferenceIdeal.Step.R_main_v23 (it c 64)
      ∧ r.2.mem ((c.tc : Thread nD τ).loc main_v25) = Cert.ReferenceIdeal.Step.R_main_v25 (it c 64)
      ∧ r.2.mem ((c.tc : Thread nD τ).loc main_v27) = Cert.ReferenceIdeal.Step.R_main_v27 (it c 64)
      ∧ r.2.mem ((c.tc : Thread nD τ).loc main_v29) = Cert.ReferenceIdeal.Step.R_main_v29 (it c 64)
      ∧ r.2.mem ((c.tc : Thread nD τ).loc main_v31) = Cert.ReferenceIdeal.Step.R_main_v31 (it c 64)
      ∧ r.2.mem ((c.tc : Thread nD τ).loc main_v33) = Cert.ReferenceIdeal.Step.R_main_v33 (it c 64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
    have hk := holds_iter m c (it c) (h0 c) (hs c) 64
    ⟨(h c).1.trans (out_main_v23_holds hk), (h c).2.1.trans (out_main_v25_holds hk), (h c).2.2.1.trans (out_main_v27_holds hk), (h c).2.2.2.1.trans (out_main_v29_holds hk), (h c).2.2.2.2.1.trans (out_main_v31_holds hk), (h c).2.2.2.2.2.1.trans (out_main_v33_holds hk), (h c).2.2.2.2.2.2.1, (h c).2.2.2.2.2.2.2.1, (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2⟩) (Value.run m ρ)

end Cert.ReferenceIdeal.StepRun

end
-- ==== Proof.Recurrence.RefValue.lean ====
/-
  What the reference computes: by induction over the trips, the gradient of the state is the reverse recurrence of
  Slice.lean, and the stacks' last entries are the six gradients of their chunks. The results are these stacks with the
  heads' lanes side by side.
-/
module

public import proofs.«01_k».proof.Proof.Recurrence.Trip
public import proofs.«01_k».proof.Proof.RefRun

@[expose] public section

set_option maxRecDepth 16384

noncomputable section

namespace Cert.ReferenceIdeal.Trip

open Cert.ReferenceIdeal Cert.ReferenceIdeal.Gen Cert.ReferenceIdeal.Step Idealize.ShloMosaic Idealize.ShloMosaic.TcCoe Cert.Gdn

/-- A state before trip `j`: the stacks it reads are the arrays `A`, the gradient of the state is the recurrence after
    `j` chunks, and the chunks from `64 − j` on have their gradients. -/
structure Inv (A : Arrays) (s : State Ideal) (j : ℕ) : Prop where
  input : ∀ h (n : Fin 64), slice s h n = A.chunk h n.val
  grad : ∀ h, grad s h = back (A.chunk h) j
  dw : ∀ (h : Fin 8) (n : Fin 64) (c : Fin 64) (d : Fin 128), 64 - j ≤ n.val → s.main_v21_10 (ix4 n h c d) = (A.chunk h n.val).dw (A.leaving h n.val) c d
  du : ∀ (h : Fin 8) (n : Fin 64) (c : Fin 64) (d : Fin 128), 64 - j ≤ n.val → s.main_v21_11 (ix4 n h c d) = (A.chunk h n.val).du (A.leaving h n.val) c d
  dqk : ∀ (h : Fin 8) (n : Fin 64) (c : Fin 64) (d : Fin 64), 64 - j ≤ n.val → s.main_v21_12 (ix4 n h c d) = (A.chunk h n.val).dqk c d
  dqd : ∀ (h : Fin 8) (n : Fin 64) (c : Fin 64) (d : Fin 128), 64 - j ≤ n.val → s.main_v21_13 (ix4 n h c d) = (A.chunk h n.val).dqd c d
  dkd : ∀ (h : Fin 8) (n : Fin 64) (c : Fin 64) (d : Fin 128), 64 - j ≤ n.val → s.main_v21_14 (ix4 n h c d) = (A.chunk h n.val).dkd (A.leaving h n.val) c d
  dg : ∀ (h : Fin 8) (n : Fin 64) (c : Fin 64) (d : Fin 128), 64 - j ≤ n.val → s.main_v21_15 (ix4 n h c d) = (A.chunk h n.val).dg (A.leaving h n.val) d

theorem inv_step {A : Arrays} {s : State Ideal} {j : ℕ} (hj : j < 64) (hi : Inv A s j) : Inv A (step j s) (j + 1) where
  input := hi.input
  grad h := by
    funext d e
    refine Eq.trans (congrFun (step_main_v21_9 j s) _) ?_
    rw [next_at j hj, hi.input, hi.grad]
    rfl
  dw h n c d hn := by
    rw [step_main_v21_10]
    have e := stack_write s.main_v21_10 (b84 j s) _ (63 - j) (by omega) (starts j hj s (b85 j s) (b86 j s) (b87 j s) rfl rfl rfl)
      updateFits_S64x8x64x128_S1x8x64x128 n h c d
    refine Eq.trans e ?_
    split
    · rename_i hnj
      have e' : b84 j s (ix4 0 h c d) = b83 j s (ix3 h c d) := by pointwise [b84]
      have hn' : n = chunkAt j hj := Fin.ext hnj
      rw [e', dw_at j hj, hi.input, hi.grad, hn']
      rw [Arrays.leaving, show 63 - (chunkAt j hj).val = j by simp; omega]
    · exact hi.dw h n c d (by omega)
  du h n c d hn := by
    rw [step_main_v21_11]
    have e := stack_write s.main_v21_11 (b89 j s) _ (63 - j) (by omega) (starts j hj s (b90 j s) (b91 j s) (b92 j s) rfl rfl rfl)
      updateFits_S64x8x64x128_S1x8x64x128 n h c d
    refine Eq.trans e ?_
    split
    · rename_i hnj
      have e' : b89 j s (ix4 0 h c d) = b73 j s (ix3 h c d) := by pointwise [b89]
      have hn' : n = chunkAt j hj := Fin.ext hnj
      rw [e', dv_at j hj, hi.input, hi.grad, hn']
      rw [Arrays.leaving, show 63 - (chunkAt j hj).val = j by simp; omega]
    · exact hi.du h n c d (by omega)
  dqk h n c d hn := by
    rw [step_main_v21_12]
    have e := stack_write s.main_v21_12 (b94 j s) _ (63 - j) (by omega) (starts j hj s (b95 j s) (b96 j s) (b97 j s) rfl rfl rfl)
      updateFits_S64x8x64x64_S1x8x64x64 n h c d
    refine Eq.trans e ?_
    split
    · rename_i hnj
      have e' : b94 j s (ix4 0 h c d) = b74 j s (ix3 h c d) := by pointwise [b94]
      have hn' : n = chunkAt j hj := Fin.ext hnj
      rw [e', dqk_at j hj, hi.input, hn']

    · exact hi.dqk h n c d (by omega)
  dqd h n c d hn := by
    rw [step_main_v21_13]
    have e := stack_write s.main_v21_13 (b99 j s) _ (63 - j) (by omega) (starts j hj s (b100 j s) (b101 j s) (b102 j s) rfl rfl rfl)
      updateFits_S64x8x64x128_S1x8x64x128 n h c d
    refine Eq.trans e ?_
    split
    · rename_i hnj
      have e' : b99 j s (ix4 0 h c d) = b78 j s (ix3 h c d) := by pointwise [b99]
      have hn' : n = chunkAt j hj := Fin.ext hnj
      rw [e', dqd_at j hj, hi.input, hn']

    · exact hi.dqd h n c d (by omega)
  dkd h n c d hn := by
    rw [step_main_v21_14]
    have e := stack_write s.main_v21_14 (b104 j s) _ (63 - j) (by omega) (starts j hj s (b105 j s) (b106 j s) (b107 j s) rfl rfl rfl)
      updateFits_S64x8x64x128_S1x8x64x128 n h c d
    refine Eq.trans e ?_
    split
    · rename_i hnj
      have e' : b104 j s (ix4 0 h c d) = b60 j s (ix3 h c d) := by pointwise [b104]
      have hn' : n = chunkAt j hj := Fin.ext hnj
      rw [e', dkd_at j hj, hi.input, hi.grad, hn']
      rw [Arrays.leaving, show 63 - (chunkAt j hj).val = j by simp; omega]
    · exact hi.dkd h n c d (by omega)
  dg h n c d hn := by
    rw [step_main_v21_15]
    have e := stack_write s.main_v21_15 (b109 j s) _ (63 - j) (by omega) (starts j hj s (b110 j s) (b111 j s) (b112 j s) rfl rfl rfl)
      updateFits_S64x8x64x128_S1x8x64x128 n h c d
    refine Eq.trans e ?_
    split
    · rename_i hnj
      have e' : b109 j s (ix4 0 h c d) = b70 j s (ix3 h c d) := by pointwise [b109]
      have hn' : n = chunkAt j hj := Fin.ext hnj
      rw [e', dg_at j hj, hi.input, hi.grad, hn']
      rw [Arrays.leaving, show 63 - (chunkAt j hj).val = j by simp; omega]
    · exact hi.dg h n c d (by omega)

variable (m : (ℓ : Loc nD τ sig) → Buf (Elt Ideal) ℓ) (c : Dev nD)

/-- The arrays in the memory a run starts from. -/
def arrays : Arrays where
  wd := m ((c : Thread nD τ).loc main_arg0)
  uv := m ((c : Thread nD τ).loc main_arg1)
  qk := m ((c : Thread nD τ).loc main_arg2)
  qd := m ((c : Thread nD τ).loc main_arg3)
  kd := m ((c : Thread nD τ).loc main_arg4)
  gb := m ((c : Thread nD τ).loc main_arg5)
  st := m ((c : Thread nD τ).loc main_arg6)
  o := m ((c : Thread nD τ).loc main_arg7)

theorem row_eq (n a : Fin 64) : (⟨n.val * 64 + a.val, by omega⟩ : Fin 4096) = Arrays.row n.val a := Fin.ext (by simp; omega)
theorem at_eq (n a : Fin 64) (h : Fin 8) (b : Fin 128) : (ix2 (⟨n.val * 64 + a.val, by omega⟩ : Fin 4096) (⟨h.val * 128 + b.val, by omega⟩ : Fin 1024))
    = ix2 (Arrays.row n.val a) (Arrays.lane h b) := by
  rw [row_eq, show (⟨h.val * 128 + b.val, by omega⟩ : Fin 1024) = Arrays.lane h b from Fin.ext (by simp; omega)]
theorem at_eq64 (n a : Fin 64) (h : Fin 8) (b : Fin 64) : (ix2 (⟨n.val * 64 + a.val, by omega⟩ : Fin 4096) (⟨h.val * 64 + b.val, by omega⟩ : Fin 512))
    = ix2 (Arrays.row n.val a) (Arrays.lane64 h b) := by
  rw [row_eq, show (⟨h.val * 64 + b.val, by omega⟩ : Fin 512) = Arrays.lane64 h b from Fin.ext (by simp; omega)]

theorem inv_init : Inv (arrays m c) (StepRun.initState m c) 0 where
  input h n := by
    unfold StepRun.initState init slice Arrays.chunk arrays
    congr 1
    all_goals funext a b
    all_goals pointwise [A_main_v0, A_main_v1, A_main_v2, A_main_v3, A_main_v4, A_main_v5, A_main_v6, A_main_v7, A_main_v8, A_main_v9, A_main_v10, A_main_v11, A_main_v13, A_main_v14]
    · exact congrArg (m ((c : Thread nD τ).loc main_arg0)) (at_eq n a h b)
    · exact congrArg (m ((c : Thread nD τ).loc main_arg1)) (at_eq n a h b)
    · exact congrArg (m ((c : Thread nD τ).loc main_arg2)) (at_eq64 n a h b)
    · exact congrArg (m ((c : Thread nD τ).loc main_arg3)) (at_eq n a h b)
    · exact congrArg (m ((c : Thread nD τ).loc main_arg4)) (at_eq n a h b)
    · exact congrArg (m ((c : Thread nD τ).loc main_arg5)) (at_eq n a h b)
    · exact congrArg (m ((c : Thread nD τ).loc main_arg6)) (by
        rw [show (⟨n.val % 64, Nat.mod_lt _ (by decide)⟩ : Fin 64) = n from Fin.ext (Nat.mod_eq_of_lt n.isLt)])
    · exact congrArg (m ((c : Thread nD τ).loc main_arg7)) (at_eq n a h b)
  grad h := by
    unfold StepRun.initState init Trip.grad back
    pointwise [K_main_v12, K_main_cst]
  dw h n c d hn := absurd hn (by omega)
  du h n c d hn := absurd hn (by omega)
  dqk h n c d hn := absurd hn (by omega)
  dqd h n c d hn := absurd hn (by omega)
  dkd h n c d hn := absurd hn (by omega)
  dg h n c d hn := absurd hn (by omega)

/-- The loop's states. -/
def states : ℕ → State Ideal
  | 0 => StepRun.initState m c
  | n + 1 => step n (states n)

theorem inv : ∀ j, j ≤ 64 → Inv (arrays m c) (states m c j) j
  | 0, _ => inv_init m c
  | j + 1, hj => inv_step (by omega) (inv j (by omega))

theorem result_dwd : R_main_v23 (states m c 64) = (arrays m c).dwd := by
  funext y
  idx_vars y

  pointwise [R_main_v23]
  exact (inv m c 64 le_rfl).dw _ _ _ _ (by simp)

theorem result_duv : R_main_v25 (states m c 64) = (arrays m c).duv := by
  funext y
  idx_vars y

  pointwise [R_main_v25]
  exact (inv m c 64 le_rfl).du _ _ _ _ (by simp)

theorem result_dqk : R_main_v27 (states m c 64) = (arrays m c).dqk := by
  funext y
  idx_vars y

  pointwise [R_main_v27]
  exact (inv m c 64 le_rfl).dqk _ _ _ _ (by simp)

theorem result_dqd : R_main_v29 (states m c 64) = (arrays m c).dqd := by
  funext y
  idx_vars y

  pointwise [R_main_v29]
  exact (inv m c 64 le_rfl).dqd _ _ _ _ (by simp)

theorem result_dkd : R_main_v31 (states m c 64) = (arrays m c).dkd := by
  funext y
  idx_vars y

  pointwise [R_main_v31]
  exact (inv m c 64 le_rfl).dkd _ _ _ _ (by simp)

theorem result_dgb : R_main_v33 (states m c 64) = (arrays m c).dgb := by
  funext y
  idx_vars y

  pointwise [R_main_v33]
  exact (inv m c 64 le_rfl).dg _ _ _ _ (by simp)

end Cert.ReferenceIdeal.Trip

end
-- ==== Proof.Recurrence.Algebraic.lean ====
/- Kernel and reference put together. Both ends are the same functions of the eight argument arrays: the kernel's result
   arrays by `array_dwd` … `array_dgb`, the reference's by `result_dwd` … `result_dgb`. -/
module

public import proofs.«01_k».proof.Defs
public import proofs.«01_k».proof.Proof.Recurrence.KernelValue
public import proofs.«01_k».proof.Proof.Recurrence.RefValue
public import proofs.«01_k».proof.Proof.Gen.KernelIdeal.Value

@[expose] public section

noncomputable section

namespace Cert.Gdn

open Idealize.ShloMosaic Idealize.ShloMosaic.TcCoe Idealize.SL.Sem

/-- The reference leaves its arguments alone and declares no semaphore. -/
theorem frame_reference : Cert.quiescent_ReferenceIdeal := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.StepRun.run_iter m ρ (fun c => Cert.ReferenceIdeal.Trip.states m c) (fun _ => rfl) (fun _ _ => rfl))

/-- The six gradients of the recurrence: the kernel's are the reference's, over the extended reals. -/
theorem algebraic : Cert.algebraic_KernelIdeal_ReferenceIdeal := fun m g m' g' _ hm => by
  have e : ∀ c, Cert.ReferenceIdeal.Trip.arrays m' c = Cert.KernelIdeal.Chunk.arrays m c := fun c => by
    obtain ⟨h0, h1, h2, h3, h4, h5, h6, h7⟩ := hm c
    unfold Cert.ReferenceIdeal.Trip.arrays Cert.KernelIdeal.Chunk.arrays
    exact congr (congr (congr (congr (congr (congr (congr (congrArg Arrays.mk h0) h1) h2) h3) h4) h5) h6) h7
  refine ⟨fun c => (Cert.KernelIdeal.Chunk.arrays m c).dwd, fun c => (Cert.KernelIdeal.Chunk.arrays m c).duv,
    fun c => (Cert.KernelIdeal.Chunk.arrays m c).dqk, fun c => (Cert.KernelIdeal.Chunk.arrays m c).dqd,
    fun c => (Cert.KernelIdeal.Chunk.arrays m c).dkd, fun c => (Cert.KernelIdeal.Chunk.arrays m c).dgb, ?_, ?_⟩
  · refine (θ_run Cert.KernelIdeal.defs _ _).mono (fun _ h c => ?_) (Cert.KernelIdeal.Value.run_blocks m g)
    obtain ⟨h0, h1, h2, h3, h4, h5, hk⟩ := h c
    exact ⟨h0.trans (Cert.KernelIdeal.Chunk.array_dwd m c), h1.trans (Cert.KernelIdeal.Chunk.array_duv m c),
      h2.trans (Cert.KernelIdeal.Chunk.array_dqk m c), h3.trans (Cert.KernelIdeal.Chunk.array_dqd m c),
      h4.trans (Cert.KernelIdeal.Chunk.array_dkd m c), h5.trans (Cert.KernelIdeal.Chunk.array_dgb m c), hk⟩
  · refine (θ_run Cert.ReferenceIdeal.defs _ _).mono (fun _ h c => ?_)
      (Cert.ReferenceIdeal.StepRun.run_iter m' g' (fun c => Cert.ReferenceIdeal.Trip.states m' c) (fun _ => rfl) (fun _ _ => rfl))
    obtain ⟨h0, h1, h2, h3, h4, h5, hk⟩ := h c
    exact ⟨h0.trans ((Cert.ReferenceIdeal.Trip.result_dwd m' c).trans (congrArg Arrays.dwd (e c))),
      h1.trans ((Cert.ReferenceIdeal.Trip.result_duv m' c).trans (congrArg Arrays.duv (e c))),
      h2.trans ((Cert.ReferenceIdeal.Trip.result_dqk m' c).trans (congrArg Arrays.dqk (e c))),
      h3.trans ((Cert.ReferenceIdeal.Trip.result_dqd m' c).trans (congrArg Arrays.dqd (e c))),
      h4.trans ((Cert.ReferenceIdeal.Trip.result_dkd m' c).trans (congrArg Arrays.dkd (e c))),
      h5.trans ((Cert.ReferenceIdeal.Trip.result_dgb m' c).trans (congrArg Arrays.dgb (e c))), hk⟩

end Cert.Gdn

end
-- ==== Proof.Products.DuMain.lean ====
/- The gradient of the input projection's rows. -/
module

public import proofs.«01_k».proof.Defs
public import proofs.«01_k».proof.Proof.Gen.Kernel2Ideal.Value
public import proofs.«01_k».proof.Proof.Gen.Reference2Ideal.Run
public import Idealize.ShloMosaic.Lib.Pointwise
public import Idealize.ShloMosaic.Lib.Pipeline.ValueKit

@[expose] public section

set_option maxRecDepth 16384

noncomputable section

namespace Cert.Kernel2Ideal.Product

open Cert.Kernel2Ideal Cert.Kernel2Ideal.Gen Idealize.ShloMosaic Idealize.ShloMosaic.TcCoe Idealize.SL.Sem

/-- The product of two blocks, at one place. -/
def part (a : Vec Ideal S512x2048 .bf16) (b : Vec Ideal S2048x2048 .bf16) (j : S512x2048.Idx) : Elt Ideal .f32 :=
  ∑ k : Fin 2048, a (ix2 (j 0) k) * b (ix2 (j 1) k)

theorem added (acc : Vec Ideal S512x2048 .f32) (a : Vec Ideal S512x2048 .bf16) (b : Vec Ideal S2048x2048 .bf16) (j : S512x2048.Idx) :
    k0_pay2 acc a b j = acc j + part a b j := by
  idx_vars j
  pointwise [k0_pay2, part]

theorem zero (j : S512x2048.Idx) : k0_pay1 (F := Ideal) j = 0 := by
  pointwise [k0_pay1]

variable (m : (ℓ : Loc nD τ sig) → Buf (Elt Ideal) ℓ) (c : Dev nD)

theorem idx : ∀ t : Fin cfg0.N, win0_0.index t = ![t.val / 7, t.val % 7] ∧ win0_1.index t = ![0, t.val % 7]
    ∧ win0_2.index t = ![t.val / 7, 0] ∧ win0_3.index t = ![t.val / 7, 0] :=
  (by decide +kernel : ∀ t : Fin grid0.N, win0_0.index t = ![t.val / 7, t.val % 7] ∧ win0_1.index t = ![0, t.val % 7]
    ∧ win0_2.index t = ![t.val / 7, 0] ∧ win0_3.index t = ![t.val / 7, 0])

theorem last (t : Fin cfg0.N) (h : t.val % 7 = 6) : (outsAt0 m c t.val t.isLt).1 = k0_pay3 (outsAt0 m c t.val t.isLt).2 (iblk m c 2 t) := by
  rw [outsAt0_C m c t (by omega) h]
  frame_out

def value (a : Vec Ideal S4096x14336 .bf16) (w : Vec Ideal S2048x14336 .bf16) (z : Vec Ideal S4096x2048 .f32) :
    Vec Ideal S4096x2048 .f32 :=
  fun y => z y + ∑ k : Fin 14336, a (ix2 (y 0) k) * w (ix2 (y 1) k)

theorem step (t : Fin cfg0.N) (h : ¬t.val % 7 = 0) (j : S512x2048.Idx) : (outsAt0 m c t.val t.isLt).2 j =
    (outsAt0 m c (t.val - 1) (by omega)).2 j + part (iblk m c 0 t) (iblk m c 1 t) j := by
  by_cases h1 : t.val % 7 = 6
  · rw [outsAt0_C m c t h h1]; frame_out; rw [added]; exact congrArg (· + part _ _ j) (congrFun (Memref.IsWhole.read_unread _ _) j)
  · rw [outsAt0_B m c t h h1]; frame_out; rw [added]; exact congrArg (· + part _ _ j) (congrFun (Memref.IsWhole.read_unread _ _) j)

theorem start (t : Fin cfg0.N) (h : t.val % 7 = 0) (j : S512x2048.Idx) : (outsAt0 m c t.val t.isLt).2 j =
    0 + part (iblk m c 0 t) (iblk m c 1 t) j := by
  rw [outsAt0_A m c t h (by omega)]; frame_out; rw [added, zero]

theorem array : (dats m 0 c).arrAt 3 cfg0.N = value (m ((c : Thread nD τ).loc main_arg0))
    (m ((c : Thread nD τ).loc main_arg1)) (m ((c : Thread nD τ).loc main_arg2)) :=
  (dats m 0 c).arrAt_eq_of_covers 3 _ (by decide +kernel) fun t hf y => by
    obtain ⟨e0, e1, e2, e3⟩ := idx t
    have hr : t.val % 7 = 6 := (flush0_3 t).mp hf
    blk_simp
    rw [after0_3, last m c t hr]
    change (outsAt0 m c t.val t.isLt).2 y + iblk m c 2 t y = _
    rw [Pipeline.eq_sum_fin_of_reset_step_apply_of_flush (fun n h => (outsAt0 m c n h).2) 7 (fun _ => 0) _
      (start m c) (step m c) t hr y]
    refine (add_comm _ _).trans (congrArg₂ (· + ·) ?_ ((zero_add _).trans ?_))
    · blk_ext [iblk, e2, e3]
    · unfold part
      refine Fin.sum_mul_add_congr fun s k hl => ?_
      obtain ⟨f0, f1, -, -⟩ := idx ⟨7 * (t.val / 7) + s.val, Pipeline.run_point_lt_of_flush t hr s⟩
      have hs := s.isLt
      have g0 : (7 * (t.val / 7) + s.val) / 7 = t.val / 7 := by omega
      have g1 : (7 * (t.val / 7) + s.val) % 7 = s.val := by omega
      rw [g0, g1] at f0
      rw [g1] at f1
      refine congrArg₂ (· * ·) ?_ ?_
      · blk_ext [iblk, f0, e3]
      · blk_ext [iblk, f1, e3]

end Cert.Kernel2Ideal.Product

namespace Cert.DuMain

open Idealize.ShloMosaic Idealize.ShloMosaic.TcCoe Idealize.SL.Sem

/-- The reference leaves its arguments alone and declares no semaphore. -/
theorem frame_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run m ρ)

open Cert.Reference2Ideal Cert.Reference2Ideal.Gen in
/-- The reference's result is the same function of the arguments. -/
theorem result (a : Vec Ideal S4096x14336 .bf16) (w : Vec Ideal S2048x14336 .bf16) (z : Vec Ideal S4096x2048 .f32) :
    addf (F := Ideal) z (Host.dotGeneral dot_S4096x14336_S2048x14336_S4096x2048_1_1_0_0_n_n none (extf .f32 a bitsLt_bf16_f32)
      (extf .f32 w bitsLt_bf16_f32)) = Cert.Kernel2Ideal.Product.value a w z := by
  funext y
  idx_vars y
  pointwise [Cert.Kernel2Ideal.Product.value]

/-- Kernel and reference leave the same array. -/
theorem algebraic : Cert.algebraic_Kernel2Ideal_Reference2Ideal := fun m g m' g' _ hm => by
  refine ⟨fun c => Cert.Kernel2Ideal.Product.value (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2)), ?_, ?_⟩
  · refine (θ_run Cert.Kernel2Ideal.defs _ _).mono (fun _ h c => ?_) (Cert.Kernel2Ideal.Value.run_blocks m g)
    exact ⟨(h c).1.trans (Cert.Kernel2Ideal.Product.array m c), (h c).2⟩
  · refine (θ_run Cert.Reference2Ideal.defs _ _).mono (fun _ h c => ?_) (Cert.Reference2Ideal.Value.run m' g')
    obtain ⟨h0, h1, h2⟩ := hm c
    refine ⟨(h c).1.trans ?_, (h c).2⟩
    rw [h0, h1, h2]
    exact result _ _ _

end Cert.DuMain

end
-- ==== Proof.Products.DwMain0.lean ====
/- The gradient of the first 1024 rows of the main projection's weight. -/
module

public import proofs.«01_k».proof.Defs
public import proofs.«01_k».proof.Proof.Gen.Kernel3Ideal.Value
public import proofs.«01_k».proof.Proof.Gen.Reference3Ideal.Run
public import Idealize.ShloMosaic.Lib.Pointwise
public import Idealize.ShloMosaic.Lib.Pipeline.ValueKit

@[expose] public section

set_option maxRecDepth 16384

noncomputable section

namespace Cert.Kernel3Ideal.Product

open Cert.Kernel3Ideal Cert.Kernel3Ideal.Gen Idealize.ShloMosaic Idealize.ShloMosaic.TcCoe Idealize.SL.Sem

/-- The rows 0 to 1023 of the product of the first array's transpose with the second array. -/
def value (a : Vec Ideal S4096x2048 .bf16) (b : Vec Ideal S4096x14336 .bf16) : Vec Ideal S1024x14336 .f32 :=
  fun y => ∑ k : Fin 4096, a (ix2 k ⟨(y 0).val, (y 0).isLt.trans (by decide)⟩) * b (ix2 k (y 1))

/-- The product of two blocks, at one place. -/
def part (a : Vec Ideal S1024x1024 .bf16) (b : Vec Ideal S1024x2048 .bf16) (j : S1024x2048.Idx) : Elt Ideal .f32 :=
  ∑ k : Fin 1024, a (ix2 k (j 0)) * b (ix2 k (j 1))

/-- A point adds the product of its two blocks to the accumulator. -/
theorem added (acc : Vec Ideal S1024x2048 .f32) (a : Vec Ideal S1024x1024 .bf16) (b : Vec Ideal S1024x2048 .bf16) (j : S1024x2048.Idx) :
    k0_pay2 acc a b j = acc j + part a b j := by
  idx_vars j
  pointwise [k0_pay2, part]

/-- The accumulator starts at zero. -/
theorem zero (j : S1024x2048.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val % 4, 0] ∧ win0_1.index t = ![t.val % 4, t.val / 4] ∧ win0_2.index t = ![0, t.val / 4] :=
  (by decide +kernel : ∀ t : Fin grid0.N, win0_0.index t = ![t.val % 4, 0] ∧ win0_1.index t = ![t.val % 4, t.val / 4] ∧ win0_2.index t = ![0, t.val / 4])

/-- The first point of a run leaves its own product in the accumulator. -/
theorem start (t : Fin cfg0.N) (h : t.val % 4 = 0) (j : S1024x2048.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 4 = 0) (j : S1024x2048.Idx) : (outsAt0 m c t.val t.isLt).2 j =
    (outsAt0 m c (t.val - 1) (by omega)).2 j + part (iblk m c 0 t) (iblk m c 1 t) j := by
  by_cases h1 : t.val % 4 = 3
  · rw [outsAt0_C m c t h h1]; frame_out; rw [added]; exact congrArg (· + part _ _ j) (congrFun (Memref.IsWhole.read_unread _ _) j)
  · rw [outsAt0_B m c t h h1]; frame_out; rw [added]; exact congrArg (· + part _ _ j) (congrFun (Memref.IsWhole.read_unread _ _) j)

/-- At the last point of a run the output block is the accumulator. -/
theorem last (t : Fin cfg0.N) (h : t.val % 4 = 3) : (outsAt0 m c t.val t.isLt).1 = (outsAt0 m c t.val t.isLt).2 := by
  rw [outsAt0_C m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 4 = 3 := (flush0_2 t).mp hf
    blk_simp
    rw [after0_2, last m c t hr]
    rw [Pipeline.eq_sum_fin_of_reset_step_apply_of_flush (fun n h => (outsAt0 m c n h).2) 4 (fun _ => 0) _
      (start m c) (step m c) t hr y]
    refine (zero_add (M := Elt Ideal .f32) _).trans ?_
    unfold part
    refine Fin.sum_mul_add_congr fun s k hl => ?_
    obtain ⟨f0, f1, -⟩ := idx ⟨4 * (t.val / 4) + s.val, Pipeline.run_point_lt_of_flush t hr s⟩
    have hs := s.isLt
    have g0 : (4 * (t.val / 4) + s.val) / 4 = t.val / 4 := by omega
    have g1 : (4 * (t.val / 4) + s.val) % 4 = s.val := by omega
    rw [g1] at f0
    rw [g0, g1] at f1
    refine congrArg₂ (· * ·) ?_ ?_
    · blk_ext [iblk, f0, e2]
    · blk_ext [iblk, f1, e2]

end Cert.Kernel3Ideal.Product

namespace Cert.DwMain0

open Idealize.ShloMosaic Idealize.ShloMosaic.TcCoe Idealize.SL.Sem

/-- The reference leaves its arguments alone and declares no semaphore. -/
theorem frame_reference : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

open Cert.Reference3Ideal Cert.Reference3Ideal.Gen in
/-- The reference's result is the same function of the arguments. -/
theorem result (a : Vec Ideal S4096x2048 .bf16) (b : Vec Ideal S4096x14336 .bf16) :
    (extractStridedSlice S1024x14336 ![0, 0] (transpose S2048x14336 [1, 0] (Host.dotGeneral (F := Ideal) (φ₁ := .f32) dot_S4096x14336_S4096x2048_S14336x2048_0_0_1_1_n_n none (extf .f32 b bitsLt_bf16_f32) (extf .f32 a bitsLt_bf16_f32)) transposes_S14336x2048_S2048x14336_1_0) slices_S2048x14336_S1024x14336_0_0 : Vec Ideal S1024x14336 .f32) = Cert.Kernel3Ideal.Product.value a b := by
  funext y
  idx_vars y
  pointwise [Cert.Kernel3Ideal.Product.value]
  exact Finset.sum_congr rfl fun _ _ => mul_comm _ _

/-- Kernel and reference leave the same array. -/
theorem algebraic : Cert.algebraic_Kernel3Ideal_Reference3Ideal := fun m g m' g' _ hm => by
  refine ⟨fun c => Cert.Kernel3Ideal.Product.value (m ((c.tc : Thread Cert.Kernel3Ideal.nD Cert.Kernel3Ideal.τ).loc Cert.Kernel3Ideal.main_arg0))
    (m ((c.tc : Thread Cert.Kernel3Ideal.nD Cert.Kernel3Ideal.τ).loc Cert.Kernel3Ideal.main_arg1)), ?_, ?_⟩
  · refine (θ_run Cert.Kernel3Ideal.defs _ _).mono (fun _ h c => ?_) (Cert.Kernel3Ideal.Value.run_blocks m g)
    exact ⟨(h c).1.trans (Cert.Kernel3Ideal.Product.array m c), (h c).2⟩
  · refine (θ_run Cert.Reference3Ideal.defs _ _).mono (fun _ h c => ?_) (Cert.Reference3Ideal.Value.run m' g')
    obtain ⟨h0, h1⟩ := hm c
    refine ⟨(h c).1.trans ?_, (h c).2⟩
    rw [h0, h1]
    exact result _ _

end Cert.DwMain0

end
-- ==== Proof.Products.DwMain1.lean ====
/- The gradient of the second 1024 rows of the main projection's weight. -/
module

public import proofs.«01_k».proof.Defs
public import proofs.«01_k».proof.Proof.Gen.Kernel4Ideal.Value
public import proofs.«01_k».proof.Proof.Gen.Reference4Ideal.Run
public import Idealize.ShloMosaic.Lib.Pointwise
public import Idealize.ShloMosaic.Lib.Pipeline.ValueKit

@[expose] public section

set_option maxRecDepth 16384

noncomputable section

namespace Cert.Kernel4Ideal.Product

open Cert.Kernel4Ideal Cert.Kernel4Ideal.Gen Idealize.ShloMosaic Idealize.ShloMosaic.TcCoe Idealize.SL.Sem

/-- The rows 1024 to 2047 of the product of the first array's transpose with the second array. -/
def value (a : Vec Ideal S4096x2048 .bf16) (b : Vec Ideal S4096x14336 .bf16) : Vec Ideal S1024x14336 .f32 :=
  fun y => ∑ k : Fin 4096, a (ix2 k ⟨1024 + (y 0).val, Nat.add_lt_add_left (y 0).isLt 1024⟩) * b (ix2 k (y 1))

/-- The product of two blocks, at one place. -/
def part (a : Vec Ideal S1024x1024 .bf16) (b : Vec Ideal S1024x2048 .bf16) (j : S1024x2048.Idx) : Elt Ideal .f32 :=
  ∑ k : Fin 1024, a (ix2 k (j 0)) * b (ix2 k (j 1))

/-- A point adds the product of its two blocks to the accumulator. -/
theorem added (acc : Vec Ideal S1024x2048 .f32) (a : Vec Ideal S1024x1024 .bf16) (b : Vec Ideal S1024x2048 .bf16) (j : S1024x2048.Idx) :
    k0_pay2 acc a b j = acc j + part a b j := by
  idx_vars j
  pointwise [k0_pay2, part]

/-- The accumulator starts at zero. -/
theorem zero (j : S1024x2048.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val % 4, 1] ∧ win0_1.index t = ![t.val % 4, t.val / 4] ∧ win0_2.index t = ![0, t.val / 4] :=
  (by decide +kernel : ∀ t : Fin grid0.N, win0_0.index t = ![t.val % 4, 1] ∧ win0_1.index t = ![t.val % 4, t.val / 4] ∧ win0_2.index t = ![0, t.val / 4])

/-- The first point of a run leaves its own product in the accumulator. -/
theorem start (t : Fin cfg0.N) (h : t.val % 4 = 0) (j : S1024x2048.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 4 = 0) (j : S1024x2048.Idx) : (outsAt0 m c t.val t.isLt).2 j =
    (outsAt0 m c (t.val - 1) (by omega)).2 j + part (iblk m c 0 t) (iblk m c 1 t) j := by
  by_cases h1 : t.val % 4 = 3
  · rw [outsAt0_C m c t h h1]; frame_out; rw [added]; exact congrArg (· + part _ _ j) (congrFun (Memref.IsWhole.read_unread _ _) j)
  · rw [outsAt0_B m c t h h1]; frame_out; rw [added]; exact congrArg (· + part _ _ j) (congrFun (Memref.IsWhole.read_unread _ _) j)

/-- At the last point of a run the output block is the accumulator. -/
theorem last (t : Fin cfg0.N) (h : t.val % 4 = 3) : (outsAt0 m c t.val t.isLt).1 = (outsAt0 m c t.val t.isLt).2 := by
  rw [outsAt0_C m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 4 = 3 := (flush0_2 t).mp hf
    blk_simp
    rw [after0_2, last m c t hr]
    rw [Pipeline.eq_sum_fin_of_reset_step_apply_of_flush (fun n h => (outsAt0 m c n h).2) 4 (fun _ => 0) _
      (start m c) (step m c) t hr y]
    refine (zero_add (M := Elt Ideal .f32) _).trans ?_
    unfold part
    refine Fin.sum_mul_add_congr fun s k hl => ?_
    obtain ⟨f0, f1, -⟩ := idx ⟨4 * (t.val / 4) + s.val, Pipeline.run_point_lt_of_flush t hr s⟩
    have hs := s.isLt
    have g0 : (4 * (t.val / 4) + s.val) / 4 = t.val / 4 := by omega
    have g1 : (4 * (t.val / 4) + s.val) % 4 = s.val := by omega
    rw [g1] at f0
    rw [g0, g1] at f1
    refine congrArg₂ (· * ·) ?_ ?_
    · blk_ext [iblk, f0, e2]
    · blk_ext [iblk, f1, e2]

end Cert.Kernel4Ideal.Product

namespace Cert.DwMain1

open Idealize.ShloMosaic Idealize.ShloMosaic.TcCoe Idealize.SL.Sem

/-- The reference leaves its arguments alone and declares no semaphore. -/
theorem frame_reference : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run m ρ)

open Cert.Reference4Ideal Cert.Reference4Ideal.Gen in
/-- The reference's result is the same function of the arguments. -/
theorem result (a : Vec Ideal S4096x2048 .bf16) (b : Vec Ideal S4096x14336 .bf16) :
    (extractStridedSlice S1024x14336 ![1024, 0] (transpose S2048x14336 [1, 0] (Host.dotGeneral (F := Ideal) (φ₁ := .f32) dot_S4096x14336_S4096x2048_S14336x2048_0_0_1_1_n_n none (extf .f32 b bitsLt_bf16_f32) (extf .f32 a bitsLt_bf16_f32)) transposes_S14336x2048_S2048x14336_1_0) slices_S2048x14336_S1024x14336_1024_0 : Vec Ideal S1024x14336 .f32) = Cert.Kernel4Ideal.Product.value a b := by
  funext y
  idx_vars y
  pointwise [Cert.Kernel4Ideal.Product.value]
  exact Finset.sum_congr rfl fun _ _ => mul_comm _ _

/-- Kernel and reference leave the same array. -/
theorem algebraic : Cert.algebraic_Kernel4Ideal_Reference4Ideal := fun m g m' g' _ hm => by
  refine ⟨fun c => Cert.Kernel4Ideal.Product.value (m ((c.tc : Thread Cert.Kernel4Ideal.nD Cert.Kernel4Ideal.τ).loc Cert.Kernel4Ideal.main_arg0))
    (m ((c.tc : Thread Cert.Kernel4Ideal.nD Cert.Kernel4Ideal.τ).loc Cert.Kernel4Ideal.main_arg1)), ?_, ?_⟩
  · refine (θ_run Cert.Kernel4Ideal.defs _ _).mono (fun _ h c => ?_) (Cert.Kernel4Ideal.Value.run_blocks m g)
    exact ⟨(h c).1.trans (Cert.Kernel4Ideal.Product.array m c), (h c).2⟩
  · refine (θ_run Cert.Reference4Ideal.defs _ _).mono (fun _ h c => ?_) (Cert.Reference4Ideal.Value.run m' g')
    obtain ⟨h0, h1⟩ := hm c
    refine ⟨(h c).1.trans ?_, (h c).2⟩
    rw [h0, h1]
    exact result _ _

end Cert.DwMain1

end
-- ==== Proof.Products.ProjMain.lean ====
/- The main projection of the forward pass. -/
module

public import proofs.«01_k».proof.Defs
public import proofs.«01_k».proof.Proof.Gen.Kernel5Ideal.Value
public import proofs.«01_k».proof.Proof.Gen.Reference5Ideal.Run
public import Idealize.ShloMosaic.Lib.Pointwise
public import Idealize.ShloMosaic.Lib.Pipeline.ValueKit

@[expose] public section

set_option maxRecDepth 16384

noncomputable section

namespace Cert.Kernel5Ideal.Product

open Cert.Kernel5Ideal Cert.Kernel5Ideal.Gen Idealize.ShloMosaic Idealize.ShloMosaic.TcCoe Idealize.SL.Sem

/-- The product of the two arrays. -/
def value (a : Vec Ideal S4096x2048 .bf16) (b : Vec Ideal S2048x14336 .bf16) : Vec Ideal S4096x14336 .bf16 :=
  fun y => ∑ k : Fin 2048, a (ix2 (y 0) k) * b (ix2 k (y 1))

/-- The product of two blocks, at one place. -/
def part (a : Vec Ideal S1024x1024 .bf16) (b : Vec Ideal S1024x2048 .bf16) (j : S1024x2048.Idx) : Elt Ideal .f32 :=
  ∑ k : Fin 1024, a (ix2 (j 0) k) * b (ix2 k (j 1))

/-- A point adds the product of its two blocks to the accumulator. -/
theorem added (acc : Vec Ideal S1024x2048 .f32) (a : Vec Ideal S1024x1024 .bf16) (b : Vec Ideal S1024x2048 .bf16) (j : S1024x2048.Idx) :
    k0_pay2 acc a b j = acc j + part a b j := by
  idx_vars j
  pointwise [k0_pay2, part]

/-- The accumulator starts at zero. -/
theorem zero (j : S1024x2048.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val / 14, t.val % 2] ∧ win0_1.index t = ![t.val % 2, t.val / 2 % 7] ∧ win0_2.index t = ![t.val / 14, t.val / 2 % 7] :=
  (by decide +kernel : ∀ t : Fin grid0.N, win0_0.index t = ![t.val / 14, t.val % 2] ∧ win0_1.index t = ![t.val % 2, t.val / 2 % 7] ∧ win0_2.index t = ![t.val / 14, t.val / 2 % 7])

/-- The first point of a run leaves its own product in the accumulator. -/
theorem start (t : Fin cfg0.N) (h : t.val % 2 = 0) (j : S1024x2048.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 2 = 0) (j : S1024x2048.Idx) : (outsAt0 m c t.val t.isLt).2 j =
    (outsAt0 m c (t.val - 1) (by omega)).2 j + part (iblk m c 0 t) (iblk m c 1 t) j := by
  rw [outsAt0_B m c t h (by omega)]; frame_out; rw [added]; exact congrArg (· + part _ _ j) (congrFun (Memref.IsWhole.read_unread _ _) j)

/-- At the last point of a run the output block is the accumulator. -/
theorem last (t : Fin cfg0.N) (h : t.val % 2 = 1) : (outsAt0 m c t.val t.isLt).1 = k0_pay3 (outsAt0 m c t.val t.isLt).2 := by
  rw [outsAt0_B m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 2 = 1 := (flush0_2 t).mp hf
    blk_simp
    rw [after0_2, last m c t hr]
    change (outsAt0 m c t.val t.isLt).2 y = _
    rw [Pipeline.eq_sum_fin_of_reset_step_apply_of_flush (fun n h => (outsAt0 m c n h).2) 2 (fun _ => 0) _
      (start m c) (step m c) t hr y]
    refine (zero_add (M := Elt Ideal .f32) _).trans ?_
    unfold part
    refine Fin.sum_mul_add_congr fun s k hl => ?_
    obtain ⟨f0, f1, -⟩ := idx ⟨2 * (t.val / 2) + s.val, Pipeline.run_point_lt_of_flush t hr s⟩
    have hs := s.isLt
    have g0 : (2 * (t.val / 2) + s.val) / 14 = t.val / 14 := by omega
    have g1 : (2 * (t.val / 2) + s.val) / 2 % 7 = t.val / 2 % 7 := by omega
    have g2 : (2 * (t.val / 2) + s.val) % 2 = s.val := by omega
    rw [g0, g2] at f0
    rw [g1, g2] at f1
    refine congrArg₂ (· * ·) ?_ ?_
    · blk_ext [iblk, f0, e2]
    · blk_ext [iblk, f1, e2]

end Cert.Kernel5Ideal.Product

namespace Cert.ProjMain

open Idealize.ShloMosaic Idealize.ShloMosaic.TcCoe Idealize.SL.Sem

/-- The reference leaves its arguments alone and declares no semaphore. -/
theorem frame_reference : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

open Cert.Reference5Ideal Cert.Reference5Ideal.Gen in
/-- The reference's result is the same function of the arguments. -/
theorem result (a : Vec Ideal S4096x2048 .bf16) (b : Vec Ideal S2048x14336 .bf16) :
    (truncf (F := Ideal) .bf16 (Host.dotGeneral (F := Ideal) (φ₁ := .f32) dot_S4096x2048_S2048x14336_S4096x14336_1_0_0_1_n_n none (extf .f32 a bitsLt_bf16_f32) (extf .f32 b bitsLt_bf16_f32)) bitsLt_bf16_f32 : Vec Ideal S4096x14336 .bf16) = Cert.Kernel5Ideal.Product.value a b := by
  funext y
  idx_vars y
  pointwise [Cert.Kernel5Ideal.Product.value]

/-- Kernel and reference leave the same array. -/
theorem algebraic : Cert.algebraic_Kernel5Ideal_Reference5Ideal := fun m g m' g' _ hm => by
  refine ⟨fun c => Cert.Kernel5Ideal.Product.value (m ((c.tc : Thread Cert.Kernel5Ideal.nD Cert.Kernel5Ideal.τ).loc Cert.Kernel5Ideal.main_arg0))
    (m ((c.tc : Thread Cert.Kernel5Ideal.nD Cert.Kernel5Ideal.τ).loc Cert.Kernel5Ideal.main_arg1)), ?_, ?_⟩
  · refine (θ_run Cert.Kernel5Ideal.defs _ _).mono (fun _ h c => ?_) (Cert.Kernel5Ideal.Value.run_blocks m g)
    exact ⟨(h c).1.trans (Cert.Kernel5Ideal.Product.array m c), (h c).2⟩
  · refine (θ_run Cert.Reference5Ideal.defs _ _).mono (fun _ h c => ?_) (Cert.Reference5Ideal.Value.run m' g')
    obtain ⟨h0, h1⟩ := hm c
    refine ⟨(h c).1.trans ?_, (h c).2⟩
    rw [h0, h1]
    exact result _ _

end Cert.ProjMain

end
-- ==== Proof.Products.OutProj.lean ====
/- The output projection of the forward pass. -/
module

public import proofs.«01_k».proof.Defs
public import proofs.«01_k».proof.Proof.Gen.Kernel6Ideal.Value
public import proofs.«01_k».proof.Proof.Gen.Reference6Ideal.Run
public import Idealize.ShloMosaic.Lib.Pointwise
public import Idealize.ShloMosaic.Lib.Pipeline.ValueKit

@[expose] public section

set_option maxRecDepth 16384

noncomputable section

namespace Cert.Kernel6Ideal.Product

open Cert.Kernel6Ideal Cert.Kernel6Ideal.Gen Idealize.ShloMosaic Idealize.ShloMosaic.TcCoe Idealize.SL.Sem

/-- The product of the two arrays. -/
def value (a : Vec Ideal S4096x2048 .bf16) (b : Vec Ideal S2048x2048 .bf16) : Vec Ideal S4096x2048 .f32 :=
  fun y => ∑ k : Fin 2048, a (ix2 (y 0) k) * b (ix2 k (y 1))

/-- The product of two blocks, at one place. -/
def part (a : Vec Ideal S512x1024 .bf16) (b : Vec Ideal S1024x1024 .bf16) (j : S512x1024.Idx) : Elt Ideal .f32 :=
  ∑ k : Fin 1024, a (ix2 (j 0) k) * b (ix2 k (j 1))

/-- A point adds the product of its two blocks to the accumulator. -/
theorem added (acc : Vec Ideal S512x1024 .f32) (a : Vec Ideal S512x1024 .bf16) (b : Vec Ideal S1024x1024 .bf16) (j : S512x1024.Idx) :
    k0_pay2 acc a b j = acc j + part a b j := by
  idx_vars j
  pointwise [k0_pay2, part]

/-- The accumulator starts at zero. -/
theorem zero (j : S512x1024.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val / 4, t.val % 2] ∧ win0_1.index t = ![t.val % 2, t.val / 2 % 2] ∧ win0_2.index t = ![t.val / 4, t.val / 2 % 2] :=
  (by decide +kernel : ∀ t : Fin grid0.N, win0_0.index t = ![t.val / 4, t.val % 2] ∧ win0_1.index t = ![t.val % 2, t.val / 2 % 2] ∧ win0_2.index t = ![t.val / 4, t.val / 2 % 2])

/-- The first point of a run leaves its own product in the accumulator. -/
theorem start (t : Fin cfg0.N) (h : t.val % 2 = 0) (j : S512x1024.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 2 = 0) (j : S512x1024.Idx) : (outsAt0 m c t.val t.isLt).2 j =
    (outsAt0 m c (t.val - 1) (by omega)).2 j + part (iblk m c 0 t) (iblk m c 1 t) j := by
  rw [outsAt0_B m c t h (by omega)]; frame_out; rw [added]; exact congrArg (· + part _ _ j) (congrFun (Memref.IsWhole.read_unread _ _) j)

/-- At the last point of a run the output block is the accumulator. -/
theorem last (t : Fin cfg0.N) (h : t.val % 2 = 1) : (outsAt0 m c t.val t.isLt).1 = (outsAt0 m c t.val t.isLt).2 := by
  rw [outsAt0_B m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 2 = 1 := (flush0_2 t).mp hf
    blk_simp
    rw [after0_2, last m c t hr]
    rw [Pipeline.eq_sum_fin_of_reset_step_apply_of_flush (fun n h => (outsAt0 m c n h).2) 2 (fun _ => 0) _
      (start m c) (step m c) t hr y]
    refine (zero_add (M := Elt Ideal .f32) _).trans ?_
    unfold part
    refine Fin.sum_mul_add_congr fun s k hl => ?_
    obtain ⟨f0, f1, -⟩ := idx ⟨2 * (t.val / 2) + s.val, Pipeline.run_point_lt_of_flush t hr s⟩
    have hs := s.isLt
    have g0 : (2 * (t.val / 2) + s.val) / 2 % 2 = t.val / 2 % 2 := by omega
    have g1 : (2 * (t.val / 2) + s.val) / 4 = t.val / 4 := by omega
    have g2 : (2 * (t.val / 2) + s.val) % 2 = s.val := by omega
    rw [g1, g2] at f0
    rw [g0, g2] at f1
    refine congrArg₂ (· * ·) ?_ ?_
    · blk_ext [iblk, f0, e2]
    · blk_ext [iblk, f1, e2]

end Cert.Kernel6Ideal.Product

namespace Cert.OutProj

open Idealize.ShloMosaic Idealize.ShloMosaic.TcCoe Idealize.SL.Sem

/-- The reference leaves its arguments alone and declares no semaphore. -/
theorem frame_reference : Cert.quiescent_Reference6Ideal := fun m ρ _ =>
  (θ_run Cert.Reference6Ideal.defs _ _).mono
    (fun r h => ⟨fun c => (h c).2, Idealize.ShloMosaic.sem_eq_zero_of_no_sems (by decide) r.2⟩)
    (Cert.Reference6Ideal.Value.run m ρ)

open Cert.Reference6Ideal Cert.Reference6Ideal.Gen in
/-- The reference's result is the same function of the arguments. -/
theorem result (a : Vec Ideal S4096x2048 .bf16) (b : Vec Ideal S2048x2048 .bf16) :
    (Host.dotGeneral (F := Ideal) (φ₁ := .f32) dot_S4096x2048_S2048x2048_S4096x2048_1_0_0_1_n_n none (extf .f32 a bitsLt_bf16_f32) (extf .f32 b bitsLt_bf16_f32) : Vec Ideal S4096x2048 .f32) = Cert.Kernel6Ideal.Product.value a b := by
  funext y
  idx_vars y
  pointwise [Cert.Kernel6Ideal.Product.value]

/-- Kernel and reference leave the same array. -/
theorem algebraic : Cert.algebraic_Kernel6Ideal_Reference6Ideal := fun m g m' g' _ hm => by
  refine ⟨fun c => Cert.Kernel6Ideal.Product.value (m ((c.tc : Thread Cert.Kernel6Ideal.nD Cert.Kernel6Ideal.τ).loc Cert.Kernel6Ideal.main_arg0))
    (m ((c.tc : Thread Cert.Kernel6Ideal.nD Cert.Kernel6Ideal.τ).loc Cert.Kernel6Ideal.main_arg1)), ?_, ?_⟩
  · refine (θ_run Cert.Kernel6Ideal.defs _ _).mono (fun _ h c => ?_) (Cert.Kernel6Ideal.Value.run_blocks m g)
    exact ⟨(h c).1.trans (Cert.Kernel6Ideal.Product.array m c), (h c).2⟩
  · refine (θ_run Cert.Reference6Ideal.defs _ _).mono (fun _ h c => ?_) (Cert.Reference6Ideal.Value.run m' g')
    obtain ⟨h0, h1⟩ := hm c
    refine ⟨(h c).1.trans ?_, (h c).2⟩
    rw [h0, h1]
    exact result _ _

end Cert.OutProj

end
-- ==== Proof.Products.DMerged.lean ====
/- The gradient of the rows that the output projection takes. -/
module

public import proofs.«01_k».proof.Defs
public import proofs.«01_k».proof.Proof.Gen.Kernel7Ideal.Value
public import proofs.«01_k».proof.Proof.Gen.Reference7Ideal.Run
public import Idealize.ShloMosaic.Lib.Pointwise
public import Idealize.ShloMosaic.Lib.Pipeline.ValueKit

@[expose] public section

set_option maxRecDepth 16384

noncomputable section

namespace Cert.Kernel7Ideal.Product

open Cert.Kernel7Ideal Cert.Kernel7Ideal.Gen Idealize.ShloMosaic Idealize.ShloMosaic.TcCoe Idealize.SL.Sem

/-- The product of the first array with the transpose of the second. -/
def value (a : Vec Ideal S4096x2048 .f32) (b : Vec Ideal S2048x2048 .bf16) : Vec Ideal S4096x2048 .f32 :=
  fun y => ∑ k : Fin 2048, a (ix2 (y 0) k) * b (ix2 (y 1) k)

/-- The product of two blocks, at one place. -/
def part (a : Vec Ideal S512x1024 .f32) (b : Vec Ideal S1024x1024 .bf16) (j : S512x1024.Idx) : Elt Ideal .f32 :=
  ∑ k : Fin 1024, a (ix2 (j 0) k) * b (ix2 (j 1) k)

/-- A point adds the product of its two blocks to the accumulator. -/
theorem added (acc : Vec Ideal S512x1024 .f32) (a : Vec Ideal S512x1024 .f32) (b : Vec Ideal S1024x1024 .bf16) (j : S512x1024.Idx) :
    k0_pay2 acc a b j = acc j + part a b j := by
  idx_vars j
  pointwise [k0_pay2, part]

/-- The accumulator starts at zero. -/
theorem zero (j : S512x1024.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val / 4, t.val % 2] ∧ win0_1.index t = ![t.val / 2 % 2, t.val % 2] ∧ win0_2.index t = ![t.val / 4, t.val / 2 % 2] :=
  (by decide +kernel : ∀ t : Fin grid0.N, win0_0.index t = ![t.val / 4, t.val % 2] ∧ win0_1.index t = ![t.val / 2 % 2, t.val % 2] ∧ win0_2.index t = ![t.val / 4, t.val / 2 % 2])

/-- The first point of a run leaves its own product in the accumulator. -/
theorem start (t : Fin cfg0.N) (h : t.val % 2 = 0) (j : S512x1024.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 2 = 0) (j : S512x1024.Idx) : (outsAt0 m c t.val t.isLt).2 j =
    (outsAt0 m c (t.val - 1) (by omega)).2 j + part (iblk m c 0 t) (iblk m c 1 t) j := by
  rw [outsAt0_B m c t h (by omega)]; frame_out; rw [added]; exact congrArg (· + part _ _ j) (congrFun (Memref.IsWhole.read_unread _ _) j)

/-- At the last point of a run the output block is the accumulator. -/
theorem last (t : Fin cfg0.N) (h : t.val % 2 = 1) : (outsAt0 m c t.val t.isLt).1 = (outsAt0 m c t.val t.isLt).2 := by
  rw [outsAt0_B m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 2 = 1 := (flush0_2 t).mp hf
    blk_simp
    rw [after0_2, last m c t hr]
    rw [Pipeline.eq_sum_fin_of_reset_step_apply_of_flush (fun n h => (outsAt0 m c n h).2) 2 (fun _ => 0) _
      (start m c) (step m c) t hr y]
    refine (zero_add (M := Elt Ideal .f32) _).trans ?_
    unfold part
    refine Fin.sum_mul_add_congr fun s k hl => ?_
    obtain ⟨f0, f1, -⟩ := idx ⟨2 * (t.val / 2) + s.val, Pipeline.run_point_lt_of_flush t hr s⟩
    have hs := s.isLt
    have g0 : (2 * (t.val / 2) + s.val) / 2 % 2 = t.val / 2 % 2 := by omega
    have g1 : (2 * (t.val / 2) + s.val) / 4 = t.val / 4 := by omega
    have g2 : (2 * (t.val / 2) + s.val) % 2 = s.val := by omega
    rw [g1, g2] at f0
    rw [g0, g2] at f1
    refine congrArg₂ (· * ·) ?_ ?_
    · blk_ext [iblk, f0, e2]
    · blk_ext [iblk, f1, e2]

end Cert.Kernel7Ideal.Product

namespace Cert.DMerged

open Idealize.ShloMosaic Idealize.ShloMosaic.TcCoe Idealize.SL.Sem

/-- The reference leaves its arguments alone and declares no semaphore. -/
theorem frame_reference : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run m ρ)

open Cert.Reference7Ideal Cert.Reference7Ideal.Gen in
/-- The reference's result is the same function of the arguments. -/
theorem result (a : Vec Ideal S4096x2048 .f32) (b : Vec Ideal S2048x2048 .bf16) :
    (Host.dotGeneral (F := Ideal) (φ₁ := .f32) dot_S4096x2048_S2048x2048_S4096x2048_1_1_0_0_n_n none a (extf .f32 b bitsLt_bf16_f32) : Vec Ideal S4096x2048 .f32) = Cert.Kernel7Ideal.Product.value a b := by
  funext y
  idx_vars y
  pointwise [Cert.Kernel7Ideal.Product.value]

/-- Kernel and reference leave the same array. -/
theorem algebraic : Cert.algebraic_Kernel7Ideal_Reference7Ideal := fun m g m' g' _ hm => by
  refine ⟨fun c => Cert.Kernel7Ideal.Product.value (m ((c.tc : Thread Cert.Kernel7Ideal.nD Cert.Kernel7Ideal.τ).loc Cert.Kernel7Ideal.main_arg0))
    (m ((c.tc : Thread Cert.Kernel7Ideal.nD Cert.Kernel7Ideal.τ).loc Cert.Kernel7Ideal.main_arg1)), ?_, ?_⟩
  · refine (θ_run Cert.Kernel7Ideal.defs _ _).mono (fun _ h c => ?_) (Cert.Kernel7Ideal.Value.run_blocks m g)
    exact ⟨(h c).1.trans (Cert.Kernel7Ideal.Product.array m c), (h c).2⟩
  · refine (θ_run Cert.Reference7Ideal.defs _ _).mono (fun _ h c => ?_) (Cert.Reference7Ideal.Value.run m' g')
    obtain ⟨h0, h1⟩ := hm c
    refine ⟨(h c).1.trans ?_, (h c).2⟩
    rw [h0, h1]
    exact result _ _

end Cert.DMerged

end
-- ==== Proof.Products.DwOut.lean ====
/- The gradient of the output projection's weight. -/
module

public import proofs.«01_k».proof.Defs
public import proofs.«01_k».proof.Proof.Gen.Kernel8Ideal.Value
public import proofs.«01_k».proof.Proof.Gen.Reference8Ideal.Run
public import Idealize.ShloMosaic.Lib.Pointwise
public import Idealize.ShloMosaic.Lib.Pipeline.ValueKit

@[expose] public section

set_option maxRecDepth 16384

noncomputable section

namespace Cert.Kernel8Ideal.Product

open Cert.Kernel8Ideal Cert.Kernel8Ideal.Gen Idealize.ShloMosaic Idealize.ShloMosaic.TcCoe Idealize.SL.Sem

/-- The product of the first array's transpose with the second array. -/
def value (a : Vec Ideal S4096x2048 .bf16) (b : Vec Ideal S4096x2048 .f32) : Vec Ideal S2048x2048 .f32 :=
  fun y => ∑ k : Fin 4096, a (ix2 k (y 0)) * b (ix2 k (y 1))

/-- The product of two blocks, at one place. -/
def part (a : Vec Ideal S1024x512 .bf16) (b : Vec Ideal S1024x1024 .f32) (j : S512x1024.Idx) : Elt Ideal .f32 :=
  ∑ k : Fin 1024, a (ix2 k (j 0)) * b (ix2 k (j 1))

/-- A point adds the product of its two blocks to the accumulator. -/
theorem added (acc : Vec Ideal S512x1024 .f32) (a : Vec Ideal S1024x512 .bf16) (b : Vec Ideal S1024x1024 .f32) (j : S512x1024.Idx) :
    k0_pay2 acc a b j = acc j + part a b j := by
  idx_vars j
  pointwise [k0_pay2, part]

/-- The accumulator starts at zero. -/
theorem zero (j : S512x1024.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val % 4, t.val / 8] ∧ win0_1.index t = ![t.val % 4, t.val / 4 % 2] ∧ win0_2.index t = ![t.val / 8, t.val / 4 % 2] :=
  (by decide +kernel : ∀ t : Fin grid0.N, win0_0.index t = ![t.val % 4, t.val / 8] ∧ win0_1.index t = ![t.val % 4, t.val / 4 % 2] ∧ win0_2.index t = ![t.val / 8, t.val / 4 % 2])

/-- The first point of a run leaves its own product in the accumulator. -/
theorem start (t : Fin cfg0.N) (h : t.val % 4 = 0) (j : S512x1024.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 4 = 0) (j : S512x1024.Idx) : (outsAt0 m c t.val t.isLt).2 j =
    (outsAt0 m c (t.val - 1) (by omega)).2 j + part (iblk m c 0 t) (iblk m c 1 t) j := by
  by_cases h1 : t.val % 4 = 3
  · rw [outsAt0_C m c t h h1]; frame_out; rw [added]; exact congrArg (· + part _ _ j) (congrFun (Memref.IsWhole.read_unread _ _) j)
  · rw [outsAt0_B m c t h h1]; frame_out; rw [added]; exact congrArg (· + part _ _ j) (congrFun (Memref.IsWhole.read_unread _ _) j)

/-- At the last point of a run the output block is the accumulator. -/
theorem last (t : Fin cfg0.N) (h : t.val % 4 = 3) : (outsAt0 m c t.val t.isLt).1 = (outsAt0 m c t.val t.isLt).2 := by
  rw [outsAt0_C m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 4 = 3 := (flush0_2 t).mp hf
    blk_simp
    rw [after0_2, last m c t hr]
    rw [Pipeline.eq_sum_fin_of_reset_step_apply_of_flush (fun n h => (outsAt0 m c n h).2) 4 (fun _ => 0) _
      (start m c) (step m c) t hr y]
    refine (zero_add (M := Elt Ideal .f32) _).trans ?_
    unfold part
    refine Fin.sum_mul_add_congr fun s k hl => ?_
    obtain ⟨f0, f1, -⟩ := idx ⟨4 * (t.val / 4) + s.val, Pipeline.run_point_lt_of_flush t hr s⟩
    have hs := s.isLt
    have g0 : (4 * (t.val / 4) + s.val) / 4 % 2 = t.val / 4 % 2 := by omega
    have g1 : (4 * (t.val / 4) + s.val) / 8 = t.val / 8 := by omega
    have g2 : (4 * (t.val / 4) + s.val) % 4 = s.val := by omega
    rw [g1, g2] at f0
    rw [g0, g2] at f1
    refine congrArg₂ (· * ·) ?_ ?_
    · blk_ext [iblk, f0, e2]
    · blk_ext [iblk, f1, e2]

end Cert.Kernel8Ideal.Product

namespace Cert.DwOut

open Idealize.ShloMosaic Idealize.ShloMosaic.TcCoe Idealize.SL.Sem

/-- The reference leaves its arguments alone and declares no semaphore. -/
theorem frame_reference : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

open Cert.Reference8Ideal Cert.Reference8Ideal.Gen in
/-- The reference's result is the same function of the arguments. -/
theorem result (a : Vec Ideal S4096x2048 .bf16) (b : Vec Ideal S4096x2048 .f32) :
    (transpose S2048x2048 [1, 0] (Host.dotGeneral (F := Ideal) (φ₁ := .f32) dot_S4096x2048_S4096x2048_S2048x2048_0_0_1_1_n_n none b (extf .f32 a bitsLt_bf16_f32)) transposes_S2048x2048_S2048x2048_1_0 : Vec Ideal S2048x2048 .f32) = Cert.Kernel8Ideal.Product.value a b := by
  funext y
  idx_vars y
  pointwise [Cert.Kernel8Ideal.Product.value]
  exact Finset.sum_congr rfl fun _ _ => mul_comm _ _

/-- Kernel and reference leave the same array. -/
theorem algebraic : Cert.algebraic_Kernel8Ideal_Reference8Ideal := fun m g m' g' _ hm => by
  refine ⟨fun c => Cert.Kernel8Ideal.Product.value (m ((c.tc : Thread Cert.Kernel8Ideal.nD Cert.Kernel8Ideal.τ).loc Cert.Kernel8Ideal.main_arg0))
    (m ((c.tc : Thread Cert.Kernel8Ideal.nD Cert.Kernel8Ideal.τ).loc Cert.Kernel8Ideal.main_arg1)), ?_, ?_⟩
  · refine (θ_run Cert.Kernel8Ideal.defs _ _).mono (fun _ h c => ?_) (Cert.Kernel8Ideal.Value.run_blocks m g)
    exact ⟨(h c).1.trans (Cert.Kernel8Ideal.Product.array m c), (h c).2⟩
  · refine (θ_run Cert.Reference8Ideal.defs _ _).mono (fun _ h c => ?_) (Cert.Reference8Ideal.Value.run m' g')
    obtain ⟨h0, h1⟩ := hm c
    refine ⟨(h c).1.trans ?_, (h c).2⟩
    rw [h0, h1]
    exact result _ _

end Cert.DwOut

end
-- ==== Proof.Update.RmsBwd.lean ====
/- The gradient of the first norm: the gradient of the input, and this device's part of the gradient of the norm's weight. -/
module

public import proofs.«01_k».proof.Defs
public import proofs.«01_k».proof.Proof.Gen.Kernel9Ideal.Value
public import proofs.«01_k».proof.Proof.Gen.Reference9Ideal.Run
public import Idealize.ShloMosaic.Lib.Pointwise
public import Idealize.ShloMosaic.Lib.Pipeline.ValueKit

@[expose] public section

set_option maxRecDepth 16384

noncomputable section

namespace Cert.RmsBwd

open Idealize.ShloMosaic Idealize.ShloMosaic.TcCoe Idealize.SL.Sem

/-! ## One row -/

/-- The mean of a row's squares, with the norm's epsilon added. -/
def mean (x : Fin 2048 → Elt Ideal .f32) : Elt Ideal .f32 :=
  Ideal.div (∑ k, x k * x k) (Ideal.ofBits .f32 0x45000000#32) + Ideal.ofBits .f32 0x358637BD#32

/-- What the mean's gradient gives every entry of the row, before the entry's own factor. -/
def pull (x u g : Fin 2048 → Elt Ideal .f32) : Elt Ideal .f32 :=
  ∑ _ : Fin 1, Ideal.div ((∑ k, x k * (u k * g k)) * (Ideal.ofBits .f32 0xBF000000#32 * Ideal.div (Ideal.rsqrt (mean x)) (mean x)))
    (Ideal.ofBits .f32 0x45000000#32)

/-- The gradient of the row's entry `a`, where the result's gradient is `b` and the weight `w`. -/
def grad (x u g : Fin 2048 → Elt Ideal .f32) (a b w : Elt Ideal .f32) : Elt Ideal .f32 :=
  b * w * Ideal.rsqrt (mean x) + a * pull x u g + pull x u g * a

/-! ## Whole arrays -/

/-- The gradient of the rows, added to the gradient that comes past the norm. -/
def dx (x : Vec Ideal Cert.Kernel9Ideal.S4096x2048 .f32) (g : Vec Ideal Cert.Kernel9Ideal.S1x2048 .f32)
    (u d : Vec Ideal Cert.Kernel9Ideal.S4096x2048 .f32) : Vec Ideal Cert.Kernel9Ideal.S4096x2048 .f32 :=
  fun y => grad (fun k => x (ix2 (y 0) k)) (fun k => u (ix2 (y 0) k)) (fun k => g (ix2 0 k)) (x y) (u y) (g (ix2 0 (y 1))) + d y

/-- The gradient of the weight: the sum over the rows. -/
def dg (x u : Vec Ideal Cert.Kernel9Ideal.S4096x2048 .f32) : Vec Ideal Cert.Kernel9Ideal.S1x2048 .f32 :=
  fun y => ∑ r : Fin 4096, x (ix2 r (y 1)) * Ideal.rsqrt (mean fun k => x (ix2 r k)) * u (ix2 r (y 1))

end Cert.RmsBwd

namespace Cert.Kernel9Ideal.Norm

open Cert.Kernel9Ideal Cert.Kernel9Ideal.Gen Idealize.ShloMosaic Idealize.ShloMosaic.TcCoe Idealize.SL.Sem
open Cert.RmsBwd (mean pull grad dx dg)

/-! ## One block -/

theorem mean_block (x : Vec Ideal S256x2048 .f32) (r : Fin 256) (z : Fin 1) :
    k0_pay3 x (ix2 r z) = mean fun k => x (ix2 r k) := by
  pointwise [k0_pay3, mean]

theorem dx_block (x : Vec Ideal S256x2048 .f32) (g : Vec Ideal S1x2048 .f32) (u d : Vec Ideal S256x2048 .f32) (y : S256x2048.Idx) :
    k0_pay6 x g u d y =
      grad (fun k => x (ix2 (y 0) k)) (fun k => u (ix2 (y 0) k)) (fun k => g (ix2 0 k)) (x y) (u y) (g (ix2 0 (y 1))) + d y := by
  idx_vars y
  pointwise [k0_pay6, k0_pay4, mean_block, grad, pull]

/-- One block's part of the weight's gradient, at one lane. -/
def part (x u : Vec Ideal S256x2048 .f32) (y : S1x2048.Idx) : Elt Ideal .f32 :=
  ∑ r : Fin 256, x (ix2 r (y 1)) * Ideal.rsqrt (mean fun k => x (ix2 r k)) * u (ix2 r (y 1))

theorem added (x u : Vec Ideal S256x2048 .f32) (acc : Vec Ideal S1x2048 .f32) (y : S1x2048.Idx) :
    k0_pay2 (k0_pay5 x u) acc y = acc y + part x u y := by
  idx_vars y
  pointwise [k0_pay2, k0_pay5, k0_pay4, mean_block, part]

theorem zero (y : S1x2048.Idx) : k0_pay1 (F := Ideal) y = 0 := by
  pointwise [k0_pay1]

/-! ## The arrays -/

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![0, 0] :=
  (by decide +kernel : ∀ t : Fin grid0.N, win0_0.index t = ![t.val, 0] ∧ win0_1.index t = ![0, 0] ∧ win0_2.index t = ![t.val, 0]
    ∧ win0_3.index t = ![t.val, 0] ∧ win0_4.index t = ![t.val, 0] ∧ win0_5.index t = ![0, 0])

theorem rows (t : Fin cfg0.N) :
    (outsAt0 m c t.val t.isLt).1 = k0_pay6 (iblk m c 0 t) (iblk m c 1 t) (iblk m c 2 t) (iblk m c 3 t) := by
  by_cases h : t.val % 16 = 0
  · rw [outsAt0_A m c t h]; frame_out
  · rw [outsAt0_B m c t h]; frame_out

theorem start (t : Fin cfg0.N) (h : t.val % 16 = 0) (y : S1x2048.Idx) :
    (outsAt0 m c t.val t.isLt).2 y = 0 + part (iblk m c 0 t) (iblk m c 2 t) y := by
  rw [outsAt0_A m c t h]; frame_out; rw [added, zero]

theorem step (t : Fin cfg0.N) (h : ¬t.val % 16 = 0) (y : S1x2048.Idx) : (outsAt0 m c t.val t.isLt).2 y =
    (outsAt0 m c (t.val - 1) (by omega)).2 y + part (iblk m c 0 t) (iblk m c 2 t) y := by
  rw [outsAt0_B m c t h]; frame_out; rw [added]

theorem array_dx : (dats m 0 c).arrAt 4 cfg0.N = dx (m ((c : Thread nD τ).loc main_arg0)) (m ((c : Thread nD τ).loc main_arg1))
    (m ((c : Thread nD τ).loc main_arg2)) (m ((c : Thread nD τ).loc main_arg3)) :=
  (dats m 0 c).arrAt_eq_of_covers 4 _ (by decide +kernel) fun t hf y => by
    obtain ⟨e0, e1, e2, e3, e4, -⟩ := idx t
    blk_simp
    rw [after0_4, rows m c t]
    refine (dx_block _ _ _ _ y).trans ?_
    unfold dx
    refine congrArg₂ (· + ·) ?_ ?_
    · congr 1
      · funext k; blk_ext [iblk, e0, e4]
      · funext k; blk_ext [iblk, e2, e4]
      · funext k; blk_ext [iblk, e1, e4]
      · blk_ext [iblk, e1, e4]
    · blk_ext [iblk, e3, e4]

theorem array_dg : (dats m 0 c).arrAt 5 cfg0.N = dg (m ((c : Thread nD τ).loc main_arg0)) (m ((c : Thread nD τ).loc main_arg2)) :=
  (dats m 0 c).arrAt_eq_of_covers 5 _ (by decide +kernel) fun t hf y => by
    obtain ⟨-, -, -, -, -, e5⟩ := idx t
    have ht : t.val / 16 = 0 := by have : t.val < 16 := t.isLt; omega
    blk_simp
    rw [after0_5, Pipeline.eq_sum_fin_of_reset_step_apply_of_flush (fun n h => (outsAt0 m c n h).2) 16 (fun _ => 0) _
      (start m c) (step m c) t ((flush0_5 t).mp hf) y]
    refine (zero_add (M := Elt Ideal .f32) _).trans ?_
    unfold part dg
    refine Fin.sum_mul_add_congr fun s k hl => ?_
    obtain ⟨f0, -, f2, -, -, -⟩ := idx ⟨16 * (t.val / 16) + s.val, Pipeline.run_point_lt_of_flush t ((flush0_5 t).mp hf) s⟩
    have g0 : 16 * (t.val / 16) + s.val = s.val := by omega
    have f0 := f0.trans (congrArg (fun n => ![n, 0]) g0)
    have f2 := f2.trans (congrArg (fun n => ![n, 0]) g0)
    refine congrArg₂ (· * ·) (congrArg₂ (· * ·) ?_ (congrArg Ideal.rsqrt (congrArg mean (funext fun l => ?_)))) ?_
    · blk_ext [iblk, f0, e5]
    · blk_ext [iblk, f0, e5]
    · blk_ext [iblk, f2, e5]

end Cert.Kernel9Ideal.Norm

namespace Cert.RmsBwd

open Idealize.ShloMosaic Idealize.ShloMosaic.TcCoe Idealize.SL.Sem

/-- The reference leaves its arguments alone and declares no semaphore. -/
theorem frame_reference : Cert.quiescent_Reference9Ideal := fun m ρ _ =>
  (θ_run Cert.Reference9Ideal.defs _ _).mono
    (fun r h => ⟨fun c => (h c).2.2, Idealize.ShloMosaic.sem_eq_zero_of_no_sems (by decide) r.2⟩)
    (Cert.Reference9Ideal.Value.run m ρ)

section Reference

open Cert.Reference9Ideal Cert.Reference9Ideal.Gen

/-- The reference's mean of the rows' squares. -/
def means (x : FVec Ideal S4096x2048 .f32) : FVec Ideal S4096x1 .f32 :=
  addf (Host.divf (broadcastInDim S4096x1 ![0] bcast_S4096_S4096x1_0 (Host.reduceAdd (mulf x x) (constant S_ .f32 0x00000000#32)
    reducesTo_S4096x2048_S4096_d1 h_S_)) (broadcastInDim S4096x1 ![] bcast_S_S4096x1 (constant S_ .f32 0x45000000#32)))
    (broadcastInDim S4096x1 ![] bcast_S_S4096x1 (constant S_ .f32 0x358637BD#32))

theorem means_at (x : FVec Ideal S4096x2048 .f32) (r : Fin 4096) (z : Fin 1) : means x (ix2 r z) = mean fun k => x (ix2 r k) := by
  pointwise [means, mean]

/-- The reference's product of the result's gradient with the weight. -/
def scaled (u : FVec Ideal S4096x2048 .f32) (g : FVec Ideal S1x2048 .f32) : FVec Ideal S4096x2048 .f32 :=
  mulf u (broadcastInDim S4096x2048 ![0, 1] bcast_S1x2048_S4096x2048_0_1 (broadcastInDim S1x2048 ![1] bcast_S2048_S1x2048_1
    (shapeCast _ g shapeCasts_S1x2048_S2048)))

theorem scaled_at (u : FVec Ideal S4096x2048 .f32) (g : FVec Ideal S1x2048 .f32) (r : Fin 4096) (k : Fin 2048) :
    scaled u g (ix2 r k) = u (ix2 r k) * g (ix2 0 k) := by
  pointwise [scaled]

/-- The reference's gradient through the mean, the same for all entries of a row. -/
def pulls (x v : FVec Ideal S4096x2048 .f32) (s : FVec Ideal S4096x1 .f32) : FVec Ideal S4096x2048 .f32 :=
  broadcastInDim S4096x2048 ![0] bcast_S4096_S4096x2048_0 (Host.reduceAdd (Host.divf (mulf (shapeCast _ (Host.reduceAdd (mulf x v)
    (constant S_ .f32 0x00000000#32) reducesTo_S4096x2048_S4096_d1 h_S_) shapeCasts_S4096_S4096x1)
    (mulf (broadcastInDim S4096x1 ![] bcast_S_S4096x1 (constant S_ .f32 0xBF000000#32)) (Host.divf (Host.rsqrt s) s)))
    (broadcastInDim S4096x1 ![] bcast_S_S4096x1 (constant S_ .f32 0x45000000#32))) (constant S_ .f32 0x00000000#32)
    reducesTo_S4096x1_S4096_d1 h_S_)

theorem pulls_at (x u : FVec Ideal S4096x2048 .f32) (g : FVec Ideal S1x2048 .f32) (r : Fin 4096) (k : Fin 2048) :
    pulls x (scaled u g) (means x) (ix2 r k) = pull (fun k => x (ix2 r k)) (fun k => u (ix2 r k)) (fun k => g (ix2 0 k)) := by
  pointwise [pulls, pull, scaled_at, means_at]

/-- The reference's rows. -/
theorem result_dx (x : FVec Ideal S4096x2048 .f32) (g : FVec Ideal S1x2048 .f32) (u d : FVec Ideal S4096x2048 .f32) :
    addf d (addf (addf (mulf (scaled u g) (broadcastInDim S4096x2048 ![0, 1] bcast_S4096x1_S4096x2048_0_1 (Host.rsqrt (means x))))
      (mulf x (pulls x (scaled u g) (means x)))) (mulf (pulls x (scaled u g) (means x)) x)) = dx x g u d := by
  funext y
  idx_vars y
  pointwise [dx, grad, scaled_at, means_at, pulls_at]
  exact add_comm _ _

/-- The reference's gradient of the weight. -/
theorem result_dg (x u : FVec Ideal S4096x2048 .f32) :
    broadcastInDim S1x2048 ![1] bcast_S2048_S1x2048_1 (Host.reduceAdd (shapeCast _ (Host.reduceAdd (mulf (mulf x
      (broadcastInDim S4096x2048 ![0, 1] bcast_S4096x1_S4096x2048_0_1 (Host.rsqrt (means x)))) u)
      (constant S_ .f32 0x00000000#32) reducesTo_S4096x2048_S2048_d0 h_S_) shapeCasts_S2048_S1x2048)
      (constant S_ .f32 0x00000000#32) reducesTo_S1x2048_S2048_d0 h_S_) = dg x u := by
  funext y
  idx_vars y
  pointwise [dg, means_at]
  exact Fin.sum_univ_one _

end Reference

/-- Kernel and reference leave the same two arrays. -/
theorem algebraic : Cert.algebraic_Kernel9Ideal_Reference9Ideal := fun m g m' g' _ hm => by
  refine ⟨fun c => dx (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg1))
    (m ((c.tc : Thread Cert.Kernel9Ideal.nD Cert.Kernel9Ideal.τ).loc Cert.Kernel9Ideal.main_arg2))
    (m ((c.tc : Thread Cert.Kernel9Ideal.nD Cert.Kernel9Ideal.τ).loc Cert.Kernel9Ideal.main_arg3)),
    fun c => dg (m ((c.tc : Thread Cert.Kernel9Ideal.nD Cert.Kernel9Ideal.τ).loc Cert.Kernel9Ideal.main_arg0))
    (m ((c.tc : Thread Cert.Kernel9Ideal.nD Cert.Kernel9Ideal.τ).loc Cert.Kernel9Ideal.main_arg2)), ?_, ?_⟩
  · refine (θ_run Cert.Kernel9Ideal.defs _ _).mono (fun _ h c => ?_) (Cert.Kernel9Ideal.Value.run_blocks m g)
    exact ⟨(h c).1.trans (Cert.Kernel9Ideal.Norm.array_dx m c), (h c).2.1.trans (Cert.Kernel9Ideal.Norm.array_dg m c), (h c).2.2⟩
  · refine (θ_run Cert.Reference9Ideal.defs _ _).mono (fun _ h c => ?_) (Cert.Reference9Ideal.Value.run m' g')
    obtain ⟨h0, h1, h2, h3⟩ := hm c
    refine ⟨(h c).1.trans ?_, (h c).2.1.trans ?_, (h c).2.2⟩
    · refine Eq.trans ?_ ((result_dx (m' ((c.tc : Thread Cert.Reference9Ideal.nD Cert.Reference9Ideal.τ).loc Cert.Reference9Ideal.main_arg0))
        (m' ((c.tc : Thread Cert.Reference9Ideal.nD Cert.Reference9Ideal.τ).loc Cert.Reference9Ideal.main_arg1))
        (m' ((c.tc : Thread Cert.Reference9Ideal.nD Cert.Reference9Ideal.τ).loc Cert.Reference9Ideal.main_arg2))
        (m' ((c.tc : Thread Cert.Reference9Ideal.nD Cert.Reference9Ideal.τ).loc Cert.Reference9Ideal.main_arg3))).trans ?_)
      · rfl
      · rw [h0, h1, h2, h3]
    · rw [h0, h2]
      exact result_dg _ _

end Cert.RmsBwd

end
-- ==== Proof.Update.Adam.lean ====
/- The optimiser's step: the two moments and the change of the weight, of one entry and of an array of any shape. -/
module

public import Idealize.ShloMosaic.Lib.Pointwise

@[expose] public section

noncomputable section

namespace Cert.Adam

open Idealize.ShloMosaic Idealize.ShloMosaic.TcCoe Idealize.SL.Sem

/-- The first moment after a gradient `g`. -/
def newM (g m : Elt Ideal .f32) : Elt Ideal .f32 := Ideal.ofBits .f32 0x3F666666#32 * m + Ideal.ofBits .f32 0x3DCCCCCD#32 * g

/-- The second moment after a gradient `g`. -/
def newV (g v : Elt Ideal .f32) : Elt Ideal .f32 := Ideal.ofBits .f32 0x3F7FBE77#32 * v + Ideal.ofBits .f32 0x3A83126F#32 * (g * g)

/-- The change of a weight `w` after a gradient `g`. -/
def delta (g w m v : Elt Ideal .f32) : Elt Ideal .f32 :=
  Ideal.ofBits .f32 0xBA83126F#32 * (Ideal.div (Ideal.div (newM g m) (Ideal.ofBits .f32 0x3F26BD02#32))
    (Ideal.sqrt (Ideal.div (newV g v) (Ideal.ofBits .f32 0x3C231ACC#32)) + Ideal.ofBits .f32 0x322BCC77#32)
    + Ideal.ofBits .f32 0x3C23D70A#32 * w)

/-! ## Whole arrays -/

variable {s : Shape}

/-- The first moments. -/
def firsts (g m : Vec Ideal s .f32) : Vec Ideal s .f32 := fun y => newM (g y) (m y)

/-- The second moments. -/
def seconds (g v : Vec Ideal s .f32) : Vec Ideal s .f32 := fun y => newV (g y) (v y)

/-- The changes of the weights. -/
def deltas (g w m v : Vec Ideal s .f32) : Vec Ideal s .f32 := fun y => delta (g y) (w y) (m y) (v y)

/-! ## The reference's terms -/

/-- An array with one constant everywhere. -/
def all (h : (⟨0, ![]⟩ : Shape).BroadcastsInDim s ![]) (b : BitVec 32) : FVec Ideal s .f32 :=
  broadcastInDim s ![] h (constant ⟨0, ![]⟩ .f32 b)

variable (h : (⟨0, ![]⟩ : Shape).BroadcastsInDim s ![])

/-- The reference's first moments. -/
theorem firsts_eq (g m : FVec Ideal s .f32) :
    addf (mulf (all h 0x3F666666#32) m) (mulf (all h 0x3DCCCCCD#32) g) = firsts g m := rfl

/-- The reference's second moments. -/
theorem seconds_eq (g v : FVec Ideal s .f32) :
    addf (mulf (all h 0x3F7FBE77#32) v) (mulf (all h 0x3A83126F#32) (mulf g g)) = seconds g v := rfl

/-- The reference's changes of the weights, over its moments. -/
theorem deltas_eq (g w m v : FVec Ideal s .f32) :
    mulf (all h 0xBA83126F#32) (addf (Host.divf (Host.divf (firsts g m) (all h 0x3F26BD02#32))
      (addf (Host.sqrt (Host.divf (seconds g v) (all h 0x3C231ACC#32))) (all h 0x322BCC77#32))) (mulf (all h 0x3C23D70A#32) w))
    = deltas g w m v := by
  funext y
  pointwise [all, deltas, firsts, seconds, delta]

end Cert.Adam

end
-- ==== Proof.Update.AdamSmall.lean ====
/- The optimiser's step of the replicated weights, packed in one buffer: the gathered parts of the gradient are added and the
   step is taken entry by entry. -/
module

public import proofs.«01_k».proof.Defs
public import proofs.«01_k».proof.Proof.Gen.Kernel10Ideal.Value
public import proofs.«01_k».proof.Proof.Gen.Reference10Ideal.Run
public import proofs.«01_k».proof.Proof.Update.Adam
public import Idealize.ShloMosaic.Lib.Pipeline.ValueKit

@[expose] public section

set_option maxRecDepth 16384

noncomputable section

namespace Cert.AdamSmall

open Idealize.ShloMosaic Idealize.ShloMosaic.TcCoe Idealize.SL.Sem

/-! ## Whole arrays -/

/-- The gradient: the sum of the gathered parts. -/
def grads (p : Vec Ideal Cert.Kernel10Ideal.S8x768x512 .f32) : Vec Ideal Cert.Kernel10Ideal.S768x512 .f32 :=
  fun y => ∑ j : Fin 8, p (ix3 j (y 0) (y 1))

end Cert.AdamSmall

namespace Cert.Kernel10Ideal.Step

open Cert.Kernel10Ideal Cert.Kernel10Ideal.Gen Idealize.ShloMosaic Idealize.ShloMosaic.TcCoe Idealize.SL.Sem
open Cert.Adam (newM newV delta firsts seconds deltas)
open Cert.AdamSmall (grads)

/-! ## One block -/

/-- The sum of the gathered parts. -/
def total (p : Vec Ideal S8x384x512 .f32) (y : S384x512.Idx) : Elt Ideal .f32 := ∑ j : Fin 8, p (ix3 j (y 0) (y 1))

theorem total_block (p : Vec Ideal S8x384x512 .f32) (y : S384x512.Idx) (w m v : Vec Ideal S384x512 .f32) :
    k0_pay6 p w m v y = total p y := by
  idx_vars y
  pointwise [k0_pay6, k0_pay4, total, Fin.sum_univ_eight]

theorem g_block (p : Vec Ideal S8x384x512 .f32) (w m v : Vec Ideal S384x512 .f32) (y : S384x512.Idx) :
    out0_4 p w m v y = total p y := by
  frame_out
  exact total_block p y w m v

theorem m_block (p : Vec Ideal S8x384x512 .f32) (w m v : Vec Ideal S384x512 .f32) (y : S384x512.Idx) :
    out0_6 p w m v y = newM (total p y) (m y) := by
  frame_out
  pointwise [k0_pay1, k0_pay7, k0_pay5, total_block, newM]

theorem v_block (p : Vec Ideal S8x384x512 .f32) (w m v : Vec Ideal S384x512 .f32) (y : S384x512.Idx) :
    out0_7 p w m v y = newV (total p y) (v y) := by
  frame_out
  pointwise [k0_pay2, total_block, newV]

theorem delta_block (p : Vec Ideal S8x384x512 .f32) (w m v : Vec Ideal S384x512 .f32) (y : S384x512.Idx) :
    out0_5 p w m v y = delta (total p y) (w y) (m y) (v y) := by
  frame_out
  pointwise [k0_pay3, k0_pay1, k0_pay2, k0_pay7, k0_pay5, total_block, newM, newV, delta]

/-! ## The arrays -/

variable (m : (ℓ : Loc nD τ sig) → Buf (Elt Ideal) ℓ) (c : Dev nD)

theorem idx : ∀ t : Fin cfg0.N, win0_0.index t = ![0, t.val, 0] ∧ win0_4.index t = ![t.val, 0] :=
  (by decide +kernel : ∀ t : Fin grid0.N, win0_0.index t = ![0, t.val, 0] ∧ win0_4.index t = ![t.val, 0])

/-- A block's sum of parts is the array's, at every entry of the four results' blocks. -/
theorem total_at (t : Fin cfg0.N) (y : S384x512.Idx) : total (iblk m c 0 t) y
    = grads (m ((c : Thread nD τ).loc main_arg0)) ((win0_4.blk t).view.emb y) := by
  obtain ⟨e0, e4⟩ := idx t
  refine Finset.sum_congr rfl fun j _ => ?_
  blk_ext [iblk, e0, e4]

theorem array_g : (dats m 0 c).arrAt 4 cfg0.N = grads (m ((c : Thread nD τ).loc main_arg0)) :=
  (dats m 0 c).arrAt_eq_of_covers 4 _ (by decide +kernel) fun t hf y => by
    blk_simp
    rw [after0_4, g_block, total_at]

theorem array_delta : (dats m 0 c).arrAt 5 cfg0.N = deltas (grads (m ((c : Thread nD τ).loc main_arg0)))
    (m ((c : Thread nD τ).loc main_arg1)) (m ((c : Thread nD τ).loc main_arg2)) (m ((c : Thread nD τ).loc main_arg3)) :=
  (dats m 0 c).arrAt_eq_of_covers 5 _ (by decide +kernel) fun t hf y => by
    blk_simp
    rw [after0_5, delta_block, total_at]
    unfold deltas
    congr 1

theorem array_m : (dats m 0 c).arrAt 6 cfg0.N = firsts (grads (m ((c : Thread nD τ).loc main_arg0)))
    (m ((c : Thread nD τ).loc main_arg2)) :=
  (dats m 0 c).arrAt_eq_of_covers 6 _ (by decide +kernel) fun t hf y => by
    blk_simp
    rw [after0_6, m_block, total_at]
    unfold firsts
    congr 1

theorem array_v : (dats m 0 c).arrAt 7 cfg0.N = seconds (grads (m ((c : Thread nD τ).loc main_arg0)))
    (m ((c : Thread nD τ).loc main_arg3)) :=
  (dats m 0 c).arrAt_eq_of_covers 7 _ (by decide +kernel) fun t hf y => by
    blk_simp
    rw [after0_7, v_block, total_at]
    unfold seconds
    congr 1

end Cert.Kernel10Ideal.Step

namespace Cert.AdamSmall

open Idealize.ShloMosaic Idealize.ShloMosaic.TcCoe Idealize.SL.Sem
open Cert.Adam (firsts seconds deltas)

/-- The reference leaves its arguments alone and declares no semaphore. -/
theorem frame_reference : Cert.quiescent_Reference10Ideal := fun m ρ _ =>
  (θ_run Cert.Reference10Ideal.defs _ _).mono
    (fun r h => ⟨fun c => (h c).2.2.2.2, Idealize.ShloMosaic.sem_eq_zero_of_no_sems (by decide) r.2⟩)
    (Cert.Reference10Ideal.Value.run m ρ)

section Reference

open Cert.Reference10Ideal Cert.Reference10Ideal.Gen

/-- The reference's sum of the parts. -/
theorem total_eq (p : FVec Ideal S8x768x512 .f32) :
    Host.reduceAdd p (constant S_ .f32 0x00000000#32) reducesTo_S8x768x512_S768x512_d0 h_S_ = grads p := by
  funext y
  idx_vars y
  pointwise [grads]

end Reference

/-- Kernel and reference leave the same four arrays. -/
theorem algebraic : Cert.algebraic_Kernel10Ideal_Reference10Ideal := fun m g m' g' _ hm => by
  let G := fun c : Dev Cert.Kernel10Ideal.nD =>
    grads (m ((c.tc : Thread Cert.Kernel10Ideal.nD Cert.Kernel10Ideal.τ).loc Cert.Kernel10Ideal.main_arg0))
  refine ⟨G,
    fun c => deltas (G c) (m ((c.tc : Thread Cert.Kernel10Ideal.nD Cert.Kernel10Ideal.τ).loc Cert.Kernel10Ideal.main_arg1))
      (m ((c.tc : Thread Cert.Kernel10Ideal.nD Cert.Kernel10Ideal.τ).loc Cert.Kernel10Ideal.main_arg2))
      (m ((c.tc : Thread Cert.Kernel10Ideal.nD Cert.Kernel10Ideal.τ).loc Cert.Kernel10Ideal.main_arg3)),
    fun c => firsts (G c) (m ((c.tc : Thread Cert.Kernel10Ideal.nD Cert.Kernel10Ideal.τ).loc Cert.Kernel10Ideal.main_arg2)),
    fun c => seconds (G c) (m ((c.tc : Thread Cert.Kernel10Ideal.nD Cert.Kernel10Ideal.τ).loc Cert.Kernel10Ideal.main_arg3)), ?_, ?_⟩
  · refine (θ_run Cert.Kernel10Ideal.defs _ _).mono (fun _ h c => ?_) (Cert.Kernel10Ideal.Value.run_blocks m g)
    exact ⟨(h c).1.trans (Cert.Kernel10Ideal.Step.array_g m c), (h c).2.1.trans (Cert.Kernel10Ideal.Step.array_delta m c),
      (h c).2.2.1.trans (Cert.Kernel10Ideal.Step.array_m m c), (h c).2.2.2.1.trans (Cert.Kernel10Ideal.Step.array_v m c), (h c).2.2.2.2⟩
  · refine (θ_run Cert.Reference10Ideal.defs _ _).mono (fun _ h c => ?_) (Cert.Reference10Ideal.Value.run m' g')
    obtain ⟨h0, h1, h2, h3⟩ := hm c
    obtain ⟨r0, r1, r2, r3, r4⟩ := h c
    rw [h0, total_eq] at r0 r1 r2 r3
    rw [h2] at r1 r2
    rw [h3] at r1 r3
    rw [h1] at r1
    exact ⟨r0, r1.trans (Adam.deltas_eq Cert.Reference10Ideal.Gen.bcast_S_S768x512 _ _ _ _), r2, r3, r4⟩

end Cert.AdamSmall

end
-- ==== Proof.Update.Device.lean ====
/- Which device a word names: the precondition of the optimiser's calls of the split weights, read. -/
module

public import Idealize.ShloMosaic.Lib.Pointwise

@[expose] public section

namespace Cert.Device

open Idealize.ShloMosaic

/-- The word that names device `k` of the eight. -/
def word (k : Fin 8) : BitVec 32 := BitVec.ofNat 32 k.val

theorem andi_ofBool (p q : Bool) : IntOp.andi (BitVec.ofBool p) (BitVec.ofBool q) = BitVec.ofBool (p && q) := by
  cases p <;> cases q <;> decide

theorem ofBool_eq_one (p : Bool) : (BitVec.ofBool p = 1#1) ↔ p = true := by cases p <;> decide

/-- A word between 0 and 7 names a device. -/
theorem exists_word (w : BitVec 32) (h : w.toNat < 8) : ∃ k : Fin 8, w = word k :=
  ⟨⟨w.toNat, h⟩, by simp [word]⟩

/-- Different devices have different words. -/
theorem word_eq (j k : Fin 8) : word j = word k ↔ j = k := by revert j k; decide

/-- A choice by the comparison of two words, read. -/
theorem select_eq {α : Type} (a b : α) (w v : BitVec 32) :
    Scalar.select (Scalar.cmpi .eq w v) a b = if w = v then a else b := by
  unfold Scalar.select Scalar.cmpi
  by_cases h : w = v <;> simp [IntOp.cmpi, ofBool_eq_one, h]

/-- The reference's choice: it compares the number of the part with the word. -/
theorem choose_eq {α : Type} (a b : α) (w : BitVec 32) (k : Fin 8) :
    Scalar.select (IntOp.cmpi .eq (BitVec.ofNat 32 k.val) w) a b = if w = word k then a else b := by
  refine (select_eq a b _ w).trans ?_
  simp only [eq_comm (a := w)]
  rfl

/-- An array of one word has one index. -/
theorem idx_eq (x y : (⟨1, ![1]⟩ : Shape).Idx) : x = y := by
  funext a
  obtain rfl : a = 0 := Subsingleton.elim _ _
  have hx : (x 0).val < 1 := (x 0).isLt
  have hy : (y 0).val < 1 := (y 0).isLt
  exact Fin.ext (by omega)

/-- The precondition `0 ≤ me` and `me < 8`, decoded: `me` names a device. -/
theorem of_pre (me : IVec ⟨1, ![1]⟩ 32) (hb : (⟨0, ![]⟩ : Shape).BroadcastsInDim ⟨1, ![1]⟩ ![])
    (h : andi (cmpi .sge me (broadcastInDim ⟨1, ![1]⟩ ![] hb (constantI ⟨0, ![]⟩ 32 0#32)))
      (cmpi .slt me (broadcastInDim ⟨1, ![1]⟩ ![] hb (constantI ⟨0, ![]⟩ 32 8#32))) = fun _ => 1#1) :
    ∃ k : Fin 8, me = fun _ => word k := by
  have e := congrFun h (ix1 0)
  simp only [andi, cmpi, broadcastInDim, constantI] at e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  obtain ⟨k, hk⟩ := exists_word (me (ix1 0)) (by omega)
  refine ⟨k, funext fun y => ?_⟩
  rw [← hk]
  exact congrArg me (idx_eq _ _)

end Cert.Device
-- ==== Proof.Update.Parts.lean ====
/- The sum of the devices' parts of a gradient: the parts that arrived from the other devices, and the device's own. -/
module

public import proofs.«01_k».proof.Proof.Update.Device

@[expose] public section

noncomputable section

namespace Cert.Parts

open Idealize.ShloMosaic
open Cert.Device (word)

variable {a b : Nat}

/-- A part as long as the whole weight on this device. -/
abbrev S (a b : Nat) : Shape := ⟨2, ![a, b]⟩

/-- `n` parts one after the other. -/
abbrev Ss (n a b : Nat) : Shape := ⟨3, ![n, a, b]⟩

/-- The gradient: the sum of the devices' parts, the part of the device that `me` names read from `own`. -/
def grads (p own : Vec Ideal (Ss 8 a b) .f32) (me : Elt Ideal .i32) : Vec Ideal (S a b) .f32 :=
  fun y => ∑ j : Fin 8, if me = word j then own (ix3 j (y 0) (y 1)) else p (ix3 j (y 0) (y 1))

/-- The sum over one block, of whose own parts only the named device's is at hand. -/
def total (p : Vec Ideal (Ss 8 a b) .f32) (own : Vec Ideal (Ss 1 a b) .f32) (me : Elt Ideal .i32) (y : (S a b).Idx) : Elt Ideal .f32 :=
  ∑ j : Fin 8, if me = word j then own (ix3 0 (y 0) (y 1)) else p (ix3 j (y 0) (y 1))

/-- A block's sum is the array's, where the blocks hold the arrays' entries and the named device's own part is at hand. -/
theorem total_eq {a' b' : Nat} (p : Vec Ideal (Ss 8 a b) .f32) (own : Vec Ideal (Ss 1 a b) .f32) (P Own : Vec Ideal (Ss 8 a' b') .f32)
    (k : Fin 8) (y : (S a b).Idx) (z : (S a' b').Idx) (hp : ∀ j, p (ix3 j (y 0) (y 1)) = P (ix3 j (z 0) (z 1)))
    (ho : own (ix3 0 (y 0) (y 1)) = Own (ix3 k (z 0) (z 1))) : total p own (word k) y = grads P Own (word k) z := by
  refine Finset.sum_congr rfl fun j _ => ?_
  by_cases h : word k = word j
  · rw [if_pos h, if_pos h, ← (Cert.Device.word_eq _ _).mp h]
    exact ho
  · rw [if_neg h, if_neg h]
    exact hp j

/-- The reference's choice of the device's own part, and its sum. -/
theorem reference_eq (p own : FVec Ideal (Ss 8 a b) .f32) (me : IVec ⟨1, ![1]⟩ 32)
    (h3 : (⟨3, ![8, 1, 1]⟩ : Shape).BroadcastsInDim (Ss 8 a b) ![0, 1, 2]) (h1 : (⟨1, ![8]⟩ : Shape).BroadcastsInDim ⟨3, ![8, 1, 1]⟩ ![0])
    (h0 : (⟨0, ![]⟩ : Shape).BroadcastsInDim ⟨3, ![8, 1, 1]⟩ ![]) (hs : (⟨1, ![1]⟩ : Shape).ShapeCasts ⟨0, ![]⟩)
    (hr : (Ss 8 a b).ReducesTo [0] (S a b)) (hi : 0 < (⟨0, ![]⟩ : Shape).numel) :
    Host.reduceAdd (select (broadcastInDim (Ss 8 a b) ![0, 1, 2] h3
      (cmpi .eq (broadcastInDim ⟨3, ![8, 1, 1]⟩ ![0] h1 (iotaInDim ⟨1, ![8]⟩ 32 0))
        (broadcastInDim ⟨3, ![8, 1, 1]⟩ ![] h0 (shapeCast ⟨0, ![]⟩ me hs)))) own p)
      (constant ⟨0, ![]⟩ .f32 0x00000000#32) hr hi = grads p own (me (ix1 0)) := by
  funext y
  rw [eq_ix2 y]
  generalize y 0 = y0, y 1 = y1
  pointwise [grads]
  exact Finset.sum_congr rfl fun j _ => Cert.Device.choose_eq _ _ _ j

end Cert.Parts

end
-- ==== Proof.Update.AdamCols.lean ====
/- The optimiser's step of the weights split by columns: the parts of the gradient that arrived from the other devices and the
   device's own part are added, and the step is taken entry by entry. -/
module

public import proofs.«01_k».proof.Defs
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Pre_cols_me
public import proofs.«01_k».proof.Proof.Update.Adam
public import proofs.«01_k».proof.Proof.Update.Parts
public import Idealize.ShloMosaic.Lib.Pipeline.Value
public import Idealize.ShloMosaic.Lib.Pipeline.ValueKit

@[expose] public section

set_option maxRecDepth 16384

noncomputable section

/-! ## The table: the word that names the device -/

namespace Cert.Kernel11.Step

open Cert.Kernel11 Cert.Kernel11.Gen Idealize.ShloMosaic Idealize.ShloMosaic.TcCoe Idealize.SL.Sem
open Cert.Device (word)

set_option backward.proofsInPublic true in
/-- The table that names device `k`. -/
def names (k : Fin 8) : pre0.Contents (Elt Bits) := fun | ⟨0, _⟩ => fun _ => word k | ⟨_ + 1, h⟩ => absurd h (by simp)

/-- Every such table's blocks are inside their arrays. -/
theorem ok_names : ∀ k : Fin 8, ok0 (F := Bits) (names k) := by decide +kernel

/-- So the side condition holds under the precondition. -/
theorem ok (m : (ℓ : Loc nD τ sig) → Buf (Elt Bits) ℓ) (h : Cert.Pre_Kernel11 m) : Ok m := by
  obtain ⟨k, hk⟩ := Cert.Device.of_pre _ _ (h 0)
  have e : tbl m = names k := funext fun | ⟨0, _⟩ => hk
  unfold Ok
  rw [e]
  exact ok_names k

end Cert.Kernel11.Step

namespace Cert.Kernel11Ideal.Step

open Cert.Kernel11Ideal Cert.Kernel11Ideal.Gen Idealize.ShloMosaic Idealize.ShloMosaic.TcCoe Idealize.SL.Sem
open Cert.Device (word)

set_option backward.proofsInPublic true in
/-- The table that names device `k`. -/
def names (k : Fin 8) : pre0.Contents (Elt Ideal) := fun | ⟨0, _⟩ => fun _ => word k | ⟨_ + 1, h⟩ => absurd h (by simp)

/-- Every such table's blocks are inside their arrays. -/
theorem ok_names : ∀ k : Fin 8, ok0 (F := Ideal) (names k) := by decide +kernel

variable (m : (ℓ : Loc nD τ sig) → Buf (Elt Ideal) ℓ)

/-- The precondition, decoded. -/
theorem tbl_names (h : Cert.Pre_Kernel11Ideal m) : ∃ k : Fin 8, tbl m = names k := by
  obtain ⟨k, hk⟩ := Cert.Device.of_pre _ _ (h 0)
  exact ⟨k, funext fun | ⟨0, _⟩ => hk⟩

/-- So the side condition holds under it. -/
theorem ok (h : Cert.Pre_Kernel11Ideal m) : Ok m := by
  obtain ⟨k, e⟩ := tbl_names m h
  unfold Ok
  rw [e]
  exact ok_names k

/-! ## Which blocks -/

/-- The table that names device 0, as one the region may find. -/
abbrev some : (pcfg0 (F := Ideal)).Adm := ⟨names 0, ok_names 0⟩

theorem covers : ((cfg0 some).win 5).Covers ∧ ((cfg0 some).win 6).Covers ∧ ((cfg0 some).win 7).Covers
    ∧ ((cfg0 some).win 8).Covers := by decide +kernel

theorem idx_own : ∀ (k : Fin 8) (i : grid0.Coords),
    cc0_transform_1 inb_S1_S1_0 numel1_S1 (names k) i = ![k.val, (i 0).val, 0] := by decide +kernel

/-! ## One block -/

open Cert.Adam (newM newV delta firsts seconds deltas)
open Cert.Parts (grads total)

theorem total_block (p : Vec Ideal S8x512x256 .f32) (own : Vec Ideal S1x512x256 .f32) (me : Elt Ideal .i32) (y : S512x256.Idx) :
    k0_pay4 (k0_pay2 own) (k0_pay3 own
        me (View.ld p (Rect.unit ![0, 0, 0] ![1, 512, 256] inb_S8x512x256_S1x512x256_0_0_0))
        me (View.ld p (Rect.unit ![1, 0, 0] ![1, 512, 256] inb_S8x512x256_S1x512x256_1_0_0))
        me (View.ld p (Rect.unit ![2, 0, 0] ![1, 512, 256] inb_S8x512x256_S1x512x256_2_0_0))
        me (View.ld p (Rect.unit ![3, 0, 0] ![1, 512, 256] inb_S8x512x256_S1x512x256_3_0_0))
        me (View.ld p (Rect.unit ![4, 0, 0] ![1, 512, 256] inb_S8x512x256_S1x512x256_4_0_0)))
      me (View.ld p (Rect.unit ![5, 0, 0] ![1, 512, 256] inb_S8x512x256_S1x512x256_5_0_0))
      me (View.ld p (Rect.unit ![6, 0, 0] ![1, 512, 256] inb_S8x512x256_S1x512x256_6_0_0))
      me (View.ld p (Rect.unit ![7, 0, 0] ![1, 512, 256] inb_S8x512x256_S1x512x256_7_0_0)) y = total p own me y := by
  idx_vars y
  pointwise [k0_pay4, k0_pay3, k0_pay2, total, Fin.sum_univ_eight]
  simp only [Cert.Device.select_eq]
  rfl

section Block

variable (c : Dev nD) (i : grid0.Coords) (a0 : Memref sig .tc .vmem S8x512x256 .f32) (h0 : a0.IsWhole)
  (a1 : Memref sig .tc .vmem S1x512x256 .f32) (h1 : a1.IsWhole) (a2 a3 a4 a5 a6 a7 a8 : Memref sig .tc .vmem S512x256 .f32)
  (h2 : a2.IsWhole) (h3 : a3.IsWhole) (h4 : a4.IsWhole) (h5 : a5.IsWhole) (h6 : a6.IsWhole) (h7 : a7.IsWhole) (h8 : a8.IsWhole)
  (p : Vec Ideal S8x512x256 .f32) (own : Vec Ideal S1x512x256 .f32) (w m v : Vec Ideal S512x256 .f32)
  (me : TbBuf0 (F := Ideal) c tbM0_0) (y : S512x256.Idx)

/-- The word the body reads from the table. -/
theorem word_at (h) : View.read (Elt Ideal) (View.whole main_arg2) me (Shape.Idx.first (s := S1) h) = me (ix1 0) :=
  congrArg me (Cert.Device.idx_eq _ _)

theorem g_block : out0_A_5 c i a0 h0 a1 h1 a2 h2 a3 h3 a4 h4 a5 h5 a6 h6 a7 h7 a8 h8 p own w m v me y
    = total p own (me (ix1 0)) y := by
  frame_out
  exact (total_block p own _ y).trans (by rw [word_at])

theorem m_block : out0_A_7 c i a0 h0 a1 h1 a2 h2 a3 h3 a4 h4 a5 h5 a6 h6 a7 h7 a8 h8 p own w m v me y
    = newM (total p own (me (ix1 0)) y) (m y) := by
  frame_out
  pointwise [k0_pay5, total_block, word_at, newM]

theorem v_block : out0_A_8 c i a0 h0 a1 h1 a2 h2 a3 h3 a4 h4 a5 h5 a6 h6 a7 h7 a8 h8 p own w m v me y
    = newV (total p own (me (ix1 0)) y) (v y) := by
  frame_out
  pointwise [k0_pay6, total_block, word_at, newV]

theorem delta_block : out0_A_6 c i a0 h0 a1 h1 a2 h2 a3 h3 a4 h4 a5 h5 a6 h6 a7 h7 a8 h8 p own w m v me y
    = delta (total p own (me (ix1 0)) y) (w y) (m y) (v y) := by
  frame_out
  pointwise [k0_pay1, k0_pay5, k0_pay6, k0_pay7, total_block, word_at, newM, newV, delta]

end Block

/-! ## The arrays -/

variable (k : Fin 8) (e : tbl m = names k) (hO : Ok m) (c : Dev nD)

theorem idx (a : (pcfg0 (F := Ideal)).Adm) : ∀ t : Fin (cfg0 a).N, ((cfg0 a).win 0).index t = ![0, (grid0.coords t 0).val, 0]
    ∧ ((cfg0 a).win 5).index t = ![(grid0.coords t 0).val, 0] :=
  (by decide +kernel : ∀ t : Fin grid0.N, ((cfg0 some).win 0).index t = ![0, (grid0.coords t 0).val, 0]
    ∧ ((cfg0 some).win 5).index t = ![(grid0.coords t 0).val, 0])

include e in
theorem idx1 (t : Fin (cfgM m hO).N) : ((cfgM m hO).win 1).index t = ![k.val, (grid0.coords t 0).val, 0] := by
  show cc0_transform_1 inb_S1_S1_0 numel1_S1 (tbl m) (grid0.coords t) = _
  rw [e]
  exact idx_own k _

include e in
/-- A block's sum is the array's, at every entry of the four results' blocks. -/
theorem total_at (t : Fin (cfgM m hO).N) (y : S512x256.Idx) : total (iblk m hO c 0 t) (iblk m hO c 1 t) (tbl m 0 (ix1 0)) y
    = grads (m ((c : Thread nD τ).loc main_arg0)) (m ((c : Thread nD τ).loc main_arg1)) (m ((c : Thread nD τ).loc main_arg2) (ix1 0))
      ((((cfgM m hO).win 5).blk t).view.emb y) := by
  obtain ⟨e0, e5⟩ := idx (adm m hO) t
  have e1 := idx1 m k e hO t
  obtain rfl : c = 0 := Subsingleton.elim _ _
  have w : tbl m 0 (ix1 0) = word k := by rw [e]; rfl
  have w' : m (((0 : Dev nD) : Thread nD τ).loc main_arg2) (ix1 0) = word k := w
  rw [w, w']
  refine Cert.Parts.total_eq _ _ _ _ k _ _ (fun j => ?_) ?_
  · blk_ext [iblk, e0, e5]
  · blk_ext [iblk, e1, e5]

/-- The sum of the parts at a point, entry by entry of the block. -/
abbrev sum (t : Fin (cfgM m hO).N) (y : S512x256.Idx) : Elt Ideal .f32 :=
  total (iblk m hO c 0 t) (iblk m hO c 1 t) (tbl m 0 (ix1 0)) y

variable (t : Fin (cfgM m hO).N) (y : S512x256.Idx)

theorem out_g : (outsAt0 m hO c t).1 y = sum m hO c t y := by
  unfold outsAt0
  dsimp only
  exact g_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

theorem out_delta : (outsAt0 m hO c t).2.1 y = delta (sum m hO c t y) (iblk m hO c 2 t y) (iblk m hO c 3 t y) (iblk m hO c 4 t y) := by
  unfold outsAt0
  dsimp only
  exact delta_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

theorem out_m : (outsAt0 m hO c t).2.2.1 y = newM (sum m hO c t y) (iblk m hO c 3 t y) := by
  unfold outsAt0
  dsimp only
  exact m_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

theorem out_v : (outsAt0 m hO c t).2.2.2 y = newV (sum m hO c t y) (iblk m hO c 4 t y) := by
  unfold outsAt0
  dsimp only
  exact v_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

/-- The array of the gradient. -/
abbrev G : Vec Ideal S1024x256 .f32 := grads (m ((c : Thread nD τ).loc main_arg0)) (m ((c : Thread nD τ).loc main_arg1))
  (m ((c : Thread nD τ).loc main_arg2) (ix1 0))

/-- The array of the changes of the weights. -/
abbrev D : Vec Ideal S1024x256 .f32 := deltas (G m c) (m ((c : Thread nD τ).loc main_arg3)) (m ((c : Thread nD τ).loc main_arg4))
  (m ((c : Thread nD τ).loc main_arg5))

/-- The arrays of the two moments. -/
abbrev M1 : Vec Ideal S1024x256 .f32 := firsts (G m c) (m ((c : Thread nD τ).loc main_arg4))

abbrev M2 : Vec Ideal S1024x256 .f32 := seconds (G m c) (m ((c : Thread nD τ).loc main_arg5))

include e

theorem array_g : (dats m hO 0 c).arrAt 5 (cfgM m hO).N = G m c :=
  (dats m hO 0 c).arrAt_eq_of_covers 5 _ covers.1 fun t hf y => by
    blk_simp
    refine (congrFun (after0_5 m hO c t) y).trans ((out_g m hO c t y).trans ?_)
    exact total_at m k e hO c t y

theorem array_delta : (dats m hO 0 c).arrAt 6 (cfgM m hO).N = D m c :=
  (dats m hO 0 c).arrAt_eq_of_covers 6 _ covers.2.1 fun t hf y => by
    blk_simp
    refine (congrFun (after0_6 m hO c t) y).trans ((out_delta m hO c t y).trans ?_)
    exact congrArg (delta · _ _ _) (total_at m k e hO c t y)

theorem array_m : (dats m hO 0 c).arrAt 7 (cfgM m hO).N = M1 m c :=
  (dats m hO 0 c).arrAt_eq_of_covers 7 _ covers.2.2.1 fun t hf y => by
    blk_simp
    refine (congrFun (after0_7 m hO c t) y).trans ((out_m m hO c t y).trans ?_)
    exact congrArg (newM · _) (total_at m k e hO c t y)

theorem array_v : (dats m hO 0 c).arrAt 8 (cfgM m hO).N = M2 m c :=
  (dats m hO 0 c).arrAt_eq_of_covers 8 _ covers.2.2.2 fun t hf y => by
    blk_simp
    refine (congrFun (after0_8 m hO c t) y).trans ((out_v m hO c t y).trans ?_)
    exact congrArg (newV · _) (total_at m k e hO c t y)

end Cert.Kernel11Ideal.Step

namespace Cert.AdamCols

open Idealize.ShloMosaic Idealize.ShloMosaic.TcCoe Idealize.SL.Sem

/-! ## The claims -/

/-- The kernel leaves its arguments alone and ends with every semaphore at zero, where the word names a device. -/
theorem frame_kernel : Cert.quiescent_Kernel11 := fun m ρ h => Cert.Kernel11.Gen.frame m ρ (Cert.Kernel11.Step.ok m h)

/-- So does its ideal reading. -/
theorem frame_ideal : Cert.quiescent_Kernel11Ideal := fun m ρ h =>
  Cert.Kernel11Ideal.Gen.frame m ρ (Cert.Kernel11Ideal.Step.ok m h)

/-- The reference leaves its arguments alone and declares no semaphore. -/
theorem frame_reference : Cert.quiescent_Reference11Ideal := fun m ρ _ =>
  (θ_run Cert.Reference11Ideal.defs _ _).mono
    (fun r h => ⟨fun c => (h c).2.2.2.2, Idealize.ShloMosaic.sem_eq_zero_of_no_sems (by decide) r.2⟩)
    (Cert.Reference11Ideal.Value.run m ρ)

theorem frame_reference_pre : Cert.quiescent_Reference11Ideal_pre_cols_me := fun m ρ _ => frame_reference m ρ trivial

/-- Kernel and reference leave the same four arrays. -/
theorem algebraic : Cert.algebraic_Kernel11Ideal_Reference11Ideal := fun m g m' g' hp hm => by
  refine ⟨Cert.Kernel11Ideal.Step.G m, Cert.Kernel11Ideal.Step.D m, Cert.Kernel11Ideal.Step.M1 m, Cert.Kernel11Ideal.Step.M2 m, ?_, ?_⟩
  · have hO := Cert.Kernel11Ideal.Step.ok m hp
    obtain ⟨k, e⟩ := Cert.Kernel11Ideal.Step.tbl_names m hp
    refine (θ_run Cert.Kernel11Ideal.defs _ _).mono (fun _ h c => ?_) (Cert.Kernel11Ideal.Gen.run_main m g hO)
    exact ⟨(h.out_eq c 5).trans (Cert.Kernel11Ideal.Step.array_g m k e hO c),
      (h.out_eq c 6).trans (Cert.Kernel11Ideal.Step.array_delta m k e hO c),
      (h.out_eq c 7).trans (Cert.Kernel11Ideal.Step.array_m m k e hO c),
      (h.out_eq c 8).trans (Cert.Kernel11Ideal.Step.array_v m k e hO c),
      h.in_eq c 0 rfl, h.in_eq c 1 rfl, (h c).2 Cert.Kernel11Ideal.main_arg2
        (by decide : Cert.Kernel11Ideal.main_arg2 ∈ Pipeline.restRefs Cert.Kernel11Ideal.sig Cert.Kernel11Ideal.spec0), h.in_eq c 2 rfl, h.in_eq c 3 rfl,
      h.in_eq c 4 rfl⟩
  · refine (θ_run Cert.Reference11Ideal.defs _ _).mono (fun _ h c => ?_) (Cert.Reference11Ideal.Value.run m' g')
    obtain ⟨h0, h1, h2, h3, h4, h5⟩ := hm c
    obtain ⟨r0, r1, r2, r3, r4⟩ := h c
    rw [h0, h1, h2, Cert.Parts.reference_eq] at r0 r1 r2 r3
    rw [h4] at r1 r2
    rw [h5] at r1 r3
    rw [h3] at r1
    exact ⟨r0, r1.trans (Adam.deltas_eq Cert.Reference11Ideal.Gen.bcast_S_S1024x256 _ _ _ _), r2, r3, r4⟩

end Cert.AdamCols

end
-- ==== Proof.Update.AdamRows.lean ====
/- The optimiser's step of the weights split by rows: the parts of the gradient that arrived from the other devices and the
   device's own part are added, and the step is taken entry by entry. -/
module

public import proofs.«01_k».proof.Defs
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Pre_rows_me
public import proofs.«01_k».proof.Proof.Update.Adam
public import proofs.«01_k».proof.Proof.Update.Parts
public import Idealize.ShloMosaic.Lib.Pipeline.Value
public import Idealize.ShloMosaic.Lib.Pipeline.ValueKit

@[expose] public section

set_option maxRecDepth 16384

noncomputable section

/-! ## The table: the word that names the device -/

namespace Cert.Kernel12.Step

open Cert.Kernel12 Cert.Kernel12.Gen Idealize.ShloMosaic Idealize.ShloMosaic.TcCoe Idealize.SL.Sem
open Cert.Device (word)

set_option backward.proofsInPublic true in
/-- The table that names device `k`. -/
def names (k : Fin 8) : pre0.Contents (Elt Bits) := fun | ⟨0, _⟩ => fun _ => word k | ⟨_ + 1, h⟩ => absurd h (by simp)

/-- Every such table's blocks are inside their arrays. -/
theorem ok_names : ∀ k : Fin 8, ok0 (F := Bits) (names k) := by decide +kernel

/-- So the side condition holds under the precondition. -/
theorem ok (m : (ℓ : Loc nD τ sig) → Buf (Elt Bits) ℓ) (h : Cert.Pre_Kernel12 m) : Ok m := by
  obtain ⟨k, hk⟩ := Cert.Device.of_pre _ _ (h 0)
  have e : tbl m = names k := funext fun | ⟨0, _⟩ => hk
  unfold Ok
  rw [e]
  exact ok_names k

end Cert.Kernel12.Step

namespace Cert.Kernel12Ideal.Step

open Cert.Kernel12Ideal Cert.Kernel12Ideal.Gen Idealize.ShloMosaic Idealize.ShloMosaic.TcCoe Idealize.SL.Sem
open Cert.Device (word)

set_option backward.proofsInPublic true in
/-- The table that names device `k`. -/
def names (k : Fin 8) : pre0.Contents (Elt Ideal) := fun | ⟨0, _⟩ => fun _ => word k | ⟨_ + 1, h⟩ => absurd h (by simp)

/-- Every such table's blocks are inside their arrays. -/
theorem ok_names : ∀ k : Fin 8, ok0 (F := Ideal) (names k) := by decide +kernel

variable (m : (ℓ : Loc nD τ sig) → Buf (Elt Ideal) ℓ)

/-- The precondition, decoded. -/
theorem tbl_names (h : Cert.Pre_Kernel12Ideal m) : ∃ k : Fin 8, tbl m = names k := by
  obtain ⟨k, hk⟩ := Cert.Device.of_pre _ _ (h 0)
  exact ⟨k, funext fun | ⟨0, _⟩ => hk⟩

/-- So the side condition holds under it. -/
theorem ok (h : Cert.Pre_Kernel12Ideal m) : Ok m := by
  obtain ⟨k, e⟩ := tbl_names m h
  unfold Ok
  rw [e]
  exact ok_names k

/-! ## Which blocks -/

/-- The table that names device 0, as one the region may find. -/
abbrev some : (pcfg0 (F := Ideal)).Adm := ⟨names 0, ok_names 0⟩

theorem covers : ((cfg0 some).win 5).Covers ∧ ((cfg0 some).win 6).Covers ∧ ((cfg0 some).win 7).Covers
    ∧ ((cfg0 some).win 8).Covers := by decide +kernel

theorem idx_own : ∀ (k : Fin 8) (i : grid0.Coords),
    cc0_transform_1 inb_S1_S1_0 numel1_S1 (names k) i = ![k.val, (i 0).val, 0] := by decide +kernel

/-! ## One block -/

open Cert.Adam (newM newV delta firsts seconds deltas)
open Cert.Parts (grads total)

theorem total_block (p : Vec Ideal S8x64x2048 .f32) (own : Vec Ideal S1x64x2048 .f32) (me : Elt Ideal .i32) (y : S64x2048.Idx) :
    k0_pay4 (k0_pay2 own) (k0_pay3 own
        me (View.ld p (Rect.unit ![0, 0, 0] ![1, 64, 2048] inb_S8x64x2048_S1x64x2048_0_0_0))
        me (View.ld p (Rect.unit ![1, 0, 0] ![1, 64, 2048] inb_S8x64x2048_S1x64x2048_1_0_0))
        me (View.ld p (Rect.unit ![2, 0, 0] ![1, 64, 2048] inb_S8x64x2048_S1x64x2048_2_0_0))
        me (View.ld p (Rect.unit ![3, 0, 0] ![1, 64, 2048] inb_S8x64x2048_S1x64x2048_3_0_0))
        me (View.ld p (Rect.unit ![4, 0, 0] ![1, 64, 2048] inb_S8x64x2048_S1x64x2048_4_0_0)))
      me (View.ld p (Rect.unit ![5, 0, 0] ![1, 64, 2048] inb_S8x64x2048_S1x64x2048_5_0_0))
      me (View.ld p (Rect.unit ![6, 0, 0] ![1, 64, 2048] inb_S8x64x2048_S1x64x2048_6_0_0))
      me (View.ld p (Rect.unit ![7, 0, 0] ![1, 64, 2048] inb_S8x64x2048_S1x64x2048_7_0_0)) y = total p own me y := by
  idx_vars y
  pointwise [k0_pay4, k0_pay3, k0_pay2, total, Fin.sum_univ_eight]
  simp only [Cert.Device.select_eq]
  rfl

section Block

variable (c : Dev nD) (i : grid0.Coords) (a0 : Memref sig .tc .vmem S8x64x2048 .f32) (h0 : a0.IsWhole)
  (a1 : Memref sig .tc .vmem S1x64x2048 .f32) (h1 : a1.IsWhole) (a2 a3 a4 a5 a6 a7 a8 : Memref sig .tc .vmem S64x2048 .f32)
  (h2 : a2.IsWhole) (h3 : a3.IsWhole) (h4 : a4.IsWhole) (h5 : a5.IsWhole) (h6 : a6.IsWhole) (h7 : a7.IsWhole) (h8 : a8.IsWhole)
  (p : Vec Ideal S8x64x2048 .f32) (own : Vec Ideal S1x64x2048 .f32) (w m v : Vec Ideal S64x2048 .f32)
  (me : TbBuf0 (F := Ideal) c tbM0_0) (y : S64x2048.Idx)

/-- The word the body reads from the table. -/
theorem word_at (h) : View.read (Elt Ideal) (View.whole main_arg2) me (Shape.Idx.first (s := S1) h) = me (ix1 0) :=
  congrArg me (Cert.Device.idx_eq _ _)

theorem g_block : out0_A_5 c i a0 h0 a1 h1 a2 h2 a3 h3 a4 h4 a5 h5 a6 h6 a7 h7 a8 h8 p own w m v me y
    = total p own (me (ix1 0)) y := by
  frame_out
  exact (total_block p own _ y).trans (by rw [word_at])

theorem m_block : out0_A_7 c i a0 h0 a1 h1 a2 h2 a3 h3 a4 h4 a5 h5 a6 h6 a7 h7 a8 h8 p own w m v me y
    = newM (total p own (me (ix1 0)) y) (m y) := by
  frame_out
  pointwise [k0_pay5, total_block, word_at, newM]

theorem v_block : out0_A_8 c i a0 h0 a1 h1 a2 h2 a3 h3 a4 h4 a5 h5 a6 h6 a7 h7 a8 h8 p own w m v me y
    = newV (total p own (me (ix1 0)) y) (v y) := by
  frame_out
  pointwise [k0_pay6, total_block, word_at, newV]

theorem delta_block : out0_A_6 c i a0 h0 a1 h1 a2 h2 a3 h3 a4 h4 a5 h5 a6 h6 a7 h7 a8 h8 p own w m v me y
    = delta (total p own (me (ix1 0)) y) (w y) (m y) (v y) := by
  frame_out
  pointwise [k0_pay1, k0_pay5, k0_pay6, k0_pay7, total_block, word_at, newM, newV, delta]

end Block

/-! ## The arrays -/

variable (k : Fin 8) (e : tbl m = names k) (hO : Ok m) (c : Dev nD)

theorem idx (a : (pcfg0 (F := Ideal)).Adm) : ∀ t : Fin (cfg0 a).N, ((cfg0 a).win 0).index t = ![0, (grid0.coords t 0).val, 0]
    ∧ ((cfg0 a).win 5).index t = ![(grid0.coords t 0).val, 0] :=
  (by decide +kernel : ∀ t : Fin grid0.N, ((cfg0 some).win 0).index t = ![0, (grid0.coords t 0).val, 0]
    ∧ ((cfg0 some).win 5).index t = ![(grid0.coords t 0).val, 0])

include e in
theorem idx1 (t : Fin (cfgM m hO).N) : ((cfgM m hO).win 1).index t = ![k.val, (grid0.coords t 0).val, 0] := by
  show cc0_transform_1 inb_S1_S1_0 numel1_S1 (tbl m) (grid0.coords t) = _
  rw [e]
  exact idx_own k _

include e in
/-- A block's sum is the array's, at every entry of the four results' blocks. -/
theorem total_at (t : Fin (cfgM m hO).N) (y : S64x2048.Idx) : total (iblk m hO c 0 t) (iblk m hO c 1 t) (tbl m 0 (ix1 0)) y
    = grads (m ((c : Thread nD τ).loc main_arg0)) (m ((c : Thread nD τ).loc main_arg1)) (m ((c : Thread nD τ).loc main_arg2) (ix1 0))
      ((((cfgM m hO).win 5).blk t).view.emb y) := by
  obtain ⟨e0, e5⟩ := idx (adm m hO) t
  have e1 := idx1 m k e hO t
  obtain rfl : c = 0 := Subsingleton.elim _ _
  have w : tbl m 0 (ix1 0) = word k := by rw [e]; rfl
  have w' : m (((0 : Dev nD) : Thread nD τ).loc main_arg2) (ix1 0) = word k := w
  rw [w, w']
  refine Cert.Parts.total_eq _ _ _ _ k _ _ (fun j => ?_) ?_
  · blk_ext [iblk, e0, e5]
  · blk_ext [iblk, e1, e5]

/-- The sum of the parts at a point, entry by entry of the block. -/
abbrev sum (t : Fin (cfgM m hO).N) (y : S64x2048.Idx) : Elt Ideal .f32 :=
  total (iblk m hO c 0 t) (iblk m hO c 1 t) (tbl m 0 (ix1 0)) y

variable (t : Fin (cfgM m hO).N) (y : S64x2048.Idx)

theorem out_g : (outsAt0 m hO c t).1 y = sum m hO c t y := by
  unfold outsAt0
  dsimp only
  exact g_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

theorem out_delta : (outsAt0 m hO c t).2.1 y = delta (sum m hO c t y) (iblk m hO c 2 t y) (iblk m hO c 3 t y) (iblk m hO c 4 t y) := by
  unfold outsAt0
  dsimp only
  exact delta_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

theorem out_m : (outsAt0 m hO c t).2.2.1 y = newM (sum m hO c t y) (iblk m hO c 3 t y) := by
  unfold outsAt0
  dsimp only
  exact m_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

theorem out_v : (outsAt0 m hO c t).2.2.2 y = newV (sum m hO c t y) (iblk m hO c 4 t y) := by
  unfold outsAt0
  dsimp only
  exact v_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

/-- The array of the gradient. -/
abbrev G : Vec Ideal S256x2048 .f32 := grads (m ((c : Thread nD τ).loc main_arg0)) (m ((c : Thread nD τ).loc main_arg1))
  (m ((c : Thread nD τ).loc main_arg2) (ix1 0))

/-- The array of the changes of the weights. -/
abbrev D : Vec Ideal S256x2048 .f32 := deltas (G m c) (m ((c : Thread nD τ).loc main_arg3)) (m ((c : Thread nD τ).loc main_arg4))
  (m ((c : Thread nD τ).loc main_arg5))

/-- The arrays of the two moments. -/
abbrev M1 : Vec Ideal S256x2048 .f32 := firsts (G m c) (m ((c : Thread nD τ).loc main_arg4))

abbrev M2 : Vec Ideal S256x2048 .f32 := seconds (G m c) (m ((c : Thread nD τ).loc main_arg5))

include e

theorem array_g : (dats m hO 0 c).arrAt 5 (cfgM m hO).N = G m c :=
  (dats m hO 0 c).arrAt_eq_of_covers 5 _ covers.1 fun t hf y => by
    blk_simp
    refine (congrFun (after0_5 m hO c t) y).trans ((out_g m hO c t y).trans ?_)
    exact total_at m k e hO c t y

theorem array_delta : (dats m hO 0 c).arrAt 6 (cfgM m hO).N = D m c :=
  (dats m hO 0 c).arrAt_eq_of_covers 6 _ covers.2.1 fun t hf y => by
    blk_simp
    refine (congrFun (after0_6 m hO c t) y).trans ((out_delta m hO c t y).trans ?_)
    exact congrArg (delta · _ _ _) (total_at m k e hO c t y)

theorem array_m : (dats m hO 0 c).arrAt 7 (cfgM m hO).N = M1 m c :=
  (dats m hO 0 c).arrAt_eq_of_covers 7 _ covers.2.2.1 fun t hf y => by
    blk_simp
    refine (congrFun (after0_7 m hO c t) y).trans ((out_m m hO c t y).trans ?_)
    exact congrArg (newM · _) (total_at m k e hO c t y)

theorem array_v : (dats m hO 0 c).arrAt 8 (cfgM m hO).N = M2 m c :=
  (dats m hO 0 c).arrAt_eq_of_covers 8 _ covers.2.2.2 fun t hf y => by
    blk_simp
    refine (congrFun (after0_8 m hO c t) y).trans ((out_v m hO c t y).trans ?_)
    exact congrArg (newV · _) (total_at m k e hO c t y)

end Cert.Kernel12Ideal.Step

namespace Cert.AdamRows

open Idealize.ShloMosaic Idealize.ShloMosaic.TcCoe Idealize.SL.Sem

/-! ## The claims -/

/-- The kernel leaves its arguments alone and ends with every semaphore at zero, where the word names a device. -/
theorem frame_kernel : Cert.quiescent_Kernel12 := fun m ρ h => Cert.Kernel12.Gen.frame m ρ (Cert.Kernel12.Step.ok m h)

/-- So does its ideal reading. -/
theorem frame_ideal : Cert.quiescent_Kernel12Ideal := fun m ρ h =>
  Cert.Kernel12Ideal.Gen.frame m ρ (Cert.Kernel12Ideal.Step.ok m h)

/-- The reference leaves its arguments alone and declares no semaphore. -/
theorem frame_reference : Cert.quiescent_Reference12Ideal := fun m ρ _ =>
  (θ_run Cert.Reference12Ideal.defs _ _).mono
    (fun r h => ⟨fun c => (h c).2.2.2.2, Idealize.ShloMosaic.sem_eq_zero_of_no_sems (by decide) r.2⟩)
    (Cert.Reference12Ideal.Value.run m ρ)

theorem frame_reference_pre : Cert.quiescent_Reference12Ideal_pre_rows_me := fun m ρ _ => frame_reference m ρ trivial

/-- Kernel and reference leave the same four arrays. -/
theorem algebraic : Cert.algebraic_Kernel12Ideal_Reference12Ideal := fun m g m' g' hp hm => by
  refine ⟨Cert.Kernel12Ideal.Step.G m, Cert.Kernel12Ideal.Step.D m, Cert.Kernel12Ideal.Step.M1 m, Cert.Kernel12Ideal.Step.M2 m, ?_, ?_⟩
  · have hO := Cert.Kernel12Ideal.Step.ok m hp
    obtain ⟨k, e⟩ := Cert.Kernel12Ideal.Step.tbl_names m hp
    refine (θ_run Cert.Kernel12Ideal.defs _ _).mono (fun _ h c => ?_) (Cert.Kernel12Ideal.Gen.run_main m g hO)
    exact ⟨(h.out_eq c 5).trans (Cert.Kernel12Ideal.Step.array_g m k e hO c),
      (h.out_eq c 6).trans (Cert.Kernel12Ideal.Step.array_delta m k e hO c),
      (h.out_eq c 7).trans (Cert.Kernel12Ideal.Step.array_m m k e hO c),
      (h.out_eq c 8).trans (Cert.Kernel12Ideal.Step.array_v m k e hO c),
      h.in_eq c 0 rfl, h.in_eq c 1 rfl, (h c).2 Cert.Kernel12Ideal.main_arg2
        (by decide : Cert.Kernel12Ideal.main_arg2 ∈ Pipeline.restRefs Cert.Kernel12Ideal.sig Cert.Kernel12Ideal.spec0), h.in_eq c 2 rfl, h.in_eq c 3 rfl,
      h.in_eq c 4 rfl⟩
  · refine (θ_run Cert.Reference12Ideal.defs _ _).mono (fun _ h c => ?_) (Cert.Reference12Ideal.Value.run m' g')
    obtain ⟨h0, h1, h2, h3, h4, h5⟩ := hm c
    obtain ⟨r0, r1, r2, r3, r4⟩ := h c
    rw [h0, h1, h2, Cert.Parts.reference_eq] at r0 r1 r2 r3
    rw [h4] at r1 r2
    rw [h5] at r1 r3
    rw [h3] at r1
    exact ⟨r0, r1.trans (Adam.deltas_eq Cert.Reference12Ideal.Gen.bcast_S_S256x2048 _ _ _ _), r2, r3, r4⟩

end Cert.AdamRows

end
-- ==== Proof.Update.AdamConv.lean ====
/- The optimiser's step of the convolution weights: the parts of the gradient that arrived from the other devices and the
   device's own part are added, and the step is taken entry by entry. -/
module

public import proofs.«01_k».proof.Defs
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Pre_conv_me
public import proofs.«01_k».proof.Proof.Update.Adam
public import proofs.«01_k».proof.Proof.Update.Parts
public import Idealize.ShloMosaic.Lib.Pipeline.Value
public import Idealize.ShloMosaic.Lib.Pipeline.ValueKit

@[expose] public section

set_option maxRecDepth 16384

noncomputable section

/-! ## The table: the word that names the device -/

namespace Cert.Kernel13.Step

open Cert.Kernel13 Cert.Kernel13.Gen Idealize.ShloMosaic Idealize.ShloMosaic.TcCoe Idealize.SL.Sem
open Cert.Device (word)

set_option backward.proofsInPublic true in
/-- The table that names device `k`. -/
def names (k : Fin 8) : pre0.Contents (Elt Bits) := fun | ⟨0, _⟩ => fun _ => word k | ⟨_ + 1, h⟩ => absurd h (by simp)

/-- Every such table's blocks are inside their arrays. -/
theorem ok_names : ∀ k : Fin 8, ok0 (F := Bits) (names k) := by decide +kernel

/-- So the side condition holds under the precondition. -/
theorem ok (m : (ℓ : Loc nD τ sig) → Buf (Elt Bits) ℓ) (h : Cert.Pre_Kernel13 m) : Ok m := by
  obtain ⟨k, hk⟩ := Cert.Device.of_pre _ _ (h 0)
  have e : tbl m = names k := funext fun | ⟨0, _⟩ => hk
  unfold Ok
  rw [e]
  exact ok_names k

end Cert.Kernel13.Step

namespace Cert.Kernel13Ideal.Step

open Cert.Kernel13Ideal Cert.Kernel13Ideal.Gen Idealize.ShloMosaic Idealize.ShloMosaic.TcCoe Idealize.SL.Sem
open Cert.Device (word)

set_option backward.proofsInPublic true in
/-- The table that names device `k`. -/
def names (k : Fin 8) : pre0.Contents (Elt Ideal) := fun | ⟨0, _⟩ => fun _ => word k | ⟨_ + 1, h⟩ => absurd h (by simp)

/-- Every such table's blocks are inside their arrays. -/
theorem ok_names : ∀ k : Fin 8, ok0 (F := Ideal) (names k) := by decide +kernel

variable (m : (ℓ : Loc nD τ sig) → Buf (Elt Ideal) ℓ)

/-- The precondition, decoded. -/
theorem tbl_names (h : Cert.Pre_Kernel13Ideal m) : ∃ k : Fin 8, tbl m = names k := by
  obtain ⟨k, hk⟩ := Cert.Device.of_pre _ _ (h 0)
  exact ⟨k, funext fun | ⟨0, _⟩ => hk⟩

/-- So the side condition holds under it. -/
theorem ok (h : Cert.Pre_Kernel13Ideal m) : Ok m := by
  obtain ⟨k, e⟩ := tbl_names m h
  unfold Ok
  rw [e]
  exact ok_names k

/-! ## Which blocks -/

/-- The table that names device 0, as one the region may find. -/
abbrev some : (pcfg0 (F := Ideal)).Adm := ⟨names 0, ok_names 0⟩

theorem covers : ((cfg0 some).win 5).Covers ∧ ((cfg0 some).win 6).Covers ∧ ((cfg0 some).win 7).Covers
    ∧ ((cfg0 some).win 8).Covers := by decide +kernel

theorem idx_own : ∀ (k : Fin 8) (i : grid0.Coords),
    cc0_transform_1 inb_S1_S1_0 numel1_S1 (names k) i = ![k.val, (i 0).val, 0] := by decide +kernel

/-! ## One block -/

open Cert.Adam (newM newV delta firsts seconds deltas)
open Cert.Parts (grads total)

theorem total_block (p : Vec Ideal S8x4x384 .f32) (own : Vec Ideal S1x4x384 .f32) (me : Elt Ideal .i32) (y : S4x384.Idx) :
    k0_pay4 (k0_pay2 own) (k0_pay3 own
        me (View.ld p (Rect.unit ![0, 0, 0] ![1, 4, 384] inb_S8x4x384_S1x4x384_0_0_0))
        me (View.ld p (Rect.unit ![1, 0, 0] ![1, 4, 384] inb_S8x4x384_S1x4x384_1_0_0))
        me (View.ld p (Rect.unit ![2, 0, 0] ![1, 4, 384] inb_S8x4x384_S1x4x384_2_0_0))
        me (View.ld p (Rect.unit ![3, 0, 0] ![1, 4, 384] inb_S8x4x384_S1x4x384_3_0_0))
        me (View.ld p (Rect.unit ![4, 0, 0] ![1, 4, 384] inb_S8x4x384_S1x4x384_4_0_0)))
      me (View.ld p (Rect.unit ![5, 0, 0] ![1, 4, 384] inb_S8x4x384_S1x4x384_5_0_0))
      me (View.ld p (Rect.unit ![6, 0, 0] ![1, 4, 384] inb_S8x4x384_S1x4x384_6_0_0))
      me (View.ld p (Rect.unit ![7, 0, 0] ![1, 4, 384] inb_S8x4x384_S1x4x384_7_0_0)) y = total p own me y := by
  idx_vars y
  pointwise [k0_pay4, k0_pay3, k0_pay2, total, Fin.sum_univ_eight]
  simp only [Cert.Device.select_eq]
  rfl

section Block

variable (c : Dev nD) (i : grid0.Coords) (a0 : Memref sig .tc .vmem S8x4x384 .f32) (h0 : a0.IsWhole)
  (a1 : Memref sig .tc .vmem S1x4x384 .f32) (h1 : a1.IsWhole) (a2 a3 a4 a5 a6 a7 a8 : Memref sig .tc .vmem S4x384 .f32)
  (h2 : a2.IsWhole) (h3 : a3.IsWhole) (h4 : a4.IsWhole) (h5 : a5.IsWhole) (h6 : a6.IsWhole) (h7 : a7.IsWhole) (h8 : a8.IsWhole)
  (p : Vec Ideal S8x4x384 .f32) (own : Vec Ideal S1x4x384 .f32) (w m v : Vec Ideal S4x384 .f32)
  (me : TbBuf0 (F := Ideal) c tbM0_0) (y : S4x384.Idx)

/-- The word the body reads from the table. -/
theorem word_at (h) : View.read (Elt Ideal) (View.whole main_arg2) me (Shape.Idx.first (s := S1) h) = me (ix1 0) :=
  congrArg me (Cert.Device.idx_eq _ _)

theorem g_block : out0_A_5 c i a0 h0 a1 h1 a2 h2 a3 h3 a4 h4 a5 h5 a6 h6 a7 h7 a8 h8 p own w m v me y
    = total p own (me (ix1 0)) y := by
  frame_out
  exact (total_block p own _ y).trans (by rw [word_at])

theorem m_block : out0_A_7 c i a0 h0 a1 h1 a2 h2 a3 h3 a4 h4 a5 h5 a6 h6 a7 h7 a8 h8 p own w m v me y
    = newM (total p own (me (ix1 0)) y) (m y) := by
  frame_out
  pointwise [k0_pay5, total_block, word_at, newM]

theorem v_block : out0_A_8 c i a0 h0 a1 h1 a2 h2 a3 h3 a4 h4 a5 h5 a6 h6 a7 h7 a8 h8 p own w m v me y
    = newV (total p own (me (ix1 0)) y) (v y) := by
  frame_out
  pointwise [k0_pay6, total_block, word_at, newV]

theorem delta_block : out0_A_6 c i a0 h0 a1 h1 a2 h2 a3 h3 a4 h4 a5 h5 a6 h6 a7 h7 a8 h8 p own w m v me y
    = delta (total p own (me (ix1 0)) y) (w y) (m y) (v y) := by
  frame_out
  pointwise [k0_pay1, k0_pay5, k0_pay6, k0_pay7, total_block, word_at, newM, newV, delta]

end Block

/-! ## The arrays -/

variable (k : Fin 8) (e : tbl m = names k) (hO : Ok m) (c : Dev nD)

theorem idx (a : (pcfg0 (F := Ideal)).Adm) : ∀ t : Fin (cfg0 a).N, ((cfg0 a).win 0).index t = ![0, (grid0.coords t 0).val, 0]
    ∧ ((cfg0 a).win 5).index t = ![(grid0.coords t 0).val, 0] :=
  (by decide +kernel : ∀ t : Fin grid0.N, ((cfg0 some).win 0).index t = ![0, (grid0.coords t 0).val, 0]
    ∧ ((cfg0 some).win 5).index t = ![(grid0.coords t 0).val, 0])

include e in
theorem idx1 (t : Fin (cfgM m hO).N) : ((cfgM m hO).win 1).index t = ![k.val, (grid0.coords t 0).val, 0] := by
  show cc0_transform_1 inb_S1_S1_0 numel1_S1 (tbl m) (grid0.coords t) = _
  rw [e]
  exact idx_own k _

include e in
/-- A block's sum is the array's, at every entry of the four results' blocks. -/
theorem total_at (t : Fin (cfgM m hO).N) (y : S4x384.Idx) : total (iblk m hO c 0 t) (iblk m hO c 1 t) (tbl m 0 (ix1 0)) y
    = grads (m ((c : Thread nD τ).loc main_arg0)) (m ((c : Thread nD τ).loc main_arg1)) (m ((c : Thread nD τ).loc main_arg2) (ix1 0))
      ((((cfgM m hO).win 5).blk t).view.emb y) := by
  obtain ⟨e0, e5⟩ := idx (adm m hO) t
  have e1 := idx1 m k e hO t
  obtain rfl : c = 0 := Subsingleton.elim _ _
  have w : tbl m 0 (ix1 0) = word k := by rw [e]; rfl
  have w' : m (((0 : Dev nD) : Thread nD τ).loc main_arg2) (ix1 0) = word k := w
  rw [w, w']
  refine Cert.Parts.total_eq _ _ _ _ k _ _ (fun j => ?_) ?_
  · blk_ext [iblk, e0, e5]
  · blk_ext [iblk, e1, e5]

/-- The sum of the parts at a point, entry by entry of the block. -/
abbrev sum (t : Fin (cfgM m hO).N) (y : S4x384.Idx) : Elt Ideal .f32 :=
  total (iblk m hO c 0 t) (iblk m hO c 1 t) (tbl m 0 (ix1 0)) y

variable (t : Fin (cfgM m hO).N) (y : S4x384.Idx)

theorem out_g : (outsAt0 m hO c t).1 y = sum m hO c t y := by
  unfold outsAt0
  dsimp only
  exact g_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

theorem out_delta : (outsAt0 m hO c t).2.1 y = delta (sum m hO c t y) (iblk m hO c 2 t y) (iblk m hO c 3 t y) (iblk m hO c 4 t y) := by
  unfold outsAt0
  dsimp only
  exact delta_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

theorem out_m : (outsAt0 m hO c t).2.2.1 y = newM (sum m hO c t y) (iblk m hO c 3 t y) := by
  unfold outsAt0
  dsimp only
  exact m_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

theorem out_v : (outsAt0 m hO c t).2.2.2 y = newV (sum m hO c t y) (iblk m hO c 4 t y) := by
  unfold outsAt0
  dsimp only
  exact v_block c _ _ (hs0_0 m hO t) _ (hs0_1 m hO t) _ _ _ _ _ _ _ (hs0_2 m hO t) (hs0_3 m hO t)
    (hs0_4 m hO t) (hs0_5 m hO t) (hs0_6 m hO t) (hs0_7 m hO t) (hs0_8 m hO t) (iblk m hO c 0 t) (iblk m hO c 1 t) (iblk m hO c 2 t)
    (iblk m hO c 3 t) (iblk m hO c 4 t) (tbl m 0) y

/-- The array of the gradient. -/
abbrev G : Vec Ideal S4x384 .f32 := grads (m ((c : Thread nD τ).loc main_arg0)) (m ((c : Thread nD τ).loc main_arg1))
  (m ((c : Thread nD τ).loc main_arg2) (ix1 0))

/-- The array of the changes of the weights. -/
abbrev D : Vec Ideal S4x384 .f32 := deltas (G m c) (m ((c : Thread nD τ).loc main_arg3)) (m ((c : Thread nD τ).loc main_arg4))
  (m ((c : Thread nD τ).loc main_arg5))

/-- The arrays of the two moments. -/
abbrev M1 : Vec Ideal S4x384 .f32 := firsts (G m c) (m ((c : Thread nD τ).loc main_arg4))

abbrev M2 : Vec Ideal S4x384 .f32 := seconds (G m c) (m ((c : Thread nD τ).loc main_arg5))

include e

theorem array_g : (dats m hO 0 c).arrAt 5 (cfgM m hO).N = G m c :=
  (dats m hO 0 c).arrAt_eq_of_covers 5 _ covers.1 fun t hf y => by
    blk_simp
    refine (congrFun (after0_5 m hO c t) y).trans ((out_g m hO c t y).trans ?_)
    exact total_at m k e hO c t y

theorem array_delta : (dats m hO 0 c).arrAt 6 (cfgM m hO).N = D m c :=
  (dats m hO 0 c).arrAt_eq_of_covers 6 _ covers.2.1 fun t hf y => by
    blk_simp
    refine (congrFun (after0_6 m hO c t) y).trans ((out_delta m hO c t y).trans ?_)
    exact congrArg (delta · _ _ _) (total_at m k e hO c t y)

theorem array_m : (dats m hO 0 c).arrAt 7 (cfgM m hO).N = M1 m c :=
  (dats m hO 0 c).arrAt_eq_of_covers 7 _ covers.2.2.1 fun t hf y => by
    blk_simp
    refine (congrFun (after0_7 m hO c t) y).trans ((out_m m hO c t y).trans ?_)
    exact congrArg (newM · _) (total_at m k e hO c t y)

theorem array_v : (dats m hO 0 c).arrAt 8 (cfgM m hO).N = M2 m c :=
  (dats m hO 0 c).arrAt_eq_of_covers 8 _ covers.2.2.2 fun t hf y => by
    blk_simp
    refine (congrFun (after0_8 m hO c t) y).trans ((out_v m hO c t y).trans ?_)
    exact congrArg (newV · _) (total_at m k e hO c t y)

end Cert.Kernel13Ideal.Step

namespace Cert.AdamConv

open Idealize.ShloMosaic Idealize.ShloMosaic.TcCoe Idealize.SL.Sem

/-! ## The claims -/

/-- The kernel leaves its arguments alone and ends with every semaphore at zero, where the word names a device. -/
theorem frame_kernel : Cert.quiescent_Kernel13 := fun m ρ h => Cert.Kernel13.Gen.frame m ρ (Cert.Kernel13.Step.ok m h)

/-- So does its ideal reading. -/
theorem frame_ideal : Cert.quiescent_Kernel13Ideal := fun m ρ h =>
  Cert.Kernel13Ideal.Gen.frame m ρ (Cert.Kernel13Ideal.Step.ok m h)

/-- The reference leaves its arguments alone and declares no semaphore. -/
theorem frame_reference : Cert.quiescent_Reference13Ideal := fun m ρ _ =>
  (θ_run Cert.Reference13Ideal.defs _ _).mono
    (fun r h => ⟨fun c => (h c).2.2.2.2, Idealize.ShloMosaic.sem_eq_zero_of_no_sems (by decide) r.2⟩)
    (Cert.Reference13Ideal.Value.run m ρ)

theorem frame_reference_pre : Cert.quiescent_Reference13Ideal_pre_conv_me := fun m ρ _ => frame_reference m ρ trivial

/-- Kernel and reference leave the same four arrays. -/
theorem algebraic : Cert.algebraic_Kernel13Ideal_Reference13Ideal := fun m g m' g' hp hm => by
  refine ⟨Cert.Kernel13Ideal.Step.G m, Cert.Kernel13Ideal.Step.D m, Cert.Kernel13Ideal.Step.M1 m, Cert.Kernel13Ideal.Step.M2 m, ?_, ?_⟩
  · have hO := Cert.Kernel13Ideal.Step.ok m hp
    obtain ⟨k, e⟩ := Cert.Kernel13Ideal.Step.tbl_names m hp
    refine (θ_run Cert.Kernel13Ideal.defs _ _).mono (fun _ h c => ?_) (Cert.Kernel13Ideal.Gen.run_main m g hO)
    exact ⟨(h.out_eq c 5).trans (Cert.Kernel13Ideal.Step.array_g m k e hO c),
      (h.out_eq c 6).trans (Cert.Kernel13Ideal.Step.array_delta m k e hO c),
      (h.out_eq c 7).trans (Cert.Kernel13Ideal.Step.array_m m k e hO c),
      (h.out_eq c 8).trans (Cert.Kernel13Ideal.Step.array_v m k e hO c),
      h.in_eq c 0 rfl, h.in_eq c 1 rfl, (h c).2 Cert.Kernel13Ideal.main_arg2
        (by decide : Cert.Kernel13Ideal.main_arg2 ∈ Pipeline.restRefs Cert.Kernel13Ideal.sig Cert.Kernel13Ideal.spec0), h.in_eq c 2 rfl, h.in_eq c 3 rfl,
      h.in_eq c 4 rfl⟩
  · refine (θ_run Cert.Reference13Ideal.defs _ _).mono (fun _ h c => ?_) (Cert.Reference13Ideal.Value.run m' g')
    obtain ⟨h0, h1, h2, h3, h4, h5⟩ := hm c
    obtain ⟨r0, r1, r2, r3, r4⟩ := h c
    rw [h0, h1, h2, Cert.Parts.reference_eq] at r0 r1 r2 r3
    rw [h4] at r1 r2
    rw [h5] at r1 r3
    rw [h3] at r1
    exact ⟨r0, r1.trans (Adam.deltas_eq Cert.Reference13Ideal.Gen.bcast_S_S4x384 _ _ _ _), r2, r3, r4⟩

end Cert.AdamConv

end
-- ==== Proof.Update.AdamIn.lean ====
/- The optimiser's step of the input weights, whose gradient crosses in two halves: each half's parts that arrived from the other
   devices and the device's own part are added, and the step is taken entry by entry. -/
module

public import proofs.«01_k».proof.Defs
public import proofs.«01_k».proof.Proof.Gen.Kernel14.Frame
public import proofs.«01_k».proof.Proof.Gen.Kernel14Ideal.Frame
public import proofs.«01_k».proof.Proof.Gen.Reference14Ideal.Run
public import proofs.«01_k».proof.Proof.Gen.Pre_w_in_me
public import proofs.«01_k».proof.Proof.Update.Adam
public import proofs.«01_k».proof.Proof.Update.Parts
public import Idealize.ShloMosaic.Lib.Pipeline.Value
public import Idealize.ShloMosaic.Lib.Pipeline.ValueKit

@[expose] public section

set_option maxRecDepth 16384

noncomputable section

/-! ## The table: the word that names the device -/

namespace Cert.Kernel14.Step

open Cert.Kernel14 Cert.Kernel14.Gen Idealize.ShloMosaic Idealize.ShloMosaic.TcCoe Idealize.SL.Sem
open Cert.Device (word)

set_option backward.proofsInPublic true in
/-- The table that names device `k`. -/
def names (k : Fin 8) : pre0.Contents (Elt Bits) := fun | ⟨0, _⟩ => fun _ => word k | ⟨_ + 1, h⟩ => absurd h (by simp)

/-- Every such table's blocks are inside their arrays. -/
theorem ok_names : ∀ k : Fin 8, ok0 (F := Bits) (names k) := by decide +kernel

/-- So the side condition holds under the precondition. -/
theorem ok (m : (ℓ : Loc nD τ sig) → Buf (Elt Bits) ℓ) (h : Cert.Pre_Kernel14 m) : Ok m := by
  obtain ⟨k, hk⟩ := Cert.Device.of_pre _ _ (h 0)
  have e : tbl m = names k := funext fun | ⟨0, _⟩ => hk
  unfold Ok
  rw [e]
  exact ok_names k

end Cert.Kernel14.Step

namespace Cert.Kernel14Ideal.Step

open Cert.Kernel14Ideal Cert.Kernel14Ideal.Gen Idealize.ShloMosaic Idealize.ShloMosaic.TcCoe Idealize.SL.Sem
open Cert.Device (word)

set_option backward.proofsInPublic true in
/-- The table that names device `k`. -/
def names (k : Fin 8) : pre0.Contents (Elt Ideal) := fun | ⟨0, _⟩ => fun _ => word k | ⟨_ + 1, h⟩ => absurd h (by simp)

/-- Every such table's blocks are inside their arrays. -/
theorem ok_names : ∀ k : Fin 8, ok0 (F := Ideal) (names k) := by decide +kernel

variable (m : (ℓ : Loc nD τ sig) → Buf (Elt Ideal) ℓ)

/-- The precondition, decoded. -/
theorem tbl_names (h : Cert.Pre_Kernel14Ideal m) : ∃ k : Fin 8, tbl m = names k := by
  obtain ⟨k, hk⟩ := Cert.Device.of_pre _ _ (h 0)
  exact ⟨k, funext fun | ⟨0, _⟩ => hk⟩

/-- So the side condition holds under it. -/
theorem ok (h : Cert.Pre_Kernel14Ideal m) : Ok m := by
  obtain ⟨k, e⟩ := tbl_names m h
  unfold Ok
  rw [e]
  exact ok_names k

/-! ## Which blocks -/

/-- The table that names device 0, as one the region may find. -/
abbrev some : (pcfg0 (F := Ideal)).Adm := ⟨names 0, ok_names 0⟩

theorem covers : ((cfg0 some).win 7).Covers ∧ ((cfg0 some).win 8).Covers ∧ ((cfg0 some).win 9).Covers
    ∧ ((cfg0 some).win 10).Covers := by decide +kernel

/-- The own part's block, in either half: the first half's are read at the first sixteen points, the second's at the last. -/
theorem idx_own : ∀ (k : Fin 8) (i : grid0.Coords),
    cc0_transform_2 inb_S1_S1_0 numel1_S1 (names k) i = ![k.val, min 15 (i 0).val, 0]
    ∧ cc0_transform_3 inb_S1_S1_0 numel1_S1 (names k) i = ![k.val, (i 0).val - 16, 0] := by decide +kernel

/-- Which points are the second half's. -/
theorem late : ∀ i : grid0.Coords, Scalar.cmpi .sge (BitVec.ofNat 32 (i 0).val) 16#32 = if 16 ≤ (i 0).val then 1#1 else 0#1 := by
  decide +kernel

/-! ## One block -/

open Cert.Adam (newM newV delta firsts seconds deltas)
open Cert.Parts (grads total)

/-- The half that a point reads. -/
def half {s : Shape} (i : grid0.Coords) (x0 x1 : Vec Ideal s .bf16) : Vec Ideal s .f32 := if 16 ≤ (i 0).val then x1 else x0

theorem total_block (i : grid0.Coords) (p0 p1 : Vec Ideal S8x64x1794 .bf16) (o0 o1 : Vec Ideal S1x64x1794 .bf16)
    (me : Elt Ideal .i32) (y : S64x1794.Idx) :
    k0_pay7 (k0_pay1 i o0 o1) (k0_pay4 (BitVec.ofNat 32 (i 0).val) (k0_pay1 i o0 o1)
      (k0_pay3 (BitVec.ofNat 32 (i 0).val) (k0_pay1 i o0 o1) (k0_pay2 i o0 o1
        me (View.ld p0 (Rect.unit ![0, 0, 0] ![1, 64, 1794] inb_S8x64x1794_S1x64x1794_0_0_0))
        (View.ld p1 (Rect.unit ![0, 0, 0] ![1, 64, 1794] inb_S8x64x1794_S1x64x1794_0_0_0))
        me (View.ld p0 (Rect.unit ![1, 0, 0] ![1, 64, 1794] inb_S8x64x1794_S1x64x1794_1_0_0))
        (View.ld p1 (Rect.unit ![1, 0, 0] ![1, 64, 1794] inb_S8x64x1794_S1x64x1794_1_0_0)))
        me 2#32 (View.ld p0 (Rect.unit ![2, 0, 0] ![1, 64, 1794] inb_S8x64x1794_S1x64x1794_2_0_0))
        (View.ld p1 (Rect.unit ![2, 0, 0] ![1, 64, 1794] inb_S8x64x1794_S1x64x1794_2_0_0))
        me (View.ld p0 (Rect.unit ![3, 0, 0] ![1, 64, 1794] inb_S8x64x1794_S1x64x1794_3_0_0))
        (View.ld p1 (Rect.unit ![3, 0, 0] ![1, 64, 1794] inb_S8x64x1794_S1x64x1794_3_0_0))
        me (View.ld p0 (Rect.unit ![4, 0, 0] ![1, 64, 1794] inb_S8x64x1794_S1x64x1794_4_0_0))
        (View.ld p1 (Rect.unit ![4, 0, 0] ![1, 64, 1794] inb_S8x64x1794_S1x64x1794_4_0_0)))
        me (View.ld p0 (Rect.unit ![5, 0, 0] ![1, 64, 1794] inb_S8x64x1794_S1x64x1794_5_0_0))
        (View.ld p1 (Rect.unit ![5, 0, 0] ![1, 64, 1794] inb_S8x64x1794_S1x64x1794_5_0_0))
        me (View.ld p0 (Rect.unit ![6, 0, 0] ![1, 64, 1794] inb_S8x64x1794_S1x64x1794_6_0_0))
        (View.ld p1 (Rect.unit ![6, 0, 0] ![1, 64, 1794] inb_S8x64x1794_S1x64x1794_6_0_0)))
      (Scalar.cmpi .eq me 7#32)
      (k0_pay5 (View.ld p0 (Rect.unit ![7, 0, 0] ![1, 64, 1794] inb_S8x64x1794_S1x64x1794_7_0_0)))
      (k0_pay6 (View.ld p1 (Rect.unit ![7, 0, 0] ![1, 64, 1794] inb_S8x64x1794_S1x64x1794_7_0_0)))
      (Scalar.cmpi .sge (BitVec.ofNat 32 (i 0).val) 16#32) y = total (half i p0 p1) (half i o0 o1) me y := by
  idx_vars y
  by_cases h : 16 ≤ (i 0).val
  · pointwise [k0_pay7, k0_pay6, k0_pay5, k0_pay4, k0_pay3, k0_pay2, k0_pay1, total, half, if_pos h, late i, Fin.sum_univ_eight]
    simp only [Cert.Device.select_eq]
    rfl
  · pointwise [k0_pay7, k0_pay6, k0_pay5, k0_pay4, k0_pay3, k0_pay2, k0_pay1, total, half, if_neg h, late i, Fin.sum_univ_eight]
    simp only [Cert.Device.select_eq]
    rfl

section Step

variable (a b : FVec Ideal S64x1794 .f32) (d : BitVec 1) (e f : FVec Ideal S64x1794 .f32) (l : BitVec 1)
  (w m v : Vec Ideal S64x1794 .f32) (y : S64x1794.Idx)

theorem m_step : k0_pay8 a b d e f l m y = newM (k0_pay7 a b d e f l y) (m y) := by
  pointwise [k0_pay8, newM]

theorem v_step : k0_pay9 a b d e f l v y = newV (k0_pay7 a b d e f l y) (v y) := by
  pointwise [k0_pay9, newV]

theorem delta_step : k0_pay10 a b d e f l w m v y = delta (k0_pay7 a b d e f l y) (w y) (m y) (v y) := by
  pointwise [k0_pay10, m_step, v_step, delta]

end Step

section Block

variable (c : Dev nD) (i : grid0.Coords) (a0 a1 : Memref sig .tc .vmem S8x64x1794 .bf16) (h0 : a0.IsWhole) (h1 : a1.IsWhole)
  (a2 a3 : Memref sig .tc .vmem S1x64x1794 .bf16) (h2 : a2.IsWhole) (h3 : a3.IsWhole)
  (a4 a5 a6 a7 a8 a9 a10 : Memref sig .tc .vmem S64x1794 .f32)
  (h4 : a4.IsWhole) (h5 : a5.IsWhole) (h6 : a6.IsWhole) (h7 : a7.IsWhole) (h8 : a8.IsWhole) (h9 : a9.IsWhole) (h10 : a10.IsWhole)
  (p0 p1 : Vec Ideal S8x64x1794 .bf16) (o0 o1 : Vec Ideal S1x64x1794 .bf16) (w m v : Vec Ideal S64x1794 .f32)
  (me : TbBuf0 (F := Ideal) c tbM0_0) (y : S64x1794.Idx)

/-- The word the body reads from the table. -/
theorem word_at (h) : View.read (Elt Ideal) (View.whole main_arg4) me (Shape.Idx.first (s := S1) h) = me (ix1 0) :=
  congrArg me (Cert.Device.idx_eq _ _)

theorem g_block : out0_A_7 c i a0 h0 a1 h1 a2 h2 a3 h3 a4 h4 a5 h5 a6 h6 a7 h7 a8 h8 a9 h9 a10 h10 p0 p1 o0 o1 w m v me y
    = total (half i p0 p1) (half i o0 o1) (me (ix1 0)) y := by
  frame_out
  exact (total_block i p0 p1 o0 o1 _ y).trans (by rw [word_at])

theorem m_block : out0_A_9 c i a0 h0 a1 h1 a2 h2 a3 h3 a4 h4 a5 h5 a6 h6 a7 h7 a8 h8 a9 h9 a10 h10 p0 p1 o0 o1 w m v me y
    = newM (total (half i p0 p1) (half i o0 o1) (me (ix1 0)) y) (m y) := by
  frame_out
  exact (m_step _ _ _ _ _ _ _ y).trans (congrArg (newM · _) ((total_block i p0 p1 o0 o1 _ y).trans (by rw [word_at])))

theorem v_block : out0_A_10 c i a0 h0 a1 h1 a2 h2 a3 h3 a4 h4 a5 h5 a6 h6 a7 h7 a8 h8 a9 h9 a10 h10 p0 p1 o0 o1 w m v me y
    = newV (total (half i p0 p1) (half i o0 o1) (me (ix1 0)) y) (v y) := by
  frame_out
  exact (v_step _ _ _ _ _ _ _ y).trans (congrArg (newV · _) ((total_block i p0 p1 o0 o1 _ y).trans (by rw [word_at])))

theorem delta_block : out0_A_8 c i a0 h0 a1 h1 a2 h2 a3 h3 a4 h4 a5 h5 a6 h6 a7 h7 a8 h8 a9 h9 a10 h10 p0 p1 o0 o1 w m v me y
    = delta (total (half i p0 p1) (half i o0 o1) (me (ix1 0)) y) (w y) (m y) (v y) := by
  frame_out
  exact (delta_step _ _ _ _ _ _ _ _ _ y).trans
    (congrArg (delta · _ _ _) ((total_block i p0 p1 o0 o1 _ y).trans (by rw [word_at])))

end Block

/-! ## The arrays -/

variable (k : Fin 8) (e : tbl m = names k) (hO : Ok m) (c : Dev nD)

/-- The parts, both halves. -/
abbrev S8x2048x1794 : Shape := ⟨3, ![8, 2048, 1794]⟩

/-- The two halves of a part, one after the other. -/
def both (x0 x1 : Vec Ideal S8x1024x1794 .bf16) : Vec Ideal S8x2048x1794 .f32 := fun z =>
  if h : (z 1).val < 1024 then x0 (ix3 (z 0) ⟨(z 1).val, h⟩ (z 2))
  else x1 (ix3 (z 0) ⟨(z 1).val - 1024, by have : (z 1).val < 2048 := (z 1).isLt; omega⟩ (z 2))

section Both

variable (x0 x1 : Vec Ideal S8x1024x1794 .bf16) (j : Fin 8) (r : Fin 2048) (q : Fin 1794)

theorem both_early (h : r.val < 1024) : both x0 x1 (ix3 j r q) = x0 (ix3 j ⟨r.val, h⟩ q) := dif_pos h

theorem both_late (h : ¬ r.val < 1024) : both x0 x1 (ix3 j r q) = x1 (ix3 j ⟨r.val - 1024, by omega⟩ q) := dif_neg h

end Both

/-- The reference joins them. -/
theorem joined_eq (x0 x1 : FVec Ideal S8x1024x1794 .bf16) (hc : Shape.Concatenates [S8x1024x1794, S8x1024x1794] S8x2048x1794 1) (hb) :
    extf .f32 (concatenate S8x2048x1794 1 [⟨S8x1024x1794, x0⟩, ⟨S8x1024x1794, x1⟩] hc) hb = both x0 x1 := by
  funext z
  idx_vars z
  pointwise [both]

theorem idx (a : (pcfg0 (F := Ideal)).Adm) : ∀ t : Fin (cfg0 a).N, (((cfg0 a).win 0).index t = ![0, min 15 (grid0.coords t 0).val, 0]
    ∧ ((cfg0 a).win 1).index t = ![0, (grid0.coords t 0).val - 16, 0]) ∧ ((cfg0 a).win 7).index t = ![(grid0.coords t 0).val, 0] :=
  (by decide +kernel : ∀ t : Fin grid0.N, (((cfg0 some).win 0).index t = ![0, min 15 (grid0.coords t 0).val, 0]
    ∧ ((cfg0 some).win 1).index t = ![0, (grid0.coords t 0).val - 16, 0]) ∧ ((cfg0 some).win 7).index t = ![(grid0.coords t 0).val, 0])

include e in
theorem idx2 (t : Fin (cfgM m hO).N) : ((cfgM m hO).win 2).index t = ![k.val, min 15 (grid0.coords t 0).val, 0] := by
  show cc0_transform_2 inb_S1_S1_0 numel1_S1 (tbl m) (grid0.coords t) = _
  rw [e]
  exact (idx_own k _).1

include e in
theorem idx3 (t : Fin (cfgM m hO).N) : ((cfgM m hO).win 3).index t = ![k.val, (grid0.coords t 0).val - 16, 0] := by
  show cc0_transform_3 inb_S1_S1_0 numel1_S1 (tbl m) (grid0.coords t) = _
  rw [e]
  exact (idx_own k _).2

/-- The sum of the parts at a point, entry by entry of the block. -/
abbrev sum (t : Fin (cfgM m hO).N) (y : S64x1794.Idx) : Elt Ideal .f32 :=
  total (half (grid0.coords t) (iblk m hO c 0 t) (iblk m hO c 1 t)) (half (grid0.coords t) (iblk m hO c 2 t) (iblk m hO c 3 t))
    (tbl m 0 (ix1 0)) y

/-- The array of the gradient. -/
abbrev G : Vec Ideal S2048x1794 .f32 :=
  grads (both (m ((c : Thread nD τ).loc main_arg0)) (m ((c : Thread nD τ).loc main_arg1)))
    (both (m ((c : Thread nD τ).loc main_arg2)) (m ((c : Thread nD τ).loc main_arg3))) (m ((c : Thread nD τ).loc main_arg4) (ix1 0))

/-- The row of an entry of the results' block. -/
theorem row_at (t : Fin (cfgM m hO).N) (y : S64x1794.Idx) :
    ((((cfgM m hO).win 7).blk t).view.emb y (0 : Fin 2)).val = 64 * (grid0.coords t 0).val + (y 0).val := by
  have e7 := (idx (adm m hO) t).2
  blk_simp [e7]
  omega

/-- The parts' entries, of the half that a point reads. -/
theorem parts_at (t : Fin (cfgM m hO).N) (j : Fin 8) (y : S64x1794.Idx) :
    half (grid0.coords t) (iblk m hO 0 0 t) (iblk m hO 0 1 t) (ix3 j (y 0) (y 1))
    = both (m (((0 : Dev nD) : Thread nD τ).loc main_arg0)) (m (((0 : Dev nD) : Thread nD τ).loc main_arg1))
      (ix3 j ((((cfgM m hO).win 7).blk t).view.emb y (0 : Fin 2)) ((((cfgM m hO).win 7).blk t).view.emb y (1 : Fin 2))) := by
  obtain ⟨⟨e0, e1⟩, e7⟩ := idx (adm m hO) t
  have hz := row_at m hO t y
  have hi : (grid0.coords t 0).val < 32 := (grid0.coords t 0).isLt
  have hy : (y 0).val < 64 := (y 0).isLt
  by_cases h : 16 ≤ (grid0.coords t 0).val
  · refine (congrFun (if_pos h) _).trans (Eq.trans ?_ (both_late _ _ _ _ _ (by omega)).symm)
    blk_ext [iblk, e1, e7]
  · refine (congrFun (if_neg h) _).trans (Eq.trans ?_ (both_early _ _ _ _ _ (by omega)).symm)
    blk_ext [iblk, e0, e7]

include e in
/-- The own part's entries, likewise. -/
theorem own_at (t : Fin (cfgM m hO).N) (y : S64x1794.Idx) :
    half (grid0.coords t) (iblk m hO 0 2 t) (iblk m hO 0 3 t) (ix3 0 (y 0) (y 1))
    = both (m (((0 : Dev nD) : Thread nD τ).loc main_arg2)) (m (((0 : Dev nD) : Thread nD τ).loc main_arg3))
      (ix3 k ((((cfgM m hO).win 7).blk t).view.emb y (0 : Fin 2)) ((((cfgM m hO).win 7).blk t).view.emb y (1 : Fin 2))) := by
  obtain ⟨⟨e0, e1⟩, e7⟩ := idx (adm m hO) t
  have e2 := idx2 m k e hO t
  have e3 := idx3 m k e hO t
  have hz := row_at m hO t y
  have hi : (grid0.coords t 0).val < 32 := (grid0.coords t 0).isLt
  have hy : (y 0).val < 64 := (y 0).isLt
  by_cases h : 16 ≤ (grid0.coords t 0).val
  · refine (congrFun (if_pos h) _).trans (Eq.trans ?_ (both_late _ _ _ _ _ (by omega)).symm)
    blk_ext [iblk, e3, e7]
  · refine (congrFun (if_neg h) _).trans (Eq.trans ?_ (both_early _ _ _ _ _ (by omega)).symm)
    blk_ext [iblk, e2, e7]

include e in
/-- A block's sum is the array's, at every entry of the four results' blocks. -/
theorem total_at (t : Fin (cfgM m hO).N) (y : S64x1794.Idx) : sum m hO c t y = G m c ((((cfgM m hO).win 7).blk t).view.emb y) := by
  obtain rfl : c = 0 := Subsingleton.elim _ _
  have w : tbl m 0 (ix1 0) = word k := by rw [e]; rfl
  have w' : m (((0 : Dev nD) : Thread nD τ).loc main_arg4) (ix1 0) = word k := w
  unfold sum G
  rw [w, w']
  exact Cert.Parts.total_eq _ _ _ _ k _ _ (fun j => parts_at m hO t j y) (own_at m k e hO t y)

variable (t : Fin (cfgM m hO).N) (y : S64x1794.Idx)

theorem out_g : (outsAt0 m hO c t).1 y = sum m hO c t y := by
  unfold outsAt0
  dsimp only
  exact g_block c _ _ _ (hs0_0 m hO t) (hs0_1 m hO t) _ _ (hs0_2 m hO t) (hs0_3 m hO t) _ _ _ _ _ _ _
    (hs0_4 m hO t) (hs0_5 m hO t) (hs0_6 m hO t) (hs0_7 m hO t) (hs0_8 m hO t) (hs0_9 m hO t) (hs0_10 m hO t)
    (iblk m hO c 0 t) (iblk m hO c 1 t) (iblk m hO c 2 t) (iblk m hO c 3 t) (iblk m hO c 4 t) (iblk m hO c 5 t) (iblk m hO c 6 t)
    (tbl m 0) y

theorem out_delta : (outsAt0 m hO c t).2.1 y = delta (sum m hO c t y) (iblk m hO c 4 t y) (iblk m hO c 5 t y) (iblk m hO c 6 t y) := by
  unfold outsAt0
  dsimp only
  exact delta_block c _ _ _ (hs0_0 m hO t) (hs0_1 m hO t) _ _ (hs0_2 m hO t) (hs0_3 m hO t) _ _ _ _ _ _ _
    (hs0_4 m hO t) (hs0_5 m hO t) (hs0_6 m hO t) (hs0_7 m hO t) (hs0_8 m hO t) (hs0_9 m hO t) (hs0_10 m hO t)
    (iblk m hO c 0 t) (iblk m hO c 1 t) (iblk m hO c 2 t) (iblk m hO c 3 t) (iblk m hO c 4 t) (iblk m hO c 5 t) (iblk m hO c 6 t)
    (tbl m 0) y

theorem out_m : (outsAt0 m hO c t).2.2.1 y = newM (sum m hO c t y) (iblk m hO c 5 t y) := by
  unfold outsAt0
  dsimp only
  exact m_block c _ _ _ (hs0_0 m hO t) (hs0_1 m hO t) _ _ (hs0_2 m hO t) (hs0_3 m hO t) _ _ _ _ _ _ _
    (hs0_4 m hO t) (hs0_5 m hO t) (hs0_6 m hO t) (hs0_7 m hO t) (hs0_8 m hO t) (hs0_9 m hO t) (hs0_10 m hO t)
    (iblk m hO c 0 t) (iblk m hO c 1 t) (iblk m hO c 2 t) (iblk m hO c 3 t) (iblk m hO c 4 t) (iblk m hO c 5 t) (iblk m hO c 6 t)
    (tbl m 0) y

theorem out_v : (outsAt0 m hO c t).2.2.2 y = newV (sum m hO c t y) (iblk m hO c 6 t y) := by
  unfold outsAt0
  dsimp only
  exact v_block c _ _ _ (hs0_0 m hO t) (hs0_1 m hO t) _ _ (hs0_2 m hO t) (hs0_3 m hO t) _ _ _ _ _ _ _
    (hs0_4 m hO t) (hs0_5 m hO t) (hs0_6 m hO t) (hs0_7 m hO t) (hs0_8 m hO t) (hs0_9 m hO t) (hs0_10 m hO t)
    (iblk m hO c 0 t) (iblk m hO c 1 t) (iblk m hO c 2 t) (iblk m hO c 3 t) (iblk m hO c 4 t) (iblk m hO c 5 t) (iblk m hO c 6 t)
    (tbl m 0) y

/-- The array of the changes of the weights. -/
abbrev D : Vec Ideal S2048x1794 .f32 := deltas (G m c) (m ((c : Thread nD τ).loc main_arg5)) (m ((c : Thread nD τ).loc main_arg6))
  (m ((c : Thread nD τ).loc main_arg7))

/-- The arrays of the two moments. -/
abbrev M1 : Vec Ideal S2048x1794 .f32 := firsts (G m c) (m ((c : Thread nD τ).loc main_arg6))

abbrev M2 : Vec Ideal S2048x1794 .f32 := seconds (G m c) (m ((c : Thread nD τ).loc main_arg7))

include e

theorem array_g : (dats m hO 0 c).arrAt 7 (cfgM m hO).N = G m c :=
  (dats m hO 0 c).arrAt_eq_of_covers 7 _ covers.1 fun t hf y => by
    blk_simp
    refine (congrFun (after0_7 m hO c t) y).trans ((out_g m hO c t y).trans ?_)
    exact total_at m k e hO c t y

theorem array_delta : (dats m hO 0 c).arrAt 8 (cfgM m hO).N = D m c :=
  (dats m hO 0 c).arrAt_eq_of_covers 8 _ covers.2.1 fun t hf y => by
    blk_simp
    refine (congrFun (after0_8 m hO c t) y).trans ((out_delta m hO c t y).trans ?_)
    exact congrArg (delta · _ _ _) (total_at m k e hO c t y)

theorem array_m : (dats m hO 0 c).arrAt 9 (cfgM m hO).N = M1 m c :=
  (dats m hO 0 c).arrAt_eq_of_covers 9 _ covers.2.2.1 fun t hf y => by
    blk_simp
    refine (congrFun (after0_9 m hO c t) y).trans ((out_m m hO c t y).trans ?_)
    exact congrArg (newM · _) (total_at m k e hO c t y)

theorem array_v : (dats m hO 0 c).arrAt 10 (cfgM m hO).N = M2 m c :=
  (dats m hO 0 c).arrAt_eq_of_covers 10 _ covers.2.2.2 fun t hf y => by
    blk_simp
    refine (congrFun (after0_10 m hO c t) y).trans ((out_v m hO c t y).trans ?_)
    exact congrArg (newV · _) (total_at m k e hO c t y)

end Cert.Kernel14Ideal.Step

namespace Cert.AdamIn

open Idealize.ShloMosaic Idealize.ShloMosaic.TcCoe Idealize.SL.Sem

/-! ## The claims -/

/-- The kernel leaves its arguments alone and ends with every semaphore at zero, where the word names a device. -/
theorem frame_kernel : Cert.quiescent_Kernel14 := fun m ρ h => Cert.Kernel14.Gen.frame m ρ (Cert.Kernel14.Step.ok m h)

/-- So does its ideal reading. -/
theorem frame_ideal : Cert.quiescent_Kernel14Ideal := fun m ρ h =>
  Cert.Kernel14Ideal.Gen.frame m ρ (Cert.Kernel14Ideal.Step.ok m h)

/-- The reference leaves its arguments alone and declares no semaphore. -/
theorem frame_reference : Cert.quiescent_Reference14Ideal := fun m ρ _ =>
  (θ_run Cert.Reference14Ideal.defs _ _).mono
    (fun r h => ⟨fun c => (h c).2.2.2.2, Idealize.ShloMosaic.sem_eq_zero_of_no_sems (by decide) r.2⟩)
    (Cert.Reference14Ideal.Value.run m ρ)

theorem frame_reference_pre : Cert.quiescent_Reference14Ideal_pre_w_in_me := fun m ρ _ => frame_reference m ρ trivial

/-- Kernel and reference leave the same four arrays. -/
theorem algebraic : Cert.algebraic_Kernel14Ideal_Reference14Ideal := fun m g m' g' hp hm => by
  refine ⟨Cert.Kernel14Ideal.Step.G m, Cert.Kernel14Ideal.Step.D m, Cert.Kernel14Ideal.Step.M1 m, Cert.Kernel14Ideal.Step.M2 m, ?_, ?_⟩
  · have hO := Cert.Kernel14Ideal.Step.ok m hp
    obtain ⟨k, e⟩ := Cert.Kernel14Ideal.Step.tbl_names m hp
    refine (θ_run Cert.Kernel14Ideal.defs _ _).mono (fun _ h c => ?_) (Cert.Kernel14Ideal.Gen.run_main m g hO)
    exact ⟨(h.out_eq c 7).trans (Cert.Kernel14Ideal.Step.array_g m k e hO c),
      (h.out_eq c 8).trans (Cert.Kernel14Ideal.Step.array_delta m k e hO c),
      (h.out_eq c 9).trans (Cert.Kernel14Ideal.Step.array_m m k e hO c),
      (h.out_eq c 10).trans (Cert.Kernel14Ideal.Step.array_v m k e hO c),
      h.in_eq c 0 rfl, h.in_eq c 1 rfl, h.in_eq c 2 rfl, h.in_eq c 3 rfl, (h c).2 Cert.Kernel14Ideal.main_arg4
        (by decide : Cert.Kernel14Ideal.main_arg4 ∈ Pipeline.restRefs Cert.Kernel14Ideal.sig Cert.Kernel14Ideal.spec0), h.in_eq c 4 rfl, h.in_eq c 5 rfl,
      h.in_eq c 6 rfl⟩
  · refine (θ_run Cert.Reference14Ideal.defs _ _).mono (fun _ h c => ?_) (Cert.Reference14Ideal.Value.run m' g')
    obtain ⟨h0, h1, h2, h3, h4, h5, h6, h7⟩ := hm c
    obtain ⟨r0, r1, r2, r3, r4⟩ := h c
    rw [h0, h1, h2, h3, h4, Cert.Parts.reference_eq, Cert.Kernel14Ideal.Step.joined_eq, Cert.Kernel14Ideal.Step.joined_eq] at r0 r1 r2 r3
    rw [h6] at r1 r2
    rw [h7] at r1 r3
    rw [h5] at r1
    exact ⟨r0, r1.trans (Adam.deltas_eq Cert.Reference14Ideal.Gen.bcast_S_S2048x1794 _ _ _ _), r2, r3, r4⟩

end Cert.AdamIn

end
-- ==== Proof.Branches.Branch.lean ====
/- A branch's product: the rows multiply a weight that is held as the eight devices' column shards, one after the
   other. -/
module

public import proofs.«01_k».proof.Defs
public import proofs.«01_k».proof.Proof.Gen.Kernel15Ideal.Value
public import proofs.«01_k».proof.Proof.Gen.Reference15Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel15Ideal.Product

open Cert.Kernel15Ideal Cert.Kernel15Ideal.Gen Idealize.ShloMosaic Idealize.ShloMosaic.TcCoe Idealize.SL.Sem

/-- The product of the first array with the joined shards: column `n` of the weight is column `n % 256` of shard
    `n / 256`. -/
def value (a : Vec Ideal S4096x1024 .bf16) (b : Vec Ideal S8x1024x256 .bf16) : Vec Ideal S4096x2048 .f32 :=
  fun y => ∑ k : Fin 1024, a (ix2 (y 0) k) * b (ix3 ⟨(y 1).val / 256, by have : (y 1).val < 2048 := (y 1).isLt; omega⟩ k ⟨(y 1).val % 256, by omega⟩)

/-- The same product of two blocks, four shards in each. -/
def block (a : Vec Ideal S512x1024 .bf16) (b : Vec Ideal S4x1024x256 .bf16) : Vec Ideal S512x1024 .f32 :=
  fun y => ∑ k : Fin 1024, a (ix2 (y 0) k) * b (ix3 ⟨(y 1).val / 256, by have : (y 1).val < 1024 := (y 1).isLt; omega⟩ k ⟨(y 1).val % 256, by omega⟩)

/-- The product with the first shard is added to the accumulator's first lanes. -/
theorem first (acc : Vec Ideal S512x256 .f32) (a : Vec Ideal S512x1024 .bf16) (b : Vec Ideal S1x1024x256 .bf16) (j : S512x256.Idx) :
    k0_pay4 acc a b j = acc j + ∑ k : Fin 1024, a (ix2 (j 0) k) * b (ix3 0 k (j 1)) := by
  idx_vars j
  pointwise [k0_pay4]

/-- The accumulator starts at zero. -/
theorem zero (j : S512x1024.Idx) : k0_pay3 (F := Ideal) j = 0 := by
  pointwise [k0_pay3]

/-- What is stored for shard `g`, at `x`, is the block's product at the place that `x` lands on. -/
theorem stored (a : Vec Ideal S512x1024 .bf16) (b : Vec Ideal S4x1024x256 .bf16) (g : Fin 4)
    (inb : ∀ d, (![0, 256 * g.val] : Fin 2 → ℕ) d + (![512, 256] : Fin 2 → ℕ) d ≤ S512x1024.size d)
    (inb' : ∀ d, (![g.val, 0, 0] : Fin 3 → ℕ) d + (![1, 1024, 256] : Fin 3 → ℕ) d ≤ S4x1024x256.size d) (x : S512x256.Idx) :
    k0_pay4 (F := Ideal) (View.ld (Val := Elt Ideal) (e' := .f32) (k0_pay3 (F := Ideal)) (Rect.unit (s := S512x1024) ![0, 256 * g.val] ![512, 256] inb)) a
        (View.ld (Val := Elt Ideal) (e' := .bf16) b (Rect.unit (s := S4x1024x256) ![g.val, 0, 0] ![1, 1024, 256] inb')) x
      = block a b ((Rect.unit (s := S512x1024) ![0, 256 * g.val] ![512, 256] inb).emb x) := by
  rw [first]
  refine (congrArg (· + _) (zero _)).trans ((zero_add (M := Elt Ideal .f32) _).trans ?_)
  idx_vars x
  unfold block
  refine Finset.sum_congr (M := Elt Ideal .f32) rfl fun k _ => congrArg₂ (· * ·) ?_ ?_
  · blk_ext []
  · refine View.ld_unit_apply_of _ _ _ _ _ _ fun d => ?_
    have hx := x1.isLt
    refine Fin.cases ?_ (fun d => Fin.cases ?_ (fun d => Fin.cases ?_ (fun d => d.elim0) d) d) d <;> simp <;> omega

variable (m : (ℓ : Loc nD τ sig) → Buf (Elt Ideal) ℓ) (c : Dev nD)

/-- A point leaves the product of its two blocks. -/
theorem point (t : Fin cfg0.N) : outsAt0 m c t = block (iblk m c 0 t) (iblk m c 1 t) := by
  unfold outsAt0; frame_out
  simp (decide := true) only [↓View.readCov_skip, ↓View.readCov_fill]
  rw [View.readCov_eq_canon']
  funext y
  have hy : (Rect.unit (s := S512x1024) ![0, 0] ![512, 1024] inb_S512x1024_S512x1024_0_0).toLoadRect.idx y = y := by
    funext d
    refine Fin.cases ?_ (fun d => Fin.cases ?_ (fun d => d.elim0) d) d <;> apply Fin.ext <;> simp
  rw [hy]
  refine View.canon_append_of_piecesOf (block (iblk m c 0 t) (iblk m c 1 t)) [_] [_, _, _, _]
    ⟨stored _ _ 3 _ _, stored _ _ 2 _ _, stored _ _ 1 _ _, stored _ _ 0 _ _, trivial⟩ y ?_
  exact View.cover_of_tiled_head _ _ _ (by rfl) y

/-- The blocks that a point reads and writes. -/
theorem idx : ∀ t : Fin cfg0.N, win0_0.index t = ![t.val / 2, 0] ∧ win0_1.index t = ![t.val % 2, 0, 0] ∧ win0_2.index t = ![t.val / 2, t.val % 2] :=
  (by decide +kernel : ∀ t : Fin grid0.N, win0_0.index t = ![t.val / 2, 0] ∧ win0_1.index t = ![t.val % 2, 0, 0] ∧ win0_2.index t = ![t.val / 2, t.val % 2])

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨e0, e1, e2⟩ := idx t
    blk_simp
    rw [after0_2, point m c t]
    refine Finset.sum_congr (M := Elt Ideal .f32) rfl fun k _ => congrArg₂ (· * ·) ?_ ?_
    · blk_ext [iblk, e0, e2]
    · blk_ext [iblk, e1, e2]

end Cert.Kernel15Ideal.Product

namespace Cert.Branch

open Idealize.ShloMosaic Idealize.ShloMosaic.TcCoe Idealize.SL.Sem

/-- The reference leaves its arguments alone and declares no semaphore. -/
theorem frame_reference : Cert.quiescent_Reference15Ideal := fun m ρ _ =>
  (θ_run Cert.Reference15Ideal.defs _ _).mono
    (fun r h => ⟨fun c => (h c).2, Idealize.ShloMosaic.sem_eq_zero_of_no_sems (by decide) r.2⟩)
    (Cert.Reference15Ideal.Value.run m ρ)

open Cert.Reference15Ideal Cert.Reference15Ideal.Gen in
/-- The reference's result is the same function of the arguments. -/
theorem result (a : Vec Ideal S4096x1024 .bf16) (b : Vec Ideal S8x1024x256 .bf16) :
    (Host.dotGeneral (F := Ideal) (φ₁ := .f32) dot_S4096x1024_S1024x2048_S4096x2048_1_0_0_1_n_n none (extf .f32 a bitsLt_bf16_f32)
      (extf .f32 (shapeCast _ (transpose S1024x8x256 [1, 0, 2] b transposes_S8x1024x256_S1024x8x256_1_0_2) shapeCasts_S1024x8x256_S1024x2048) bitsLt_bf16_f32)
        : Vec Ideal S4096x2048 .f32) = Cert.Kernel15Ideal.Product.value a b := by
  funext y
  idx_vars y
  pointwise [Cert.Kernel15Ideal.Product.value]

/-- Kernel and reference leave the same array. -/
theorem algebraic : Cert.algebraic_Kernel15Ideal_Reference15Ideal := fun m g m' g' _ hm => by
  refine ⟨fun c => Cert.Kernel15Ideal.Product.value (m ((c.tc : Thread Cert.Kernel15Ideal.nD Cert.Kernel15Ideal.τ).loc Cert.Kernel15Ideal.main_arg0))
    (m ((c.tc : Thread Cert.Kernel15Ideal.nD Cert.Kernel15Ideal.τ).loc Cert.Kernel15Ideal.main_arg1)), ?_, ?_⟩
  · refine (θ_run Cert.Kernel15Ideal.defs _ _).mono (fun _ h c => ?_) (Cert.Kernel15Ideal.Value.run_blocks m g)
    exact ⟨(h c).1.trans (Cert.Kernel15Ideal.Product.array m c), (h c).2⟩
  · refine (θ_run Cert.Reference15Ideal.defs _ _).mono (fun _ h c => ?_) (Cert.Reference15Ideal.Value.run m' g')
    obtain ⟨h0, h1⟩ := hm c
    refine ⟨(h c).1.trans ?_, (h c).2⟩
    rw [h0, h1]
    exact result _ _

end Cert.Branch

end
-- ==== Proof.Branches.DBranch.lean ====
/- The gradient of a branch's input: the product of the projection's gradient with the weight's transpose, the
   weight being held as the eight devices' column shards, one after the other. -/
module

public import proofs.«01_k».proof.Defs
public import proofs.«01_k».proof.Proof.Gen.Kernel16Ideal.Value
public import proofs.«01_k».proof.Proof.Gen.Reference16Ideal.Run
public import Idealize.ShloMosaic.Lib.Pointwise
public import Idealize.ShloMosaic.Lib.Pipeline.ValueKit

@[expose] public section

set_option maxRecDepth 16384

noncomputable section

namespace Cert.Kernel16Ideal.Product

open Cert.Kernel16Ideal Cert.Kernel16Ideal.Gen Idealize.ShloMosaic Idealize.ShloMosaic.TcCoe Idealize.SL.Sem

/-- The product of the first array with the transpose of the joined shards: column `k` of the weight is column
    `k % 256` of shard `k / 256`. -/
def value (a : Vec Ideal S4096x2048 .bf16) (b : Vec Ideal S8x1024x256 .bf16) : Vec Ideal S4096x1024 .f32 :=
  fun y => ∑ k : Fin 2048, a (ix2 (y 0) k) * b (ix3 ⟨k.val / 256, by omega⟩ (y 1) ⟨k.val % 256, by omega⟩)

/-- The product of a block of rows with one shard, at one place. -/
def lanes (a : Vec Ideal S512x256 .bf16) (b : Vec Ideal S1x1024x256 .bf16) (j : S512x1024.Idx) : Elt Ideal .f32 :=
  ∑ k : Fin 256, a (ix2 (j 0) k) * b (ix3 0 (j 1) k)

/-- The product of two blocks, at one place. -/
def part (a : Vec Ideal S512x1024 .bf16) (b : Vec Ideal S4x1024x256 .bf16) (j : S512x1024.Idx) : Elt Ideal .f32 :=
  ∑ k : Fin 1024, a (ix2 (j 0) k) * b (ix3 ⟨k.val / 256, by omega⟩ (j 1) ⟨k.val % 256, by omega⟩)

/-- The product with the first shard is added to the accumulator. -/
theorem first (acc : Vec Ideal S512x1024 .f32) (a : Vec Ideal S512x256 .bf16) (b : Vec Ideal S1x1024x256 .bf16) (j : S512x1024.Idx) :
    k0_pay4 acc a b j = acc j + lanes a b j := by
  idx_vars j
  pointwise [k0_pay4, lanes]

/-- The product with the second shard is added in the same way, … -/
theorem second (acc : Vec Ideal S512x1024 .f32) (a : Vec Ideal S512x256 .bf16) (b : Vec Ideal S1x1024x256 .bf16) (j : S512x1024.Idx) :
    k0_pay5 acc a b j = acc j + lanes a b j := first acc a b j

/-- … and with the third, … -/
theorem third (acc : Vec Ideal S512x1024 .f32) (a : Vec Ideal S512x256 .bf16) (b : Vec Ideal S1x1024x256 .bf16) (j : S512x1024.Idx) :
    k0_pay1 acc a (k0_pay6 b) j = acc j + lanes a b j := first acc a b j

/-- … and with the fourth. -/
theorem fourth (acc : Vec Ideal S512x1024 .f32) (a : Vec Ideal S512x256 .bf16) (b : Vec Ideal S1x1024x256 .bf16) (j : S512x1024.Idx) :
    k0_pay2 acc a b j = acc j + lanes a b j := first acc a b j

/-- The accumulator starts at zero. -/
theorem zero (j : S512x1024.Idx) : k0_pay3 (F := Ideal) j = 0 := by
  pointwise [k0_pay3]

/-- What a point does to the accumulator: the products with its four shards are added, one by one. -/
abbrev after (acc : Vec Ideal S512x1024 .f32) (a : Vec Ideal S512x1024 .bf16) (b : Vec Ideal S4x1024x256 .bf16) : Vec Ideal S512x1024 .f32 :=
  k0_pay2
    (k0_pay1
      (k0_pay5
        (k0_pay4 acc (View.ld a (Rect.unit ![0, 0] ![512, 256] inb_S512x1024_S512x256_0_0))
          (View.ld b (Rect.unit ![0, 0, 0] ![1, 1024, 256] inb_S4x1024x256_S1x1024x256_0_0_0)))
        (View.ld a (Rect.unit ![0, 256] ![512, 256] inb_S512x1024_S512x256_0_256))
        (View.ld b (Rect.unit ![1, 0, 0] ![1, 1024, 256] inb_S4x1024x256_S1x1024x256_1_0_0)))
      (View.ld a (Rect.unit ![0, 512] ![512, 256] inb_S512x1024_S512x256_0_512))
      (k0_pay6 (View.ld b (Rect.unit ![2, 0, 0] ![1, 1024, 256] inb_S4x1024x256_S1x1024x256_2_0_0))))
    (View.ld a (Rect.unit ![0, 768] ![512, 256] inb_S512x1024_S512x256_0_768))
    (View.ld b (Rect.unit ![3, 0, 0] ![1, 1024, 256] inb_S4x1024x256_S1x1024x256_3_0_0))

/-- A point adds the product of its two blocks to the accumulator. -/
theorem added (acc : Vec Ideal S512x1024 .f32) (a : Vec Ideal S512x1024 .bf16) (b : Vec Ideal S4x1024x256 .bf16) (j : S512x1024.Idx) :
    after acc a b j = acc j + part a b j := by
  have split : part a b j = ∑ g : Fin 4, ∑ k : Fin 256,
      a (ix2 (j 0) ⟨g.val * 256 + k.val, by omega⟩) * b (ix3 g (j 1) k) := by
    refine (Fin.sum_mul_add_congr fun g k hl => ?_).symm
    have hg : g = ⟨(g.val * 256 + k.val) / 256, by omega⟩ := Fin.ext (by dsimp only; omega)
    have hk : k = ⟨(g.val * 256 + k.val) % 256, by omega⟩ := Fin.ext (by dsimp only; omega)
    exact congrArg₂ (fun g' k' => a (ix2 (j 0) ⟨g.val * 256 + k.val, hl⟩) * b (ix3 g' (j 1) k')) hg hk
  unfold after
  rw [fourth, third, second, first, split, Fin.sum_univ_four, add_assoc, add_assoc, add_assoc, add_assoc, add_assoc]
  idx_vars j
  unfold lanes
  refine congrArg₂ (· + ·) rfl (congrArg₂ (· + ·) ?_ (congrArg₂ (· + ·) ?_ (congrArg₂ (· + ·) ?_ ?_))) <;>
    exact Finset.sum_congr rfl fun k _ => by pointwise []

variable (m : (ℓ : Loc nD τ sig) → Buf (Elt Ideal) ℓ) (c : Dev nD)

/-- The blocks that a point reads and writes. -/
theorem idx : ∀ t : Fin cfg0.N, win0_0.index t = ![t.val / 2, t.val % 2] ∧ win0_1.index t = ![t.val % 2, 0, 0] ∧ win0_2.index t = ![t.val / 2, 0] :=
  (by decide +kernel : ∀ t : Fin grid0.N, win0_0.index t = ![t.val / 2, t.val % 2] ∧ win0_1.index t = ![t.val % 2, 0, 0] ∧ win0_2.index t = ![t.val / 2, 0])

/-- The first point of a run leaves its own product in the accumulator. -/
theorem start (t : Fin cfg0.N) (h : t.val % 2 = 0) (j : S512x1024.Idx) : (outsAt0 m c t.val t.isLt).2 j =
    0 + part (iblk m c 0 t) (iblk m c 1 t) j := by
  rw [outsAt0_A m c t h (by omega)]; frame_out; exact (added _ _ _ j).trans (by rw [zero])

/-- Every other point adds its product to what the point before it left. -/
theorem step (t : Fin cfg0.N) (h : ¬t.val % 2 = 0) (j : S512x1024.Idx) : (outsAt0 m c t.val t.isLt).2 j =
    (outsAt0 m c (t.val - 1) (by omega)).2 j + part (iblk m c 0 t) (iblk m c 1 t) j := by
  rw [outsAt0_B m c t h (by omega)]; frame_out
  exact (added _ _ _ j).trans (congrArg (· + part _ _ j) (congrFun (Memref.IsWhole.read_unread _ _) j))

/-- At the last point of a run the output block is the accumulator. -/
theorem last (t : Fin cfg0.N) (h : t.val % 2 = 1) : (outsAt0 m c t.val t.isLt).1 = (outsAt0 m c t.val t.isLt).2 := by
  rw [outsAt0_B m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 2 = 1 := (flush0_2 t).mp hf
    blk_simp
    rw [after0_2, last m c t hr]
    rw [Pipeline.eq_sum_fin_of_reset_step_apply_of_flush (fun n h => (outsAt0 m c n h).2) 2 (fun _ => 0) _
      (start m c) (step m c) t hr y]
    refine (zero_add (M := Elt Ideal .f32) _).trans ?_
    unfold part
    refine Fin.sum_mul_add_congr fun s k hl => ?_
    obtain ⟨f0, f1, -⟩ := idx ⟨2 * (t.val / 2) + s.val, Pipeline.run_point_lt_of_flush t hr s⟩
    have hs := s.isLt
    have g1 : (2 * (t.val / 2) + s.val) / 2 = t.val / 2 := by omega
    have g2 : (2 * (t.val / 2) + s.val) % 2 = s.val := by omega
    rw [g1, g2] at f0
    rw [g2] at f1
    refine congrArg₂ (· * ·) ?_ ?_
    · blk_ext [iblk, f0, e2]
    · blk_ext [iblk, f1, e2]

end Cert.Kernel16Ideal.Product

namespace Cert.DBranch

open Idealize.ShloMosaic Idealize.ShloMosaic.TcCoe Idealize.SL.Sem

/-- The reference leaves its arguments alone and declares no semaphore. -/
theorem frame_reference : Cert.quiescent_Reference16Ideal := fun m ρ _ =>
  (θ_run Cert.Reference16Ideal.defs _ _).mono
    (fun r h => ⟨fun c => (h c).2, Idealize.ShloMosaic.sem_eq_zero_of_no_sems (by decide) r.2⟩)
    (Cert.Reference16Ideal.Value.run m ρ)

open Cert.Reference16Ideal Cert.Reference16Ideal.Gen in
/-- The reference's result is the same function of the arguments. -/
theorem result (a : Vec Ideal S4096x2048 .bf16) (b : Vec Ideal S8x1024x256 .bf16) :
    (Host.dotGeneral (F := Ideal) (φ₁ := .f32) dot_S4096x2048_S1024x2048_S4096x1024_1_1_0_0_n_n none (extf .f32 a bitsLt_bf16_f32)
      (extf .f32 (shapeCast _ (transpose S1024x8x256 [1, 0, 2] b transposes_S8x1024x256_S1024x8x256_1_0_2) shapeCasts_S1024x8x256_S1024x2048) bitsLt_bf16_f32)
        : Vec Ideal S4096x1024 .f32) = Cert.Kernel16Ideal.Product.value a b := by
  funext y
  idx_vars y
  pointwise [Cert.Kernel16Ideal.Product.value]

/-- Kernel and reference leave the same array. -/
theorem algebraic : Cert.algebraic_Kernel16Ideal_Reference16Ideal := fun m g m' g' _ hm => by
  refine ⟨fun c => Cert.Kernel16Ideal.Product.value (m ((c.tc : Thread Cert.Kernel16Ideal.nD Cert.Kernel16Ideal.τ).loc Cert.Kernel16Ideal.main_arg0))
    (m ((c.tc : Thread Cert.Kernel16Ideal.nD Cert.Kernel16Ideal.τ).loc Cert.Kernel16Ideal.main_arg1)), ?_, ?_⟩
  · refine (θ_run Cert.Kernel16Ideal.defs _ _).mono (fun _ h c => ?_) (Cert.Kernel16Ideal.Value.run_blocks m g)
    exact ⟨(h c).1.trans (Cert.Kernel16Ideal.Product.array m c), (h c).2⟩
  · refine (θ_run Cert.Reference16Ideal.defs _ _).mono (fun _ h c => ?_) (Cert.Reference16Ideal.Value.run m' g')
    obtain ⟨h0, h1⟩ := hm c
    refine ⟨(h c).1.trans ?_, (h c).2⟩
    rw [h0, h1]
    exact result _ _

end Cert.DBranch

end
-- ==== Proof.Branches.DwBranch.lean ====
/- The gradient of a branch's weight: the product of the rows' transpose with the projection's gradient, written as
   the eight devices' column shards, one after the other. -/
module

public import proofs.«01_k».proof.Defs
public import proofs.«01_k».proof.Proof.Gen.Kernel17Ideal.Value
public import proofs.«01_k».proof.Proof.Gen.Reference17Ideal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel17Ideal.Product

open Cert.Kernel17Ideal Cert.Kernel17Ideal.Gen Idealize.ShloMosaic Idealize.ShloMosaic.TcCoe Idealize.SL.Sem

/-- The product of the first array's transpose with the second array, in shards: column `n` of shard `g` is column
    `256 * g + n` of the product. -/
def value (a : Vec Ideal S4096x1024 .bf16) (b : Vec Ideal S4096x2048 .bf16) : Vec Ideal S8x1024x256 .f32 :=
  fun y => ∑ k : Fin 4096, a (ix2 k (y 1)) *
    b (ix2 k ⟨(y 0).val * 256 + (y 2).val, by have : (y 0).val < 8 := (y 0).isLt; have : (y 2).val < 256 := (y 2).isLt; omega⟩)

/-- The product of two blocks, at one place. -/
def part (a : Vec Ideal S1024x512 .bf16) (b : Vec Ideal S1024x1024 .bf16) (j : S512x1024.Idx) : Elt Ideal .f32 :=
  ∑ k : Fin 1024, a (ix2 k (j 0)) * b (ix2 k (j 1))

/-- A point adds the product of its two blocks to the accumulator. -/
theorem added (acc : Vec Ideal S512x1024 .f32) (a : Vec Ideal S1024x512 .bf16) (b : Vec Ideal S1024x1024 .bf16) (j : S512x1024.Idx) :
    k0_pay2 acc a b j = acc j + part a b j := by
  idx_vars j
  pointwise [k0_pay2, part]

/-- The accumulator starts at zero. -/
theorem zero (j : S512x1024.Idx) : k0_pay1 (F := Ideal) j = 0 := by
  pointwise [k0_pay1]

/-- The place in the accumulator of a place in the four shards. -/
abbrev joined (y : S4x512x256.Idx) : S512x1024.Idx :=
  ix2 (y 1) ⟨(y 0).val * 256 + (y 2).val, by have : (y 0).val < 4 := (y 0).isLt; have : (y 2).val < 256 := (y 2).isLt; omega⟩

/-- The accumulator, in shards. -/
def shards (acc : Vec Ideal S512x1024 .f32) : Vec Ideal S4x512x256 .f32 := fun y => acc (joined y)

/-- What is stored of shard `g` is its part of the accumulator. -/
theorem shard (acc : Vec Ideal S512x1024 .f32) (g : Fin 4) (hs : S512x1024.Slices ![0, 256 * g.val] S512x256)
    (inb : ∀ d, (![g.val, 0, 0] : Fin 3 → ℕ) d + (![1, 512, 256] : Fin 3 → ℕ) d ≤ S4x512x256.size d) (x : S1x512x256.Idx) :
    shapeCast S1x512x256 (extractStridedSlice S512x256 ![0, 256 * g.val] acc hs) shapeCasts_S512x256_S1x512x256 x
      = shards acc ((Rect.unit (s := S4x512x256) ![g.val, 0, 0] ![1, 512, 256] inb).emb x) := by
  refine (shapeCast_addUnit_apply _ _ _ x).trans (extractStridedSlice_apply _ _ _ _ _ fun d => ?_)
  have h0 : (x 0).val < 1 := (x 0).isLt
  refine Fin.cases ?_ (fun d => Fin.cases ?_ (fun d => d.elim0) d) d <;> simp [joined] <;> omega

variable (m : (ℓ : Loc nD τ sig) → Buf (Elt Ideal) ℓ) (c : Dev nD)

/-- The blocks that a point reads and writes. -/
theorem idx : ∀ t : Fin cfg0.N, win0_0.index t = ![t.val % 4, t.val / 8] ∧ win0_1.index t = ![t.val % 4, t.val / 4 % 2] ∧ win0_2.index t = ![t.val / 4 % 2, t.val / 8, 0] :=
  (by decide +kernel : ∀ t : Fin grid0.N, win0_0.index t = ![t.val % 4, t.val / 8] ∧ win0_1.index t = ![t.val % 4, t.val / 4 % 2] ∧ win0_2.index t = ![t.val / 4 % 2, t.val / 8, 0])

/-- The first point of a run leaves its own product in the accumulator. -/
theorem start (t : Fin cfg0.N) (h : t.val % 4 = 0) (j : S512x1024.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 4 = 0) (j : S512x1024.Idx) : (outsAt0 m c t.val t.isLt).2 j =
    (outsAt0 m c (t.val - 1) (by omega)).2 j + part (iblk m c 0 t) (iblk m c 1 t) j := by
  by_cases h1 : t.val % 4 = 3
  · rw [outsAt0_C m c t h h1]; frame_out; rw [added]; exact congrArg (· + part _ _ j) (congrFun (Memref.IsWhole.read_unread _ _) j)
  · rw [outsAt0_B m c t h h1]; frame_out; rw [added]; exact congrArg (· + part _ _ j) (congrFun (Memref.IsWhole.read_unread _ _) j)

/-- At the last point of a run the output block is the accumulator, in shards. -/
theorem last (t : Fin cfg0.N) (h : t.val % 4 = 3) : (outsAt0 m c t.val t.isLt).1 = shards (outsAt0 m c t.val t.isLt).2 := by
  rw [outsAt0_C m c t (by omega) h]
  frame_out
  generalize k0_pay2 (F := Ideal) _ _ _ = acc
  funext y
  refine View.canon_append_of_piecesOf (shards acc) [] [_, _, _, _]
    ⟨shard acc 3 slices_S512x1024_o0_768_S512x256 inb_S4x512x256_S1x512x256_3_0_0, shard acc 2 slices_S512x1024_o0_512_S512x256 inb_S4x512x256_S1x512x256_2_0_0,
      shard acc 1 slices_S512x1024_o0_256_S512x256 inb_S4x512x256_S1x512x256_1_0_0, shard acc 0 slices_S512x1024_o0_0_S512x256 inb_S4x512x256_S1x512x256_0_0_0, trivial⟩ y ?_
  exact View.cover_of_tiled_head _ _ _ (by rfl) y

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 4 = 3 := (flush0_2 t).mp hf
    blk_simp
    rw [after0_2, last m c t hr]
    unfold shards
    rw [Pipeline.eq_sum_fin_of_reset_step_apply_of_flush (fun n h => (outsAt0 m c n h).2) 4 (fun _ => 0) _
      (start m c) (step m c) t hr (joined y)]
    refine (zero_add (M := Elt Ideal .f32) _).trans ?_
    unfold part
    refine Fin.sum_mul_add_congr fun s k hl => ?_
    obtain ⟨f0, f1, -⟩ := idx ⟨4 * (t.val / 4) + s.val, Pipeline.run_point_lt_of_flush t hr s⟩
    have hs := s.isLt
    have g0 : (4 * (t.val / 4) + s.val) / 4 % 2 = t.val / 4 % 2 := by omega
    have g1 : (4 * (t.val / 4) + s.val) / 8 = t.val / 8 := by omega
    have g2 : (4 * (t.val / 4) + s.val) % 4 = s.val := by omega
    rw [g1, g2] at f0
    rw [g0, g2] at f1
    have j0 : (joined y 0).val = (y 1).val := rfl
    have j1 : (joined y 1).val = (y 0).val * 256 + (y 2).val := rfl
    refine congrArg₂ (· * ·) ?_ ?_
    · blk_ext [iblk, f0, e2]
    · blk_ext [iblk, f1, e2]

end Cert.Kernel17Ideal.Product

namespace Cert.DwBranch

open Idealize.ShloMosaic Idealize.ShloMosaic.TcCoe Idealize.SL.Sem

/-- The reference leaves its arguments alone and declares no semaphore. -/
theorem frame_reference : Cert.quiescent_Reference17Ideal := fun m ρ _ =>
  (θ_run Cert.Reference17Ideal.defs _ _).mono
    (fun r h => ⟨fun c => (h c).2, Idealize.ShloMosaic.sem_eq_zero_of_no_sems (by decide) r.2⟩)
    (Cert.Reference17Ideal.Value.run m ρ)

open Cert.Reference17Ideal Cert.Reference17Ideal.Gen in
/-- The reference's result is the same function of the arguments. -/
theorem result (a : Vec Ideal S4096x1024 .bf16) (b : Vec Ideal S4096x2048 .bf16) :
    (transpose S8x1024x256 [1, 0, 2] (shapeCast _ (transpose S1024x2048 [1, 0]
      (Host.dotGeneral (F := Ideal) (φ₁ := .f32) dot_S4096x2048_S4096x1024_S2048x1024_0_0_1_1_n_n none (extf .f32 b bitsLt_bf16_f32) (extf .f32 a bitsLt_bf16_f32))
      transposes_S2048x1024_S1024x2048_1_0) shapeCasts_S1024x2048_S1024x8x256) transposes_S1024x8x256_S8x1024x256_1_0_2
        : Vec Ideal S8x1024x256 .f32) = Cert.Kernel17Ideal.Product.value a b := by
  funext y
  idx_vars y
  pointwise [Cert.Kernel17Ideal.Product.value]
  refine Finset.sum_congr rfl fun _ _ => mul_comm _ _

/-- Kernel and reference leave the same array. -/
theorem algebraic : Cert.algebraic_Kernel17Ideal_Reference17Ideal := fun m g m' g' _ hm => by
  refine ⟨fun c => Cert.Kernel17Ideal.Product.value (m ((c.tc : Thread Cert.Kernel17Ideal.nD Cert.Kernel17Ideal.τ).loc Cert.Kernel17Ideal.main_arg0))
    (m ((c.tc : Thread Cert.Kernel17Ideal.nD Cert.Kernel17Ideal.τ).loc Cert.Kernel17Ideal.main_arg1)), ?_, ?_⟩
  · refine (θ_run Cert.Kernel17Ideal.defs _ _).mono (fun _ h c => ?_) (Cert.Kernel17Ideal.Value.run_blocks m g)
    exact ⟨(h c).1.trans (Cert.Kernel17Ideal.Product.array m c), (h c).2⟩
  · refine (θ_run Cert.Reference17Ideal.defs _ _).mono (fun _ h c => ?_) (Cert.Reference17Ideal.Value.run m' g')
    obtain ⟨h0, h1⟩ := hm c
    refine ⟨(h c).1.trans ?_, (h c).2⟩
    rw [h0, h1]
    exact result _ _

end Cert.DwBranch

end
-- ==== Proof.Tiles.RmsFwd.lean ====
/- The first norm of the forward pass, rounded to bf16. -/
module

public import proofs.«01_k».proof.Defs
public import proofs.«01_k».proof.Proof.Gen.Kernel18Ideal.Value
public import proofs.«01_k».proof.Proof.Gen.Reference18Ideal.Run
public import proofs.«01_k».proof.Proof.Update.RmsBwd
public import Idealize.ShloMosaic.Lib.Pointwise
public import Idealize.ShloMosaic.Lib.Pipeline.ValueKit

@[expose] public section

set_option maxRecDepth 16384

noncomputable section

namespace Cert.Kernel18Ideal.Tile

open Cert.Kernel18Ideal Cert.Kernel18Ideal.Gen Idealize.ShloMosaic Idealize.ShloMosaic.TcCoe Idealize.SL.Sem
open Cert.RmsBwd (mean)

/-- The normed rows. -/
def value (x : Vec Ideal S4096x2048 .f32) (g : Vec Ideal S1x2048 .f32) : Vec Ideal S4096x2048 .bf16 :=
  fun y => x y * Ideal.rsqrt (mean fun k => x (ix2 (y 0) k)) * g (ix2 0 (y 1))

theorem block (x : Vec Ideal S256x2048 .f32) (g : Vec Ideal S1x2048 .f32) (y : S256x2048.Idx) :
    out0_2 x g y = x y * Ideal.rsqrt (mean fun k => x (ix2 (y 0) k)) * g (ix2 0 (y 1)) := by
  frame_out
  idx_vars y
  pointwise [k0_pay1, mean]

variable (m : (ℓ : Loc nD τ sig) → Buf (Elt Ideal) ℓ) (c : Dev nD)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨e0, e1, e2⟩ := idx t
    blk_simp
    rw [after0_2, block]
    unfold value
    refine congrArg₂ (· * ·) (congrArg₂ (· * ·) ?_ (congrArg Ideal.rsqrt (congrArg mean (funext fun k => ?_)))) ?_
    · blk_ext [iblk, e0, e2]
    · blk_ext [iblk, e0, e2]
    · blk_ext [iblk, e1, e2]

end Cert.Kernel18Ideal.Tile

namespace Cert.RmsFwd

open Idealize.ShloMosaic Idealize.ShloMosaic.TcCoe Idealize.SL.Sem

/-- The reference leaves its arguments alone and declares no semaphore. -/
theorem frame_reference : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run m ρ)

/-- Kernel and reference leave the same array. -/
theorem algebraic : Cert.algebraic_Kernel18Ideal_Reference18Ideal := fun m g m' g' _ hm => by
  refine ⟨fun c => Cert.Kernel18Ideal.Tile.value (m ((c.tc : Thread Cert.Kernel18Ideal.nD Cert.Kernel18Ideal.τ).loc Cert.Kernel18Ideal.main_arg0))
    (m ((c.tc : Thread Cert.Kernel18Ideal.nD Cert.Kernel18Ideal.τ).loc Cert.Kernel18Ideal.main_arg1)), ?_, ?_⟩
  · refine (θ_run Cert.Kernel18Ideal.defs _ _).mono (fun _ h c => ?_) (Cert.Kernel18Ideal.Value.run_blocks m g)
    exact ⟨(h c).1.trans (Cert.Kernel18Ideal.Tile.array m c), (h c).2⟩
  · refine (θ_run Cert.Reference18Ideal.defs _ _).mono (fun _ h c => ?_) (Cert.Reference18Ideal.Value.run m' g')
    obtain ⟨h0, h1⟩ := hm c
    refine ⟨(h c).1.trans ?_, (h c).2⟩
    rw [h0, h1]
    funext y
    idx_vars y
    pointwise [Cert.Kernel18Ideal.Tile.value, Cert.RmsBwd.mean]

end Cert.RmsFwd

end
-- ==== Proof.Tiles.Sigmoid.lean ====
/- The logistic function's derivative, the function that the gates use, and the places of the merge's gates in the projection. -/
module

public import Idealize.ShloMosaic.Lib.Pointwise

@[expose] public section

noncomputable section

namespace Cert.Tiles

open Idealize.ShloMosaic

/-- The logistic function's derivative, by the function's own value. -/
def dlogistic (x : Elt Ideal .f32) : Elt Ideal .f32 := Ideal.logistic x * (1 - Ideal.logistic x)

/-- Column `n` of the merge's gate `j` in the projection. -/
def col (j : Fin 3) (n : Fin 2048) : Fin 14336 := ⟨8192 + j.val * 2048 + n.val, by omega⟩

end Cert.Tiles

end
-- ==== Proof.Tiles.Merge.lean ====
/- The merge of the three branches: each is scaled by the logistic function of its columns of the projection. -/
module

public import proofs.«01_k».proof.Defs
public import proofs.«01_k».proof.Proof.Gen.Kernel19Ideal.Value
public import proofs.«01_k».proof.Proof.Gen.Reference19Ideal.Run
public import proofs.«01_k».proof.Proof.Tiles.Sigmoid
public import Idealize.ShloMosaic.Lib.Pipeline.ValueKit

@[expose] public section

set_option maxRecDepth 16384

noncomputable section

namespace Cert.Kernel19Ideal.Tile

open Cert.Kernel19Ideal Cert.Kernel19Ideal.Gen Idealize.ShloMosaic Idealize.ShloMosaic.TcCoe Idealize.SL.Sem
open Cert.Tiles (col)

/-- The merge of one entry. -/
def entry (g0 g1 g2 a b c : Elt Ideal .f32) : Elt Ideal .f32 := Ideal.logistic g0 * a + Ideal.logistic g1 * b + Ideal.logistic g2 * c

/-- The merged rows. -/
def value (p : Vec Ideal S4096x14336 .bf16) (a b c : Vec Ideal S4096x2048 .f32) : Vec Ideal S4096x2048 .bf16 :=
  fun y => entry (p (ix2 (y 0) (col 0 (y 1)))) (p (ix2 (y 0) (col 1 (y 1)))) (p (ix2 (y 0) (col 2 (y 1)))) (a y) (b y) (c y)

theorem block (g0 g1 g2 : Vec Ideal S256x2048 .bf16) (a b c : Vec Ideal S256x2048 .f32) (y : S256x2048.Idx) :
    out0_6 g0 g1 g2 a b c y = entry (g0 y) (g1 y) (g2 y) (a y) (b y) (c y) := by
  frame_out
  pointwise [k0_pay1, entry]

variable (m : (ℓ : Loc nD τ sig) → Buf (Elt Ideal) ℓ) (c : Dev nD)

theorem idx : ∀ t : Fin cfg0.N, win0_0.index t = ![t.val, 4] ∧ win0_1.index t = ![t.val, 5] ∧ win0_2.index t = ![t.val, 6]
    ∧ win0_6.index t = ![t.val, 0] :=
  (by decide +kernel : ∀ t : Fin grid0.N, win0_0.index t = ![t.val, 4] ∧ win0_1.index t = ![t.val, 5] ∧ win0_2.index t = ![t.val, 6]
    ∧ win0_6.index t = ![t.val, 0])

theorem array : (dats m 0 c).arrAt 6 cfg0.N = value (m ((c : Thread nD τ).loc main_arg0)) (m ((c : Thread nD τ).loc main_arg1))
    (m ((c : Thread nD τ).loc main_arg2)) (m ((c : Thread nD τ).loc main_arg3)) :=
  (dats m 0 c).arrAt_eq_of_covers 6 _ (by decide +kernel) fun t hf y => by
    obtain ⟨e0, e1, e2, e6⟩ := idx t
    blk_simp
    rw [after0_6, block]
    unfold value
    congr 1
    · blk_ext [iblk, col, e0, e6]
    · blk_ext [iblk, col, e1, e6]
    · blk_ext [iblk, col, e2, e6]

end Cert.Kernel19Ideal.Tile

namespace Cert.Merge

open Idealize.ShloMosaic Idealize.ShloMosaic.TcCoe Idealize.SL.Sem

/-- The reference leaves its arguments alone and declares no semaphore. -/
theorem frame_reference : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run m ρ)

/-- Kernel and reference leave the same array. -/
theorem algebraic : Cert.algebraic_Kernel19Ideal_Reference19Ideal := fun m g m' g' _ hm => by
  refine ⟨fun c => Cert.Kernel19Ideal.Tile.value (m ((c.tc : Thread Cert.Kernel19Ideal.nD Cert.Kernel19Ideal.τ).loc Cert.Kernel19Ideal.main_arg0))
    (m ((c.tc : Thread Cert.Kernel19Ideal.nD Cert.Kernel19Ideal.τ).loc Cert.Kernel19Ideal.main_arg1))
    (m ((c.tc : Thread Cert.Kernel19Ideal.nD Cert.Kernel19Ideal.τ).loc Cert.Kernel19Ideal.main_arg2))
    (m ((c.tc : Thread Cert.Kernel19Ideal.nD Cert.Kernel19Ideal.τ).loc Cert.Kernel19Ideal.main_arg3)), ?_, ?_⟩
  · refine (θ_run Cert.Kernel19Ideal.defs _ _).mono (fun _ h c => ?_) (Cert.Kernel19Ideal.Value.run_blocks m g)
    exact ⟨(h c).1.trans (Cert.Kernel19Ideal.Tile.array m c), (h c).2⟩
  · refine (θ_run Cert.Reference19Ideal.defs _ _).mono (fun _ h c => ?_) (Cert.Reference19Ideal.Value.run m' g')
    obtain ⟨h0, h1, h2, h3⟩ := hm c
    refine ⟨(h c).1.trans ?_, (h c).2⟩
    rw [h0, h1, h2, h3]
    funext y
    idx_vars y
    pointwise [Cert.Kernel19Ideal.Tile.value, Cert.Kernel19Ideal.Tile.entry, Cert.Tiles.col, Ideal.logistic]
    simp only [← Nat.add_assoc, Nat.reduceAdd]

end Cert.Merge

end
-- ==== Proof.Tiles.MergeBwd.lean ====
/- The gradient of the merge: those of the three gates' columns and those of the three branches' rows. -/
module

public import proofs.«01_k».proof.Defs
public import proofs.«01_k».proof.Proof.Gen.Kernel20Ideal.Value
public import proofs.«01_k».proof.Proof.Gen.Reference20Ideal.Run
public import proofs.«01_k».proof.Proof.Tiles.Sigmoid
public import Idealize.ShloMosaic.Lib.Pipeline.ValueKit

@[expose] public section

set_option maxRecDepth 16384

noncomputable section

namespace Cert.Kernel20Ideal.Tile

open Cert.Kernel20Ideal Cert.Kernel20Ideal.Gen Idealize.ShloMosaic Idealize.ShloMosaic.TcCoe Idealize.SL.Sem
open Cert.Tiles (col dlogistic)

/-- The gradient of gate `j`'s columns, where the branch's rows are `a` and the merged rows' gradient is `d`. -/
def dgate (j : Fin 3) (p : Vec Ideal S4096x14336 .bf16) (a d : Vec Ideal S4096x2048 .f32) : Vec Ideal S4096x2048 .bf16 :=
  fun y => d y * a y * dlogistic (p (ix2 (y 0) (col j (y 1))))

/-- The gradient of branch `j`'s rows. -/
def drows (j : Fin 3) (p : Vec Ideal S4096x14336 .bf16) (d : Vec Ideal S4096x2048 .f32) : Vec Ideal S4096x2048 .bf16 :=
  fun y => Ideal.logistic (p (ix2 (y 0) (col j (y 1)))) * d y

/-! ## One block -/

section Block

variable (g0 g1 g2 : Vec Ideal S256x2048 .bf16) (a b c d : Vec Ideal S256x2048 .f32) (y : S256x2048.Idx)

theorem gate0 : out0_7 g0 g1 g2 a b c d y = d y * a y * dlogistic (g0 y) := by
  frame_out; pointwise [k0_pay14, k0_pay7, k0_pay4, dlogistic]

theorem gate1 : out0_8 g0 g1 g2 a b c d y = d y * b y * dlogistic (g1 y) := by
  frame_out; pointwise [k0_pay13, k0_pay7, k0_pay5, dlogistic]

theorem gate2 : out0_9 g0 g1 g2 a b c d y = d y * c y * dlogistic (g2 y) := by
  frame_out; pointwise [k0_pay12, k0_pay8, k0_pay6, dlogistic]

theorem rows0 : out0_10 g0 g1 g2 a b c d y = Ideal.logistic (g0 y) * d y := by
  frame_out; pointwise [k0_pay1, k0_pay11, k0_pay7, k0_pay4]

theorem rows1 : out0_11 g0 g1 g2 a b c d y = Ideal.logistic (g1 y) * d y := by
  frame_out; pointwise [k0_pay2, k0_pay10, k0_pay7, k0_pay5]

theorem rows2 : out0_12 g0 g1 g2 a b c d y = Ideal.logistic (g2 y) * d y := by
  frame_out; pointwise [k0_pay3, k0_pay9, k0_pay8, k0_pay6]

end Block

/-! ## The arrays -/

variable (m : (ℓ : Loc nD τ sig) → Buf (Elt Ideal) ℓ) (c : Dev nD)

/-- The projection. -/
abbrev proj : Vec Ideal S4096x14336 .bf16 := m ((c : Thread nD τ).loc main_arg0)

/-- The merged rows' gradient. -/
abbrev grad : Vec Ideal S4096x2048 .f32 := m ((c : Thread nD τ).loc main_arg4)

theorem idx : ∀ t : Fin cfg0.N, win0_0.index t = ![t.val, 4] ∧ win0_1.index t = ![t.val, 5] ∧ win0_2.index t = ![t.val, 6]
    ∧ win0_7.index t = ![t.val, 0] :=
  (by decide +kernel : ∀ t : Fin grid0.N, win0_0.index t = ![t.val, 4] ∧ win0_1.index t = ![t.val, 5] ∧ win0_2.index t = ![t.val, 6]
    ∧ win0_7.index t = ![t.val, 0])

/-- A gate's block is its columns of the projection, at every entry of the results' blocks. -/
theorem at0 (t : Fin cfg0.N) (y : S256x2048.Idx) : iblk m c 0 t y
    = proj m c (ix2 ((win0_7.blk t).view.emb y 0) (col 0 ((win0_7.blk t).view.emb y 1))) := by
  obtain ⟨e0, e1, e2, e7⟩ := idx t
  blk_ext [iblk, col, e0, e7]

theorem at1 (t : Fin cfg0.N) (y : S256x2048.Idx) : iblk m c 1 t y
    = proj m c (ix2 ((win0_7.blk t).view.emb y 0) (col 1 ((win0_7.blk t).view.emb y 1))) := by
  obtain ⟨e0, e1, e2, e7⟩ := idx t
  blk_ext [iblk, col, e1, e7]

theorem at2 (t : Fin cfg0.N) (y : S256x2048.Idx) : iblk m c 2 t y
    = proj m c (ix2 ((win0_7.blk t).view.emb y 0) (col 2 ((win0_7.blk t).view.emb y 1))) := by
  obtain ⟨e0, e1, e2, e7⟩ := idx t
  blk_ext [iblk, col, e2, e7]

theorem array7 : (dats m 0 c).arrAt 7 cfg0.N = dgate 0 (proj m c) (m ((c : Thread nD τ).loc main_arg1)) (grad m c) :=
  (dats m 0 c).arrAt_eq_of_covers 7 _ (by decide +kernel) fun t hf y => by
    blk_simp
    rw [after0_7, gate0, at0]
    rfl

theorem array8 : (dats m 0 c).arrAt 8 cfg0.N = dgate 1 (proj m c) (m ((c : Thread nD τ).loc main_arg2)) (grad m c) :=
  (dats m 0 c).arrAt_eq_of_covers 8 _ (by decide +kernel) fun t hf y => by
    blk_simp
    rw [after0_8, gate1, at1]
    rfl

theorem array9 : (dats m 0 c).arrAt 9 cfg0.N = dgate 2 (proj m c) (m ((c : Thread nD τ).loc main_arg3)) (grad m c) :=
  (dats m 0 c).arrAt_eq_of_covers 9 _ (by decide +kernel) fun t hf y => by
    blk_simp
    rw [after0_9, gate2, at2]
    rfl

theorem array10 : (dats m 0 c).arrAt 10 cfg0.N = drows 0 (proj m c) (grad m c) :=
  (dats m 0 c).arrAt_eq_of_covers 10 _ (by decide +kernel) fun t hf y => by
    blk_simp
    rw [after0_10, rows0, at0]
    rfl

theorem array11 : (dats m 0 c).arrAt 11 cfg0.N = drows 1 (proj m c) (grad m c) :=
  (dats m 0 c).arrAt_eq_of_covers 11 _ (by decide +kernel) fun t hf y => by
    blk_simp
    rw [after0_11, rows1, at1]
    rfl

theorem array12 : (dats m 0 c).arrAt 12 cfg0.N = drows 2 (proj m c) (grad m c) :=
  (dats m 0 c).arrAt_eq_of_covers 12 _ (by decide +kernel) fun t hf y => by
    blk_simp
    rw [after0_12, rows2, at2]
    rfl

end Cert.Kernel20Ideal.Tile

namespace Cert.MergeBwd

open Idealize.ShloMosaic Idealize.ShloMosaic.TcCoe Idealize.SL.Sem
open Cert.Kernel20Ideal.Tile (dgate drows)
open Cert.Tiles (col dlogistic)

/-- The reference leaves its arguments alone and declares no semaphore. -/
theorem frame_reference : Cert.quiescent_Reference20Ideal := fun m ρ _ =>
  (θ_run Cert.Reference20Ideal.defs _ _).mono
    (fun r h => ⟨fun c => (h c).2.2.2.2.2.2, Idealize.ShloMosaic.sem_eq_zero_of_no_sems (by decide) r.2⟩)
    (Cert.Reference20Ideal.Value.run m ρ)

/-- Kernel and reference leave the same six arrays. -/
theorem algebraic : Cert.algebraic_Kernel20Ideal_Reference20Ideal := fun m g m' g' _ hm => by
  refine ⟨fun c => dgate 0 (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg1))
      (m ((c.tc : Thread Cert.Kernel20Ideal.nD Cert.Kernel20Ideal.τ).loc Cert.Kernel20Ideal.main_arg4)),
    fun c => dgate 1 (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg2))
      (m ((c.tc : Thread Cert.Kernel20Ideal.nD Cert.Kernel20Ideal.τ).loc Cert.Kernel20Ideal.main_arg4)),
    fun c => dgate 2 (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg3))
      (m ((c.tc : Thread Cert.Kernel20Ideal.nD Cert.Kernel20Ideal.τ).loc Cert.Kernel20Ideal.main_arg4)),
    fun c => drows 0 (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg4)),
    fun c => drows 1 (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg4)),
    fun c => drows 2 (m ((c.tc : Thread Cert.Kernel20Ideal.nD Cert.Kernel20Ideal.τ).loc Cert.Kernel20Ideal.main_arg0))
      (m ((c.tc : Thread Cert.Kernel20Ideal.nD Cert.Kernel20Ideal.τ).loc Cert.Kernel20Ideal.main_arg4)), ?_, ?_⟩
  · refine (θ_run Cert.Kernel20Ideal.defs _ _).mono (fun _ h c => ?_) (Cert.Kernel20Ideal.Value.run_blocks m g)
    exact ⟨(h c).1.trans (Cert.Kernel20Ideal.Tile.array7 m c), (h c).2.1.trans (Cert.Kernel20Ideal.Tile.array8 m c),
      (h c).2.2.1.trans (Cert.Kernel20Ideal.Tile.array9 m c), (h c).2.2.2.1.trans (Cert.Kernel20Ideal.Tile.array10 m c),
      (h c).2.2.2.2.1.trans (Cert.Kernel20Ideal.Tile.array11 m c), (h c).2.2.2.2.2.1.trans (Cert.Kernel20Ideal.Tile.array12 m c),
      (h c).2.2.2.2.2.2⟩
  · refine (θ_run Cert.Reference20Ideal.defs _ _).mono (fun _ h c => ?_) (Cert.Reference20Ideal.Value.run m' g')
    obtain ⟨h0, h1, h2, h3, h4⟩ := hm c
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩
    all_goals
      simp only [h0, h1, h2, h3, h4]
      funext y
      idx_vars y
      pointwise [dgate, drows, col, dlogistic, Ideal.logistic]
      try simp only [← Nat.add_assoc, Nat.reduceAdd]
    · simp [Nat.div_eq_of_lt y1.isLt, Nat.mod_eq_of_lt y1.isLt]
    · simp [show (2048 + y1.val) / 2048 = 1 by omega]
    · simp [show (4096 + y1.val) / 2048 = 2 by omega]

end Cert.MergeBwd

end
-- ==== Proof.Tiles.Loss.lean ====
/- The last norm and the loss: the gradient of the rows, this device's part of that of the norm's weight, and its part of the loss. -/
module

public import proofs.«01_k».proof.Defs
public import proofs.«01_k».proof.Proof.Gen.Kernel21Ideal.Value
public import proofs.«01_k».proof.Proof.Gen.Reference21Ideal.Run
public import proofs.«01_k».proof.Proof.Update.RmsBwd

@[expose] public section

set_option maxRecDepth 16384

noncomputable section

namespace Cert.Loss

open Idealize.ShloMosaic Idealize.ShloMosaic.TcCoe Idealize.SL.Sem
open Cert.RmsBwd (mean pull grad)

/-! ## The constants -/

theorem ofBits_half : Ideal.ofBits .f32 0x3F000000#32 = ((1 / 2 : ℝ) : EReal) := by
  simp only [Ideal.ofBits, Ideal.ieee]; simp; rw [← EReal.coe_mul]; norm_num

theorem ofBits_two : Ideal.ofBits .f32 0x40000000#32 = 1 + 1 := by
  rw [← EReal.coe_one, ← EReal.coe_add]; simp only [Ideal.ofBits, Ideal.ieee]; simp; rw [← EReal.coe_mul]; norm_num; rfl

theorem ofBits_width : Ideal.ofBits .f32 0x45000000#32 = ((2048 : ℝ) : EReal) := by
  simp only [Ideal.ofBits, Ideal.ieee]; simp; rw [← EReal.coe_mul]; norm_num

/-! ## One row: `h` the row, `g` the norm's weight, `t` the target -/

/-- The normed row's distance to the target. -/
def err (h g t : Fin 2048 → Elt Ideal .f32) (k : Fin 2048) : Elt Ideal .f32 := h k * Ideal.rsqrt (mean h) * g k - t k

/-- The row's part of the loss. -/
def cost (h g t : Fin 2048 → Elt Ideal .f32) : Elt Ideal .f32 :=
  Ideal.ofBits .f32 0x3F000000#32 * Ideal.div (∑ k, err h g t k * err h g t k) (Ideal.ofBits .f32 0x45000000#32)

/-- What one squared distance weighs in the loss. -/
def weight : Elt Ideal .f32 := Ideal.div (Ideal.ofBits .f32 0x3F000000#32) (Ideal.ofBits .f32 0x45000000#32)

/-- The gradient of a distance. -/
def derr (e : Elt Ideal .f32) : Elt Ideal .f32 := weight * (Ideal.ofBits .f32 0x40000000#32 * e)

/-- The gradient of the row. -/
def drow (h g t : Fin 2048 → Elt Ideal .f32) (k : Fin 2048) : Elt Ideal .f32 :=
  grad h (fun k => derr (err h g t k)) g (h k) (derr (err h g t k)) (g k)

/-- The row's part of the gradient of the norm's weight. -/
def dweight (h g t : Fin 2048 → Elt Ideal .f32) (k : Fin 2048) : Elt Ideal .f32 := h k * Ideal.rsqrt (mean h) * derr (err h g t k)

theorem weight_nonneg : 0 ≤ weight := by
  unfold weight Ideal.div
  rw [ofBits_half, ofBits_width, if_neg (by norm_num)]
  exact EReal.mul_nonneg (EReal.coe_nonneg.mpr (by norm_num)) (EReal.inv_nonneg_of_nonneg (EReal.coe_nonneg.mpr (by norm_num)))

/-- The square's gradient, with its factor's two copies added rather than doubled. -/
theorem derr_eq (e : Elt Ideal .f32) : derr e = e * weight + weight * e := by
  have one : (0 : EReal) ≤ 1 := zero_le_one
  unfold derr
  rw [ofBits_two, ← mul_assoc, EReal.left_distrib_of_nonneg one one, mul_one, EReal.right_distrib_of_nonneg weight_nonneg weight_nonneg,
    mul_comm e]

/-- Half a sum is the sum of the halves. -/
theorem half_sum {n : ℕ} (f : Fin n → Elt Ideal .f32) :
    Ideal.ofBits .f32 0x3F000000#32 * ∑ r, f r = ∑ r, Ideal.ofBits .f32 0x3F000000#32 * f r := by
  have nonneg : 0 ≤ Ideal.ofBits .f32 0x3F000000#32 := by rw [ofBits_half]; exact EReal.coe_nonneg.mpr (by norm_num)
  have finite : Ideal.ofBits .f32 0x3F000000#32 ≠ ⊤ := by rw [ofBits_half]; exact EReal.coe_ne_top _
  induction n with
  | zero => simp
  | succ n ih => rw [Fin.sum_univ_succ, Fin.sum_univ_succ, EReal.left_distrib_of_nonneg_of_ne_top nonneg finite, ih]

/-! ## Whole arrays -/

section Arrays

open Cert.Kernel21Ideal

variable (x mo t : Vec Ideal S4096x2048 .f32) (g : Vec Ideal S1x2048 .f32)

/-- The gradient of the rows. -/
def dh : Vec Ideal S4096x2048 .f32 := fun y =>
  drow (fun k => x (ix2 (y 0) k) + mo (ix2 (y 0) k)) (fun k => g (ix2 0 k)) (fun k => t (ix2 (y 0) k)) (y 1)

/-- The gradient of the norm's weight. -/
def dfg : Vec Ideal S1x2048 .f32 := fun y =>
  ∑ r : Fin 4096, dweight (fun k => x (ix2 r k) + mo (ix2 r k)) (fun k => g (ix2 0 k)) (fun k => t (ix2 r k)) (y 1)

/-- The loss, in every entry. -/
def loss : Vec Ideal S8x128 .f32 := fun _ =>
  ∑ r : Fin 4096, cost (fun k => x (ix2 r k) + mo (ix2 r k)) (fun k => g (ix2 0 k)) (fun k => t (ix2 r k))

end Arrays

end Cert.Loss

namespace Cert.Kernel21Ideal.Tile

open Cert.Kernel21Ideal Cert.Kernel21Ideal.Gen Idealize.ShloMosaic Idealize.ShloMosaic.TcCoe Idealize.SL.Sem
open Cert.RmsBwd (mean pull grad)
open Cert.Loss

/-! ## One block -/

section Block

variable (x mo t : Vec Ideal S256x2048 .f32) (g : Vec Ideal S1x2048 .f32)

theorem mean_block (r : Fin 256) (z : Fin 1) : k0_pay4 x mo (ix2 r z) = mean fun k => x (ix2 r k) + mo (ix2 r k) := by
  pointwise [k0_pay4, k0_pay3, mean]

theorem err_block (r : Fin 256) (k : Fin 2048) : k0_pay8 x mo g t (ix2 r k) =
    err (fun k => x (ix2 r k) + mo (ix2 r k)) (fun k => g (ix2 0 k)) (fun k => t (ix2 r k)) k := by
  pointwise [k0_pay8, k0_pay7, k0_pay5, k0_pay3, mean_block, err]

theorem derr_block (v : FVec Ideal S256x2048 .f32) (r : Fin 256) (k : Fin 2048) :
    k0_pay11 v k0_pay10 (ix2 r k) = derr (v (ix2 r k)) := by
  rw [derr_eq]
  pointwise [k0_pay11, k0_pay10, weight]
  simp only [Fin.sum_univ_one]

theorem drow_block (y : S256x2048.Idx) :
    k0_pay12 g (k0_pay3 x mo) (k0_pay5 x mo) (k0_pay6 x mo) (k0_pay8 x mo g t) k0_pay10 y =
      drow (fun k => x (ix2 (y 0) k) + mo (ix2 (y 0) k)) (fun k => g (ix2 0 k)) (fun k => t (ix2 (y 0) k)) (y 1) := by
  idx_vars y
  pointwise [k0_pay12, k0_pay6, k0_pay5, k0_pay3, mean_block, derr_block, err_block, drow, grad, pull]

/-- One block's part of the weight's gradient, at one lane. -/
def part (y : S1x2048.Idx) : Elt Ideal .f32 :=
  ∑ r : Fin 256, dweight (fun k => x (ix2 r k) + mo (ix2 r k)) (fun k => g (ix2 0 k)) (fun k => t (ix2 r k)) (y 1)

theorem added (acc : Vec Ideal S1x2048 .f32) (y : S1x2048.Idx) :
    k0_pay13 (k0_pay7 x mo) (k0_pay8 x mo g t) k0_pay10 acc y = acc y + part x mo t g y := by
  idx_vars y
  pointwise [k0_pay13, k0_pay7, k0_pay5, k0_pay3, mean_block, derr_block, err_block, dweight, part]

/-- One block's part of the loss. -/
def share : Elt Ideal .f32 :=
  ∑ r : Fin 256, cost (fun k => x (ix2 r k) + mo (ix2 r k)) (fun k => g (ix2 0 k)) (fun k => t (ix2 r k))

theorem counted (acc : Vec Ideal S8x128 .f32) (y : S8x128.Idx) :
    k0_pay14 (k0_pay9 x mo g t) acc y = acc y + share x mo t g := by
  unfold share cost
  rw [← half_sum]
  idx_vars y
  pointwise [k0_pay14, k0_pay9, err_block]

end Block

theorem zero (y : S1x2048.Idx) : k0_pay1 (F := Ideal) y = 0 := by
  pointwise [k0_pay1]

theorem zeros (y : S8x128.Idx) : k0_pay2 (F := Ideal) y = 0 := by
  pointwise [k0_pay2]

/-! ## The arrays -/

variable (m : (ℓ : Loc nD τ sig) → Buf (Elt Ideal) ℓ) (c : Dev nD)

theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0] :=
  (by decide +kernel : ∀ t : Fin grid0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![0, 0])

theorem rows (t : Fin cfg0.N) :
    (outsAt0 m c t.val t.isLt).1 = k0_pay12 (iblk m c 3 t) (k0_pay3 (iblk m c 0 t) (iblk m c 1 t)) (k0_pay5 (iblk m c 0 t) (iblk m c 1 t))
      (k0_pay6 (iblk m c 0 t) (iblk m c 1 t)) (k0_pay8 (iblk m c 0 t) (iblk m c 1 t) (iblk m c 3 t) (iblk m c 2 t)) k0_pay10 := by
  by_cases h : t.val % 16 = 0
  · rw [outsAt0_A m c t h]; frame_out
  · rw [outsAt0_B m c t h]; frame_out

theorem start (t : Fin cfg0.N) (h : t.val % 16 = 0) (y : S1x2048.Idx) :
    (outsAt0 m c t.val t.isLt).2.1 y = 0 + part (iblk m c 0 t) (iblk m c 1 t) (iblk m c 2 t) (iblk m c 3 t) y := by
  rw [outsAt0_A m c t h]; frame_out; rw [added, zero]

theorem step (t : Fin cfg0.N) (h : ¬t.val % 16 = 0) (y : S1x2048.Idx) : (outsAt0 m c t.val t.isLt).2.1 y =
    (outsAt0 m c (t.val - 1) (by omega)).2.1 y + part (iblk m c 0 t) (iblk m c 1 t) (iblk m c 2 t) (iblk m c 3 t) y := by
  rw [outsAt0_B m c t h]; frame_out; rw [added]

theorem count_start (t : Fin cfg0.N) (h : t.val % 16 = 0) (y : S8x128.Idx) :
    (outsAt0 m c t.val t.isLt).2.2 y = 0 + share (iblk m c 0 t) (iblk m c 1 t) (iblk m c 2 t) (iblk m c 3 t) := by
  rw [outsAt0_A m c t h]; frame_out; rw [counted, zeros]

theorem count_step (t : Fin cfg0.N) (h : ¬t.val % 16 = 0) (y : S8x128.Idx) : (outsAt0 m c t.val t.isLt).2.2 y =
    (outsAt0 m c (t.val - 1) (by omega)).2.2 y + share (iblk m c 0 t) (iblk m c 1 t) (iblk m c 2 t) (iblk m c 3 t) := by
  rw [outsAt0_B m c t h]; frame_out; rw [counted]

theorem array_dh : (dats m 0 c).arrAt 4 cfg0.N = dh (m ((c : Thread nD τ).loc main_arg0)) (m ((c : Thread nD τ).loc main_arg1))
    (m ((c : Thread nD τ).loc main_arg2)) (m ((c : Thread nD τ).loc main_arg3)) :=
  (dats m 0 c).arrAt_eq_of_covers 4 _ (by decide +kernel) fun t hf y => by
    obtain ⟨e0, e1, e2, e3, e4, -, -⟩ := idx t
    blk_simp
    rw [after0_4, rows m c t]
    refine (drow_block _ _ _ _ y).trans ?_
    unfold dh
    congr 1
    · funext k; refine congrArg₂ (· + ·) ?_ ?_
      · blk_ext [iblk, e0, e4]
      · blk_ext [iblk, e1, e4]
    · funext k; blk_ext [iblk, e3, e4]
    · funext k; blk_ext [iblk, e2, e4]
    · apply Fin.ext; blk_simp [e4]

/-- Row `k` of block `s`, in the blocks and in the arrays. -/
theorem row_eq (t : Fin cfg0.N) (s : ℕ) (hs : s = t.val) (k : Fin 256) (r : Fin 4096) (hr : r.val = s * 256 + k.val) (l : Fin 2048) :
    iblk m c 0 t (ix2 k l) = m ((c : Thread nD τ).loc main_arg0) (ix2 r l)
    ∧ iblk m c 1 t (ix2 k l) = m ((c : Thread nD τ).loc main_arg1) (ix2 r l)
    ∧ iblk m c 2 t (ix2 k l) = m ((c : Thread nD τ).loc main_arg2) (ix2 r l)
    ∧ iblk m c 3 t (ix2 0 l) = m ((c : Thread nD τ).loc main_arg3) (ix2 0 l) := by
  obtain ⟨e0, e1, e2, e3, -, -, -⟩ := idx t
  subst hs
  refine ⟨?_, ?_, ?_, ?_⟩
  · blk_ext [iblk, e0, hr]
  · blk_ext [iblk, e1, hr]
  · blk_ext [iblk, e2, hr]
  · blk_ext [iblk, e3, hr]

theorem array_dfg : (dats m 0 c).arrAt 5 cfg0.N = dfg (m ((c : Thread nD τ).loc main_arg0)) (m ((c : Thread nD τ).loc main_arg1))
    (m ((c : Thread nD τ).loc main_arg2)) (m ((c : Thread nD τ).loc main_arg3)) :=
  (dats m 0 c).arrAt_eq_of_covers 5 _ (by decide +kernel) fun t hf y => by
    obtain ⟨-, -, -, -, -, e5, -⟩ := idx t
    have ht : t.val / 16 = 0 := by have : t.val < 16 := t.isLt; omega
    blk_simp
    rw [after0_5, Pipeline.eq_sum_fin_of_reset_step_apply_of_flush (fun n h => (outsAt0 m c n h).2.1) 16 (fun _ => 0) _
      (start m c) (step m c) t ((flush0_5 t).mp hf) y]
    refine (zero_add (M := Elt Ideal .f32) _).trans ?_
    unfold part dfg
    refine Fin.sum_mul_add_congr fun s k hl => ?_
    have e := row_eq m c ⟨16 * (t.val / 16) + s.val, Pipeline.run_point_lt_of_flush t ((flush0_5 t).mp hf) s⟩ s.val
      (by simp only [ht]; omega) k ⟨s.val * 256 + k.val, hl⟩ rfl
    congr 1
    · funext l; exact congrArg₂ (· + ·) (e l).1 (e l).2.1
    · funext l; exact (e l).2.2.2
    · funext l; exact (e l).2.2.1
    · apply Fin.ext; blk_simp [e5]

theorem array_loss : (dats m 0 c).arrAt 6 cfg0.N = loss (m ((c : Thread nD τ).loc main_arg0)) (m ((c : Thread nD τ).loc main_arg1))
    (m ((c : Thread nD τ).loc main_arg2)) (m ((c : Thread nD τ).loc main_arg3)) :=
  (dats m 0 c).arrAt_eq_of_covers 6 _ (by decide +kernel) fun t hf y => by
    have ht : t.val / 16 = 0 := by have : t.val < 16 := t.isLt; omega
    blk_simp
    rw [after0_6, Pipeline.eq_sum_fin_of_reset_step_apply_of_flush (fun n h => (outsAt0 m c n h).2.2) 16 (fun _ => 0) _
      (count_start m c) (count_step m c) t ((flush0_6 t).mp hf) y]
    refine (zero_add (M := Elt Ideal .f32) _).trans ?_
    unfold share loss
    refine Fin.sum_mul_add_congr fun s k hl => ?_
    have e := row_eq m c ⟨16 * (t.val / 16) + s.val, Pipeline.run_point_lt_of_flush t ((flush0_6 t).mp hf) s⟩ s.val
      (by simp only [ht]; omega) k ⟨s.val * 256 + k.val, hl⟩ rfl
    congr 1
    · funext l; exact congrArg₂ (· + ·) (e l).1 (e l).2.1
    · funext l; exact (e l).2.2.2
    · funext l; exact (e l).2.2.1

end Cert.Kernel21Ideal.Tile

namespace Cert.Loss

open Idealize.ShloMosaic Idealize.ShloMosaic.TcCoe Idealize.SL.Sem
open Cert.RmsBwd (mean pull grad means means_at scaled scaled_at pulls pulls_at)

/-- The reference leaves its arguments alone and declares no semaphore. -/
theorem frame_reference : Cert.quiescent_Reference21Ideal := fun m ρ _ =>
  (θ_run Cert.Reference21Ideal.defs _ _).mono
    (fun r h => ⟨fun c => (h c).2.2.2, Idealize.ShloMosaic.sem_eq_zero_of_no_sems (by decide) r.2⟩)
    (Cert.Reference21Ideal.Value.run m ρ)

section Reference

open Cert.Reference21Ideal Cert.Reference21Ideal.Gen

variable (h : FVec Ideal S4096x2048 .f32) (g : FVec Ideal S1x2048 .f32) (t : FVec Ideal S4096x2048 .f32)

/-- The reference's normed rows, before the weight. -/
def normed : FVec Ideal S4096x2048 .f32 :=
  mulf h (broadcastInDim S4096x2048 ![0, 1] bcast_S4096x1_S4096x2048_0_1 (Host.rsqrt (means h)))

/-- The reference's distances to the target. -/
def errs : FVec Ideal S4096x2048 .f32 := subf (scaled (normed h) g) t

theorem errs_at (r : Fin 4096) (k : Fin 2048) :
    errs h g t (ix2 r k) = err (fun k => h (ix2 r k)) (fun k => g (ix2 0 k)) (fun k => t (ix2 r k)) k := by
  pointwise [errs, scaled_at, normed, means_at, err]

/-- The reference's gradient of the distances. -/
def derrs : FVec Ideal S4096x2048 .f32 :=
  mulf (broadcastInDim S4096x2048 ![0] bcast_S4096_S4096x2048_0 (Host.divf (broadcastInDim S4096 ![] bcast_S_S4096
    (mulf (constant S_ .f32 0x3F000000#32) (constant S_ .f32 0x3F800000#32)))
    (broadcastInDim S4096 ![] bcast_S_S4096 (constant S_ .f32 0x45000000#32))))
    (mulf (broadcastInDim S4096x2048 ![] bcast_S_S4096x2048 (constant S_ .f32 0x40000000#32)) (errs h g t))

theorem derrs_at (r : Fin 4096) (k : Fin 2048) :
    derrs h g t (ix2 r k) = derr (err (fun k => h (ix2 r k)) (fun k => g (ix2 0 k)) (fun k => t (ix2 r k)) k) := by
  pointwise [derrs, errs_at, derr, weight]

/-- The reference's gradient of the rows. -/
def drows : FVec Ideal S4096x2048 .f32 :=
  addf (addf (mulf (scaled (derrs h g t) g) (broadcastInDim S4096x2048 ![0, 1] bcast_S4096x1_S4096x2048_0_1 (Host.rsqrt (means h))))
    (mulf h (pulls h (scaled (derrs h g t) g) (means h)))) (mulf (pulls h (scaled (derrs h g t) g) (means h)) h)

theorem drows_at (r : Fin 4096) (k : Fin 2048) :
    drows h g t (ix2 r k) = drow (fun k => h (ix2 r k)) (fun k => g (ix2 0 k)) (fun k => t (ix2 r k)) k := by
  pointwise [drows, scaled_at, means_at, pulls_at, derrs_at, drow, grad]

theorem dweights_at (k : Fin 2048) :
    broadcastInDim S1x2048 ![1] bcast_S2048_S1x2048_1 (Host.reduceAdd (shapeCast _ (Host.reduceAdd (mulf (normed h) (derrs h g t))
      (constant S_ .f32 0x00000000#32) reducesTo_S4096x2048_S2048_d0 h_S_) shapeCasts_S2048_S1x2048)
      (constant S_ .f32 0x00000000#32) reducesTo_S1x2048_S2048_d0 h_S_) (ix2 0 k) =
    ∑ r : Fin 4096, dweight (fun k => h (ix2 r k)) (fun k => g (ix2 0 k)) (fun k => t (ix2 r k)) k := by
  pointwise [normed, means_at, derrs_at, dweight]
  exact Fin.sum_univ_one _

theorem loss_at (y : S8x128.Idx) :
    broadcastInDim S8x128 ![] bcast_S_S8x128 (mulf (constant S_ .f32 0x3F000000#32) (Host.reduceAdd (Host.divf
      (Host.reduceAdd (mulf (errs h g t) (errs h g t)) (constant S_ .f32 0x00000000#32) reducesTo_S4096x2048_S4096_d1 h_S_)
      (broadcastInDim S4096 ![] bcast_S_S4096 (constant S_ .f32 0x45000000#32)))
      (constant S_ .f32 0x00000000#32) reducesTo_S4096_S_d0 h_S_)) y =
    ∑ r : Fin 4096, cost (fun k => h (ix2 r k)) (fun k => g (ix2 0 k)) (fun k => t (ix2 r k)) := by
  unfold cost
  rw [← half_sum]
  idx_vars y
  pointwise [errs_at]

end Reference

/-- Kernel and reference leave the same three arrays. -/
theorem algebraic : Cert.algebraic_Kernel21Ideal_Reference21Ideal := fun m g m' g' _ hm => by
  refine ⟨fun c => dh (m ((c.tc : Thread Cert.Kernel21Ideal.nD Cert.Kernel21Ideal.τ).loc Cert.Kernel21Ideal.main_arg0))
    (m ((c.tc : Thread Cert.Kernel21Ideal.nD Cert.Kernel21Ideal.τ).loc Cert.Kernel21Ideal.main_arg1))
    (m ((c.tc : Thread Cert.Kernel21Ideal.nD Cert.Kernel21Ideal.τ).loc Cert.Kernel21Ideal.main_arg2))
    (m ((c.tc : Thread Cert.Kernel21Ideal.nD Cert.Kernel21Ideal.τ).loc Cert.Kernel21Ideal.main_arg3)),
    fun c => dfg (m ((c.tc : Thread Cert.Kernel21Ideal.nD Cert.Kernel21Ideal.τ).loc Cert.Kernel21Ideal.main_arg0))
    (m ((c.tc : Thread Cert.Kernel21Ideal.nD Cert.Kernel21Ideal.τ).loc Cert.Kernel21Ideal.main_arg1))
    (m ((c.tc : Thread Cert.Kernel21Ideal.nD Cert.Kernel21Ideal.τ).loc Cert.Kernel21Ideal.main_arg2))
    (m ((c.tc : Thread Cert.Kernel21Ideal.nD Cert.Kernel21Ideal.τ).loc Cert.Kernel21Ideal.main_arg3)),
    fun c => loss (m ((c.tc : Thread Cert.Kernel21Ideal.nD Cert.Kernel21Ideal.τ).loc Cert.Kernel21Ideal.main_arg0))
    (m ((c.tc : Thread Cert.Kernel21Ideal.nD Cert.Kernel21Ideal.τ).loc Cert.Kernel21Ideal.main_arg1))
    (m ((c.tc : Thread Cert.Kernel21Ideal.nD Cert.Kernel21Ideal.τ).loc Cert.Kernel21Ideal.main_arg2))
    (m ((c.tc : Thread Cert.Kernel21Ideal.nD Cert.Kernel21Ideal.τ).loc Cert.Kernel21Ideal.main_arg3)), ?_, ?_⟩
  · refine (θ_run Cert.Kernel21Ideal.defs _ _).mono (fun _ h c => ?_) (Cert.Kernel21Ideal.Value.run_blocks m g)
    exact ⟨(h c).1.trans (Cert.Kernel21Ideal.Tile.array_dh m c), (h c).2.1.trans (Cert.Kernel21Ideal.Tile.array_dfg m c),
      (h c).2.2.1.trans (Cert.Kernel21Ideal.Tile.array_loss m c), (h c).2.2.2⟩
  · refine (θ_run Cert.Reference21Ideal.defs _ _).mono (fun _ h c => ?_) (Cert.Reference21Ideal.Value.run m' g')
    obtain ⟨h0, h1, h2, h3⟩ := hm c
    refine ⟨(h c).1.trans ?_, (h c).2.1.trans ?_, (h c).2.2.1.trans ?_, (h c).2.2.2⟩
    · funext y
      idx_vars y
      unfold Cert.Reference21Ideal.Value.res_main_v52
      rw [h0, h1, h2, h3]
      exact drows_at (addf _ _) _ _ y0 y1
    · funext y
      idx_vars y
      obtain rfl : y0 = 0 := Subsingleton.elim _ _
      rw [h0, h1, h2, h3]
      exact dweights_at (addf _ _) _ _ y1
    · funext y
      rw [h0, h1, h2, h3]
      exact loss_at (addf _ _) _ _ y

end Cert.Loss

end
-- ==== Proof.Tiles.Gate.lean ====
/- The gate of the state-space layer: the first half of the columns, scaled by the logistic function of the second half, and by
   the branch's own gate. -/
module

public import proofs.«01_k».proof.Defs
public import proofs.«01_k».proof.Proof.Gen.Kernel22Ideal.Value
public import proofs.«01_k».proof.Proof.Gen.Reference22Ideal.Run
public import Idealize.ShloMosaic.Lib.Pointwise
public import Idealize.ShloMosaic.Lib.Pipeline.ValueKit

@[expose] public section

set_option maxRecDepth 16384

noncomputable section

namespace Cert.Kernel22Ideal.Tile

open Cert.Kernel22Ideal Cert.Kernel22Ideal.Gen Idealize.ShloMosaic Idealize.ShloMosaic.TcCoe Idealize.SL.Sem

/-- The gate of one entry. -/
def entry (a b z : Elt Ideal .f32) : Elt Ideal .f32 := a * Ideal.logistic b * (z * Ideal.logistic z)

/-- The gated rows. -/
def value (t : Vec Ideal S4096x2048 .f32) (p : Vec Ideal S4096x14336 .bf16) : Vec Ideal S4096x1024 .bf16 := fun y =>
  have h : (y 1).val < 1024 := (y 1).isLt
  entry (t (ix2 (y 0) ⟨(y 1).val, by omega⟩)) (t (ix2 (y 0) ⟨1024 + (y 1).val, by omega⟩)) (p (ix2 (y 0) ⟨6144 + (y 1).val, by omega⟩))

theorem block (t : Vec Ideal S256x2048 .f32) (z : Vec Ideal S256x1024 .bf16) (y : S256x1024.Idx) : out0_2 t z y =
    have h : (y 1).val < 1024 := (y 1).isLt
    entry (t (ix2 (y 0) ⟨(y 1).val, by omega⟩)) (t (ix2 (y 0) ⟨1024 + (y 1).val, by omega⟩)) (z y) := by
  frame_out
  idx_vars y
  pointwise [k0_pay1, entry]

variable (m : (ℓ : Loc nD τ sig) → Buf (Elt Ideal) ℓ) (c : Dev nD)

theorem idx : ∀ t : Fin cfg0.N, win0_0.index t = ![t.val, 0] ∧ win0_1.index t = ![t.val, 6] ∧ win0_2.index t = ![t.val, 0] :=
  (by decide +kernel : ∀ t : Fin grid0.N, win0_0.index t = ![t.val, 0] ∧ win0_1.index t = ![t.val, 6] ∧ win0_2.index t = ![t.val, 0])

theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨e0, e1, e2⟩ := idx t
    blk_simp
    rw [after0_2, block]
    unfold value
    dsimp only
    congr 1
    · blk_ext [iblk, e0, e2]
    · blk_ext [iblk, e0, e2]
    · blk_ext [iblk, e1, e2]

end Cert.Kernel22Ideal.Tile

namespace Cert.Gate

open Idealize.ShloMosaic Idealize.ShloMosaic.TcCoe Idealize.SL.Sem

/-- The reference leaves its arguments alone and declares no semaphore. -/
theorem frame_reference : Cert.quiescent_Reference22Ideal := fun m ρ _ =>
  (θ_run Cert.Reference22Ideal.defs _ _).mono
    (fun r h => ⟨fun c => (h c).2, Idealize.ShloMosaic.sem_eq_zero_of_no_sems (by decide) r.2⟩)
    (Cert.Reference22Ideal.Value.run m ρ)

/-- Kernel and reference leave the same array. -/
theorem algebraic : Cert.algebraic_Kernel22Ideal_Reference22Ideal := fun m g m' g' _ hm => by
  refine ⟨fun c => Cert.Kernel22Ideal.Tile.value (m ((c.tc : Thread Cert.Kernel22Ideal.nD Cert.Kernel22Ideal.τ).loc Cert.Kernel22Ideal.main_arg0))
    (m ((c.tc : Thread Cert.Kernel22Ideal.nD Cert.Kernel22Ideal.τ).loc Cert.Kernel22Ideal.main_arg1)), ?_, ?_⟩
  · refine (θ_run Cert.Kernel22Ideal.defs _ _).mono (fun _ h c => ?_) (Cert.Kernel22Ideal.Value.run_blocks m g)
    exact ⟨(h c).1.trans (Cert.Kernel22Ideal.Tile.array m c), (h c).2⟩
  · refine (θ_run Cert.Reference22Ideal.defs _ _).mono (fun _ h c => ?_) (Cert.Reference22Ideal.Value.run m' g')
    obtain ⟨h0, h1⟩ := hm c
    refine ⟨(h c).1.trans ?_, (h c).2⟩
    rw [h0, h1]
    funext y
    idx_vars y
    pointwise [Cert.Kernel22Ideal.Tile.value, Cert.Kernel22Ideal.Tile.entry, Ideal.logistic]

end Cert.Gate

end
-- ==== Proof.Tiles.GateBwd.lean ====
/- The gradient of the state-space layer's gate: that of the two halves of its columns, and that of the branch's own gate. -/
module

public import proofs.«01_k».proof.Defs
public import proofs.«01_k».proof.Proof.Gen.Kernel23Ideal.Value
public import proofs.«01_k».proof.Proof.Gen.Reference23Ideal.Run
public import proofs.«01_k».proof.Proof.Tiles.Sigmoid
public import Idealize.ShloMosaic.Lib.Pipeline.ValueKit

@[expose] public section

set_option maxRecDepth 16384

noncomputable section

namespace Cert.Kernel23Ideal.Tile

open Cert.Kernel23Ideal Cert.Kernel23Ideal.Gen Idealize.ShloMosaic Idealize.ShloMosaic.TcCoe Idealize.SL.Sem
open Cert.Tiles (dlogistic)

/-! ## One entry: `a` the value, `b` its gate, `z` the branch's gate, `d` the gradient of the gated entry -/

/-- The gradient of the value. -/
def dval (b z d : Elt Ideal .f32) : Elt Ideal .f32 := d * (z * Ideal.logistic z) * Ideal.logistic b

/-- The gradient of its gate. -/
def dgate (a b z d : Elt Ideal .f32) : Elt Ideal .f32 := a * (d * (z * Ideal.logistic z)) * dlogistic b

/-- The gradient of the branch's gate. -/
def dbranch (a b z d : Elt Ideal .f32) : Elt Ideal .f32 :=
  a * Ideal.logistic b * d * Ideal.logistic z + z * (a * Ideal.logistic b * d) * dlogistic z

/-! ## Whole arrays -/

/-- The gradient of the gate's columns: the values', then their gates'. -/
def dcols (t : Vec Ideal S4096x2048 .f32) (p : Vec Ideal S4096x14336 .bf16) (d : Vec Ideal S4096x1024 .f32) : Vec Ideal S4096x2048 .bf16 := fun y =>
  have hy : (y 1).val < 2048 := (y 1).isLt
  if h : (y 1).val < 1024 then
    dval (t (ix2 (y 0) ⟨1024 + (y 1).val, by omega⟩)) (p (ix2 (y 0) ⟨6144 + (y 1).val, by omega⟩)) (d (ix2 (y 0) ⟨(y 1).val, h⟩))
  else dgate (t (ix2 (y 0) ⟨(y 1).val - 1024, by omega⟩)) (t (ix2 (y 0) ⟨1024 + ((y 1).val - 1024), by omega⟩))
    (p (ix2 (y 0) ⟨6144 + ((y 1).val - 1024), by omega⟩)) (d (ix2 (y 0) ⟨(y 1).val - 1024, by omega⟩))

/-- The gradient of the branch's gate's columns. -/
def dz (t : Vec Ideal S4096x2048 .f32) (p : Vec Ideal S4096x14336 .bf16) (d : Vec Ideal S4096x1024 .f32) : Vec Ideal S4096x1024 .bf16 := fun y =>
  have h : (y 1).val < 1024 := (y 1).isLt
  dbranch (t (ix2 (y 0) ⟨(y 1).val, by omega⟩)) (t (ix2 (y 0) ⟨1024 + (y 1).val, by omega⟩)) (p (ix2 (y 0) ⟨6144 + (y 1).val, by omega⟩)) (d y)

/-! ## One block -/

theorem block_cols (t : Vec Ideal S256x2048 .f32) (z : Vec Ideal S256x1024 .bf16) (d : Vec Ideal S256x1024 .f32) (y : S256x2048.Idx) :
    out0_3 t z d y =
    have hy : (y 1).val < 2048 := (y 1).isLt
    if h : (y 1).val < 1024 then
      dval (t (ix2 (y 0) ⟨1024 + (y 1).val, by omega⟩)) (z (ix2 (y 0) ⟨(y 1).val, h⟩)) (d (ix2 (y 0) ⟨(y 1).val, h⟩))
    else dgate (t (ix2 (y 0) ⟨(y 1).val - 1024, by omega⟩)) (t (ix2 (y 0) ⟨1024 + ((y 1).val - 1024), by omega⟩))
      (z (ix2 (y 0) ⟨(y 1).val - 1024, by omega⟩)) (d (ix2 (y 0) ⟨(y 1).val - 1024, by omega⟩)) := by
  frame_out
  idx_vars y
  by_cases h : y1.val < 1024
  · pointwise [k0_pay6, k0_pay1, k0_pay2, k0_pay3, k0_pay4, dval, h]
  · pointwise [k0_pay6, k0_pay1, k0_pay2, k0_pay3, k0_pay4, dgate, dlogistic, h]

theorem block_z (t : Vec Ideal S256x2048 .f32) (z : Vec Ideal S256x1024 .bf16) (d : Vec Ideal S256x1024 .f32) (y : S256x1024.Idx) :
    out0_4 t z d y =
    have h : (y 1).val < 1024 := (y 1).isLt
    dbranch (t (ix2 (y 0) ⟨(y 1).val, by omega⟩)) (t (ix2 (y 0) ⟨1024 + (y 1).val, by omega⟩)) (z y) (d y) := by
  frame_out
  idx_vars y
  pointwise [k0_pay5, k0_pay1, k0_pay2, k0_pay3, k0_pay4, dbranch, dlogistic]

variable (m : (ℓ : Loc nD τ sig) → Buf (Elt Ideal) ℓ) (c : Dev nD)

theorem idx : ∀ t : Fin cfg0.N, win0_0.index t = ![t.val, 0] ∧ win0_1.index t = ![t.val, 6] ∧ win0_2.index t = ![t.val, 0]
    ∧ win0_3.index t = ![t.val, 0] ∧ win0_4.index t = ![t.val, 0] :=
  (by decide +kernel : ∀ t : Fin grid0.N, win0_0.index t = ![t.val, 0] ∧ win0_1.index t = ![t.val, 6] ∧ win0_2.index t = ![t.val, 0]
    ∧ win0_3.index t = ![t.val, 0] ∧ win0_4.index t = ![t.val, 0])

theorem array_cols : (dats m 0 c).arrAt 3 cfg0.N = dcols (m ((c : Thread nD τ).loc main_arg0)) (m ((c : Thread nD τ).loc main_arg1))
    (m ((c : Thread nD τ).loc main_arg2)) :=
  (dats m 0 c).arrAt_eq_of_covers 3 _ (by decide +kernel) fun t hf y => by
    obtain ⟨e0, e1, e2, e3, -⟩ := idx t
    have e : ((win0_3.blk t).view.emb y 1).val = (y 1).val := by blk_simp [e3]
    blk_simp
    rw [after0_3, block_cols]
    unfold dcols
    dsimp only
    split
    · rw [dif_pos (e ▸ ‹(y 1).val < 1024›)]
      congr 1
      · blk_ext [iblk, e0, e3]
      · blk_ext [iblk, e1, e3]
      · blk_ext [iblk, e2, e3]
    · rw [dif_neg (e ▸ ‹¬(y 1).val < 1024›)]
      congr 1
      · blk_ext [iblk, e0, e3]
      · blk_ext [iblk, e0, e3]
      · blk_ext [iblk, e1, e3]
      · blk_ext [iblk, e2, e3]

theorem array_z : (dats m 0 c).arrAt 4 cfg0.N = dz (m ((c : Thread nD τ).loc main_arg0)) (m ((c : Thread nD τ).loc main_arg1))
    (m ((c : Thread nD τ).loc main_arg2)) :=
  (dats m 0 c).arrAt_eq_of_covers 4 _ (by decide +kernel) fun t hf y => by
    obtain ⟨e0, e1, e2, -, e4⟩ := idx t
    blk_simp
    rw [after0_4, block_z]
    unfold dz
    dsimp only
    congr 1
    · blk_ext [iblk, e0, e4]
    · blk_ext [iblk, e0, e4]
    · blk_ext [iblk, e1, e4]

end Cert.Kernel23Ideal.Tile

namespace Cert.GateBwd

open Idealize.ShloMosaic Idealize.ShloMosaic.TcCoe Idealize.SL.Sem
open Cert.Kernel23Ideal.Tile (dcols dz dval dgate dbranch)
open Cert.Tiles (dlogistic)

/-- The reference leaves its arguments alone and declares no semaphore. -/
theorem frame_reference : Cert.quiescent_Reference23Ideal := fun m ρ _ =>
  (θ_run Cert.Reference23Ideal.defs _ _).mono
    (fun r h => ⟨fun c => (h c).2.2, Idealize.ShloMosaic.sem_eq_zero_of_no_sems (by decide) r.2⟩)
    (Cert.Reference23Ideal.Value.run m ρ)

/-- Kernel and reference leave the same two arrays. -/
theorem algebraic : Cert.algebraic_Kernel23Ideal_Reference23Ideal := fun m g m' g' _ hm => by
  refine ⟨fun c => dcols (m ((c.tc : Thread Cert.Kernel23Ideal.nD Cert.Kernel23Ideal.τ).loc Cert.Kernel23Ideal.main_arg0))
      (m ((c.tc : Thread Cert.Kernel23Ideal.nD Cert.Kernel23Ideal.τ).loc Cert.Kernel23Ideal.main_arg1))
      (m ((c.tc : Thread Cert.Kernel23Ideal.nD Cert.Kernel23Ideal.τ).loc Cert.Kernel23Ideal.main_arg2)),
    fun c => dz (m ((c.tc : Thread Cert.Kernel23Ideal.nD Cert.Kernel23Ideal.τ).loc Cert.Kernel23Ideal.main_arg0))
      (m ((c.tc : Thread Cert.Kernel23Ideal.nD Cert.Kernel23Ideal.τ).loc Cert.Kernel23Ideal.main_arg1))
      (m ((c.tc : Thread Cert.Kernel23Ideal.nD Cert.Kernel23Ideal.τ).loc Cert.Kernel23Ideal.main_arg2)), ?_, ?_⟩
  · refine (θ_run Cert.Kernel23Ideal.defs _ _).mono (fun _ h c => ?_) (Cert.Kernel23Ideal.Value.run_blocks m g)
    exact ⟨(h c).1.trans (Cert.Kernel23Ideal.Tile.array_cols m c), (h c).2.1.trans (Cert.Kernel23Ideal.Tile.array_z m c), (h c).2.2⟩
  · refine (θ_run Cert.Reference23Ideal.defs _ _).mono (fun _ h c => ?_) (Cert.Reference23Ideal.Value.run m' g')
    obtain ⟨h0, h1, h2⟩ := hm c
    refine ⟨(h c).1.trans ?_, (h c).2.1.trans ?_, (h c).2.2⟩
    · rw [h0, h1, h2]
      funext y
      idx_vars y
      by_cases hy : y1.val < 1024
      · pointwise [dcols, dval, Ideal.logistic, hy]
      · pointwise [dcols, dgate, dlogistic, Ideal.logistic, hy]
    · rw [h0, h1, h2]
      funext y
      idx_vars y
      pointwise [dz, dbranch, dlogistic, Ideal.logistic]

end Cert.GateBwd

end
-- ==== Proof.Memory.MemNorm.lean ====
/- The norm of the memory, rounded to bf16. -/
module

public import proofs.«01_k».proof.Defs
public import proofs.«01_k».proof.Proof.Gen.Kernel24Ideal.Value
public import proofs.«01_k».proof.Proof.Gen.Reference24Ideal.Run
public import proofs.«01_k».proof.Proof.Update.RmsBwd
public import Idealize.ShloMosaic.Lib.Pointwise
public import Idealize.ShloMosaic.Lib.Pipeline.ValueKit

@[expose] public section

set_option maxRecDepth 16384

noncomputable section

namespace Cert.Kernel24Ideal.Tile

open Cert.Kernel24Ideal Cert.Kernel24Ideal.Gen Idealize.ShloMosaic Idealize.ShloMosaic.TcCoe Idealize.SL.Sem
open Cert.RmsBwd (mean)

/-- The normed rows. -/
def value (x : Vec Ideal S256x2048 .f32) (g : Vec Ideal S1x2048 .f32) : Vec Ideal S256x2048 .bf16 :=
  fun y => x y * Ideal.rsqrt (mean fun k => x (ix2 (y 0) k)) * g (ix2 0 (y 1))

theorem block (x : Vec Ideal S256x2048 .f32) (g : Vec Ideal S1x2048 .f32) (y : S256x2048.Idx) :
    out0_2 x g y = x y * Ideal.rsqrt (mean fun k => x (ix2 (y 0) k)) * g (ix2 0 (y 1)) := by
  frame_out
  idx_vars y
  pointwise [k0_pay1, mean]

variable (m : (ℓ : Loc nD τ sig) → Buf (Elt Ideal) ℓ) (c : Dev nD)

theorem idx : ∀ t : Fin cfg0.N, win0_0.index t = ![0, 0] ∧ win0_1.index t = ![0, 0] ∧ win0_2.index t = ![0, 0] :=
  (by decide +kernel : ∀ t : Fin grid0.N, win0_0.index t = ![0, 0] ∧ win0_1.index t = ![0, 0] ∧ win0_2.index t = ![0, 0])

theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨e0, e1, e2⟩ := idx t
    blk_simp
    rw [after0_2, block]
    unfold value
    refine congrArg₂ (· * ·) (congrArg₂ (· * ·) ?_ (congrArg Ideal.rsqrt (congrArg mean (funext fun k => ?_)))) ?_
    · blk_ext [iblk, e0, e2]
    · blk_ext [iblk, e0, e2]
    · blk_ext [iblk, e1, e2]

end Cert.Kernel24Ideal.Tile

namespace Cert.MemNorm

open Idealize.ShloMosaic Idealize.ShloMosaic.TcCoe Idealize.SL.Sem

/-- The reference leaves its arguments alone and declares no semaphore. -/
theorem frame_reference : Cert.quiescent_Reference24Ideal := fun m ρ _ =>
  (θ_run Cert.Reference24Ideal.defs _ _).mono
    (fun r h => ⟨fun c => (h c).2, Idealize.ShloMosaic.sem_eq_zero_of_no_sems (by decide) r.2⟩)
    (Cert.Reference24Ideal.Value.run m ρ)

/-- Kernel and reference leave the same array. -/
theorem algebraic : Cert.algebraic_Kernel24Ideal_Reference24Ideal := fun m g m' g' _ hm => by
  refine ⟨fun c => Cert.Kernel24Ideal.Tile.value (m ((c.tc : Thread Cert.Kernel24Ideal.nD Cert.Kernel24Ideal.τ).loc Cert.Kernel24Ideal.main_arg0))
    (m ((c.tc : Thread Cert.Kernel24Ideal.nD Cert.Kernel24Ideal.τ).loc Cert.Kernel24Ideal.main_arg1)), ?_, ?_⟩
  · refine (θ_run Cert.Kernel24Ideal.defs _ _).mono (fun _ h c => ?_) (Cert.Kernel24Ideal.Value.run_blocks m g)
    exact ⟨(h c).1.trans (Cert.Kernel24Ideal.Tile.array m c), (h c).2⟩
  · refine (θ_run Cert.Reference24Ideal.defs _ _).mono (fun _ h c => ?_) (Cert.Reference24Ideal.Value.run m' g')
    obtain ⟨h0, h1⟩ := hm c
    refine ⟨(h c).1.trans ?_, (h c).2⟩
    rw [h0, h1]
    funext y
    idx_vars y
    pointwise [Cert.Kernel24Ideal.Tile.value, Cert.RmsBwd.mean]

end Cert.MemNorm

end
-- ==== Proof.Memory.MemKv.lean ====
/- The projection of the memory to its keys and values. -/
module

public import proofs.«01_k».proof.Defs
public import proofs.«01_k».proof.Proof.Gen.Kernel25Ideal.Value
public import proofs.«01_k».proof.Proof.Gen.Reference25Ideal.Run
public import Idealize.ShloMosaic.Lib.Pointwise
public import Idealize.ShloMosaic.Lib.Pipeline.ValueKit

@[expose] public section

set_option maxRecDepth 16384

noncomputable section

namespace Cert.Kernel25Ideal.Product

open Cert.Kernel25Ideal Cert.Kernel25Ideal.Gen Idealize.ShloMosaic Idealize.ShloMosaic.TcCoe Idealize.SL.Sem

/-- The product of the two arrays. -/
def value (a : Vec Ideal S256x2048 .bf16) (b : Vec Ideal S2048x2048 .bf16) : Vec Ideal S256x2048 .f32 :=
  fun y => ∑ k : Fin 2048, a (ix2 (y 0) k) * b (ix2 k (y 1))

/-- The product of two blocks, at one place. -/
def part (a : Vec Ideal S256x1024 .bf16) (b : Vec Ideal S1024x1024 .bf16) (j : S256x1024.Idx) : Elt Ideal .f32 :=
  ∑ k : Fin 1024, a (ix2 (j 0) k) * b (ix2 k (j 1))

/-- A point adds the product of its two blocks to the accumulator. -/
theorem added (acc : Vec Ideal S256x1024 .f32) (a : Vec Ideal S256x1024 .bf16) (b : Vec Ideal S1024x1024 .bf16) (j : S256x1024.Idx) :
    k0_pay2 acc a b j = acc j + part a b j := by
  idx_vars j
  pointwise [k0_pay2, part]

/-- The accumulator starts at zero. -/
theorem zero (j : S256x1024.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val / 4, t.val % 2] ∧ win0_1.index t = ![t.val % 2, t.val / 2 % 2] ∧ win0_2.index t = ![t.val / 4, t.val / 2 % 2] :=
  (by decide +kernel : ∀ t : Fin grid0.N, win0_0.index t = ![t.val / 4, t.val % 2] ∧ win0_1.index t = ![t.val % 2, t.val / 2 % 2] ∧ win0_2.index t = ![t.val / 4, t.val / 2 % 2])

/-- The first point of a run leaves its own product in the accumulator. -/
theorem start (t : Fin cfg0.N) (h : t.val % 2 = 0) (j : S256x1024.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 2 = 0) (j : S256x1024.Idx) : (outsAt0 m c t.val t.isLt).2 j =
    (outsAt0 m c (t.val - 1) (by omega)).2 j + part (iblk m c 0 t) (iblk m c 1 t) j := by
  rw [outsAt0_B m c t h (by omega)]; frame_out; rw [added]; exact congrArg (· + part _ _ j) (congrFun (Memref.IsWhole.read_unread _ _) j)

/-- At the last point of a run the output block is the accumulator. -/
theorem last (t : Fin cfg0.N) (h : t.val % 2 = 1) : (outsAt0 m c t.val t.isLt).1 = (outsAt0 m c t.val t.isLt).2 := by
  rw [outsAt0_B m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 2 = 1 := (flush0_2 t).mp hf
    blk_simp
    rw [after0_2, last m c t hr]
    rw [Pipeline.eq_sum_fin_of_reset_step_apply_of_flush (fun n h => (outsAt0 m c n h).2) 2 (fun _ => 0) _
      (start m c) (step m c) t hr y]
    refine (zero_add (M := Elt Ideal .f32) _).trans ?_
    unfold part
    refine Fin.sum_mul_add_congr fun s k hl => ?_
    obtain ⟨f0, f1, -⟩ := idx ⟨2 * (t.val / 2) + s.val, Pipeline.run_point_lt_of_flush t hr s⟩
    have hs := s.isLt
    have g0 : (2 * (t.val / 2) + s.val) / 2 % 2 = t.val / 2 % 2 := by omega
    have g1 : (2 * (t.val / 2) + s.val) / 4 = t.val / 4 := by omega
    have g2 : (2 * (t.val / 2) + s.val) % 2 = s.val := by omega
    rw [g1, g2] at f0
    rw [g0, g2] at f1
    refine congrArg₂ (· * ·) ?_ ?_
    · blk_ext [iblk, f0, e2]
    · blk_ext [iblk, f1, e2]

end Cert.Kernel25Ideal.Product

namespace Cert.MemKv

open Idealize.ShloMosaic Idealize.ShloMosaic.TcCoe Idealize.SL.Sem

/-- The reference leaves its arguments alone and declares no semaphore. -/
theorem frame_reference : Cert.quiescent_Reference25Ideal := fun m ρ _ =>
  (θ_run Cert.Reference25Ideal.defs _ _).mono
    (fun r h => ⟨fun c => (h c).2, Idealize.ShloMosaic.sem_eq_zero_of_no_sems (by decide) r.2⟩)
    (Cert.Reference25Ideal.Value.run m ρ)

open Cert.Reference25Ideal Cert.Reference25Ideal.Gen in
/-- The reference's result is the same function of the arguments. -/
theorem result (a : Vec Ideal S256x2048 .bf16) (b : Vec Ideal S2048x2048 .bf16) :
    (Host.dotGeneral (F := Ideal) (φ₁ := .f32) dot_S256x2048_S2048x2048_S256x2048_1_0_0_1_n_n none (extf .f32 a bitsLt_bf16_f32) (extf .f32 b bitsLt_bf16_f32) : Vec Ideal S256x2048 .f32) = Cert.Kernel25Ideal.Product.value a b := by
  funext y
  idx_vars y
  pointwise [Cert.Kernel25Ideal.Product.value]

/-- Kernel and reference leave the same array. -/
theorem algebraic : Cert.algebraic_Kernel25Ideal_Reference25Ideal := fun m g m' g' _ hm => by
  refine ⟨fun c => Cert.Kernel25Ideal.Product.value (m ((c.tc : Thread Cert.Kernel25Ideal.nD Cert.Kernel25Ideal.τ).loc Cert.Kernel25Ideal.main_arg0))
    (m ((c.tc : Thread Cert.Kernel25Ideal.nD Cert.Kernel25Ideal.τ).loc Cert.Kernel25Ideal.main_arg1)), ?_, ?_⟩
  · refine (θ_run Cert.Kernel25Ideal.defs _ _).mono (fun _ h c => ?_) (Cert.Kernel25Ideal.Value.run_blocks m g)
    exact ⟨(h c).1.trans (Cert.Kernel25Ideal.Product.array m c), (h c).2⟩
  · refine (θ_run Cert.Reference25Ideal.defs _ _).mono (fun _ h c => ?_) (Cert.Reference25Ideal.Value.run m' g')
    obtain ⟨h0, h1⟩ := hm c
    refine ⟨(h c).1.trans ?_, (h c).2⟩
    rw [h0, h1]
    exact result _ _

end Cert.MemKv

end
-- ==== Proof.Memory.DMem.lean ====
/- The gradient of the normed memory. -/
module

public import proofs.«01_k».proof.Defs
public import proofs.«01_k».proof.Proof.Gen.Kernel26Ideal.Value
public import proofs.«01_k».proof.Proof.Gen.Reference26Ideal.Run
public import Idealize.ShloMosaic.Lib.Pointwise
public import Idealize.ShloMosaic.Lib.Pipeline.ValueKit

@[expose] public section

set_option maxRecDepth 16384

noncomputable section

namespace Cert.Kernel26Ideal.Product

open Cert.Kernel26Ideal Cert.Kernel26Ideal.Gen Idealize.ShloMosaic Idealize.ShloMosaic.TcCoe Idealize.SL.Sem

/-- The product of the first array with the transpose of the second. -/
def value (a : Vec Ideal S256x2048 .f32) (b : Vec Ideal S2048x2048 .bf16) : Vec Ideal S256x2048 .f32 :=
  fun y => ∑ k : Fin 2048, a (ix2 (y 0) k) * b (ix2 (y 1) k)

/-- The product of two blocks, at one place. -/
def part (a : Vec Ideal S256x1024 .f32) (b : Vec Ideal S1024x1024 .bf16) (j : S256x1024.Idx) : Elt Ideal .f32 :=
  ∑ k : Fin 1024, a (ix2 (j 0) k) * b (ix2 (j 1) k)

/-- A point adds the product of its two blocks to the accumulator. -/
theorem added (acc : Vec Ideal S256x1024 .f32) (a : Vec Ideal S256x1024 .f32) (b : Vec Ideal S1024x1024 .bf16) (j : S256x1024.Idx) :
    k0_pay2 acc a b j = acc j + part a b j := by
  idx_vars j
  pointwise [k0_pay2, part]

/-- The accumulator starts at zero. -/
theorem zero (j : S256x1024.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val / 4, t.val % 2] ∧ win0_1.index t = ![t.val / 2 % 2, t.val % 2] ∧ win0_2.index t = ![t.val / 4, t.val / 2 % 2] :=
  (by decide +kernel : ∀ t : Fin grid0.N, win0_0.index t = ![t.val / 4, t.val % 2] ∧ win0_1.index t = ![t.val / 2 % 2, t.val % 2] ∧ win0_2.index t = ![t.val / 4, t.val / 2 % 2])

/-- The first point of a run leaves its own product in the accumulator. -/
theorem start (t : Fin cfg0.N) (h : t.val % 2 = 0) (j : S256x1024.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 2 = 0) (j : S256x1024.Idx) : (outsAt0 m c t.val t.isLt).2 j =
    (outsAt0 m c (t.val - 1) (by omega)).2 j + part (iblk m c 0 t) (iblk m c 1 t) j := by
  rw [outsAt0_B m c t h (by omega)]; frame_out; rw [added]; exact congrArg (· + part _ _ j) (congrFun (Memref.IsWhole.read_unread _ _) j)

/-- At the last point of a run the output block is the accumulator. -/
theorem last (t : Fin cfg0.N) (h : t.val % 2 = 1) : (outsAt0 m c t.val t.isLt).1 = (outsAt0 m c t.val t.isLt).2 := by
  rw [outsAt0_B m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 2 = 1 := (flush0_2 t).mp hf
    blk_simp
    rw [after0_2, last m c t hr]
    rw [Pipeline.eq_sum_fin_of_reset_step_apply_of_flush (fun n h => (outsAt0 m c n h).2) 2 (fun _ => 0) _
      (start m c) (step m c) t hr y]
    refine (zero_add (M := Elt Ideal .f32) _).trans ?_
    unfold part
    refine Fin.sum_mul_add_congr fun s k hl => ?_
    obtain ⟨f0, f1, -⟩ := idx ⟨2 * (t.val / 2) + s.val, Pipeline.run_point_lt_of_flush t hr s⟩
    have hs := s.isLt
    have g0 : (2 * (t.val / 2) + s.val) / 2 % 2 = t.val / 2 % 2 := by omega
    have g1 : (2 * (t.val / 2) + s.val) / 4 = t.val / 4 := by omega
    have g2 : (2 * (t.val / 2) + s.val) % 2 = s.val := by omega
    rw [g1, g2] at f0
    rw [g0, g2] at f1
    refine congrArg₂ (· * ·) ?_ ?_
    · blk_ext [iblk, f0, e2]
    · blk_ext [iblk, f1, e2]

end Cert.Kernel26Ideal.Product

namespace Cert.DMem

open Idealize.ShloMosaic Idealize.ShloMosaic.TcCoe Idealize.SL.Sem

/-- The reference leaves its arguments alone and declares no semaphore. -/
theorem frame_reference : Cert.quiescent_Reference26Ideal := fun m ρ _ =>
  (θ_run Cert.Reference26Ideal.defs _ _).mono
    (fun r h => ⟨fun c => (h c).2, Idealize.ShloMosaic.sem_eq_zero_of_no_sems (by decide) r.2⟩)
    (Cert.Reference26Ideal.Value.run m ρ)

open Cert.Reference26Ideal Cert.Reference26Ideal.Gen in
/-- The reference's result is the same function of the arguments. -/
theorem result (a : Vec Ideal S256x2048 .f32) (b : Vec Ideal S2048x2048 .bf16) :
    (Host.dotGeneral (F := Ideal) (φ₁ := .f32) dot_S256x2048_S2048x2048_S256x2048_1_1_0_0_n_n none a (extf .f32 b bitsLt_bf16_f32) : Vec Ideal S256x2048 .f32) = Cert.Kernel26Ideal.Product.value a b := by
  funext y
  idx_vars y
  pointwise [Cert.Kernel26Ideal.Product.value]

/-- Kernel and reference leave the same array. -/
theorem algebraic : Cert.algebraic_Kernel26Ideal_Reference26Ideal := fun m g m' g' _ hm => by
  refine ⟨fun c => Cert.Kernel26Ideal.Product.value (m ((c.tc : Thread Cert.Kernel26Ideal.nD Cert.Kernel26Ideal.τ).loc Cert.Kernel26Ideal.main_arg0))
    (m ((c.tc : Thread Cert.Kernel26Ideal.nD Cert.Kernel26Ideal.τ).loc Cert.Kernel26Ideal.main_arg1)), ?_, ?_⟩
  · refine (θ_run Cert.Kernel26Ideal.defs _ _).mono (fun _ h c => ?_) (Cert.Kernel26Ideal.Value.run_blocks m g)
    exact ⟨(h c).1.trans (Cert.Kernel26Ideal.Product.array m c), (h c).2⟩
  · refine (θ_run Cert.Reference26Ideal.defs _ _).mono (fun _ h c => ?_) (Cert.Reference26Ideal.Value.run m' g')
    obtain ⟨h0, h1⟩ := hm c
    refine ⟨(h c).1.trans ?_, (h c).2⟩
    rw [h0, h1]
    exact result _ _

end Cert.DMem

end
-- ==== Proof.Memory.DwKv.lean ====
/- The gradient of the memory's weight: the normed memory's transpose times the gradient of the projection. -/
module

public import proofs.«01_k».proof.Defs
public import proofs.«01_k».proof.Proof.Gen.Kernel27Ideal.Value
public import proofs.«01_k».proof.Proof.Gen.Reference27Ideal.Run
public import Idealize.ShloMosaic.Lib.Pointwise
public import Idealize.ShloMosaic.Lib.Pipeline.ValueKit

@[expose] public section

set_option maxRecDepth 16384

noncomputable section

namespace Cert.Kernel27Ideal.Product

open Cert.Kernel27Ideal Cert.Kernel27Ideal.Gen Idealize.ShloMosaic Idealize.ShloMosaic.TcCoe Idealize.SL.Sem

/-- The product of the first array's transpose with the second array. -/
def value (a : Vec Ideal S256x2048 .bf16) (b : Vec Ideal S256x2048 .f32) : Vec Ideal S2048x2048 .f32 :=
  fun y => ∑ k : Fin 256, a (ix2 k (y 0)) * b (ix2 k (y 1))

/-- One block of the product: the accumulator starts at zero and takes one product. -/
theorem block (a : Vec Ideal S256x512 .bf16) (b : Vec Ideal S256x1024 .f32) (j : S512x1024.Idx) :
    k0_pay2 k0_pay1 a b j = ∑ k : Fin 256, a (ix2 k (j 0)) * b (ix2 k (j 1)) := by
  idx_vars j
  pointwise [k0_pay2, k0_pay1]

variable (m : (ℓ : Loc nD τ sig) → Buf (Elt Ideal) ℓ) (c : Dev nD)

/-- The blocks that a point reads and writes. -/
theorem idx : ∀ t : Fin cfg0.N, win0_0.index t = ![0, t.val / 2] ∧ win0_1.index t = ![0, t.val % 2] ∧ win0_2.index t = ![t.val / 2, t.val % 2] :=
  (by decide +kernel : ∀ t : Fin grid0.N, win0_0.index t = ![0, t.val / 2] ∧ win0_1.index t = ![0, t.val % 2] ∧ win0_2.index t = ![t.val / 2, t.val % 2])

/-- What a point writes. -/
theorem written (t : Fin cfg0.N) : outsAt0 m c t = k0_pay2 k0_pay1 (iblk m c 0 t) (iblk m c 1 t) := by
  unfold outsAt0
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨e0, e1, e2⟩ := idx t
    blk_simp
    rw [after0_2, written m c t]
    refine (block _ _ y).trans ?_
    unfold value
    refine Finset.sum_congr rfl fun k _ => congrArg₂ (· * ·) ?_ ?_
    · blk_ext [iblk, e0, e2]
    · blk_ext [iblk, e1, e2]

end Cert.Kernel27Ideal.Product

namespace Cert.DwKv

open Idealize.ShloMosaic Idealize.ShloMosaic.TcCoe Idealize.SL.Sem

/-- The reference leaves its arguments alone and declares no semaphore. -/
theorem frame_reference : Cert.quiescent_Reference27Ideal := fun m ρ _ =>
  (θ_run Cert.Reference27Ideal.defs _ _).mono
    (fun r h => ⟨fun c => (h c).2, Idealize.ShloMosaic.sem_eq_zero_of_no_sems (by decide) r.2⟩)
    (Cert.Reference27Ideal.Value.run m ρ)

open Cert.Reference27Ideal Cert.Reference27Ideal.Gen in
/-- The reference's result is the same function of the arguments. -/
theorem result (a : Vec Ideal S256x2048 .bf16) (b : Vec Ideal S256x2048 .f32) :
    (transpose S2048x2048 [1, 0] (Host.dotGeneral (F := Ideal) (φ₁ := .f32) dot_S256x2048_S256x2048_S2048x2048_0_0_1_1_n_n none b (extf .f32 a bitsLt_bf16_f32)) transposes_S2048x2048_S2048x2048_1_0 : Vec Ideal S2048x2048 .f32) = Cert.Kernel27Ideal.Product.value a b := by
  funext y
  idx_vars y
  pointwise [Cert.Kernel27Ideal.Product.value]
  exact Finset.sum_congr rfl fun _ _ => mul_comm _ _

/-- Kernel and reference leave the same array. -/
theorem algebraic : Cert.algebraic_Kernel27Ideal_Reference27Ideal := fun m g m' g' _ hm => by
  refine ⟨fun c => Cert.Kernel27Ideal.Product.value (m ((c.tc : Thread Cert.Kernel27Ideal.nD Cert.Kernel27Ideal.τ).loc Cert.Kernel27Ideal.main_arg0))
    (m ((c.tc : Thread Cert.Kernel27Ideal.nD Cert.Kernel27Ideal.τ).loc Cert.Kernel27Ideal.main_arg1)), ?_, ?_⟩
  · refine (θ_run Cert.Kernel27Ideal.defs _ _).mono (fun _ h c => ?_) (Cert.Kernel27Ideal.Value.run_blocks m g)
    exact ⟨(h c).1.trans (Cert.Kernel27Ideal.Product.array m c), (h c).2⟩
  · refine (θ_run Cert.Reference27Ideal.defs _ _).mono (fun _ h c => ?_) (Cert.Reference27Ideal.Value.run m' g')
    obtain ⟨h0, h1⟩ := hm c
    refine ⟨(h c).1.trans ?_, (h c).2⟩
    rw [h0, h1]
    exact result _ _

end Cert.DwKv

end
-- ==== Proof.Memory.MemNormBwd.lean ====
/- The gradient of the weight of the memory's norm, from this device's rows of the memory. -/
module

public import proofs.«01_k».proof.Defs
public import proofs.«01_k».proof.Proof.Gen.Kernel28Ideal.Value
public import proofs.«01_k».proof.Proof.Gen.Reference28Ideal.Run
public import proofs.«01_k».proof.Proof.Update.RmsBwd
public import Idealize.ShloMosaic.Lib.Pointwise
public import Idealize.ShloMosaic.Lib.Pipeline.ValueKit

@[expose] public section

set_option maxRecDepth 16384

noncomputable section

namespace Cert.Kernel28Ideal.Tile

open Cert.Kernel28Ideal Cert.Kernel28Ideal.Gen Idealize.ShloMosaic Idealize.ShloMosaic.TcCoe Idealize.SL.Sem
open Cert.RmsBwd (mean)

/-- The sum over the rows of the normed row, before the weight, times the gradient. -/
def value (x u : Vec Ideal S256x2048 .f32) : Vec Ideal S1x2048 .f32 :=
  fun y => ∑ r : Fin 256, x (ix2 r (y 1)) * Ideal.rsqrt (mean fun k => x (ix2 r k)) * u (ix2 r (y 1))

/-- The one block: the result starts at zero and takes the sum. -/
theorem block (x u : Vec Ideal S256x2048 .f32) (y : S1x2048.Idx) : k0_pay2 x u (k0_pay1 (F := Ideal)) y = value x u y := by
  idx_vars y
  pointwise [k0_pay2, k0_pay1, value, mean]

variable (m : (ℓ : Loc nD τ sig) → Buf (Elt Ideal) ℓ) (c : Dev nD)

theorem idx : ∀ t : Fin cfg0.N, win0_0.index t = ![0, 0] ∧ win0_2.index t = ![0, 0] ∧ win0_3.index t = ![0, 0] :=
  (by decide +kernel : ∀ t : Fin grid0.N, win0_0.index t = ![0, 0] ∧ win0_2.index t = ![0, 0] ∧ win0_3.index t = ![0, 0])

/-- What the one point writes. -/
theorem written (t : Fin cfg0.N) : outsAt0 m c t = k0_pay2 (iblk m c 0 t) (iblk m c 2 t) (k0_pay1 (F := Ideal)) := by
  unfold outsAt0
  frame_out

theorem array : (dats m 0 c).arrAt 3 cfg0.N = value (m ((c : Thread nD τ).loc main_arg0)) (m ((c : Thread nD τ).loc main_arg2)) :=
  (dats m 0 c).arrAt_eq_of_covers 3 _ (by decide +kernel) fun t hf y => by
    obtain ⟨e0, e2, e3⟩ := idx t
    blk_simp
    rw [after0_3, written m c t]
    refine (block _ _ y).trans ?_
    unfold value
    refine Finset.sum_congr rfl fun r _ => ?_
    refine congrArg₂ (· * ·) (congrArg₂ (· * ·) ?_ (congrArg Ideal.rsqrt (congrArg mean (funext fun k => ?_)))) ?_
    · blk_ext [iblk, e0, e3]
    · blk_ext [iblk, e0, e3]
    · blk_ext [iblk, e2, e3]

end Cert.Kernel28Ideal.Tile

namespace Cert.MemNormBwd

open Idealize.ShloMosaic Idealize.ShloMosaic.TcCoe Idealize.SL.Sem

/-- The reference leaves its arguments alone and declares no semaphore. -/
theorem frame_reference : Cert.quiescent_Reference28Ideal := fun m ρ _ =>
  (θ_run Cert.Reference28Ideal.defs _ _).mono
    (fun r h => ⟨fun c => (h c).2, Idealize.ShloMosaic.sem_eq_zero_of_no_sems (by decide) r.2⟩)
    (Cert.Reference28Ideal.Value.run m ρ)

/-- Kernel and reference leave the same array. -/
theorem algebraic : Cert.algebraic_Kernel28Ideal_Reference28Ideal := fun m g m' g' _ hm => by
  refine ⟨fun c => Cert.Kernel28Ideal.Tile.value (m ((c.tc : Thread Cert.Kernel28Ideal.nD Cert.Kernel28Ideal.τ).loc Cert.Kernel28Ideal.main_arg0))
    (m ((c.tc : Thread Cert.Kernel28Ideal.nD Cert.Kernel28Ideal.τ).loc Cert.Kernel28Ideal.main_arg2)), ?_, ?_⟩
  · refine (θ_run Cert.Kernel28Ideal.defs _ _).mono (fun _ h c => ?_) (Cert.Kernel28Ideal.Value.run_blocks m g)
    exact ⟨(h c).1.trans (Cert.Kernel28Ideal.Tile.array m c), (h c).2⟩
  · refine (θ_run Cert.Reference28Ideal.defs _ _).mono (fun _ h c => ?_) (Cert.Reference28Ideal.Value.run m' g')
    obtain ⟨h0, -, h2⟩ := hm c
    refine ⟨(h c).1.trans ?_, (h c).2⟩
    rw [h0, h2]
    funext y
    idx_vars y
    pointwise [Cert.Kernel28Ideal.Tile.value, Cert.RmsBwd.mean]
    exact Fin.sum_univ_one _

end Cert.MemNormBwd

end
-- ==== Proof.Memory.ProjBa.lean ====
/- The projection to the gates of the delta rule: sixteen columns, laid out in 128. -/
module

public import proofs.«01_k».proof.Defs
public import proofs.«01_k».proof.Proof.Gen.Kernel29Ideal.Value
public import proofs.«01_k».proof.Proof.Gen.Reference29Ideal.Run
public import Idealize.ShloMosaic.Lib.Pointwise
public import Idealize.ShloMosaic.Lib.Pipeline.ValueKit

@[expose] public section

set_option maxRecDepth 16384

noncomputable section

namespace Cert.Kernel29Ideal.Product

open Cert.Kernel29Ideal Cert.Kernel29Ideal.Gen Idealize.ShloMosaic Idealize.ShloMosaic.TcCoe Idealize.SL.Sem

/-- The product of the two arrays. -/
def value (a : Vec Ideal S4096x2048 .bf16) (b : Vec Ideal S2048x128 .bf16) : Vec Ideal S4096x128 .f32 :=
  fun y => ∑ k : Fin 2048, a (ix2 (y 0) k) * b (ix2 k (y 1))

/-- The product of two blocks, at one place. -/
def part (a : Vec Ideal S512x1024 .bf16) (b : Vec Ideal S1024x128 .bf16) (j : S512x128.Idx) : Elt Ideal .f32 :=
  ∑ k : Fin 1024, a (ix2 (j 0) k) * b (ix2 k (j 1))

/-- A point adds the product of its two blocks to the accumulator. -/
theorem added (acc : Vec Ideal S512x128 .f32) (a : Vec Ideal S512x1024 .bf16) (b : Vec Ideal S1024x128 .bf16) (j : S512x128.Idx) :
    k0_pay2 acc a b j = acc j + part a b j := by
  idx_vars j
  pointwise [k0_pay2, part]

/-- The accumulator starts at zero. -/
theorem zero (j : S512x128.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val / 2, t.val % 2] ∧ win0_1.index t = ![t.val % 2, 0] ∧ win0_2.index t = ![t.val / 2, 0] :=
  (by decide +kernel : ∀ t : Fin grid0.N, win0_0.index t = ![t.val / 2, t.val % 2] ∧ win0_1.index t = ![t.val % 2, 0] ∧ win0_2.index t = ![t.val / 2, 0])

/-- The first point of a run leaves its own product in the accumulator. -/
theorem start (t : Fin cfg0.N) (h : t.val % 2 = 0) (j : S512x128.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 2 = 0) (j : S512x128.Idx) : (outsAt0 m c t.val t.isLt).2 j =
    (outsAt0 m c (t.val - 1) (by omega)).2 j + part (iblk m c 0 t) (iblk m c 1 t) j := by
  rw [outsAt0_B m c t h (by omega)]; frame_out; rw [added]; exact congrArg (· + part _ _ j) (congrFun (Memref.IsWhole.read_unread _ _) j)

/-- At the last point of a run the output block is the accumulator. -/
theorem last (t : Fin cfg0.N) (h : t.val % 2 = 1) : (outsAt0 m c t.val t.isLt).1 = (outsAt0 m c t.val t.isLt).2 := by
  rw [outsAt0_B m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 2 = 1 := (flush0_2 t).mp hf
    blk_simp
    rw [after0_2, last m c t hr]
    rw [Pipeline.eq_sum_fin_of_reset_step_apply_of_flush (fun n h => (outsAt0 m c n h).2) 2 (fun _ => 0) _
      (start m c) (step m c) t hr y]
    refine (zero_add (M := Elt Ideal .f32) _).trans ?_
    unfold part
    refine Fin.sum_mul_add_congr fun s k hl => ?_
    obtain ⟨f0, f1, -⟩ := idx ⟨2 * (t.val / 2) + s.val, Pipeline.run_point_lt_of_flush t hr s⟩
    have hs := s.isLt
    have g1 : (2 * (t.val / 2) + s.val) / 2 = t.val / 2 := by omega
    have g2 : (2 * (t.val / 2) + s.val) % 2 = s.val := by omega
    rw [g1, g2] at f0
    rw [g2] at f1
    refine congrArg₂ (· * ·) ?_ ?_
    · blk_ext [iblk, f0, e2]
    · blk_ext [iblk, f1, e2]

end Cert.Kernel29Ideal.Product

namespace Cert.ProjBa

open Idealize.ShloMosaic Idealize.ShloMosaic.TcCoe Idealize.SL.Sem

/-- The reference leaves its arguments alone and declares no semaphore. -/
theorem frame_reference : Cert.quiescent_Reference29Ideal := fun m ρ _ =>
  (θ_run Cert.Reference29Ideal.defs _ _).mono
    (fun r h => ⟨fun c => (h c).2, Idealize.ShloMosaic.sem_eq_zero_of_no_sems (by decide) r.2⟩)
    (Cert.Reference29Ideal.Value.run m ρ)

open Cert.Reference29Ideal Cert.Reference29Ideal.Gen in
/-- The reference's result is the same function of the arguments. -/
theorem result (a : Vec Ideal S4096x2048 .bf16) (b : Vec Ideal S2048x128 .bf16) :
    (Host.dotGeneral (F := Ideal) (φ₁ := .f32) dot_S4096x2048_S2048x128_S4096x128_1_0_0_1_n_n none (extf .f32 a bitsLt_bf16_f32) (extf .f32 b bitsLt_bf16_f32) : Vec Ideal S4096x128 .f32) = Cert.Kernel29Ideal.Product.value a b := by
  funext y
  idx_vars y
  pointwise [Cert.Kernel29Ideal.Product.value]

/-- Kernel and reference leave the same array. -/
theorem algebraic : Cert.algebraic_Kernel29Ideal_Reference29Ideal := fun m g m' g' _ hm => by
  refine ⟨fun c => Cert.Kernel29Ideal.Product.value (m ((c.tc : Thread Cert.Kernel29Ideal.nD Cert.Kernel29Ideal.τ).loc Cert.Kernel29Ideal.main_arg0))
    (m ((c.tc : Thread Cert.Kernel29Ideal.nD Cert.Kernel29Ideal.τ).loc Cert.Kernel29Ideal.main_arg1)), ?_, ?_⟩
  · refine (θ_run Cert.Kernel29Ideal.defs _ _).mono (fun _ h c => ?_) (Cert.Kernel29Ideal.Value.run_blocks m g)
    exact ⟨(h c).1.trans (Cert.Kernel29Ideal.Product.array m c), (h c).2⟩
  · refine (θ_run Cert.Reference29Ideal.defs _ _).mono (fun _ h c => ?_) (Cert.Reference29Ideal.Value.run m' g')
    obtain ⟨h0, h1⟩ := hm c
    refine ⟨(h c).1.trans ?_, (h c).2⟩
    rw [h0, h1]
    exact result _ _

end Cert.ProjBa

end
-- ==== Proof.Memory.DuBa.lean ====
/- What the gates give to the gradient of the normed rows. -/
module

public import proofs.«01_k».proof.Defs
public import proofs.«01_k».proof.Proof.Gen.Kernel30Ideal.Value
public import proofs.«01_k».proof.Proof.Gen.Reference30Ideal.Run
public import Idealize.ShloMosaic.Lib.Pointwise
public import Idealize.ShloMosaic.Lib.Pipeline.ValueKit

@[expose] public section

set_option maxRecDepth 16384

noncomputable section

namespace Cert.Kernel30Ideal.Product

open Cert.Kernel30Ideal Cert.Kernel30Ideal.Gen Idealize.ShloMosaic Idealize.ShloMosaic.TcCoe Idealize.SL.Sem

/-- The product of the first array with the transpose of the second. -/
def value (a : Vec Ideal S4096x128 .bf16) (b : Vec Ideal S2048x128 .bf16) : Vec Ideal S4096x2048 .f32 :=
  fun y => ∑ k : Fin 128, a (ix2 (y 0) k) * b (ix2 (y 1) k)

/-- One block of the product: the accumulator starts at zero and takes one product. -/
theorem block (a : Vec Ideal S512x128 .bf16) (b : Vec Ideal S1024x128 .bf16) (j : S512x1024.Idx) :
    k0_pay2 k0_pay1 a b j = ∑ k : Fin 128, a (ix2 (j 0) k) * b (ix2 (j 1) k) := by
  idx_vars j
  pointwise [k0_pay2, k0_pay1]

variable (m : (ℓ : Loc nD τ sig) → Buf (Elt Ideal) ℓ) (c : Dev nD)

/-- The blocks that a point reads and writes. -/
theorem idx : ∀ t : Fin cfg0.N, win0_0.index t = ![t.val / 2, 0] ∧ win0_1.index t = ![t.val % 2, 0] ∧ win0_2.index t = ![t.val / 2, t.val % 2] :=
  (by decide +kernel : ∀ t : Fin grid0.N, win0_0.index t = ![t.val / 2, 0] ∧ win0_1.index t = ![t.val % 2, 0] ∧ win0_2.index t = ![t.val / 2, t.val % 2])

/-- What a point writes. -/
theorem written (t : Fin cfg0.N) : outsAt0 m c t = k0_pay2 k0_pay1 (iblk m c 0 t) (iblk m c 1 t) := by
  unfold outsAt0
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨e0, e1, e2⟩ := idx t
    blk_simp
    rw [after0_2, written m c t]
    refine (block _ _ y).trans ?_
    unfold value
    refine Finset.sum_congr rfl fun k _ => congrArg₂ (· * ·) ?_ ?_
    · blk_ext [iblk, e0, e2]
    · blk_ext [iblk, e1, e2]

end Cert.Kernel30Ideal.Product

namespace Cert.DuBa

open Idealize.ShloMosaic Idealize.ShloMosaic.TcCoe Idealize.SL.Sem

/-- The reference leaves its arguments alone and declares no semaphore. -/
theorem frame_reference : Cert.quiescent_Reference30Ideal := fun m ρ _ =>
  (θ_run Cert.Reference30Ideal.defs _ _).mono
    (fun r h => ⟨fun c => (h c).2, Idealize.ShloMosaic.sem_eq_zero_of_no_sems (by decide) r.2⟩)
    (Cert.Reference30Ideal.Value.run m ρ)

open Cert.Reference30Ideal Cert.Reference30Ideal.Gen in
/-- The reference's result is the same function of the arguments. -/
theorem result (a : Vec Ideal S4096x128 .bf16) (b : Vec Ideal S2048x128 .bf16) :
    (Host.dotGeneral (F := Ideal) (φ₁ := .f32) dot_S4096x128_S2048x128_S4096x2048_1_1_0_0_n_n none (extf .f32 a bitsLt_bf16_f32) (extf .f32 b bitsLt_bf16_f32) : Vec Ideal S4096x2048 .f32) = Cert.Kernel30Ideal.Product.value a b := by
  funext y
  idx_vars y
  pointwise [Cert.Kernel30Ideal.Product.value]

/-- Kernel and reference leave the same array. -/
theorem algebraic : Cert.algebraic_Kernel30Ideal_Reference30Ideal := fun m g m' g' _ hm => by
  refine ⟨fun c => Cert.Kernel30Ideal.Product.value (m ((c.tc : Thread Cert.Kernel30Ideal.nD Cert.Kernel30Ideal.τ).loc Cert.Kernel30Ideal.main_arg0))
    (m ((c.tc : Thread Cert.Kernel30Ideal.nD Cert.Kernel30Ideal.τ).loc Cert.Kernel30Ideal.main_arg1)), ?_, ?_⟩
  · refine (θ_run Cert.Kernel30Ideal.defs _ _).mono (fun _ h c => ?_) (Cert.Kernel30Ideal.Value.run_blocks m g)
    exact ⟨(h c).1.trans (Cert.Kernel30Ideal.Product.array m c), (h c).2⟩
  · refine (θ_run Cert.Reference30Ideal.defs _ _).mono (fun _ h c => ?_) (Cert.Reference30Ideal.Value.run m' g')
    obtain ⟨h0, h1⟩ := hm c
    refine ⟨(h c).1.trans ?_, (h c).2⟩
    rw [h0, h1]
    exact result _ _

end Cert.DuBa

end
-- ==== Proof.Memory.DwBa.lean ====
/- The gradient of the gates' weight: the normed rows' transpose times the gradient of the projection. -/
module

public import proofs.«01_k».proof.Defs
public import proofs.«01_k».proof.Proof.Gen.Kernel31Ideal.Value
public import proofs.«01_k».proof.Proof.Gen.Reference31Ideal.Run
public import Idealize.ShloMosaic.Lib.Pointwise
public import Idealize.ShloMosaic.Lib.Pipeline.ValueKit

@[expose] public section

set_option maxRecDepth 16384

noncomputable section

namespace Cert.Kernel31Ideal.Product

open Cert.Kernel31Ideal Cert.Kernel31Ideal.Gen Idealize.ShloMosaic Idealize.ShloMosaic.TcCoe Idealize.SL.Sem

/-- The product of the first array's transpose with the second array. -/
def value (a : Vec Ideal S4096x2048 .bf16) (b : Vec Ideal S4096x128 .bf16) : Vec Ideal S2048x128 .f32 :=
  fun y => ∑ k : Fin 4096, a (ix2 k (y 0)) * b (ix2 k (y 1))

/-- The product of two blocks, at one place. -/
def part (a : Vec Ideal S1024x512 .bf16) (b : Vec Ideal S1024x128 .bf16) (j : S512x128.Idx) : Elt Ideal .f32 :=
  ∑ k : Fin 1024, a (ix2 k (j 0)) * b (ix2 k (j 1))

/-- A point adds the product of its two blocks to the accumulator. -/
theorem added (acc : Vec Ideal S512x128 .f32) (a : Vec Ideal S1024x512 .bf16) (b : Vec Ideal S1024x128 .bf16) (j : S512x128.Idx) :
    k0_pay2 acc a b j = acc j + part a b j := by
  idx_vars j
  pointwise [k0_pay2, part]

/-- The accumulator starts at zero. -/
theorem zero (j : S512x128.Idx) : k0_pay1 (F := Ideal) j = 0 := by
  pointwise [k0_pay1]

variable (m : (ℓ : Loc nD τ sig) → Buf (Elt Ideal) ℓ) (c : Dev nD)

/-- The blocks that a point reads and writes. -/
theorem idx : ∀ t : Fin cfg0.N, win0_0.index t = ![t.val % 4, t.val / 4] ∧ win0_1.index t = ![t.val % 4, 0] ∧ win0_2.index t = ![t.val / 4, 0] :=
  (by decide +kernel : ∀ t : Fin grid0.N, win0_0.index t = ![t.val % 4, t.val / 4] ∧ win0_1.index t = ![t.val % 4, 0] ∧ win0_2.index t = ![t.val / 4, 0])

/-- The first point of a run leaves its own product in the accumulator. -/
theorem start (t : Fin cfg0.N) (h : t.val % 4 = 0) (j : S512x128.Idx) : (outsAt0 m c t.val t.isLt).2 j =
    0 + part (iblk m c 0 t) (iblk m c 1 t) j := by
  rw [outsAt0_A m c t h (by omega)]; frame_out; rw [added, zero]

/-- Every other point adds its product to what the point before it left. -/
theorem step (t : Fin cfg0.N) (h : ¬t.val % 4 = 0) (j : S512x128.Idx) : (outsAt0 m c t.val t.isLt).2 j =
    (outsAt0 m c (t.val - 1) (by omega)).2 j + part (iblk m c 0 t) (iblk m c 1 t) j := by
  by_cases h1 : t.val % 4 = 3
  · rw [outsAt0_C m c t h h1]; frame_out; rw [added]; exact congrArg (· + part _ _ j) (congrFun (Memref.IsWhole.read_unread _ _) j)
  · rw [outsAt0_B m c t h h1]; frame_out; rw [added]; exact congrArg (· + part _ _ j) (congrFun (Memref.IsWhole.read_unread _ _) j)

/-- At the last point of a run the output block is the accumulator. -/
theorem last (t : Fin cfg0.N) (h : t.val % 4 = 3) : (outsAt0 m c t.val t.isLt).1 = (outsAt0 m c t.val t.isLt).2 := by
  rw [outsAt0_C m c t (by omega) h]
  frame_out

/-- The array that the run leaves. -/
theorem array : (dats m 0 c).arrAt 2 cfg0.N = value (m ((c : Thread nD τ).loc main_arg0)) (m ((c : Thread nD τ).loc main_arg1)) :=
  (dats m 0 c).arrAt_eq_of_covers 2 _ (by decide +kernel) fun t hf y => by
    obtain ⟨-, -, e2⟩ := idx t
    have hr : t.val % 4 = 3 := (flush0_2 t).mp hf
    blk_simp
    rw [after0_2, last m c t hr]
    rw [Pipeline.eq_sum_fin_of_reset_step_apply_of_flush (fun n h => (outsAt0 m c n h).2) 4 (fun _ => 0) _
      (start m c) (step m c) t hr y]
    refine (zero_add (M := Elt Ideal .f32) _).trans ?_
    unfold part
    refine Fin.sum_mul_add_congr fun s k hl => ?_
    obtain ⟨f0, f1, -⟩ := idx ⟨4 * (t.val / 4) + s.val, Pipeline.run_point_lt_of_flush t hr s⟩
    have hs := s.isLt
    have g1 : (4 * (t.val / 4) + s.val) / 4 = t.val / 4 := by omega
    have g2 : (4 * (t.val / 4) + s.val) % 4 = s.val := by omega
    rw [g1, g2] at f0
    rw [g2] at f1
    refine congrArg₂ (· * ·) ?_ ?_
    · blk_ext [iblk, f0, e2]
    · blk_ext [iblk, f1, e2]

end Cert.Kernel31Ideal.Product

namespace Cert.DwBa

open Idealize.ShloMosaic Idealize.ShloMosaic.TcCoe Idealize.SL.Sem

/-- The reference leaves its arguments alone and declares no semaphore. -/
theorem frame_reference : Cert.quiescent_Reference31Ideal := fun m ρ _ =>
  (θ_run Cert.Reference31Ideal.defs _ _).mono
    (fun r h => ⟨fun c => (h c).2, Idealize.ShloMosaic.sem_eq_zero_of_no_sems (by decide) r.2⟩)
    (Cert.Reference31Ideal.Value.run m ρ)

open Cert.Reference31Ideal Cert.Reference31Ideal.Gen in
/-- The reference's result is the same function of the arguments. -/
theorem result (a : Vec Ideal S4096x2048 .bf16) (b : Vec Ideal S4096x128 .bf16) :
    (transpose S2048x128 [1, 0] (Host.dotGeneral (F := Ideal) (φ₁ := .f32) dot_S4096x128_S4096x2048_S128x2048_0_0_1_1_n_n none (extf .f32 b bitsLt_bf16_f32) (extf .f32 a bitsLt_bf16_f32)) transposes_S128x2048_S2048x128_1_0 : Vec Ideal S2048x128 .f32) = Cert.Kernel31Ideal.Product.value a b := by
  funext y
  idx_vars y
  pointwise [Cert.Kernel31Ideal.Product.value]
  exact Finset.sum_congr rfl fun _ _ => mul_comm _ _

/-- Kernel and reference leave the same array. -/
theorem algebraic : Cert.algebraic_Kernel31Ideal_Reference31Ideal := fun m g m' g' _ hm => by
  refine ⟨fun c => Cert.Kernel31Ideal.Product.value (m ((c.tc : Thread Cert.Kernel31Ideal.nD Cert.Kernel31Ideal.τ).loc Cert.Kernel31Ideal.main_arg0))
    (m ((c.tc : Thread Cert.Kernel31Ideal.nD Cert.Kernel31Ideal.τ).loc Cert.Kernel31Ideal.main_arg1)), ?_, ?_⟩
  · refine (θ_run Cert.Kernel31Ideal.defs _ _).mono (fun _ h c => ?_) (Cert.Kernel31Ideal.Value.run_blocks m g)
    exact ⟨(h c).1.trans (Cert.Kernel31Ideal.Product.array m c), (h c).2⟩
  · refine (θ_run Cert.Reference31Ideal.defs _ _).mono (fun _ h c => ?_) (Cert.Reference31Ideal.Value.run m' g')
    obtain ⟨h0, h1⟩ := hm c
    refine ⟨(h c).1.trans ?_, (h c).2⟩
    rw [h0, h1]
    exact result _ _

end Cert.DwBa

end
-- ==== Proof.Tiles.GdnPost.lean ====
/- The delta rule's output: the norm of each head, times its branch's own gate. -/
module

public import proofs.«01_k».proof.Defs
public import proofs.«01_k».proof.Proof.Gen.Kernel32Ideal.Value
public import proofs.«01_k».proof.Proof.Gen.Reference32Ideal.Run
public import Idealize.ShloMosaic.Lib.Pointwise
public import Idealize.ShloMosaic.Lib.Pipeline.ValueKit

@[expose] public section

set_option maxRecDepth 16384

noncomputable section

namespace Cert.Kernel32Ideal.Tile

open Cert.Kernel32Ideal Cert.Kernel32Ideal.Gen Idealize.ShloMosaic Idealize.ShloMosaic.TcCoe Idealize.SL.Sem

/-- The mean square of a head's row, and the norm's small constant. -/
def mean (x : Fin 128 → Elt Ideal .f32) : Elt Ideal .f32 :=
  Ideal.div (∑ k : Fin 128, x k * x k) (Ideal.ofBits .f32 0x43000000#32) + Ideal.ofBits .f32 0x358637BD#32

/-- Lane `k` of head `h`. -/
def lane (h : Fin 8) (k : Fin 128) : Fin 1024 := ⟨h.val * 128 + k.val, by omega⟩

/-- The head of a column. -/
def head (n : Fin 1024) : Fin 8 := ⟨n.val / 128, by omega⟩

/-- The lane of a column. -/
def within (n : Fin 1024) : Fin 128 := ⟨n.val % 128, by omega⟩

/-- A column of the branch's own gate in the projection. -/
def col (n : Fin 1024) : Fin 14336 := ⟨3072 + n.val, by omega⟩

/-- One entry: the normed head times the weight, times the gate's input and its logistic. -/
def entry (x : Elt Ideal .f32) (row : Fin 128 → Elt Ideal .f32) (w z : Elt Ideal .f32) : Elt Ideal .f32 :=
  x * Ideal.rsqrt (mean row) * w * (z * Ideal.logistic z)

/-- The branch's rows. -/
def value (x : Vec Ideal S4096x1024 .f32) (p : Vec Ideal S4096x14336 .bf16) (g : Vec Ideal S1x128 .f32) : Vec Ideal S4096x1024 .bf16 :=
  fun y => entry (x y) (fun k => x (ix2 (y 0) (lane (head (y 1)) k))) (g (ix2 0 (within (y 1)))) (p (ix2 (y 0) (col (y 1))))

/-- A head's columns lie in the block. -/
theorem slices : ∀ h : Fin 8, S256x1024.Slices ![0, h.val * 128] S256x128 := by decide

/-- One head of the block, normed, as the kernel writes it. -/
def normed (x : Vec Ideal S256x1024 .f32) (g : Vec Ideal S1x128 .f32) (h : Fin 8) : FVec Ideal S256x128 .f32 :=
  let v := extractStridedSlice S256x128 ![0, h.val * 128] x (slices h)
  mulf (mulf v (broadcastTo S256x128 (rsqrt (addf (divf (shapeCast S256x1
    (multiReduction .add [1] S256 (mulf v v) 0x00000000#32 reduces_S256x128_S256 (.inl rfl) rfl) shapeCasts_S256_S256x1)
    (broadcast S256x1 (Scalar.ofBits .f32 0x43000000#32))) (broadcast S256x1 (Scalar.ofBits .f32 0x358637BD#32)))) broadcasts_S256x1_S256x128))
    (broadcastTo S256x128 g broadcasts_S1x128_S256x128)

theorem normed_eq (x : Vec Ideal S256x1024 .f32) (g : Vec Ideal S1x128 .f32) (h : Fin 8) (y : S256x128.Idx) :
    normed x g h y = x (ix2 (y 0) (lane h (y 1))) * Ideal.rsqrt (mean fun k => x (ix2 (y 0) (lane h k))) * g (ix2 0 (y 1)) := by
  idx_vars y
  pointwise [normed, mean, lane]

/-- The heads side by side. -/
def heads (x : Vec Ideal S256x1024 .f32) (g : Vec Ideal S1x128 .f32) : FVec Ideal S256x1024 .f32 :=
  concatenate S256x1024 1 (List.ofFn fun h : Fin 8 => (⟨S256x128, normed x g h⟩ : (s : Shape) × (s.Idx → Ideal .f32)))
    concatenates_S256x128_S256x128_S256x128_S256x128_S256x128_S256x128_S256x128_S256x128_S256x1024_d1

theorem heads_eq (x : Vec Ideal S256x1024 .f32) (g : Vec Ideal S1x128 .f32) (y : S256x1024.Idx) :
    heads x g y = normed x g (head (y 1)) (ix2 (y 0) (within (y 1))) := by
  refine concatenate_ofFn_apply (1 : Fin S256x1024.rank) (normed x g) _ rfl 128 rfl y (head (y 1)) rfl (ix2 (y 0) (within (y 1))) rfl ?_
  intro b hb
  match b, hb with
  | 0, _ => rfl
  | 1, hb => exact absurd rfl hb

/-- What the kernel stores, by its heads. -/
theorem payload (x : Vec Ideal S256x1024 .f32) (z : Vec Ideal S256x1024 .bf16) (g : Vec Ideal S1x128 .f32) :
    k0_pay1 x z g (k0_pay2 x g) (k0_pay3 x g) (k0_pay4 x g) (k0_pay7 g (k0_pay5 x) (k0_pay6 x)) (k0_pay8 x g) (k0_pay9 x g) (k0_pay10 x)
      = truncf .bf16 (mulf (heads x g) (mulf (extf .f32 z bitsLt_bf16_f32) (logistic (extf .f32 z bitsLt_bf16_f32)))) bitsLt_bf16_f32 := rfl

theorem block (x : Vec Ideal S256x1024 .f32) (z : Vec Ideal S256x1024 .bf16) (g : Vec Ideal S1x128 .f32) (y : S256x1024.Idx) :
    out0_3 x z g y = entry (x y) (fun k => x (ix2 (y 0) (lane (head (y 1)) k))) (g (ix2 0 (within (y 1)))) (z y) := by
  have e : lane (head (y 1)) (within (y 1)) = y 1 := Fin.ext (Nat.div_add_mod' (y 1).val 128)
  frame_out
  rw [payload]
  show heads x g y * (z y * Ideal.logistic (z y)) = _
  rw [heads_eq, normed_eq]
  show x (ix2 (y 0) (lane (head (y 1)) (within (y 1)))) * _ * _ * _ = _
  rw [e]
  idx_vars y
  rfl

variable (m : (ℓ : Loc nD τ sig) → Buf (Elt Ideal) ℓ) (c : Dev nD)

theorem idx : ∀ t : Fin cfg0.N, win0_0.index t = ![t.val, 0] ∧ win0_1.index t = ![t.val, 3] ∧ win0_2.index t = ![0, 0]
    ∧ win0_3.index t = ![t.val, 0] :=
  (by decide +kernel : ∀ t : Fin grid0.N, win0_0.index t = ![t.val, 0] ∧ win0_1.index t = ![t.val, 3] ∧ win0_2.index t = ![0, 0]
    ∧ win0_3.index t = ![t.val, 0])

theorem array : (dats m 0 c).arrAt 3 cfg0.N = value (m ((c : Thread nD τ).loc main_arg0)) (m ((c : Thread nD τ).loc main_arg1))
    (m ((c : Thread nD τ).loc main_arg2)) :=
  (dats m 0 c).arrAt_eq_of_covers 3 _ (by decide +kernel) fun t hf y => by
    obtain ⟨e0, e1, e2, e3⟩ := idx t
    blk_simp
    rw [after0_3, block]
    unfold value
    refine congr (congr (congr (congrArg entry ?_) (funext fun k => ?_)) ?_) ?_
    · blk_ext [iblk, e0, e3]
    · blk_ext [iblk, lane, head, e0, e3]
    · blk_ext [iblk, within, e2, e3]
    · blk_ext [iblk, col, e1, e3]

end Cert.Kernel32Ideal.Tile

namespace Cert.GdnPost

open Idealize.ShloMosaic Idealize.ShloMosaic.TcCoe Idealize.SL.Sem

/-- The reference leaves its arguments alone and declares no semaphore. -/
theorem frame_reference : Cert.quiescent_Reference32Ideal := fun m ρ _ =>
  (θ_run Cert.Reference32Ideal.defs _ _).mono
    (fun r h => ⟨fun c => (h c).2, Idealize.ShloMosaic.sem_eq_zero_of_no_sems (by decide) r.2⟩)
    (Cert.Reference32Ideal.Value.run m ρ)

/-- Kernel and reference leave the same array. -/
theorem algebraic : Cert.algebraic_Kernel32Ideal_Reference32Ideal := fun m g m' g' _ hm => by
  refine ⟨fun c => Cert.Kernel32Ideal.Tile.value (m ((c.tc : Thread Cert.Kernel32Ideal.nD Cert.Kernel32Ideal.τ).loc Cert.Kernel32Ideal.main_arg0))
    (m ((c.tc : Thread Cert.Kernel32Ideal.nD Cert.Kernel32Ideal.τ).loc Cert.Kernel32Ideal.main_arg1))
    (m ((c.tc : Thread Cert.Kernel32Ideal.nD Cert.Kernel32Ideal.τ).loc Cert.Kernel32Ideal.main_arg2)), ?_, ?_⟩
  · refine (θ_run Cert.Kernel32Ideal.defs _ _).mono (fun _ h c => ?_) (Cert.Kernel32Ideal.Value.run_blocks m g)
    exact ⟨(h c).1.trans (Cert.Kernel32Ideal.Tile.array m c), (h c).2⟩
  · refine (θ_run Cert.Reference32Ideal.defs _ _).mono (fun _ h c => ?_) (Cert.Reference32Ideal.Value.run m' g')
    obtain ⟨h0, h1, h2⟩ := hm c
    refine ⟨(h c).1.trans ?_, (h c).2⟩
    rw [h0, h1, h2]
    funext y
    idx_vars y
    pointwise [Cert.Kernel32Ideal.Tile.value, Cert.Kernel32Ideal.Tile.entry, Cert.Kernel32Ideal.Tile.mean, Cert.Kernel32Ideal.Tile.lane,
      Cert.Kernel32Ideal.Tile.head, Cert.Kernel32Ideal.Tile.within, Cert.Kernel32Ideal.Tile.col, Ideal.logistic]

end Cert.GdnPost

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Pre_cols_me
public import proofs.«01_k».proof.Proof.Gen.Reference11Ideal
public import proofs.«01_k».proof.Proof.Gen.Reference11Ideal.Run
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Pre_rows_me
public import proofs.«01_k».proof.Proof.Gen.Reference12Ideal
public import proofs.«01_k».proof.Proof.Gen.Reference12Ideal.Run
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Pre_conv_me
public import proofs.«01_k».proof.Proof.Gen.Reference13Ideal
public import proofs.«01_k».proof.Proof.Gen.Reference13Ideal.Run
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Pre_w_in_me
public import proofs.«01_k».proof.Proof.Gen.Reference14Ideal
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Run
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Run
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Run
public import proofs.«01_k».proof.Proof.Gen.Kernel29
public import proofs.«01_k».proof.Proof.Gen.Kernel29.Skeleton
public import proofs.«01_k».proof.Proof.Gen.Kernel29.Launch
public import proofs.«01_k».proof.Proof.Gen.Kernel29.Points
public import proofs.«01_k».proof.Proof.Gen.Kernel29.Frame
public import proofs.«01_k».proof.Proof.Gen.Kernel29Ideal
public import proofs.«01_k».proof.Proof.Gen.Kernel29Ideal.Skeleton
public import proofs.«01_k».proof.Proof.Gen.Kernel29Ideal.Launch
public import proofs.«01_k».proof.Proof.Gen.Kernel29Ideal.Points
public import proofs.«01_k».proof.Proof.Gen.Kernel29Ideal.Frame
public import proofs.«01_k».proof.Proof.Gen.Kernel29Ideal.Value
public import proofs.«01_k».proof.Proof.Gen.Reference29Ideal
public import proofs.«01_k».proof.Proof.Gen.Reference29Ideal.Run
public import proofs.«01_k».proof.Proof.Gen.Kernel30
public import proofs.«01_k».proof.Proof.Gen.Kernel30.Skeleton
public import proofs.«01_k».proof.Proof.Gen.Kernel30.Launch
public import proofs.«01_k».proof.Proof.Gen.Kernel30.Points
public import proofs.«01_k».proof.Proof.Gen.Kernel30.Frame
public import proofs.«01_k».proof.Proof.Gen.Kernel30Ideal
public import proofs.«01_k».proof.Proof.Gen.Kernel30Ideal.Skeleton
public import proofs.«01_k».proof.Proof.Gen.Kernel30Ideal.Launch
public import proofs.«01_k».proof.Proof.Gen.Kernel30Ideal.Points
public import proofs.«01_k».proof.Proof.Gen.Kernel30Ideal.Frame
public import proofs.«01_k».proof.Proof.Gen.Kernel30Ideal.Value
public import proofs.«01_k».proof.Proof.Gen.Reference30Ideal
public import proofs.«01_k».proof.Proof.Gen.Reference30Ideal.Run
public import proofs.«01_k».proof.Proof.Gen.Kernel31
public import proofs.«01_k».proof.Proof.Gen.Kernel31.Skeleton
public import proofs.«01_k».proof.Proof.Gen.Kernel31.Launch
public import proofs.«01_k».proof.Proof.Gen.Kernel31.Points
public import proofs.«01_k».proof.Proof.Gen.Kernel31.Frame
public import proofs.«01_k».proof.Proof.Gen.Kernel31Ideal
public import proofs.«01_k».proof.Proof.Gen.Kernel31Ideal.Skeleton
public import proofs.«01_k».proof.Proof.Gen.Kernel31Ideal.Launch
public import proofs.«01_k».proof.Proof.Gen.Kernel31Ideal.Points
public import proofs.«01_k».proof.Proof.Gen.Kernel31Ideal.Frame
public import proofs.«01_k».proof.Proof.Gen.Kernel31Ideal.Value
public import proofs.«01_k».proof.Proof.Gen.Reference31Ideal
public import proofs.«01_k».proof.Proof.Gen.Reference31Ideal.Run
public import proofs.«01_k».proof.Proof.Gen.Kernel32
public import proofs.«01_k».proof.Proof.Gen.Kernel32.Skeleton
public import proofs.«01_k».proof.Proof.Gen.Kernel32.Launch
public import proofs.«01_k».proof.Proof.Gen.Kernel32.Points
public import proofs.«01_k».proof.Proof.Gen.Kernel32.Frame
public import proofs.«01_k».proof.Proof.Gen.Kernel32Ideal
public import proofs.«01_k».proof.Proof.Gen.Kernel32Ideal.Skeleton
public import proofs.«01_k».proof.Proof.Gen.Kernel32Ideal.Launch
public import proofs.«01_k».proof.Proof.Gen.Kernel32Ideal.Points
public import proofs.«01_k».proof.Proof.Gen.Kernel32Ideal.Frame
public import proofs.«01_k».proof.Proof.Gen.Kernel32Ideal.Value
public import proofs.«01_k».proof.Proof.Gen.Reference32Ideal
public import proofs.«01_k».proof.Proof.Gen.Reference32Ideal.Run
public import proofs.«01_k».proof.Proof.Recurrence.Algebraic
public import proofs.«01_k».proof.Proof.Products.DuMain
public import proofs.«01_k».proof.Proof.Products.DwMain0
public import proofs.«01_k».proof.Proof.Products.DwMain1
public import proofs.«01_k».proof.Proof.Products.ProjMain
public import proofs.«01_k».proof.Proof.Products.OutProj
public import proofs.«01_k».proof.Proof.Products.DMerged
public import proofs.«01_k».proof.Proof.Products.DwOut
public import proofs.«01_k».proof.Proof.Update.RmsBwd
public import proofs.«01_k».proof.Proof.Update.AdamSmall
public import proofs.«01_k».proof.Proof.Update.AdamCols
public import proofs.«01_k».proof.Proof.Update.AdamRows
public import proofs.«01_k».proof.Proof.Update.AdamConv
public import proofs.«01_k».proof.Proof.Update.AdamIn
public import proofs.«01_k».proof.Proof.Branches.Branch
public import proofs.«01_k».proof.Proof.Branches.DBranch
public import proofs.«01_k».proof.Proof.Branches.DwBranch
public import proofs.«01_k».proof.Proof.Tiles.RmsFwd
public import proofs.«01_k».proof.Proof.Tiles.Merge
public import proofs.«01_k».proof.Proof.Tiles.MergeBwd
public import proofs.«01_k».proof.Proof.Tiles.Loss
public import proofs.«01_k».proof.Proof.Tiles.Gate
public import proofs.«01_k».proof.Proof.Tiles.GateBwd
public import proofs.«01_k».proof.Proof.Memory.MemNorm
public import proofs.«01_k».proof.Proof.Memory.MemKv
public import proofs.«01_k».proof.Proof.Memory.DMem
public import proofs.«01_k».proof.Proof.Memory.DwKv
public import proofs.«01_k».proof.Proof.Memory.MemNormBwd
public import proofs.«01_k».proof.Proof.Memory.ProjBa
public import proofs.«01_k».proof.Proof.Memory.DuBa
public import proofs.«01_k».proof.Proof.Memory.DwBa
public import proofs.«01_k».proof.Proof.Tiles.GdnPost
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.Kernel30.Gen.facts, Cert.Kernel30Ideal.Gen.facts, Cert.Reference30Ideal.Gen.facts,
  Cert.Kernel31.Gen.facts, Cert.Kernel31Ideal.Gen.facts, Cert.Reference31Ideal.Gen.facts,
  Cert.Kernel32.Gen.facts, Cert.Kernel32Ideal.Gen.facts, Cert.Reference32Ideal.Gen.facts,
  Cert.Pre_cols_me.Gen.facts, Cert.Pre_rows_me.Gen.facts, Cert.Pre_conv_me.Gen.facts, Cert.Pre_w_in_me.Gen.facts,
  fun m ρ _ => Cert.Kernel.Gen.frame m ρ, fun m ρ _ => Cert.KernelIdeal.Gen.frame m ρ, Cert.Gdn.frame_reference,
  fun m ρ _ => Cert.Kernel2.Gen.frame m ρ, fun m ρ _ => Cert.Kernel2Ideal.Gen.frame m ρ, Cert.DuMain.frame_reference,
  fun m ρ _ => Cert.Kernel3.Gen.frame m ρ, fun m ρ _ => Cert.Kernel3Ideal.Gen.frame m ρ, Cert.DwMain0.frame_reference,
  fun m ρ _ => Cert.Kernel4.Gen.frame m ρ, fun m ρ _ => Cert.Kernel4Ideal.Gen.frame m ρ, Cert.DwMain1.frame_reference,
  fun m ρ _ => Cert.Kernel5.Gen.frame m ρ, fun m ρ _ => Cert.Kernel5Ideal.Gen.frame m ρ, Cert.ProjMain.frame_reference,
  fun m ρ _ => Cert.Kernel6.Gen.frame m ρ, fun m ρ _ => Cert.Kernel6Ideal.Gen.frame m ρ, Cert.OutProj.frame_reference,
  fun m ρ _ => Cert.Kernel7.Gen.frame m ρ, fun m ρ _ => Cert.Kernel7Ideal.Gen.frame m ρ, Cert.DMerged.frame_reference,
  fun m ρ _ => Cert.Kernel8.Gen.frame m ρ, fun m ρ _ => Cert.Kernel8Ideal.Gen.frame m ρ, Cert.DwOut.frame_reference,
  fun m ρ _ => Cert.Kernel9.Gen.frame m ρ, fun m ρ _ => Cert.Kernel9Ideal.Gen.frame m ρ, Cert.RmsBwd.frame_reference,
  fun m ρ _ => Cert.Kernel10.Gen.frame m ρ, fun m ρ _ => Cert.Kernel10Ideal.Gen.frame m ρ, Cert.AdamSmall.frame_reference,
  Cert.AdamCols.frame_kernel, Cert.AdamCols.frame_ideal, Cert.AdamCols.frame_reference, Cert.AdamCols.frame_reference_pre,
  Cert.AdamRows.frame_kernel, Cert.AdamRows.frame_ideal, Cert.AdamRows.frame_reference, Cert.AdamRows.frame_reference_pre,
  Cert.AdamConv.frame_kernel, Cert.AdamConv.frame_ideal, Cert.AdamConv.frame_reference, Cert.AdamConv.frame_reference_pre,
  Cert.AdamIn.frame_kernel, Cert.AdamIn.frame_ideal, Cert.AdamIn.frame_reference, Cert.AdamIn.frame_reference_pre,
  fun m ρ _ => Cert.Kernel15.Gen.frame m ρ, fun m ρ _ => Cert.Kernel15Ideal.Gen.frame m ρ, Cert.Branch.frame_reference,
  fun m ρ _ => Cert.Kernel16.Gen.frame m ρ, fun m ρ _ => Cert.Kernel16Ideal.Gen.frame m ρ, Cert.DBranch.frame_reference,
  fun m ρ _ => Cert.Kernel17.Gen.frame m ρ, fun m ρ _ => Cert.Kernel17Ideal.Gen.frame m ρ, Cert.DwBranch.frame_reference,
  fun m ρ _ => Cert.Kernel18.Gen.frame m ρ, fun m ρ _ => Cert.Kernel18Ideal.Gen.frame m ρ, Cert.RmsFwd.frame_reference,
  fun m ρ _ => Cert.Kernel19.Gen.frame m ρ, fun m ρ _ => Cert.Kernel19Ideal.Gen.frame m ρ, Cert.Merge.frame_reference,
  fun m ρ _ => Cert.Kernel20.Gen.frame m ρ, fun m ρ _ => Cert.Kernel20Ideal.Gen.frame m ρ, Cert.MergeBwd.frame_reference,
  fun m ρ _ => Cert.Kernel21.Gen.frame m ρ, fun m ρ _ => Cert.Kernel21Ideal.Gen.frame m ρ, Cert.Loss.frame_reference,
  fun m ρ _ => Cert.Kernel22.Gen.frame m ρ, fun m ρ _ => Cert.Kernel22Ideal.Gen.frame m ρ, Cert.Gate.frame_reference,
  fun m ρ _ => Cert.Kernel23.Gen.frame m ρ, fun m ρ _ => Cert.Kernel23Ideal.Gen.frame m ρ, Cert.GateBwd.frame_reference,
  fun m ρ _ => Cert.Kernel24.Gen.frame m ρ, fun m ρ _ => Cert.Kernel24Ideal.Gen.frame m ρ, Cert.MemNorm.frame_reference,
  fun m ρ _ => Cert.Kernel25.Gen.frame m ρ, fun m ρ _ => Cert.Kernel25Ideal.Gen.frame m ρ, Cert.MemKv.frame_reference,
  fun m ρ _ => Cert.Kernel26.Gen.frame m ρ, fun m ρ _ => Cert.Kernel26Ideal.Gen.frame m ρ, Cert.DMem.frame_reference,
  fun m ρ _ => Cert.Kernel27.Gen.frame m ρ, fun m ρ _ => Cert.Kernel27Ideal.Gen.frame m ρ, Cert.DwKv.frame_reference,
  fun m ρ _ => Cert.Kernel28.Gen.frame m ρ, fun m ρ _ => Cert.Kernel28Ideal.Gen.frame m ρ, Cert.MemNormBwd.frame_reference,
  fun m ρ _ => Cert.Kernel29.Gen.frame m ρ, fun m ρ _ => Cert.Kernel29Ideal.Gen.frame m ρ, Cert.ProjBa.frame_reference,
  fun m ρ _ => Cert.Kernel30.Gen.frame m ρ, fun m ρ _ => Cert.Kernel30Ideal.Gen.frame m ρ, Cert.DuBa.frame_reference,
  fun m ρ _ => Cert.Kernel31.Gen.frame m ρ, fun m ρ _ => Cert.Kernel31Ideal.Gen.frame m ρ, Cert.DwBa.frame_reference,
  fun m ρ _ => Cert.Kernel32.Gen.frame m ρ, fun m ρ _ => Cert.Kernel32Ideal.Gen.frame m ρ, Cert.GdnPost.frame_reference,
  trivial, Cert.Gdn.algebraic,
  trivial, Cert.DuMain.algebraic,
  trivial, Cert.DwMain0.algebraic,
  trivial, Cert.DwMain1.algebraic,
  trivial, Cert.ProjMain.algebraic,
  trivial, Cert.OutProj.algebraic,
  trivial, Cert.DMerged.algebraic,
  trivial, Cert.DwOut.algebraic,
  trivial, Cert.RmsBwd.algebraic,
  trivial, Cert.AdamSmall.algebraic,
  trivial, Cert.AdamCols.algebraic,
  trivial, Cert.AdamRows.algebraic,
  trivial, Cert.AdamConv.algebraic,
  trivial, Cert.AdamIn.algebraic,
  trivial, Cert.Branch.algebraic,
  trivial, Cert.DBranch.algebraic,
  trivial, Cert.DwBranch.algebraic,
  trivial, Cert.RmsFwd.algebraic,
  trivial, Cert.Merge.algebraic,
  trivial, Cert.MergeBwd.algebraic,
  trivial, Cert.Loss.algebraic,
  trivial, Cert.Gate.algebraic,
  trivial, Cert.GateBwd.algebraic,
  trivial, Cert.MemNorm.algebraic,
  trivial, Cert.MemKv.algebraic,
  trivial, Cert.DMem.algebraic,
  trivial, Cert.DwKv.algebraic,
  trivial, Cert.MemNormBwd.algebraic,
  trivial, Cert.ProjBa.algebraic,
  trivial, Cert.DuBa.algebraic,
  trivial, Cert.DwBa.algebraic,
  trivial, Cert.GdnPost.algebraic⟩

end Cert.Proof

end
